-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_SampleFfn (m : (ℓ : Loc Cert.SampleFfn.nD Cert.SampleFfn.τ Cert.SampleFfn.sig) → Buf (Elt Bits) ℓ) : Prop :=
  True

def Pre_SampleFfnIdeal (m : (ℓ : Loc Cert.SampleFfnIdeal.nD Cert.SampleFfnIdeal.τ Cert.SampleFfnIdeal.sig) → Buf (Elt Ideal) ℓ) : Prop :=
  True

def Pre_SampleFfnReferenceIdeal (m : (ℓ : Loc Cert.SampleFfnReferenceIdeal.nD Cert.SampleFfnReferenceIdeal.τ Cert.SampleFfnReferenceIdeal.sig) → Buf (Elt Ideal) ℓ) : Prop :=
  True

def Pre_SampleMix (m : (ℓ : Loc Cert.SampleMix.nD Cert.SampleMix.τ Cert.SampleMix.sig) → Buf (Elt Bits) ℓ) : Prop :=
  True

def Pre_SampleMixIdeal (m : (ℓ : Loc Cert.SampleMixIdeal.nD Cert.SampleMixIdeal.τ Cert.SampleMixIdeal.sig) → Buf (Elt Ideal) ℓ) : Prop :=
  True

def Pre_SampleMixIdeal_weights_finite [hPre_weights_finite : Cert.Pre_weights_finite.Facts] (m : (ℓ : Loc Cert.SampleMixIdeal.nD Cert.SampleMixIdeal.τ Cert.SampleMixIdeal.sig) → Buf (Elt Ideal) ℓ) : Prop :=
  ∀ c : Dev Cert.SampleMixIdeal.nD,
    (Cert.Pre_weights_finite.fn (F := Ideal) (m ((c.tc : Thread Cert.SampleMixIdeal.nD Cert.SampleMixIdeal.τ).loc Cert.SampleMixIdeal.main_arg0)) (m ((c.tc : Thread Cert.SampleMixIdeal.nD Cert.SampleMixIdeal.τ).loc Cert.SampleMixIdeal.main_arg1)) (m ((c.tc : Thread Cert.SampleMixIdeal.nD Cert.SampleMixIdeal.τ).loc Cert.SampleMixIdeal.main_arg2)) (m ((c.tc : Thread Cert.SampleMixIdeal.nD Cert.SampleMixIdeal.τ).loc Cert.SampleMixIdeal.main_arg3)) (m ((c.tc : Thread Cert.SampleMixIdeal.nD Cert.SampleMixIdeal.τ).loc Cert.SampleMixIdeal.main_arg4)) (m ((c.tc : Thread Cert.SampleMixIdeal.nD Cert.SampleMixIdeal.τ).loc Cert.SampleMixIdeal.main_arg5))).1 = (fun _ => 1#1)
    ∧ (Cert.Pre_weights_finite.fn (F := Ideal) (m ((c.tc : Thread Cert.SampleMixIdeal.nD Cert.SampleMixIdeal.τ).loc Cert.SampleMixIdeal.main_arg0)) (m ((c.tc : Thread Cert.SampleMixIdeal.nD Cert.SampleMixIdeal.τ).loc Cert.SampleMixIdeal.main_arg1)) (m ((c.tc : Thread Cert.SampleMixIdeal.nD Cert.SampleMixIdeal.τ).loc Cert.SampleMixIdeal.main_arg2)) (m ((c.tc : Thread Cert.SampleMixIdeal.nD Cert.SampleMixIdeal.τ).loc Cert.SampleMixIdeal.main_arg3)) (m ((c.tc : Thread Cert.SampleMixIdeal.nD Cert.SampleMixIdeal.τ).loc Cert.SampleMixIdeal.main_arg4)) (m ((c.tc : Thread Cert.SampleMixIdeal.nD Cert.SampleMixIdeal.τ).loc Cert.SampleMixIdeal.main_arg5))).2 = (fun _ => 1#1)

def Pre_SampleMixReferenceIdeal (m : (ℓ : Loc Cert.SampleMixReferenceIdeal.nD Cert.SampleMixReferenceIdeal.τ Cert.SampleMixReferenceIdeal.sig) → Buf (Elt Ideal) ℓ) : Prop :=
  True

def Pre_SampleMixReferenceIdeal_weights_finite [hPre_weights_finite : Cert.Pre_weights_finite.Facts] (m : (ℓ : Loc Cert.SampleMixReferenceIdeal.nD Cert.SampleMixReferenceIdeal.τ Cert.SampleMixReferenceIdeal.sig) → Buf (Elt Ideal) ℓ) : Prop :=
  ∀ c : Dev Cert.SampleMixReferenceIdeal.nD,
    (Cert.Pre_weights_finite.fn (F := Ideal) (m ((c.tc : Thread Cert.SampleMixReferenceIdeal.nD Cert.SampleMixReferenceIdeal.τ).loc Cert.SampleMixReferenceIdeal.main_arg0)) (m ((c.tc : Thread Cert.SampleMixReferenceIdeal.nD Cert.SampleMixReferenceIdeal.τ).loc Cert.SampleMixReferenceIdeal.main_arg1)) (m ((c.tc : Thread Cert.SampleMixReferenceIdeal.nD Cert.SampleMixReferenceIdeal.τ).loc Cert.SampleMixReferenceIdeal.main_arg2)) (m ((c.tc : Thread Cert.SampleMixReferenceIdeal.nD Cert.SampleMixReferenceIdeal.τ).loc Cert.SampleMixReferenceIdeal.main_arg3)) (m ((c.tc : Thread Cert.SampleMixReferenceIdeal.nD Cert.SampleMixReferenceIdeal.τ).loc Cert.SampleMixReferenceIdeal.main_arg4)) (m ((c.tc : Thread Cert.SampleMixReferenceIdeal.nD Cert.SampleMixReferenceIdeal.τ).loc Cert.SampleMixReferenceIdeal.main_arg5))).1 = (fun _ => 1#1)
    ∧ (Cert.Pre_weights_finite.fn (F := Ideal) (m ((c.tc : Thread Cert.SampleMixReferenceIdeal.nD Cert.SampleMixReferenceIdeal.τ).loc Cert.SampleMixReferenceIdeal.main_arg0)) (m ((c.tc : Thread Cert.SampleMixReferenceIdeal.nD Cert.SampleMixReferenceIdeal.τ).loc Cert.SampleMixReferenceIdeal.main_arg1)) (m ((c.tc : Thread Cert.SampleMixReferenceIdeal.nD Cert.SampleMixReferenceIdeal.τ).loc Cert.SampleMixReferenceIdeal.main_arg2)) (m ((c.tc : Thread Cert.SampleMixReferenceIdeal.nD Cert.SampleMixReferenceIdeal.τ).loc Cert.SampleMixReferenceIdeal.main_arg3)) (m ((c.tc : Thread Cert.SampleMixReferenceIdeal.nD Cert.SampleMixReferenceIdeal.τ).loc Cert.SampleMixReferenceIdeal.main_arg4)) (m ((c.tc : Thread Cert.SampleMixReferenceIdeal.nD Cert.SampleMixReferenceIdeal.τ).loc Cert.SampleMixReferenceIdeal.main_arg5))).2 = (fun _ => 1#1)

def Pre_SampleMerge (m : (ℓ : Loc Cert.SampleMerge.nD Cert.SampleMerge.τ Cert.SampleMerge.sig) → Buf (Elt Bits) ℓ) : Prop :=
  True

def Pre_SampleMergeIdeal (m : (ℓ : Loc Cert.SampleMergeIdeal.nD Cert.SampleMergeIdeal.τ Cert.SampleMergeIdeal.sig) → Buf (Elt Ideal) ℓ) : Prop :=
  True

def Pre_SampleMergeReferenceIdeal (m : (ℓ : Loc Cert.SampleMergeReferenceIdeal.nD Cert.SampleMergeReferenceIdeal.τ Cert.SampleMergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_SampleFfn [hSampleFfn : Cert.SampleFfn.Facts] : Prop :=
  ∀ (m : (ℓ : Loc Cert.SampleFfn.nD Cert.SampleFfn.τ Cert.SampleFfn.sig) → Buf (Elt Bits) ℓ) (g : Dev Cert.SampleFfn.nD → PrngReg), Pre_SampleFfn m →
    θ_run (Cert.SampleFfn.defs (F := Bits)) (onTc (τ := Cert.SampleFfn.τ) (Cert.SampleFfn.main (F := Bits))) ⟨m, fun _ => 0, g⟩ (fun r => (∀ c : Dev Cert.SampleFfn.nD,
      r.2.mem ((c.tc : Thread Cert.SampleFfn.nD Cert.SampleFfn.τ).loc Cert.SampleFfn.main_arg0) = m ((c.tc : Thread Cert.SampleFfn.nD Cert.SampleFfn.τ).loc Cert.SampleFfn.main_arg0)
      ∧ r.2.mem ((c.tc : Thread Cert.SampleFfn.nD Cert.SampleFfn.τ).loc Cert.SampleFfn.main_arg1) = m ((c.tc : Thread Cert.SampleFfn.nD Cert.SampleFfn.τ).loc Cert.SampleFfn.main_arg1)
      ∧ r.2.mem ((c.tc : Thread Cert.SampleFfn.nD Cert.SampleFfn.τ).loc Cert.SampleFfn.main_arg2) = m ((c.tc : Thread Cert.SampleFfn.nD Cert.SampleFfn.τ).loc Cert.SampleFfn.main_arg2)
      ∧ r.2.mem ((c.tc : Thread Cert.SampleFfn.nD Cert.SampleFfn.τ).loc Cert.SampleFfn.main_arg3) = m ((c.tc : Thread Cert.SampleFfn.nD Cert.SampleFfn.τ).loc Cert.SampleFfn.main_arg3)
      ∧ r.2.mem ((c.tc : Thread Cert.SampleFfn.nD Cert.SampleFfn.τ).loc Cert.SampleFfn.main_arg4) = m ((c.tc : Thread Cert.SampleFfn.nD Cert.SampleFfn.τ).loc Cert.SampleFfn.main_arg4))
      ∧ r.2.sem = fun _ => 0)

def quiescent_SampleFfnIdeal [hSampleFfnIdeal : Cert.SampleFfnIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg), Pre_SampleFfnIdeal m →
    θ_run (Cert.SampleFfnIdeal.defs (F := Ideal)) (onTc (τ := Cert.SampleFfnIdeal.τ) (Cert.SampleFfnIdeal.main (F := Ideal))) ⟨m, fun _ => 0, g⟩ (fun r => (∀ c : Dev Cert.SampleFfnIdeal.nD,
      r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
      ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
      ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
      ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
      ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4))
      ∧ r.2.sem = fun _ => 0)

def quiescent_SampleFfnReferenceIdeal [hSampleFfnReferenceIdeal : Cert.SampleFfnReferenceIdeal.Facts] : Prop :=
  ∀ (m : (ℓ : Loc Cert.SampleFfnReferenceIdeal.nD Cert.SampleFfnReferenceIdeal.τ Cert.SampleFfnReferenceIdeal.sig) → Buf (Elt Ideal) ℓ) (g : Dev Cert.SampleFfnReferenceIdeal.nD → PrngReg), Pre_SampleFfnReferenceIdeal m →
    θ_run (Cert.SampleFfnReferenceIdeal.defs (F := Ideal)) (onTc (τ := Cert.SampleFfnReferenceIdeal.τ) (Cert.SampleFfnReferenceIdeal.main (F := Ideal))) ⟨m, fun _ => 0, g⟩ (fun r => (∀ c : Dev Cert.SampleFfnReferenceIdeal.nD,
      r.2.mem ((c.tc : Thread Cert.SampleFfnReferenceIdeal.nD Cert.SampleFfnReferenceIdeal.τ).loc Cert.SampleFfnReferenceIdeal.main_arg0) = m ((c.tc : Thread Cert.SampleFfnReferenceIdeal.nD Cert.SampleFfnReferenceIdeal.τ).loc Cert.SampleFfnReferenceIdeal.main_arg0)
      ∧ r.2.mem ((c.tc : Thread Cert.SampleFfnReferenceIdeal.nD Cert.SampleFfnReferenceIdeal.τ).loc Cert.SampleFfnReferenceIdeal.main_arg1) = m ((c.tc : Thread Cert.SampleFfnReferenceIdeal.nD Cert.SampleFfnReferenceIdeal.τ).loc Cert.SampleFfnReferenceIdeal.main_arg1)
      ∧ r.2.mem ((c.tc : Thread Cert.SampleFfnReferenceIdeal.nD Cert.SampleFfnReferenceIdeal.τ).loc Cert.SampleFfnReferenceIdeal.main_arg2) = m ((c.tc : Thread Cert.SampleFfnReferenceIdeal.nD Cert.SampleFfnReferenceIdeal.τ).loc Cert.SampleFfnReferenceIdeal.main_arg2)
      ∧ r.2.mem ((c.tc : Thread Cert.SampleFfnReferenceIdeal.nD Cert.SampleFfnReferenceIdeal.τ).loc Cert.SampleFfnReferenceIdeal.main_arg3) = m ((c.tc : Thread Cert.SampleFfnReferenceIdeal.nD Cert.SampleFfnReferenceIdeal.τ).loc Cert.SampleFfnReferenceIdeal.main_arg3)
      ∧ r.2.mem ((c.tc : Thread Cert.SampleFfnReferenceIdeal.nD Cert.SampleFfnReferenceIdeal.τ).loc Cert.SampleFfnReferenceIdeal.main_arg4) = m ((c.tc : Thread Cert.SampleFfnReferenceIdeal.nD Cert.SampleFfnReferenceIdeal.τ).loc Cert.SampleFfnReferenceIdeal.main_arg4))
      ∧ r.2.sem = fun _ => 0)

def quiescent_SampleMix [hSampleMix : Cert.SampleMix.Facts] : Prop :=
  ∀ (m : (ℓ : Loc Cert.SampleMix.nD Cert.SampleMix.τ Cert.SampleMix.sig) → Buf (Elt Bits) ℓ) (g : Dev Cert.SampleMix.nD → PrngReg), Pre_SampleMix m →
    θ_run (Cert.SampleMix.defs (F := Bits)) (onTc (τ := Cert.SampleMix.τ) (Cert.SampleMix.main (F := Bits))) ⟨m, fun _ => 0, g⟩ (fun r => (∀ c : Dev Cert.SampleMix.nD,
      r.2.mem ((c.tc : Thread Cert.SampleMix.nD Cert.SampleMix.τ).loc Cert.SampleMix.main_arg0) = m ((c.tc : Thread Cert.SampleMix.nD Cert.SampleMix.τ).loc Cert.SampleMix.main_arg0)
      ∧ r.2.mem ((c.tc : Thread Cert.SampleMix.nD Cert.SampleMix.τ).loc Cert.SampleMix.main_arg1) = m ((c.tc : Thread Cert.SampleMix.nD Cert.SampleMix.τ).loc Cert.SampleMix.main_arg1)
      ∧ r.2.mem ((c.tc : Thread Cert.SampleMix.nD Cert.SampleMix.τ).loc Cert.SampleMix.main_arg2) = m ((c.tc : Thread Cert.SampleMix.nD Cert.SampleMix.τ).loc Cert.SampleMix.main_arg2)
      ∧ r.2.mem ((c.tc : Thread Cert.SampleMix.nD Cert.SampleMix.τ).loc Cert.SampleMix.main_arg3) = m ((c.tc : Thread Cert.SampleMix.nD Cert.SampleMix.τ).loc Cert.SampleMix.main_arg3)
      ∧ r.2.mem ((c.tc : Thread Cert.SampleMix.nD Cert.SampleMix.τ).loc Cert.SampleMix.main_arg4) = m ((c.tc : Thread Cert.SampleMix.nD Cert.SampleMix.τ).loc Cert.SampleMix.main_arg4)
      ∧ r.2.mem ((c.tc : Thread Cert.SampleMix.nD Cert.SampleMix.τ).loc Cert.SampleMix.main_arg5) = m ((c.tc : Thread Cert.SampleMix.nD Cert.SampleMix.τ).loc Cert.SampleMix.main_arg5))
      ∧ r.2.sem = fun _ => 0)

def quiescent_SampleMixIdeal [hSampleMixIdeal : Cert.SampleMixIdeal.Facts] : Prop :=
  ∀ (m : (ℓ : Loc Cert.SampleMixIdeal.nD Cert.SampleMixIdeal.τ Cert.SampleMixIdeal.sig) → Buf (Elt Ideal) ℓ) (g : Dev Cert.SampleMixIdeal.nD → PrngReg), Pre_SampleMixIdeal m →
    θ_run (Cert.SampleMixIdeal.defs (F := Ideal)) (onTc (τ := Cert.SampleMixIdeal.τ) (Cert.SampleMixIdeal.main (F := Ideal))) ⟨m, fun _ => 0, g⟩ (fun r => (∀ c : Dev Cert.SampleMixIdeal.nD,
      r.2.mem ((c.tc : Thread Cert.SampleMixIdeal.nD Cert.SampleMixIdeal.τ).loc Cert.SampleMixIdeal.main_arg0) = m ((c.tc : Thread Cert.SampleMixIdeal.nD Cert.SampleMixIdeal.τ).loc Cert.SampleMixIdeal.main_arg0)
      ∧ r.2.mem ((c.tc : Thread Cert.SampleMixIdeal.nD Cert.SampleMixIdeal.τ).loc Cert.SampleMixIdeal.main_arg1) = m ((c.tc : Thread Cert.SampleMixIdeal.nD Cert.SampleMixIdeal.τ).loc Cert.SampleMixIdeal.main_arg1)
      ∧ r.2.mem ((c.tc : Thread Cert.SampleMixIdeal.nD Cert.SampleMixIdeal.τ).loc Cert.SampleMixIdeal.main_arg2) = m ((c.tc : Thread Cert.SampleMixIdeal.nD Cert.SampleMixIdeal.τ).loc Cert.SampleMixIdeal.main_arg2)
      ∧ r.2.mem ((c.tc : Thread Cert.SampleMixIdeal.nD Cert.SampleMixIdeal.τ).loc Cert.SampleMixIdeal.main_arg3) = m ((c.tc : Thread Cert.SampleMixIdeal.nD Cert.SampleMixIdeal.τ).loc Cert.SampleMixIdeal.main_arg3)
      ∧ r.2.mem ((c.tc : Thread Cert.SampleMixIdeal.nD Cert.SampleMixIdeal.τ).loc Cert.SampleMixIdeal.main_arg4) = m ((c.tc : Thread Cert.SampleMixIdeal.nD Cert.SampleMixIdeal.τ).loc Cert.SampleMixIdeal.main_arg4)
      ∧ r.2.mem ((c.tc : Thread Cert.SampleMixIdeal.nD Cert.SampleMixIdeal.τ).loc Cert.SampleMixIdeal.main_arg5) = m ((c.tc : Thread Cert.SampleMixIdeal.nD Cert.SampleMixIdeal.τ).loc Cert.SampleMixIdeal.main_arg5))
      ∧ r.2.sem = fun _ => 0)

def quiescent_SampleMixIdeal_pre_weights_finite [hSampleMixIdeal : Cert.SampleMixIdeal.Facts] [hPre_weights_finite : Cert.Pre_weights_finite.Facts] : Prop :=
  ∀ (m : (ℓ : Loc Cert.SampleMixIdeal.nD Cert.SampleMixIdeal.τ Cert.SampleMixIdeal.sig) → Buf (Elt Ideal) ℓ) (g : Dev Cert.SampleMixIdeal.nD → PrngReg), Pre_SampleMixIdeal_weights_finite m →
    θ_run (Cert.SampleMixIdeal.defs (F := Ideal)) (onTc (τ := Cert.SampleMixIdeal.τ) (Cert.SampleMixIdeal.main (F := Ideal))) ⟨m, fun _ => 0, g⟩ (fun r => (∀ c : Dev Cert.SampleMixIdeal.nD,
      r.2.mem ((c.tc : Thread Cert.SampleMixIdeal.nD Cert.SampleMixIdeal.τ).loc Cert.SampleMixIdeal.main_arg0) = m ((c.tc : Thread Cert.SampleMixIdeal.nD Cert.SampleMixIdeal.τ).loc Cert.SampleMixIdeal.main_arg0)
      ∧ r.2.mem ((c.tc : Thread Cert.SampleMixIdeal.nD Cert.SampleMixIdeal.τ).loc Cert.SampleMixIdeal.main_arg1) = m ((c.tc : Thread Cert.SampleMixIdeal.nD Cert.SampleMixIdeal.τ).loc Cert.SampleMixIdeal.main_arg1)
      ∧ r.2.mem ((c.tc : Thread Cert.SampleMixIdeal.nD Cert.SampleMixIdeal.τ).loc Cert.SampleMixIdeal.main_arg2) = m ((c.tc : Thread Cert.SampleMixIdeal.nD Cert.SampleMixIdeal.τ).loc Cert.SampleMixIdeal.main_arg2)
      ∧ r.2.mem ((c.tc : Thread Cert.SampleMixIdeal.nD Cert.SampleMixIdeal.τ).loc Cert.SampleMixIdeal.main_arg3) = m ((c.tc : Thread Cert.SampleMixIdeal.nD Cert.SampleMixIdeal.τ).loc Cert.SampleMixIdeal.main_arg3)
      ∧ r.2.mem ((c.tc : Thread Cert.SampleMixIdeal.nD Cert.SampleMixIdeal.τ).loc Cert.SampleMixIdeal.main_arg4) = m ((c.tc : Thread Cert.SampleMixIdeal.nD Cert.SampleMixIdeal.τ).loc Cert.SampleMixIdeal.main_arg4)
      ∧ r.2.mem ((c.tc : Thread Cert.SampleMixIdeal.nD Cert.SampleMixIdeal.τ).loc Cert.SampleMixIdeal.main_arg5) = m ((c.tc : Thread Cert.SampleMixIdeal.nD Cert.SampleMixIdeal.τ).loc Cert.SampleMixIdeal.main_arg5))
      ∧ r.2.sem = fun _ => 0)

def quiescent_SampleMixReferenceIdeal [hSampleMixReferenceIdeal : Cert.SampleMixReferenceIdeal.Facts] : Prop :=
  ∀ (m : (ℓ : Loc Cert.SampleMixReferenceIdeal.nD Cert.SampleMixReferenceIdeal.τ Cert.SampleMixReferenceIdeal.sig) → Buf (Elt Ideal) ℓ) (g : Dev Cert.SampleMixReferenceIdeal.nD → PrngReg), Pre_SampleMixReferenceIdeal m →
    θ_run (Cert.SampleMixReferenceIdeal.defs (F := Ideal)) (onTc (τ := Cert.SampleMixReferenceIdeal.τ) (Cert.SampleMixReferenceIdeal.main (F := Ideal))) ⟨m, fun _ => 0, g⟩ (fun r => (∀ c : Dev Cert.SampleMixReferenceIdeal.nD,
      r.2.mem ((c.tc : Thread Cert.SampleMixReferenceIdeal.nD Cert.SampleMixReferenceIdeal.τ).loc Cert.SampleMixReferenceIdeal.main_arg0) = m ((c.tc : Thread Cert.SampleMixReferenceIdeal.nD Cert.SampleMixReferenceIdeal.τ).loc Cert.SampleMixReferenceIdeal.main_arg0)
      ∧ r.2.mem ((c.tc : Thread Cert.SampleMixReferenceIdeal.nD Cert.SampleMixReferenceIdeal.τ).loc Cert.SampleMixReferenceIdeal.main_arg1) = m ((c.tc : Thread Cert.SampleMixReferenceIdeal.nD Cert.SampleMixReferenceIdeal.τ).loc Cert.SampleMixReferenceIdeal.main_arg1)
      ∧ r.2.mem ((c.tc : Thread Cert.SampleMixReferenceIdeal.nD Cert.SampleMixReferenceIdeal.τ).loc Cert.SampleMixReferenceIdeal.main_arg2) = m ((c.tc : Thread Cert.SampleMixReferenceIdeal.nD Cert.SampleMixReferenceIdeal.τ).loc Cert.SampleMixReferenceIdeal.main_arg2)
      ∧ r.2.mem ((c.tc : Thread Cert.SampleMixReferenceIdeal.nD Cert.SampleMixReferenceIdeal.τ).loc Cert.SampleMixReferenceIdeal.main_arg3) = m ((c.tc : Thread Cert.SampleMixReferenceIdeal.nD Cert.SampleMixReferenceIdeal.τ).loc Cert.SampleMixReferenceIdeal.main_arg3)
      ∧ r.2.mem ((c.tc : Thread Cert.SampleMixReferenceIdeal.nD Cert.SampleMixReferenceIdeal.τ).loc Cert.SampleMixReferenceIdeal.main_arg4) = m ((c.tc : Thread Cert.SampleMixReferenceIdeal.nD Cert.SampleMixReferenceIdeal.τ).loc Cert.SampleMixReferenceIdeal.main_arg4)
      ∧ r.2.mem ((c.tc : Thread Cert.SampleMixReferenceIdeal.nD Cert.SampleMixReferenceIdeal.τ).loc Cert.SampleMixReferenceIdeal.main_arg5) = m ((c.tc : Thread Cert.SampleMixReferenceIdeal.nD Cert.SampleMixReferenceIdeal.τ).loc Cert.SampleMixReferenceIdeal.main_arg5))
      ∧ r.2.sem = fun _ => 0)

def quiescent_SampleMixReferenceIdeal_pre_weights_finite [hSampleMixReferenceIdeal : Cert.SampleMixReferenceIdeal.Facts] [hPre_weights_finite : Cert.Pre_weights_finite.Facts] : Prop :=
  ∀ (m : (ℓ : Loc Cert.SampleMixReferenceIdeal.nD Cert.SampleMixReferenceIdeal.τ Cert.SampleMixReferenceIdeal.sig) → Buf (Elt Ideal) ℓ) (g : Dev Cert.SampleMixReferenceIdeal.nD → PrngReg), Pre_SampleMixReferenceIdeal_weights_finite m →
    θ_run (Cert.SampleMixReferenceIdeal.defs (F := Ideal)) (onTc (τ := Cert.SampleMixReferenceIdeal.τ) (Cert.SampleMixReferenceIdeal.main (F := Ideal))) ⟨m, fun _ => 0, g⟩ (fun r => (∀ c : Dev Cert.SampleMixReferenceIdeal.nD,
      r.2.mem ((c.tc : Thread Cert.SampleMixReferenceIdeal.nD Cert.SampleMixReferenceIdeal.τ).loc Cert.SampleMixReferenceIdeal.main_arg0) = m ((c.tc : Thread Cert.SampleMixReferenceIdeal.nD Cert.SampleMixReferenceIdeal.τ).loc Cert.SampleMixReferenceIdeal.main_arg0)
      ∧ r.2.mem ((c.tc : Thread Cert.SampleMixReferenceIdeal.nD Cert.SampleMixReferenceIdeal.τ).loc Cert.SampleMixReferenceIdeal.main_arg1) = m ((c.tc : Thread Cert.SampleMixReferenceIdeal.nD Cert.SampleMixReferenceIdeal.τ).loc Cert.SampleMixReferenceIdeal.main_arg1)
      ∧ r.2.mem ((c.tc : Thread Cert.SampleMixReferenceIdeal.nD Cert.SampleMixReferenceIdeal.τ).loc Cert.SampleMixReferenceIdeal.main_arg2) = m ((c.tc : Thread Cert.SampleMixReferenceIdeal.nD Cert.SampleMixReferenceIdeal.τ).loc Cert.SampleMixReferenceIdeal.main_arg2)
      ∧ r.2.mem ((c.tc : Thread Cert.SampleMixReferenceIdeal.nD Cert.SampleMixReferenceIdeal.τ).loc Cert.SampleMixReferenceIdeal.main_arg3) = m ((c.tc : Thread Cert.SampleMixReferenceIdeal.nD Cert.SampleMixReferenceIdeal.τ).loc Cert.SampleMixReferenceIdeal.main_arg3)
      ∧ r.2.mem ((c.tc : Thread Cert.SampleMixReferenceIdeal.nD Cert.SampleMixReferenceIdeal.τ).loc Cert.SampleMixReferenceIdeal.main_arg4) = m ((c.tc : Thread Cert.SampleMixReferenceIdeal.nD Cert.SampleMixReferenceIdeal.τ).loc Cert.SampleMixReferenceIdeal.main_arg4)
      ∧ r.2.mem ((c.tc : Thread Cert.SampleMixReferenceIdeal.nD Cert.SampleMixReferenceIdeal.τ).loc Cert.SampleMixReferenceIdeal.main_arg5) = m ((c.tc : Thread Cert.SampleMixReferenceIdeal.nD Cert.SampleMixReferenceIdeal.τ).loc Cert.SampleMixReferenceIdeal.main_arg5))
      ∧ r.2.sem = fun _ => 0)

def quiescent_SampleMerge [hSampleMerge : Cert.SampleMerge.Facts] : Prop :=
  ∀ (m : (ℓ : Loc Cert.SampleMerge.nD Cert.SampleMerge.τ Cert.SampleMerge.sig) → Buf (Elt Bits) ℓ) (g : Dev Cert.SampleMerge.nD → PrngReg), Pre_SampleMerge m →
    θ_run (Cert.SampleMerge.defs (F := Bits)) (onTc (τ := Cert.SampleMerge.τ) (Cert.SampleMerge.main (F := Bits))) ⟨m, fun _ => 0, g⟩ (fun r => (∀ c : Dev Cert.SampleMerge.nD,
      r.2.mem ((c.tc : Thread Cert.SampleMerge.nD Cert.SampleMerge.τ).loc Cert.SampleMerge.main_arg0) = m ((c.tc : Thread Cert.SampleMerge.nD Cert.SampleMerge.τ).loc Cert.SampleMerge.main_arg0)
      ∧ r.2.mem ((c.tc : Thread Cert.SampleMerge.nD Cert.SampleMerge.τ).loc Cert.SampleMerge.main_arg1) = m ((c.tc : Thread Cert.SampleMerge.nD Cert.SampleMerge.τ).loc Cert.SampleMerge.main_arg1)
      ∧ r.2.mem ((c.tc : Thread Cert.SampleMerge.nD Cert.SampleMerge.τ).loc Cert.SampleMerge.main_arg2) = m ((c.tc : Thread Cert.SampleMerge.nD Cert.SampleMerge.τ).loc Cert.SampleMerge.main_arg2)
      ∧ r.2.mem ((c.tc : Thread Cert.SampleMerge.nD Cert.SampleMerge.τ).loc Cert.SampleMerge.main_arg3) = m ((c.tc : Thread Cert.SampleMerge.nD Cert.SampleMerge.τ).loc Cert.SampleMerge.main_arg3)
      ∧ r.2.mem ((c.tc : Thread Cert.SampleMerge.nD Cert.SampleMerge.τ).loc Cert.SampleMerge.main_arg4) = m ((c.tc : Thread Cert.SampleMerge.nD Cert.SampleMerge.τ).loc Cert.SampleMerge.main_arg4)
      ∧ r.2.mem ((c.tc : Thread Cert.SampleMerge.nD Cert.SampleMerge.τ).loc Cert.SampleMerge.main_arg5) = m ((c.tc : Thread Cert.SampleMerge.nD Cert.SampleMerge.τ).loc Cert.SampleMerge.main_arg5)
      ∧ r.2.mem ((c.tc : Thread Cert.SampleMerge.nD Cert.SampleMerge.τ).loc Cert.SampleMerge.main_arg6) = m ((c.tc : Thread Cert.SampleMerge.nD Cert.SampleMerge.τ).loc Cert.SampleMerge.main_arg6)
      ∧ r.2.mem ((c.tc : Thread Cert.SampleMerge.nD Cert.SampleMerge.τ).loc Cert.SampleMerge.main_arg7) = m ((c.tc : Thread Cert.SampleMerge.nD Cert.SampleMerge.τ).loc Cert.SampleMerge.main_arg7)
      ∧ r.2.mem ((c.tc : Thread Cert.SampleMerge.nD Cert.SampleMerge.τ).loc Cert.SampleMerge.main_arg8) = m ((c.tc : Thread Cert.SampleMerge.nD Cert.SampleMerge.τ).loc Cert.SampleMerge.main_arg8)
      ∧ r.2.mem ((c.tc : Thread Cert.SampleMerge.nD Cert.SampleMerge.τ).loc Cert.SampleMerge.main_arg9) = m ((c.tc : Thread Cert.SampleMerge.nD Cert.SampleMerge.τ).loc Cert.SampleMerge.main_arg9)
      ∧ r.2.mem ((c.tc : Thread Cert.SampleMerge.nD Cert.SampleMerge.τ).loc Cert.SampleMerge.main_arg10) = m ((c.tc : Thread Cert.SampleMerge.nD Cert.SampleMerge.τ).loc Cert.SampleMerge.main_arg10)
      ∧ r.2.mem ((c.tc : Thread Cert.SampleMerge.nD Cert.SampleMerge.τ).loc Cert.SampleMerge.main_arg11) = m ((c.tc : Thread Cert.SampleMerge.nD Cert.SampleMerge.τ).loc Cert.SampleMerge.main_arg11)
      ∧ r.2.mem ((c.tc : Thread Cert.SampleMerge.nD Cert.SampleMerge.τ).loc Cert.SampleMerge.main_arg12) = m ((c.tc : Thread Cert.SampleMerge.nD Cert.SampleMerge.τ).loc Cert.SampleMerge.main_arg12)
      ∧ r.2.mem ((c.tc : Thread Cert.SampleMerge.nD Cert.SampleMerge.τ).loc Cert.SampleMerge.main_arg13) = m ((c.tc : Thread Cert.SampleMerge.nD Cert.SampleMerge.τ).loc Cert.SampleMerge.main_arg13)
      ∧ r.2.mem ((c.tc : Thread Cert.SampleMerge.nD Cert.SampleMerge.τ).loc Cert.SampleMerge.main_arg14) = m ((c.tc : Thread Cert.SampleMerge.nD Cert.SampleMerge.τ).loc Cert.SampleMerge.main_arg14))
      ∧ r.2.sem = fun _ => 0)

def quiescent_SampleMergeIdeal [hSampleMergeIdeal : Cert.SampleMergeIdeal.Facts] : Prop :=
  ∀ (m : (ℓ : Loc Cert.SampleMergeIdeal.nD Cert.SampleMergeIdeal.τ Cert.SampleMergeIdeal.sig) → Buf (Elt Ideal) ℓ) (g : Dev Cert.SampleMergeIdeal.nD → PrngReg), Pre_SampleMergeIdeal m →
    θ_run (Cert.SampleMergeIdeal.defs (F := Ideal)) (onTc (τ := Cert.SampleMergeIdeal.τ) (Cert.SampleMergeIdeal.main (F := Ideal))) ⟨m, fun _ => 0, g⟩ (fun r => (∀ c : Dev Cert.SampleMergeIdeal.nD,
      r.2.mem ((c.tc : Thread Cert.SampleMergeIdeal.nD Cert.SampleMergeIdeal.τ).loc Cert.SampleMergeIdeal.main_arg0) = m ((c.tc : Thread Cert.SampleMergeIdeal.nD Cert.SampleMergeIdeal.τ).loc Cert.SampleMergeIdeal.main_arg0)
      ∧ r.2.mem ((c.tc : Thread Cert.SampleMergeIdeal.nD Cert.SampleMergeIdeal.τ).loc Cert.SampleMergeIdeal.main_arg1) = m ((c.tc : Thread Cert.SampleMergeIdeal.nD Cert.SampleMergeIdeal.τ).loc Cert.SampleMergeIdeal.main_arg1)
      ∧ r.2.mem ((c.tc : Thread Cert.SampleMergeIdeal.nD Cert.SampleMergeIdeal.τ).loc Cert.SampleMergeIdeal.main_arg2) = m ((c.tc : Thread Cert.SampleMergeIdeal.nD Cert.SampleMergeIdeal.τ).loc Cert.SampleMergeIdeal.main_arg2)
      ∧ r.2.mem ((c.tc : Thread Cert.SampleMergeIdeal.nD Cert.SampleMergeIdeal.τ).loc Cert.SampleMergeIdeal.main_arg3) = m ((c.tc : Thread Cert.SampleMergeIdeal.nD Cert.SampleMergeIdeal.τ).loc Cert.SampleMergeIdeal.main_arg3)
      ∧ r.2.mem ((c.tc : Thread Cert.SampleMergeIdeal.nD Cert.SampleMergeIdeal.τ).loc Cert.SampleMergeIdeal.main_arg4) = m ((c.tc : Thread Cert.SampleMergeIdeal.nD Cert.SampleMergeIdeal.τ).loc Cert.SampleMergeIdeal.main_arg4)
      ∧ r.2.mem ((c.tc : Thread Cert.SampleMergeIdeal.nD Cert.SampleMergeIdeal.τ).loc Cert.SampleMergeIdeal.main_arg5) = m ((c.tc : Thread Cert.SampleMergeIdeal.nD Cert.SampleMergeIdeal.τ).loc Cert.SampleMergeIdeal.main_arg5)
      ∧ r.2.mem ((c.tc : Thread Cert.SampleMergeIdeal.nD Cert.SampleMergeIdeal.τ).loc Cert.SampleMergeIdeal.main_arg6) = m ((c.tc : Thread Cert.SampleMergeIdeal.nD Cert.SampleMergeIdeal.τ).loc Cert.SampleMergeIdeal.main_arg6)
      ∧ r.2.mem ((c.tc : Thread Cert.SampleMergeIdeal.nD Cert.SampleMergeIdeal.τ).loc Cert.SampleMergeIdeal.main_arg7) = m ((c.tc : Thread Cert.SampleMergeIdeal.nD Cert.SampleMergeIdeal.τ).loc Cert.SampleMergeIdeal.main_arg7)
      ∧ r.2.mem ((c.tc : Thread Cert.SampleMergeIdeal.nD Cert.SampleMergeIdeal.τ).loc Cert.SampleMergeIdeal.main_arg8) = m ((c.tc : Thread Cert.SampleMergeIdeal.nD Cert.SampleMergeIdeal.τ).loc Cert.SampleMergeIdeal.main_arg8)
      ∧ r.2.mem ((c.tc : Thread Cert.SampleMergeIdeal.nD Cert.SampleMergeIdeal.τ).loc Cert.SampleMergeIdeal.main_arg9) = m ((c.tc : Thread Cert.SampleMergeIdeal.nD Cert.SampleMergeIdeal.τ).loc Cert.SampleMergeIdeal.main_arg9)
      ∧ r.2.mem ((c.tc : Thread Cert.SampleMergeIdeal.nD Cert.SampleMergeIdeal.τ).loc Cert.SampleMergeIdeal.main_arg10) = m ((c.tc : Thread Cert.SampleMergeIdeal.nD Cert.SampleMergeIdeal.τ).loc Cert.SampleMergeIdeal.main_arg10)
      ∧ r.2.mem ((c.tc : Thread Cert.SampleMergeIdeal.nD Cert.SampleMergeIdeal.τ).loc Cert.SampleMergeIdeal.main_arg11) = m ((c.tc : Thread Cert.SampleMergeIdeal.nD Cert.SampleMergeIdeal.τ).loc Cert.SampleMergeIdeal.main_arg11)
      ∧ r.2.mem ((c.tc : Thread Cert.SampleMergeIdeal.nD Cert.SampleMergeIdeal.τ).loc Cert.SampleMergeIdeal.main_arg12) = m ((c.tc : Thread Cert.SampleMergeIdeal.nD Cert.SampleMergeIdeal.τ).loc Cert.SampleMergeIdeal.main_arg12)
      ∧ r.2.mem ((c.tc : Thread Cert.SampleMergeIdeal.nD Cert.SampleMergeIdeal.τ).loc Cert.SampleMergeIdeal.main_arg13) = m ((c.tc : Thread Cert.SampleMergeIdeal.nD Cert.SampleMergeIdeal.τ).loc Cert.SampleMergeIdeal.main_arg13)
      ∧ r.2.mem ((c.tc : Thread Cert.SampleMergeIdeal.nD Cert.SampleMergeIdeal.τ).loc Cert.SampleMergeIdeal.main_arg14) = m ((c.tc : Thread Cert.SampleMergeIdeal.nD Cert.SampleMergeIdeal.τ).loc Cert.SampleMergeIdeal.main_arg14))
      ∧ r.2.sem = fun _ => 0)

def quiescent_SampleMergeReferenceIdeal [hSampleMergeReferenceIdeal : Cert.SampleMergeReferenceIdeal.Facts] : Prop :=
  ∀ (m : (ℓ : Loc Cert.SampleMergeReferenceIdeal.nD Cert.SampleMergeReferenceIdeal.τ Cert.SampleMergeReferenceIdeal.sig) → Buf (Elt Ideal) ℓ) (g : Dev Cert.SampleMergeReferenceIdeal.nD → PrngReg), Pre_SampleMergeReferenceIdeal m →
    θ_run (Cert.SampleMergeReferenceIdeal.defs (F := Ideal)) (onTc (τ := Cert.SampleMergeReferenceIdeal.τ) (Cert.SampleMergeReferenceIdeal.main (F := Ideal))) ⟨m, fun _ => 0, g⟩ (fun r => (∀ c : Dev Cert.SampleMergeReferenceIdeal.nD,
      r.2.mem ((c.tc : Thread Cert.SampleMergeReferenceIdeal.nD Cert.SampleMergeReferenceIdeal.τ).loc Cert.SampleMergeReferenceIdeal.main_arg0) = m ((c.tc : Thread Cert.SampleMergeReferenceIdeal.nD Cert.SampleMergeReferenceIdeal.τ).loc Cert.SampleMergeReferenceIdeal.main_arg0)
      ∧ r.2.mem ((c.tc : Thread Cert.SampleMergeReferenceIdeal.nD Cert.SampleMergeReferenceIdeal.τ).loc Cert.SampleMergeReferenceIdeal.main_arg1) = m ((c.tc : Thread Cert.SampleMergeReferenceIdeal.nD Cert.SampleMergeReferenceIdeal.τ).loc Cert.SampleMergeReferenceIdeal.main_arg1)
      ∧ r.2.mem ((c.tc : Thread Cert.SampleMergeReferenceIdeal.nD Cert.SampleMergeReferenceIdeal.τ).loc Cert.SampleMergeReferenceIdeal.main_arg2) = m ((c.tc : Thread Cert.SampleMergeReferenceIdeal.nD Cert.SampleMergeReferenceIdeal.τ).loc Cert.SampleMergeReferenceIdeal.main_arg2)
      ∧ r.2.mem ((c.tc : Thread Cert.SampleMergeReferenceIdeal.nD Cert.SampleMergeReferenceIdeal.τ).loc Cert.SampleMergeReferenceIdeal.main_arg3) = m ((c.tc : Thread Cert.SampleMergeReferenceIdeal.nD Cert.SampleMergeReferenceIdeal.τ).loc Cert.SampleMergeReferenceIdeal.main_arg3)
      ∧ r.2.mem ((c.tc : Thread Cert.SampleMergeReferenceIdeal.nD Cert.SampleMergeReferenceIdeal.τ).loc Cert.SampleMergeReferenceIdeal.main_arg4) = m ((c.tc : Thread Cert.SampleMergeReferenceIdeal.nD Cert.SampleMergeReferenceIdeal.τ).loc Cert.SampleMergeReferenceIdeal.main_arg4)
      ∧ r.2.mem ((c.tc : Thread Cert.SampleMergeReferenceIdeal.nD Cert.SampleMergeReferenceIdeal.τ).loc Cert.SampleMergeReferenceIdeal.main_arg5) = m ((c.tc : Thread Cert.SampleMergeReferenceIdeal.nD Cert.SampleMergeReferenceIdeal.τ).loc Cert.SampleMergeReferenceIdeal.main_arg5)
      ∧ r.2.mem ((c.tc : Thread Cert.SampleMergeReferenceIdeal.nD Cert.SampleMergeReferenceIdeal.τ).loc Cert.SampleMergeReferenceIdeal.main_arg6) = m ((c.tc : Thread Cert.SampleMergeReferenceIdeal.nD Cert.SampleMergeReferenceIdeal.τ).loc Cert.SampleMergeReferenceIdeal.main_arg6)
      ∧ r.2.mem ((c.tc : Thread Cert.SampleMergeReferenceIdeal.nD Cert.SampleMergeReferenceIdeal.τ).loc Cert.SampleMergeReferenceIdeal.main_arg7) = m ((c.tc : Thread Cert.SampleMergeReferenceIdeal.nD Cert.SampleMergeReferenceIdeal.τ).loc Cert.SampleMergeReferenceIdeal.main_arg7)
      ∧ r.2.mem ((c.tc : Thread Cert.SampleMergeReferenceIdeal.nD Cert.SampleMergeReferenceIdeal.τ).loc Cert.SampleMergeReferenceIdeal.main_arg8) = m ((c.tc : Thread Cert.SampleMergeReferenceIdeal.nD Cert.SampleMergeReferenceIdeal.τ).loc Cert.SampleMergeReferenceIdeal.main_arg8)
      ∧ r.2.mem ((c.tc : Thread Cert.SampleMergeReferenceIdeal.nD Cert.SampleMergeReferenceIdeal.τ).loc Cert.SampleMergeReferenceIdeal.main_arg9) = m ((c.tc : Thread Cert.SampleMergeReferenceIdeal.nD Cert.SampleMergeReferenceIdeal.τ).loc Cert.SampleMergeReferenceIdeal.main_arg9)
      ∧ r.2.mem ((c.tc : Thread Cert.SampleMergeReferenceIdeal.nD Cert.SampleMergeReferenceIdeal.τ).loc Cert.SampleMergeReferenceIdeal.main_arg10) = m ((c.tc : Thread Cert.SampleMergeReferenceIdeal.nD Cert.SampleMergeReferenceIdeal.τ).loc Cert.SampleMergeReferenceIdeal.main_arg10)
      ∧ r.2.mem ((c.tc : Thread Cert.SampleMergeReferenceIdeal.nD Cert.SampleMergeReferenceIdeal.τ).loc Cert.SampleMergeReferenceIdeal.main_arg11) = m ((c.tc : Thread Cert.SampleMergeReferenceIdeal.nD Cert.SampleMergeReferenceIdeal.τ).loc Cert.SampleMergeReferenceIdeal.main_arg11)
      ∧ r.2.mem ((c.tc : Thread Cert.SampleMergeReferenceIdeal.nD Cert.SampleMergeReferenceIdeal.τ).loc Cert.SampleMergeReferenceIdeal.main_arg12) = m ((c.tc : Thread Cert.SampleMergeReferenceIdeal.nD Cert.SampleMergeReferenceIdeal.τ).loc Cert.SampleMergeReferenceIdeal.main_arg12)
      ∧ r.2.mem ((c.tc : Thread Cert.SampleMergeReferenceIdeal.nD Cert.SampleMergeReferenceIdeal.τ).loc Cert.SampleMergeReferenceIdeal.main_arg13) = m ((c.tc : Thread Cert.SampleMergeReferenceIdeal.nD Cert.SampleMergeReferenceIdeal.τ).loc Cert.SampleMergeReferenceIdeal.main_arg13)
      ∧ r.2.mem ((c.tc : Thread Cert.SampleMergeReferenceIdeal.nD Cert.SampleMergeReferenceIdeal.τ).loc Cert.SampleMergeReferenceIdeal.main_arg14) = m ((c.tc : Thread Cert.SampleMergeReferenceIdeal.nD Cert.SampleMergeReferenceIdeal.τ).loc Cert.SampleMergeReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v14_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v52) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v27_0)) (v1 : (c : Dev Cert.MixIdeal.nD) → Buf (Elt Ideal) ((c.tc : Thread Cert.MixIdeal.nD Cert.MixIdeal.τ).loc Cert.MixIdeal.main_v27_1)) (v2 : (c : Dev Cert.MixIdeal.nD) → Buf (Elt Ideal) ((c.tc : Thread Cert.MixIdeal.nD Cert.MixIdeal.τ).loc Cert.MixIdeal.main_v27_2)) (v3 : (c : Dev Cert.MixIdeal.nD) → Buf (Elt Ideal) ((c.tc : Thread Cert.MixIdeal.nD Cert.MixIdeal.τ).loc Cert.MixIdeal.main_v27_3)) (v4 : (c : Dev Cert.MixIdeal.nD) → Buf (Elt Ideal) ((c.tc : Thread Cert.MixIdeal.nD Cert.MixIdeal.τ).loc Cert.MixIdeal.main_v27_4)) (v5 : (c : Dev Cert.MixIdeal.nD) → Buf (Elt Ideal) ((c.tc : Thread Cert.MixIdeal.nD Cert.MixIdeal.τ).loc Cert.MixIdeal.main_v27_5)) (v6 : (c : Dev Cert.MixIdeal.nD) → Buf (Elt Ideal) ((c.tc : Thread Cert.MixIdeal.nD Cert.MixIdeal.τ).loc Cert.MixIdeal.main_v27_6)) (v7 : (c : Dev Cert.MixIdeal.nD) → Buf (Elt Ideal) ((c.tc : Thread Cert.MixIdeal.nD Cert.MixIdeal.τ).loc Cert.MixIdeal.main_v27_7)) (v8 : (c : Dev Cert.MixIdeal.nD) → Buf (Elt Ideal) ((c.tc : Thread Cert.MixIdeal.nD Cert.MixIdeal.τ).loc Cert.MixIdeal.main_v27_8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v27_0) = v0 c
          ∧ r.2.mem ((c.tc : Thread Cert.MixIdeal.nD Cert.MixIdeal.τ).loc Cert.MixIdeal.main_v27_1) = v1 c
          ∧ r.2.mem ((c.tc : Thread Cert.MixIdeal.nD Cert.MixIdeal.τ).loc Cert.MixIdeal.main_v27_2) = v2 c
          ∧ r.2.mem ((c.tc : Thread Cert.MixIdeal.nD Cert.MixIdeal.τ).loc Cert.MixIdeal.main_v27_3) = v3 c
          ∧ r.2.mem ((c.tc : Thread Cert.MixIdeal.nD Cert.MixIdeal.τ).loc Cert.MixIdeal.main_v27_4) = v4 c
          ∧ r.2.mem ((c.tc : Thread Cert.MixIdeal.nD Cert.MixIdeal.τ).loc Cert.MixIdeal.main_v27_5) = v5 c
          ∧ r.2.mem ((c.tc : Thread Cert.MixIdeal.nD Cert.MixIdeal.τ).loc Cert.MixIdeal.main_v27_6) = v6 c
          ∧ r.2.mem ((c.tc : Thread Cert.MixIdeal.nD Cert.MixIdeal.τ).loc Cert.MixIdeal.main_v27_7) = v7 c
          ∧ r.2.mem ((c.tc : Thread Cert.MixIdeal.nD Cert.MixIdeal.τ).loc Cert.MixIdeal.main_v27_8) = v8 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v37) = v0 c
          ∧ r.2.mem ((c.tc : Thread Cert.MixReferenceIdeal.nD Cert.MixReferenceIdeal.τ).loc Cert.MixReferenceIdeal.main_v52) = v1 c
          ∧ r.2.mem ((c.tc : Thread Cert.MixReferenceIdeal.nD Cert.MixReferenceIdeal.τ).loc Cert.MixReferenceIdeal.main_v17) = v2 c
          ∧ r.2.mem ((c.tc : Thread Cert.MixReferenceIdeal.nD Cert.MixReferenceIdeal.τ).loc Cert.MixReferenceIdeal.main_v72) = v3 c
          ∧ r.2.mem ((c.tc : Thread Cert.MixReferenceIdeal.nD Cert.MixReferenceIdeal.τ).loc Cert.MixReferenceIdeal.main_v79) = v4 c
          ∧ r.2.mem ((c.tc : Thread Cert.MixReferenceIdeal.nD Cert.MixReferenceIdeal.τ).loc Cert.MixReferenceIdeal.main_v56) = v5 c
          ∧ r.2.mem ((c.tc : Thread Cert.MixReferenceIdeal.nD Cert.MixReferenceIdeal.τ).loc Cert.MixReferenceIdeal.main_v59) = v6 c
          ∧ r.2.mem ((c.tc : Thread Cert.MixReferenceIdeal.nD Cert.MixReferenceIdeal.τ).loc Cert.MixReferenceIdeal.main_v65) = v7 c
          ∧ r.2.mem ((c.tc : Thread Cert.MixReferenceIdeal.nD Cert.MixReferenceIdeal.τ).loc Cert.MixReferenceIdeal.main_v81) = v8 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_SampleFfn_SampleFfnIdeal : Prop :=
  True

def algebraic_SampleFfnIdeal_SampleFfnReferenceIdeal [hSampleFfnIdeal : Cert.SampleFfnIdeal.Facts] [hSampleFfnReferenceIdeal : Cert.SampleFfnReferenceIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg)
    (m' : (ℓ : Loc Cert.SampleFfnReferenceIdeal.nD Cert.SampleFfnReferenceIdeal.τ Cert.SampleFfnReferenceIdeal.sig) → Buf (Elt Ideal) ℓ) (g' : Dev Cert.SampleFfnReferenceIdeal.nD → PrngReg), Pre_SampleFfnIdeal m →
    (∀ c : Dev Cert.SampleFfnIdeal.nD,
      m' ((c.tc : Thread Cert.SampleFfnReferenceIdeal.nD Cert.SampleFfnReferenceIdeal.τ).loc Cert.SampleFfnReferenceIdeal.main_arg0) = m ((c.tc : Thread Cert.SampleFfnIdeal.nD Cert.SampleFfnIdeal.τ).loc Cert.SampleFfnIdeal.main_arg0)
      ∧ m' ((c.tc : Thread Cert.SampleFfnReferenceIdeal.nD Cert.SampleFfnReferenceIdeal.τ).loc Cert.SampleFfnReferenceIdeal.main_arg1) = m ((c.tc : Thread Cert.SampleFfnIdeal.nD Cert.SampleFfnIdeal.τ).loc Cert.SampleFfnIdeal.main_arg1)
      ∧ m' ((c.tc : Thread Cert.SampleFfnReferenceIdeal.nD Cert.SampleFfnReferenceIdeal.τ).loc Cert.SampleFfnReferenceIdeal.main_arg2) = m ((c.tc : Thread Cert.SampleFfnIdeal.nD Cert.SampleFfnIdeal.τ).loc Cert.SampleFfnIdeal.main_arg2)
      ∧ m' ((c.tc : Thread Cert.SampleFfnReferenceIdeal.nD Cert.SampleFfnReferenceIdeal.τ).loc Cert.SampleFfnReferenceIdeal.main_arg3) = m ((c.tc : Thread Cert.SampleFfnIdeal.nD Cert.SampleFfnIdeal.τ).loc Cert.SampleFfnIdeal.main_arg3)
      ∧ m' ((c.tc : Thread Cert.SampleFfnReferenceIdeal.nD Cert.SampleFfnReferenceIdeal.τ).loc Cert.SampleFfnReferenceIdeal.main_arg4) = m ((c.tc : Thread Cert.SampleFfnIdeal.nD Cert.SampleFfnIdeal.τ).loc Cert.SampleFfnIdeal.main_arg4)) →
    ∃ (v0 : (c : Dev Cert.SampleFfnIdeal.nD) → Buf (Elt Ideal) ((c.tc : Thread Cert.SampleFfnIdeal.nD Cert.SampleFfnIdeal.τ).loc Cert.SampleFfnIdeal.main_v0)),
      θ_run (Cert.SampleFfnIdeal.defs (F := Ideal)) (onTc (τ := Cert.SampleFfnIdeal.τ) (Cert.SampleFfnIdeal.main (F := Ideal))) ⟨m, fun _ => 0, g⟩ (fun r => ∀ c : Dev Cert.SampleFfnIdeal.nD,
          r.2.mem ((c.tc : Thread Cert.SampleFfnIdeal.nD Cert.SampleFfnIdeal.τ).loc Cert.SampleFfnIdeal.main_v0) = v0 c
          ∧ r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
          ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
          ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
          ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
          ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4))
      ∧ θ_run (Cert.SampleFfnReferenceIdeal.defs (F := Ideal)) (onTc (τ := Cert.SampleFfnReferenceIdeal.τ) (Cert.SampleFfnReferenceIdeal.main (F := Ideal))) ⟨m', fun _ => 0, g'⟩ (fun r => ∀ c : Dev Cert.SampleFfnReferenceIdeal.nD,
          r.2.mem ((c.tc : Thread Cert.SampleFfnReferenceIdeal.nD Cert.SampleFfnReferenceIdeal.τ).loc Cert.SampleFfnReferenceIdeal.main_v22) = v0 c
          ∧ r.2.mem ((c.tc : Thread Cert.SampleFfnReferenceIdeal.nD Cert.SampleFfnReferenceIdeal.τ).loc Cert.SampleFfnReferenceIdeal.main_arg0) = m' ((c.tc : Thread Cert.SampleFfnReferenceIdeal.nD Cert.SampleFfnReferenceIdeal.τ).loc Cert.SampleFfnReferenceIdeal.main_arg0)
          ∧ r.2.mem ((c.tc : Thread Cert.SampleFfnReferenceIdeal.nD Cert.SampleFfnReferenceIdeal.τ).loc Cert.SampleFfnReferenceIdeal.main_arg1) = m' ((c.tc : Thread Cert.SampleFfnReferenceIdeal.nD Cert.SampleFfnReferenceIdeal.τ).loc Cert.SampleFfnReferenceIdeal.main_arg1)
          ∧ r.2.mem ((c.tc : Thread Cert.SampleFfnReferenceIdeal.nD Cert.SampleFfnReferenceIdeal.τ).loc Cert.SampleFfnReferenceIdeal.main_arg2) = m' ((c.tc : Thread Cert.SampleFfnReferenceIdeal.nD Cert.SampleFfnReferenceIdeal.τ).loc Cert.SampleFfnReferenceIdeal.main_arg2)
          ∧ r.2.mem ((c.tc : Thread Cert.SampleFfnReferenceIdeal.nD Cert.SampleFfnReferenceIdeal.τ).loc Cert.SampleFfnReferenceIdeal.main_arg3) = m' ((c.tc : Thread Cert.SampleFfnReferenceIdeal.nD Cert.SampleFfnReferenceIdeal.τ).loc Cert.SampleFfnReferenceIdeal.main_arg3)
          ∧ r.2.mem ((c.tc : Thread Cert.SampleFfnReferenceIdeal.nD Cert.SampleFfnReferenceIdeal.τ).loc Cert.SampleFfnReferenceIdeal.main_arg4) = m' ((c.tc : Thread Cert.SampleFfnReferenceIdeal.nD Cert.SampleFfnReferenceIdeal.τ).loc Cert.SampleFfnReferenceIdeal.main_arg4))

def preserves_SampleMix_SampleMixIdeal : Prop :=
  True

def algebraic_SampleMixIdeal_SampleMixReferenceIdeal_pre_weights_finite [hSampleMixIdeal : Cert.SampleMixIdeal.Facts] [hSampleMixReferenceIdeal : Cert.SampleMixReferenceIdeal.Facts] [hPre_weights_finite : Cert.Pre_weights_finite.Facts] : Prop :=
  ∀ (m : (ℓ : Loc Cert.SampleMixIdeal.nD Cert.SampleMixIdeal.τ Cert.SampleMixIdeal.sig) → Buf (Elt Ideal) ℓ) (g : Dev Cert.SampleMixIdeal.nD → PrngReg)
    (m' : (ℓ : Loc Cert.SampleMixReferenceIdeal.nD Cert.SampleMixReferenceIdeal.τ Cert.SampleMixReferenceIdeal.sig) → Buf (Elt Ideal) ℓ) (g' : Dev Cert.SampleMixReferenceIdeal.nD → PrngReg), Pre_SampleMixIdeal_weights_finite m →
    (∀ c : Dev Cert.SampleMixIdeal.nD,
      m' ((c.tc : Thread Cert.SampleMixReferenceIdeal.nD Cert.SampleMixReferenceIdeal.τ).loc Cert.SampleMixReferenceIdeal.main_arg0) = m ((c.tc : Thread Cert.SampleMixIdeal.nD Cert.SampleMixIdeal.τ).loc Cert.SampleMixIdeal.main_arg0)
      ∧ m' ((c.tc : Thread Cert.SampleMixReferenceIdeal.nD Cert.SampleMixReferenceIdeal.τ).loc Cert.SampleMixReferenceIdeal.main_arg1) = m ((c.tc : Thread Cert.SampleMixIdeal.nD Cert.SampleMixIdeal.τ).loc Cert.SampleMixIdeal.main_arg1)
      ∧ m' ((c.tc : Thread Cert.SampleMixReferenceIdeal.nD Cert.SampleMixReferenceIdeal.τ).loc Cert.SampleMixReferenceIdeal.main_arg2) = m ((c.tc : Thread Cert.SampleMixIdeal.nD Cert.SampleMixIdeal.τ).loc Cert.SampleMixIdeal.main_arg2)
      ∧ m' ((c.tc : Thread Cert.SampleMixReferenceIdeal.nD Cert.SampleMixReferenceIdeal.τ).loc Cert.SampleMixReferenceIdeal.main_arg3) = m ((c.tc : Thread Cert.SampleMixIdeal.nD Cert.SampleMixIdeal.τ).loc Cert.SampleMixIdeal.main_arg3)
      ∧ m' ((c.tc : Thread Cert.SampleMixReferenceIdeal.nD Cert.SampleMixReferenceIdeal.τ).loc Cert.SampleMixReferenceIdeal.main_arg4) = m ((c.tc : Thread Cert.SampleMixIdeal.nD Cert.SampleMixIdeal.τ).loc Cert.SampleMixIdeal.main_arg4)
      ∧ m' ((c.tc : Thread Cert.SampleMixReferenceIdeal.nD Cert.SampleMixReferenceIdeal.τ).loc Cert.SampleMixReferenceIdeal.main_arg5) = m ((c.tc : Thread Cert.SampleMixIdeal.nD Cert.SampleMixIdeal.τ).loc Cert.SampleMixIdeal.main_arg5)) →
    ∃ (v0 : (c : Dev Cert.SampleMixIdeal.nD) → Buf (Elt Ideal) ((c.tc : Thread Cert.SampleMixIdeal.nD Cert.SampleMixIdeal.τ).loc Cert.SampleMixIdeal.main_v27_0)) (v1 : (c : Dev Cert.SampleMixIdeal.nD) → Buf (Elt Ideal) ((c.tc : Thread Cert.SampleMixIdeal.nD Cert.SampleMixIdeal.τ).loc Cert.SampleMixIdeal.main_v27_1)) (v2 : (c : Dev Cert.SampleMixIdeal.nD) → Buf (Elt Ideal) ((c.tc : Thread Cert.SampleMixIdeal.nD Cert.SampleMixIdeal.τ).loc Cert.SampleMixIdeal.main_v27_2)) (v3 : (c : Dev Cert.SampleMixIdeal.nD) → Buf (Elt Ideal) ((c.tc : Thread Cert.SampleMixIdeal.nD Cert.SampleMixIdeal.τ).loc Cert.SampleMixIdeal.main_v27_3)) (v4 : (c : Dev Cert.SampleMixIdeal.nD) → Buf (Elt Ideal) ((c.tc : Thread Cert.SampleMixIdeal.nD Cert.SampleMixIdeal.τ).loc Cert.SampleMixIdeal.main_v27_4)) (v5 : (c : Dev Cert.SampleMixIdeal.nD) → Buf (Elt Ideal) ((c.tc : Thread Cert.SampleMixIdeal.nD Cert.SampleMixIdeal.τ).loc Cert.SampleMixIdeal.main_v27_5)) (v6 : (c : Dev Cert.SampleMixIdeal.nD) → Buf (Elt Ideal) ((c.tc : Thread Cert.SampleMixIdeal.nD Cert.SampleMixIdeal.τ).loc Cert.SampleMixIdeal.main_v27_8)),
      θ_run (Cert.SampleMixIdeal.defs (F := Ideal)) (onTc (τ := Cert.SampleMixIdeal.τ) (Cert.SampleMixIdeal.main (F := Ideal))) ⟨m, fun _ => 0, g⟩ (fun r => ∀ c : Dev Cert.SampleMixIdeal.nD,
          r.2.mem ((c.tc : Thread Cert.SampleMixIdeal.nD Cert.SampleMixIdeal.τ).loc Cert.SampleMixIdeal.main_v27_0) = v0 c
          ∧ r.2.mem ((c.tc : Thread Cert.SampleMixIdeal.nD Cert.SampleMixIdeal.τ).loc Cert.SampleMixIdeal.main_v27_1) = v1 c
          ∧ r.2.mem ((c.tc : Thread Cert.SampleMixIdeal.nD Cert.SampleMixIdeal.τ).loc Cert.SampleMixIdeal.main_v27_2) = v2 c
          ∧ r.2.mem ((c.tc : Thread Cert.SampleMixIdeal.nD Cert.SampleMixIdeal.τ).loc Cert.SampleMixIdeal.main_v27_3) = v3 c
          ∧ r.2.mem ((c.tc : Thread Cert.SampleMixIdeal.nD Cert.SampleMixIdeal.τ).loc Cert.SampleMixIdeal.main_v27_4) = v4 c
          ∧ r.2.mem ((c.tc : Thread Cert.SampleMixIdeal.nD Cert.SampleMixIdeal.τ).loc Cert.SampleMixIdeal.main_v27_5) = v5 c
          ∧ r.2.mem ((c.tc : Thread Cert.SampleMixIdeal.nD Cert.SampleMixIdeal.τ).loc Cert.SampleMixIdeal.main_v27_8) = v6 c
          ∧ r.2.mem ((c.tc : Thread Cert.SampleMixIdeal.nD Cert.SampleMixIdeal.τ).loc Cert.SampleMixIdeal.main_arg0) = m ((c.tc : Thread Cert.SampleMixIdeal.nD Cert.SampleMixIdeal.τ).loc Cert.SampleMixIdeal.main_arg0)
          ∧ r.2.mem ((c.tc : Thread Cert.SampleMixIdeal.nD Cert.SampleMixIdeal.τ).loc Cert.SampleMixIdeal.main_arg1) = m ((c.tc : Thread Cert.SampleMixIdeal.nD Cert.SampleMixIdeal.τ).loc Cert.SampleMixIdeal.main_arg1)
          ∧ r.2.mem ((c.tc : Thread Cert.SampleMixIdeal.nD Cert.SampleMixIdeal.τ).loc Cert.SampleMixIdeal.main_arg2) = m ((c.tc : Thread Cert.SampleMixIdeal.nD Cert.SampleMixIdeal.τ).loc Cert.SampleMixIdeal.main_arg2)
          ∧ r.2.mem ((c.tc : Thread Cert.SampleMixIdeal.nD Cert.SampleMixIdeal.τ).loc Cert.SampleMixIdeal.main_arg3) = m ((c.tc : Thread Cert.SampleMixIdeal.nD Cert.SampleMixIdeal.τ).loc Cert.SampleMixIdeal.main_arg3)
          ∧ r.2.mem ((c.tc : Thread Cert.SampleMixIdeal.nD Cert.SampleMixIdeal.τ).loc Cert.SampleMixIdeal.main_arg4) = m ((c.tc : Thread Cert.SampleMixIdeal.nD Cert.SampleMixIdeal.τ).loc Cert.SampleMixIdeal.main_arg4)
          ∧ r.2.mem ((c.tc : Thread Cert.SampleMixIdeal.nD Cert.SampleMixIdeal.τ).loc Cert.SampleMixIdeal.main_arg5) = m ((c.tc : Thread Cert.SampleMixIdeal.nD Cert.SampleMixIdeal.τ).loc Cert.SampleMixIdeal.main_arg5))
      ∧ θ_run (Cert.SampleMixReferenceIdeal.defs (F := Ideal)) (onTc (τ := Cert.SampleMixReferenceIdeal.τ) (Cert.SampleMixReferenceIdeal.main (F := Ideal))) ⟨m', fun _ => 0, g'⟩ (fun r => ∀ c : Dev Cert.SampleMixReferenceIdeal.nD,
          r.2.mem ((c.tc : Thread Cert.SampleMixReferenceIdeal.nD Cert.SampleMixReferenceIdeal.τ).loc Cert.SampleMixReferenceIdeal.main_v37) = v0 c
          ∧ r.2.mem ((c.tc : Thread Cert.SampleMixReferenceIdeal.nD Cert.SampleMixReferenceIdeal.τ).loc Cert.SampleMixReferenceIdeal.main_v52) = v1 c
          ∧ r.2.mem ((c.tc : Thread Cert.SampleMixReferenceIdeal.nD Cert.SampleMixReferenceIdeal.τ).loc Cert.SampleMixReferenceIdeal.main_v17) = v2 c
          ∧ r.2.mem ((c.tc : Thread Cert.SampleMixReferenceIdeal.nD Cert.SampleMixReferenceIdeal.τ).loc Cert.SampleMixReferenceIdeal.main_v63) = v3 c
          ∧ r.2.mem ((c.tc : Thread Cert.SampleMixReferenceIdeal.nD Cert.SampleMixReferenceIdeal.τ).loc Cert.SampleMixReferenceIdeal.main_v70) = v4 c
          ∧ r.2.mem ((c.tc : Thread Cert.SampleMixReferenceIdeal.nD Cert.SampleMixReferenceIdeal.τ).loc Cert.SampleMixReferenceIdeal.main_v56) = v5 c
          ∧ r.2.mem ((c.tc : Thread Cert.SampleMixReferenceIdeal.nD Cert.SampleMixReferenceIdeal.τ).loc Cert.SampleMixReferenceIdeal.main_v73) = v6 c
          ∧ r.2.mem ((c.tc : Thread Cert.SampleMixReferenceIdeal.nD Cert.SampleMixReferenceIdeal.τ).loc Cert.SampleMixReferenceIdeal.main_arg0) = m' ((c.tc : Thread Cert.SampleMixReferenceIdeal.nD Cert.SampleMixReferenceIdeal.τ).loc Cert.SampleMixReferenceIdeal.main_arg0)
          ∧ r.2.mem ((c.tc : Thread Cert.SampleMixReferenceIdeal.nD Cert.SampleMixReferenceIdeal.τ).loc Cert.SampleMixReferenceIdeal.main_arg1) = m' ((c.tc : Thread Cert.SampleMixReferenceIdeal.nD Cert.SampleMixReferenceIdeal.τ).loc Cert.SampleMixReferenceIdeal.main_arg1)
          ∧ r.2.mem ((c.tc : Thread Cert.SampleMixReferenceIdeal.nD Cert.SampleMixReferenceIdeal.τ).loc Cert.SampleMixReferenceIdeal.main_arg2) = m' ((c.tc : Thread Cert.SampleMixReferenceIdeal.nD Cert.SampleMixReferenceIdeal.τ).loc Cert.SampleMixReferenceIdeal.main_arg2)
          ∧ r.2.mem ((c.tc : Thread Cert.SampleMixReferenceIdeal.nD Cert.SampleMixReferenceIdeal.τ).loc Cert.SampleMixReferenceIdeal.main_arg3) = m' ((c.tc : Thread Cert.SampleMixReferenceIdeal.nD Cert.SampleMixReferenceIdeal.τ).loc Cert.SampleMixReferenceIdeal.main_arg3)
          ∧ r.2.mem ((c.tc : Thread Cert.SampleMixReferenceIdeal.nD Cert.SampleMixReferenceIdeal.τ).loc Cert.SampleMixReferenceIdeal.main_arg4) = m' ((c.tc : Thread Cert.SampleMixReferenceIdeal.nD Cert.SampleMixReferenceIdeal.τ).loc Cert.SampleMixReferenceIdeal.main_arg4)
          ∧ r.2.mem ((c.tc : Thread Cert.SampleMixReferenceIdeal.nD Cert.SampleMixReferenceIdeal.τ).loc Cert.SampleMixReferenceIdeal.main_arg5) = m' ((c.tc : Thread Cert.SampleMixReferenceIdeal.nD Cert.SampleMixReferenceIdeal.τ).loc Cert.SampleMixReferenceIdeal.main_arg5))

def preserves_SampleMerge_SampleMergeIdeal : Prop :=
  True

def algebraic_SampleMergeIdeal_SampleMergeReferenceIdeal [hSampleMergeIdeal : Cert.SampleMergeIdeal.Facts] [hSampleMergeReferenceIdeal : Cert.SampleMergeReferenceIdeal.Facts] : Prop :=
  ∀ (m : (ℓ : Loc Cert.SampleMergeIdeal.nD Cert.SampleMergeIdeal.τ Cert.SampleMergeIdeal.sig) → Buf (Elt Ideal) ℓ) (g : Dev Cert.SampleMergeIdeal.nD → PrngReg)
    (m' : (ℓ : Loc Cert.SampleMergeReferenceIdeal.nD Cert.SampleMergeReferenceIdeal.τ Cert.SampleMergeReferenceIdeal.sig) → Buf (Elt Ideal) ℓ) (g' : Dev Cert.SampleMergeReferenceIdeal.nD → PrngReg), Pre_SampleMergeIdeal m →
    (∀ c : Dev Cert.SampleMergeIdeal.nD,
      m' ((c.tc : Thread Cert.SampleMergeReferenceIdeal.nD Cert.SampleMergeReferenceIdeal.τ).loc Cert.SampleMergeReferenceIdeal.main_arg0) = m ((c.tc : Thread Cert.SampleMergeIdeal.nD Cert.SampleMergeIdeal.τ).loc Cert.SampleMergeIdeal.main_arg0)
      ∧ m' ((c.tc : Thread Cert.SampleMergeReferenceIdeal.nD Cert.SampleMergeReferenceIdeal.τ).loc Cert.SampleMergeReferenceIdeal.main_arg1) = m ((c.tc : Thread Cert.SampleMergeIdeal.nD Cert.SampleMergeIdeal.τ).loc Cert.SampleMergeIdeal.main_arg1)
      ∧ m' ((c.tc : Thread Cert.SampleMergeReferenceIdeal.nD Cert.SampleMergeReferenceIdeal.τ).loc Cert.SampleMergeReferenceIdeal.main_arg2) = m ((c.tc : Thread Cert.SampleMergeIdeal.nD Cert.SampleMergeIdeal.τ).loc Cert.SampleMergeIdeal.main_arg2)
      ∧ m' ((c.tc : Thread Cert.SampleMergeReferenceIdeal.nD Cert.SampleMergeReferenceIdeal.τ).loc Cert.SampleMergeReferenceIdeal.main_arg3) = m ((c.tc : Thread Cert.SampleMergeIdeal.nD Cert.SampleMergeIdeal.τ).loc Cert.SampleMergeIdeal.main_arg3)
      ∧ m' ((c.tc : Thread Cert.SampleMergeReferenceIdeal.nD Cert.SampleMergeReferenceIdeal.τ).loc Cert.SampleMergeReferenceIdeal.main_arg4) = m ((c.tc : Thread Cert.SampleMergeIdeal.nD Cert.SampleMergeIdeal.τ).loc Cert.SampleMergeIdeal.main_arg4)
      ∧ m' ((c.tc : Thread Cert.SampleMergeReferenceIdeal.nD Cert.SampleMergeReferenceIdeal.τ).loc Cert.SampleMergeReferenceIdeal.main_arg5) = m ((c.tc : Thread Cert.SampleMergeIdeal.nD Cert.SampleMergeIdeal.τ).loc Cert.SampleMergeIdeal.main_arg5)
      ∧ m' ((c.tc : Thread Cert.SampleMergeReferenceIdeal.nD Cert.SampleMergeReferenceIdeal.τ).loc Cert.SampleMergeReferenceIdeal.main_arg6) = m ((c.tc : Thread Cert.SampleMergeIdeal.nD Cert.SampleMergeIdeal.τ).loc Cert.SampleMergeIdeal.main_arg6)
      ∧ m' ((c.tc : Thread Cert.SampleMergeReferenceIdeal.nD Cert.SampleMergeReferenceIdeal.τ).loc Cert.SampleMergeReferenceIdeal.main_arg7) = m ((c.tc : Thread Cert.SampleMergeIdeal.nD Cert.SampleMergeIdeal.τ).loc Cert.SampleMergeIdeal.main_arg7)
      ∧ m' ((c.tc : Thread Cert.SampleMergeReferenceIdeal.nD Cert.SampleMergeReferenceIdeal.τ).loc Cert.SampleMergeReferenceIdeal.main_arg8) = m ((c.tc : Thread Cert.SampleMergeIdeal.nD Cert.SampleMergeIdeal.τ).loc Cert.SampleMergeIdeal.main_arg8)
      ∧ m' ((c.tc : Thread Cert.SampleMergeReferenceIdeal.nD Cert.SampleMergeReferenceIdeal.τ).loc Cert.SampleMergeReferenceIdeal.main_arg9) = m ((c.tc : Thread Cert.SampleMergeIdeal.nD Cert.SampleMergeIdeal.τ).loc Cert.SampleMergeIdeal.main_arg9)
      ∧ m' ((c.tc : Thread Cert.SampleMergeReferenceIdeal.nD Cert.SampleMergeReferenceIdeal.τ).loc Cert.SampleMergeReferenceIdeal.main_arg10) = m ((c.tc : Thread Cert.SampleMergeIdeal.nD Cert.SampleMergeIdeal.τ).loc Cert.SampleMergeIdeal.main_arg10)
      ∧ m' ((c.tc : Thread Cert.SampleMergeReferenceIdeal.nD Cert.SampleMergeReferenceIdeal.τ).loc Cert.SampleMergeReferenceIdeal.main_arg11) = m ((c.tc : Thread Cert.SampleMergeIdeal.nD Cert.SampleMergeIdeal.τ).loc Cert.SampleMergeIdeal.main_arg11)
      ∧ m' ((c.tc : Thread Cert.SampleMergeReferenceIdeal.nD Cert.SampleMergeReferenceIdeal.τ).loc Cert.SampleMergeReferenceIdeal.main_arg12) = m ((c.tc : Thread Cert.SampleMergeIdeal.nD Cert.SampleMergeIdeal.τ).loc Cert.SampleMergeIdeal.main_arg12)
      ∧ m' ((c.tc : Thread Cert.SampleMergeReferenceIdeal.nD Cert.SampleMergeReferenceIdeal.τ).loc Cert.SampleMergeReferenceIdeal.main_arg13) = m ((c.tc : Thread Cert.SampleMergeIdeal.nD Cert.SampleMergeIdeal.τ).loc Cert.SampleMergeIdeal.main_arg13)
      ∧ m' ((c.tc : Thread Cert.SampleMergeReferenceIdeal.nD Cert.SampleMergeReferenceIdeal.τ).loc Cert.SampleMergeReferenceIdeal.main_arg14) = m ((c.tc : Thread Cert.SampleMergeIdeal.nD Cert.SampleMergeIdeal.τ).loc Cert.SampleMergeIdeal.main_arg14)) →
    ∃ (v0 : (c : Dev Cert.SampleMergeIdeal.nD) → Buf (Elt Ideal) ((c.tc : Thread Cert.SampleMergeIdeal.nD Cert.SampleMergeIdeal.τ).loc Cert.SampleMergeIdeal.main_v15)),
      θ_run (Cert.SampleMergeIdeal.defs (F := Ideal)) (onTc (τ := Cert.SampleMergeIdeal.τ) (Cert.SampleMergeIdeal.main (F := Ideal))) ⟨m, fun _ => 0, g⟩ (fun r => ∀ c : Dev Cert.SampleMergeIdeal.nD,
          r.2.mem ((c.tc : Thread Cert.SampleMergeIdeal.nD Cert.SampleMergeIdeal.τ).loc Cert.SampleMergeIdeal.main_v15) = v0 c
          ∧ r.2.mem ((c.tc : Thread Cert.SampleMergeIdeal.nD Cert.SampleMergeIdeal.τ).loc Cert.SampleMergeIdeal.main_arg0) = m ((c.tc : Thread Cert.SampleMergeIdeal.nD Cert.SampleMergeIdeal.τ).loc Cert.SampleMergeIdeal.main_arg0)
          ∧ r.2.mem ((c.tc : Thread Cert.SampleMergeIdeal.nD Cert.SampleMergeIdeal.τ).loc Cert.SampleMergeIdeal.main_arg1) = m ((c.tc : Thread Cert.SampleMergeIdeal.nD Cert.SampleMergeIdeal.τ).loc Cert.SampleMergeIdeal.main_arg1)
          ∧ r.2.mem ((c.tc : Thread Cert.SampleMergeIdeal.nD Cert.SampleMergeIdeal.τ).loc Cert.SampleMergeIdeal.main_arg2) = m ((c.tc : Thread Cert.SampleMergeIdeal.nD Cert.SampleMergeIdeal.τ).loc Cert.SampleMergeIdeal.main_arg2)
          ∧ r.2.mem ((c.tc : Thread Cert.SampleMergeIdeal.nD Cert.SampleMergeIdeal.τ).loc Cert.SampleMergeIdeal.main_arg3) = m ((c.tc : Thread Cert.SampleMergeIdeal.nD Cert.SampleMergeIdeal.τ).loc Cert.SampleMergeIdeal.main_arg3)
          ∧ r.2.mem ((c.tc : Thread Cert.SampleMergeIdeal.nD Cert.SampleMergeIdeal.τ).loc Cert.SampleMergeIdeal.main_arg4) = m ((c.tc : Thread Cert.SampleMergeIdeal.nD Cert.SampleMergeIdeal.τ).loc Cert.SampleMergeIdeal.main_arg4)
          ∧ r.2.mem ((c.tc : Thread Cert.SampleMergeIdeal.nD Cert.SampleMergeIdeal.τ).loc Cert.SampleMergeIdeal.main_arg5) = m ((c.tc : Thread Cert.SampleMergeIdeal.nD Cert.SampleMergeIdeal.τ).loc Cert.SampleMergeIdeal.main_arg5)
          ∧ r.2.mem ((c.tc : Thread Cert.SampleMergeIdeal.nD Cert.SampleMergeIdeal.τ).loc Cert.SampleMergeIdeal.main_arg6) = m ((c.tc : Thread Cert.SampleMergeIdeal.nD Cert.SampleMergeIdeal.τ).loc Cert.SampleMergeIdeal.main_arg6)
          ∧ r.2.mem ((c.tc : Thread Cert.SampleMergeIdeal.nD Cert.SampleMergeIdeal.τ).loc Cert.SampleMergeIdeal.main_arg7) = m ((c.tc : Thread Cert.SampleMergeIdeal.nD Cert.SampleMergeIdeal.τ).loc Cert.SampleMergeIdeal.main_arg7)
          ∧ r.2.mem ((c.tc : Thread Cert.SampleMergeIdeal.nD Cert.SampleMergeIdeal.τ).loc Cert.SampleMergeIdeal.main_arg8) = m ((c.tc : Thread Cert.SampleMergeIdeal.nD Cert.SampleMergeIdeal.τ).loc Cert.SampleMergeIdeal.main_arg8)
          ∧ r.2.mem ((c.tc : Thread Cert.SampleMergeIdeal.nD Cert.SampleMergeIdeal.τ).loc Cert.SampleMergeIdeal.main_arg9) = m ((c.tc : Thread Cert.SampleMergeIdeal.nD Cert.SampleMergeIdeal.τ).loc Cert.SampleMergeIdeal.main_arg9)
          ∧ r.2.mem ((c.tc : Thread Cert.SampleMergeIdeal.nD Cert.SampleMergeIdeal.τ).loc Cert.SampleMergeIdeal.main_arg10) = m ((c.tc : Thread Cert.SampleMergeIdeal.nD Cert.SampleMergeIdeal.τ).loc Cert.SampleMergeIdeal.main_arg10)
          ∧ r.2.mem ((c.tc : Thread Cert.SampleMergeIdeal.nD Cert.SampleMergeIdeal.τ).loc Cert.SampleMergeIdeal.main_arg11) = m ((c.tc : Thread Cert.SampleMergeIdeal.nD Cert.SampleMergeIdeal.τ).loc Cert.SampleMergeIdeal.main_arg11)
          ∧ r.2.mem ((c.tc : Thread Cert.SampleMergeIdeal.nD Cert.SampleMergeIdeal.τ).loc Cert.SampleMergeIdeal.main_arg12) = m ((c.tc : Thread Cert.SampleMergeIdeal.nD Cert.SampleMergeIdeal.τ).loc Cert.SampleMergeIdeal.main_arg12)
          ∧ r.2.mem ((c.tc : Thread Cert.SampleMergeIdeal.nD Cert.SampleMergeIdeal.τ).loc Cert.SampleMergeIdeal.main_arg13) = m ((c.tc : Thread Cert.SampleMergeIdeal.nD Cert.SampleMergeIdeal.τ).loc Cert.SampleMergeIdeal.main_arg13)
          ∧ r.2.mem ((c.tc : Thread Cert.SampleMergeIdeal.nD Cert.SampleMergeIdeal.τ).loc Cert.SampleMergeIdeal.main_arg14) = m ((c.tc : Thread Cert.SampleMergeIdeal.nD Cert.SampleMergeIdeal.τ).loc Cert.SampleMergeIdeal.main_arg14))
      ∧ θ_run (Cert.SampleMergeReferenceIdeal.defs (F := Ideal)) (onTc (τ := Cert.SampleMergeReferenceIdeal.τ) (Cert.SampleMergeReferenceIdeal.main (F := Ideal))) ⟨m', fun _ => 0, g'⟩ (fun r => ∀ c : Dev Cert.SampleMergeReferenceIdeal.nD,
          r.2.mem ((c.tc : Thread Cert.SampleMergeReferenceIdeal.nD Cert.SampleMergeReferenceIdeal.τ).loc Cert.SampleMergeReferenceIdeal.main_v52) = v0 c
          ∧ r.2.mem ((c.tc : Thread Cert.SampleMergeReferenceIdeal.nD Cert.SampleMergeReferenceIdeal.τ).loc Cert.SampleMergeReferenceIdeal.main_arg0) = m' ((c.tc : Thread Cert.SampleMergeReferenceIdeal.nD Cert.SampleMergeReferenceIdeal.τ).loc Cert.SampleMergeReferenceIdeal.main_arg0)
          ∧ r.2.mem ((c.tc : Thread Cert.SampleMergeReferenceIdeal.nD Cert.SampleMergeReferenceIdeal.τ).loc Cert.SampleMergeReferenceIdeal.main_arg1) = m' ((c.tc : Thread Cert.SampleMergeReferenceIdeal.nD Cert.SampleMergeReferenceIdeal.τ).loc Cert.SampleMergeReferenceIdeal.main_arg1)
          ∧ r.2.mem ((c.tc : Thread Cert.SampleMergeReferenceIdeal.nD Cert.SampleMergeReferenceIdeal.τ).loc Cert.SampleMergeReferenceIdeal.main_arg2) = m' ((c.tc : Thread Cert.SampleMergeReferenceIdeal.nD Cert.SampleMergeReferenceIdeal.τ).loc Cert.SampleMergeReferenceIdeal.main_arg2)
          ∧ r.2.mem ((c.tc : Thread Cert.SampleMergeReferenceIdeal.nD Cert.SampleMergeReferenceIdeal.τ).loc Cert.SampleMergeReferenceIdeal.main_arg3) = m' ((c.tc : Thread Cert.SampleMergeReferenceIdeal.nD Cert.SampleMergeReferenceIdeal.τ).loc Cert.SampleMergeReferenceIdeal.main_arg3)
          ∧ r.2.mem ((c.tc : Thread Cert.SampleMergeReferenceIdeal.nD Cert.SampleMergeReferenceIdeal.τ).loc Cert.SampleMergeReferenceIdeal.main_arg4) = m' ((c.tc : Thread Cert.SampleMergeReferenceIdeal.nD Cert.SampleMergeReferenceIdeal.τ).loc Cert.SampleMergeReferenceIdeal.main_arg4)
          ∧ r.2.mem ((c.tc : Thread Cert.SampleMergeReferenceIdeal.nD Cert.SampleMergeReferenceIdeal.τ).loc Cert.SampleMergeReferenceIdeal.main_arg5) = m' ((c.tc : Thread Cert.SampleMergeReferenceIdeal.nD Cert.SampleMergeReferenceIdeal.τ).loc Cert.SampleMergeReferenceIdeal.main_arg5)
          ∧ r.2.mem ((c.tc : Thread Cert.SampleMergeReferenceIdeal.nD Cert.SampleMergeReferenceIdeal.τ).loc Cert.SampleMergeReferenceIdeal.main_arg6) = m' ((c.tc : Thread Cert.SampleMergeReferenceIdeal.nD Cert.SampleMergeReferenceIdeal.τ).loc Cert.SampleMergeReferenceIdeal.main_arg6)
          ∧ r.2.mem ((c.tc : Thread Cert.SampleMergeReferenceIdeal.nD Cert.SampleMergeReferenceIdeal.τ).loc Cert.SampleMergeReferenceIdeal.main_arg7) = m' ((c.tc : Thread Cert.SampleMergeReferenceIdeal.nD Cert.SampleMergeReferenceIdeal.τ).loc Cert.SampleMergeReferenceIdeal.main_arg7)
          ∧ r.2.mem ((c.tc : Thread Cert.SampleMergeReferenceIdeal.nD Cert.SampleMergeReferenceIdeal.τ).loc Cert.SampleMergeReferenceIdeal.main_arg8) = m' ((c.tc : Thread Cert.SampleMergeReferenceIdeal.nD Cert.SampleMergeReferenceIdeal.τ).loc Cert.SampleMergeReferenceIdeal.main_arg8)
          ∧ r.2.mem ((c.tc : Thread Cert.SampleMergeReferenceIdeal.nD Cert.SampleMergeReferenceIdeal.τ).loc Cert.SampleMergeReferenceIdeal.main_arg9) = m' ((c.tc : Thread Cert.SampleMergeReferenceIdeal.nD Cert.SampleMergeReferenceIdeal.τ).loc Cert.SampleMergeReferenceIdeal.main_arg9)
          ∧ r.2.mem ((c.tc : Thread Cert.SampleMergeReferenceIdeal.nD Cert.SampleMergeReferenceIdeal.τ).loc Cert.SampleMergeReferenceIdeal.main_arg10) = m' ((c.tc : Thread Cert.SampleMergeReferenceIdeal.nD Cert.SampleMergeReferenceIdeal.τ).loc Cert.SampleMergeReferenceIdeal.main_arg10)
          ∧ r.2.mem ((c.tc : Thread Cert.SampleMergeReferenceIdeal.nD Cert.SampleMergeReferenceIdeal.τ).loc Cert.SampleMergeReferenceIdeal.main_arg11) = m' ((c.tc : Thread Cert.SampleMergeReferenceIdeal.nD Cert.SampleMergeReferenceIdeal.τ).loc Cert.SampleMergeReferenceIdeal.main_arg11)
          ∧ r.2.mem ((c.tc : Thread Cert.SampleMergeReferenceIdeal.nD Cert.SampleMergeReferenceIdeal.τ).loc Cert.SampleMergeReferenceIdeal.main_arg12) = m' ((c.tc : Thread Cert.SampleMergeReferenceIdeal.nD Cert.SampleMergeReferenceIdeal.τ).loc Cert.SampleMergeReferenceIdeal.main_arg12)
          ∧ r.2.mem ((c.tc : Thread Cert.SampleMergeReferenceIdeal.nD Cert.SampleMergeReferenceIdeal.τ).loc Cert.SampleMergeReferenceIdeal.main_arg13) = m' ((c.tc : Thread Cert.SampleMergeReferenceIdeal.nD Cert.SampleMergeReferenceIdeal.τ).loc Cert.SampleMergeReferenceIdeal.main_arg13)
          ∧ r.2.mem ((c.tc : Thread Cert.SampleMergeReferenceIdeal.nD Cert.SampleMergeReferenceIdeal.τ).loc Cert.SampleMergeReferenceIdeal.main_arg14) = m' ((c.tc : Thread Cert.SampleMergeReferenceIdeal.nD Cert.SampleMergeReferenceIdeal.τ).loc Cert.SampleMergeReferenceIdeal.main_arg14))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hMix : Cert.Mix.Facts) (hMixIdeal : Cert.MixIdeal.Facts) (hMixReferenceIdeal : Cert.MixReferenceIdeal.Facts) (hSampleFfn : Cert.SampleFfn.Facts) (hSampleFfnIdeal : Cert.SampleFfnIdeal.Facts) (hSampleFfnReferenceIdeal : Cert.SampleFfnReferenceIdeal.Facts) (hSampleMix : Cert.SampleMix.Facts) (hSampleMixIdeal : Cert.SampleMixIdeal.Facts) (hSampleMixReferenceIdeal : Cert.SampleMixReferenceIdeal.Facts) (hSampleMerge : Cert.SampleMerge.Facts) (hSampleMergeIdeal : Cert.SampleMergeIdeal.Facts) (hSampleMergeReferenceIdeal : Cert.SampleMergeReferenceIdeal.Facts) (hPre_finite : Cert.Pre_finite.Facts) (hPre_weights_finite : Cert.Pre_weights_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mix (hMix := hMix)
    ∧ quiescent_MixIdeal (hMixIdeal := hMixIdeal)
    ∧ quiescent_MixReferenceIdeal (hMixReferenceIdeal := hMixReferenceIdeal)
    ∧ quiescent_SampleFfn (hSampleFfn := hSampleFfn)
    ∧ quiescent_SampleFfnIdeal (hSampleFfnIdeal := hSampleFfnIdeal)
    ∧ quiescent_SampleFfnReferenceIdeal (hSampleFfnReferenceIdeal := hSampleFfnReferenceIdeal)
    ∧ quiescent_SampleMix (hSampleMix := hSampleMix)
    ∧ quiescent_SampleMixIdeal (hSampleMixIdeal := hSampleMixIdeal)
    ∧ quiescent_SampleMixIdeal_pre_weights_finite (hSampleMixIdeal := hSampleMixIdeal) (hPre_weights_finite := hPre_weights_finite)
    ∧ quiescent_SampleMixReferenceIdeal (hSampleMixReferenceIdeal := hSampleMixReferenceIdeal)
    ∧ quiescent_SampleMixReferenceIdeal_pre_weights_finite (hSampleMixReferenceIdeal := hSampleMixReferenceIdeal) (hPre_weights_finite := hPre_weights_finite)
    ∧ quiescent_SampleMerge (hSampleMerge := hSampleMerge)
    ∧ quiescent_SampleMergeIdeal (hSampleMergeIdeal := hSampleMergeIdeal)
    ∧ quiescent_SampleMergeReferenceIdeal (hSampleMergeReferenceIdeal := hSampleMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Mix_MixIdeal
    ∧ algebraic_MixIdeal_MixReferenceIdeal (hMixIdeal := hMixIdeal) (hMixReferenceIdeal := hMixReferenceIdeal)
    ∧ preserves_SampleFfn_SampleFfnIdeal
    ∧ algebraic_SampleFfnIdeal_SampleFfnReferenceIdeal (hSampleFfnIdeal := hSampleFfnIdeal) (hSampleFfnReferenceIdeal := hSampleFfnReferenceIdeal)
    ∧ preserves_SampleMix_SampleMixIdeal
    ∧ algebraic_SampleMixIdeal_SampleMixReferenceIdeal_pre_weights_finite (hSampleMixIdeal := hSampleMixIdeal) (hSampleMixReferenceIdeal := hSampleMixReferenceIdeal) (hPre_weights_finite := hPre_weights_finite)
    ∧ preserves_SampleMerge_SampleMergeIdeal
    ∧ algebraic_SampleMergeIdeal_SampleMergeReferenceIdeal (hSampleMergeIdeal := hSampleMergeIdeal) (hSampleMergeReferenceIdeal := hSampleMergeReferenceIdeal)
-- ==== Pre_finite.lean ====
abbrev S4x4096x512 : Shape := ⟨3, ![4, 4096, 512]⟩
abbrev S4x8x64x64 : Shape := ⟨4, ![4, 8, 64, 64]⟩
abbrev S_ : Shape := ⟨0, ![]⟩

class Facts : Prop where
  bcast_S_S4x4096x512 : S_.BroadcastsInDim S4x4096x512 (![] : Fin 0 → Fin S4x4096x512.rank)
  bcast_S_S4x8x64x64 : S_.BroadcastsInDim S4x8x64x64 (![] : Fin 0 → Fin S4x8x64x64.rank)

variable [Facts]

def fn_part1 {F : FTy → Type} [FloatOps F] (main_arg6 : FVec F S4x8x64x64 .f32) (main_v2 : IVec S4x4096x512 1) (main_v5 : IVec S4x4096x512 1) (main_v8 : IVec S4x4096x512 1) (main_v11 : IVec S4x4096x512 1) (main_v14 : IVec S4x4096x512 1) (main_v17 : IVec S4x4096x512 1) : IVec S4x4096x512 1 × IVec S4x4096x512 1 × IVec S4x4096x512 1 × IVec S4x4096x512 1 × IVec S4x4096x512 1 × IVec S4x4096x512 1 × IVec S4x8x64x64 1 :=
  let main_v18 : FVec F S4x8x64x64 .f32 := Host.absf main_arg6
  let main_cst_5 : FVec F S_ .f32 := constant S_ .f32 0x7F800000#32
  let main_v19 : FVec F S4x8x64x64 .f32 := broadcastInDim S4x8x64x64 ![] bcast_S_S4x8x64x64 main_cst_5
  let main_v20 : IVec S4x8x64x64 1 := cmpf .olt main_v18 main_v19
  (main_v2, main_v5, main_v8, main_v11, main_v14, main_v17, main_v20)

def fn {F : FTy → Type} [FloatOps F] (main_arg0 : FVec F S4x4096x512 .f32) (main_arg1 : FVec F S4x4096x512 .f32) (main_arg2 : FVec F S4x4096x512 .f32) (main_arg3 : FVec F S4x4096x512 .f32) (main_arg4 : FVec F S4x4096x512 .f32) (main_arg5 : FVec F S4x4096x512 .f32) (main_arg6 : FVec F S4x8x64x64 .f32) : IVec S4x4096x512 1 × IVec S4x4096x512 1 × IVec S4x4096x512 1 × IVec S4x4096x512 1 × IVec S4x4096x512 1 × IVec S4x4096x512 1 × IVec S4x8x64x64 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : FVec F S4x4096x512 .f32 := Host.absf main_arg1
  let main_cst_0 : FVec F S_ .f32 := constant S_ .f32 0x7F800000#32
  let main_v4 : FVec F S4x4096x512 .f32 := broadcastInDim S4x4096x512 ![] bcast_S_S4x4096x512 main_cst_0
  let main_v5 : IVec S4x4096x512 1 := cmpf .olt main_v3 main_v4
  let main_v6 : FVec F S4x4096x512 .f32 := Host.absf main_arg2
  let main_cst_1 : FVec F S_ .f32 := constant S_ .f32 0x7F800000#32
  let main_v7 : FVec F S4x4096x512 .f32 := broadcastInDim S4x4096x512 ![] bcast_S_S4x4096x512 main_cst_1
  let main_v8 : IVec S4x4096x512 1 := cmpf .olt main_v6 main_v7
  let main_v9 : FVec F S4x4096x512 .f32 := Host.absf main_arg3
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_v12 : FVec F S4x4096x512 .f32 := Host.absf main_arg4
  let main_cst_3 : FVec F S_ .f32 := constant S_ .f32 0x7F800000#32
  let main_v13 : FVec F S4x4096x512 .f32 := broadcastInDim S4x4096x512 ![] bcast_S_S4x4096x512 main_cst_3
  let main_v14 : IVec S4x4096x512 1 := cmpf .olt main_v12 main_v13
  let main_v15 : FVec F S4x4096x512 .f32 := Host.absf main_arg5
  let main_cst_4 : FVec F S_ .f32 := constant S_ .f32 0x7F800000#32
  let main_v16 : FVec F S4x4096x512 .f32 := broadcastInDim S4x4096x512 ![] bcast_S_S4x4096x512 main_cst_4
  let main_v17 : IVec S4x4096x512 1 := cmpf .olt main_v15 main_v16
  fn_part1 (F := F) main_arg6 main_v2 main_v5 main_v8 main_v11 main_v14 main_v17
-- ==== Pre_weights_finite.lean ====
abbrev S256x1024 : Shape := ⟨2, ![256, 1024]⟩
abbrev S1024 : Shape := ⟨1, ![1024]⟩
abbrev S1024x5384 : Shape := ⟨2, ![1024, 5384]⟩
abbrev S8 : Shape := ⟨1, ![8]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x5384 : S_.BroadcastsInDim S1024x5384 (![] : Fin 0 → Fin S1024x5384.rank)

variable [Facts]

def fn {F : FTy → Type} [FloatOps F] (main_arg0 : FVec F S256x1024 .f32) (main_arg1 : FVec F S1024 .f32) (main_arg2 : FVec F S1024x5384 .f32) (main_arg3 : FVec F S8 .f32) (main_arg4 : FVec F S64 .f32) (main_arg5 : FVec F S64 .f32) : IVec S1024 1 × IVec S1024x5384 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x5384 .f32 := Host.absf main_arg2
  let main_cst_0 : FVec F S_ .f32 := constant S_ .f32 0x7F800000#32
  let main_v4 : FVec F S1024x5384 .f32 := broadcastInDim S1024x5384 ![] bcast_S_S1024x5384 main_cst_0
  let main_v5 : IVec S1024x5384 1 := cmpf .olt main_v3 main_v4
  (main_v2, main_v5)
-- ==== Kernel.lean ====
abbrev S4x4096x512 : Shape := ⟨3, ![4, 4096, 512]⟩
abbrev S4x8x64x64 : Shape := ⟨4, ![4, 8, 64, 64]⟩
abbrev S4x64x512 : Shape := ⟨3, ![4, 64, 512]⟩
abbrev S16x128x128 : Shape := ⟨3, ![16, 128, 128]⟩
abbrev S64x64 : Shape := ⟨2, ![64, 64]⟩
abbrev S1x1x64x64 : Shape := ⟨4, ![1, 1, 64, 64]⟩
abbrev S64x128 : Shape := ⟨2, ![64, 128]⟩
abbrev S128x128 : Shape := ⟨2, ![128, 128]⟩
abbrev S1x128x128 : Shape := ⟨3, ![1, 128, 128]⟩
abbrev S1x64x128 : Shape := ⟨3, ![1, 64, 128]⟩
abbrev S1x128 : Shape := ⟨2, ![1, 128]⟩
abbrev S256x128 : Shape := ⟨2, ![256, 128]⟩
abbrev S128x256 : Shape := ⟨2, ![128, 256]⟩

abbrev nBuf : Space → Nat
  | .hbm => 9
  | .vmem => 17
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x8x64x64, .f32⟩
  | .hbm, ⟨7, _⟩ => ⟨S4x4096x512, .f32⟩
  | .hbm, ⟨8, _⟩ => ⟨S4x8x64x64, .f32⟩
  | .local _ .vmem, ⟨0, _⟩ => ⟨S4x64x512, .f32⟩
  | .local _ .vmem, ⟨1, _⟩ => ⟨S4x64x512, .f32⟩
  | .local _ .vmem, ⟨2, _⟩ => ⟨S4x64x512, .f32⟩
  | .local _ .vmem, ⟨3, _⟩ => ⟨S4x64x512, .f32⟩
  | .local _ .vmem, ⟨4, _⟩ => ⟨S4x64x512, .f32⟩
  | .local _ .vmem, ⟨5, _⟩ => ⟨S4x64x512, .f32⟩
  | .local _ .vmem, ⟨6, _⟩ => ⟨S4x64x512, .f32⟩
  | .local _ .vmem, ⟨7, _⟩ => ⟨S4x64x512, .f32⟩
  | .local _ .vmem, ⟨8, _⟩ => ⟨S4x64x512, .f32⟩
  | .local _ .vmem, ⟨9, _⟩ => ⟨S4x64x512, .f32⟩
  | .local _ .vmem, ⟨10, _⟩ => ⟨S4x64x512, .f32⟩
  | .local _ .vmem, ⟨11, _⟩ => ⟨S4x64x512, .f32⟩
  | .local _ .vmem, ⟨12, _⟩ => ⟨S4x8x64x64, .f32⟩
  | .local _ .vmem, ⟨13, _⟩ => ⟨S4x64x512, .f32⟩
  | .local _ .vmem, ⟨14, _⟩ => ⟨S4x64x512, .f32⟩
  | .local _ .vmem, ⟨15, _⟩ => ⟨S4x8x64x64, .f32⟩
  | .local _ .vmem, ⟨16, _⟩ => ⟨S16x128x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 64], ![false, false]⟩

def k0_cond2 (i : grid0.Coords) : BitVec 1 :=
  let arg1 : BitVec 32 := BitVec.ofNat 32 (i 1).val
  let c63_i32 : BitVec 32 := 63#32
  let v3628 : BitVec 1 := Scalar.cmpi .eq arg1 c63_i32
  let v3629 : BitVec 32 := Scalar.extui v3628
  let c0_i32_1152 : BitVec 32 := 0#32
  let v3630 : BitVec 1 := Scalar.cmpi .ne v3629 c0_i32_1152
  v3630

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S4x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x8x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S4x4096x512 : Shape := ⟨3, ![4, 4096, 512]⟩
abbrev S4x8x64x64 : Shape := ⟨4, ![4, 8, 64, 64]⟩
abbrev S4x4096x8x64 : Shape := ⟨4, ![4, 4096, 8, 64]⟩
abbrev S4096x4x8x64 : Shape := ⟨4, ![4096, 4, 8, 64]⟩
abbrev S_ : Shape := ⟨0, ![]⟩
abbrev S1x4x8x64 : Shape := ⟨4, ![1, 4, 8, 64]⟩
abbrev S4x8x64 : Shape := ⟨3, ![4, 8, 64]⟩
abbrev S4x8x1x64 : Shape := ⟨4, ![4, 8, 1, 64]⟩
abbrev S4x8x64x1 : Shape := ⟨4, ![4, 8, 64, 1]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x8x64x64, .f32⟩
  | .hbm, ⟨7, _⟩ => ⟨S4x4096x8x64, .f32⟩
  | .hbm, ⟨8, _⟩ => ⟨S4096x4x8x64, .f32⟩
  | .hbm, ⟨9, _⟩ => ⟨S4x4096x512, .f32⟩
  | .hbm, ⟨10, _⟩ => ⟨S4x4096x8x64, .f32⟩
  | .hbm, ⟨11, _⟩ => ⟨S4096x4x8x64, .f32⟩
  | .hbm, ⟨12, _⟩ => ⟨S4x4096x8x64, .f32⟩
  | .hbm, ⟨13, _⟩ => ⟨S4096x4x8x64, .f32⟩
  | .hbm, ⟨14, _⟩ => ⟨S4x4096x8x64, .f32⟩
  | .hbm, ⟨15, _⟩ => ⟨S4096x4x8x64, .f32⟩
  | .hbm, ⟨16, _⟩ => ⟨S4x4096x8x64, .f32⟩
  | .hbm, ⟨17, _⟩ => ⟨S4096x4x8x64, .f32⟩
  | .hbm, ⟨18, _⟩ => ⟨S4x4096x8x64, .f32⟩
  | .hbm, ⟨19, _⟩ => ⟨S4096x4x8x64, .f32⟩
  | .hbm, ⟨20, _⟩ => ⟨S_, .f32⟩
  | .hbm, ⟨21, _⟩ => ⟨S4096x4x8x64, .f32⟩
  | .hbm, ⟨22, _⟩ => ⟨S_, .i32⟩
  | .hbm, ⟨23, _⟩ => ⟨S4096x4x8x64, .f32⟩
  | .hbm, ⟨24, _⟩ => ⟨S4096x4x8x64, .f32⟩
  | .hbm, ⟨25, _⟩ => ⟨S4096x4x8x64, .f32⟩
  | .hbm, ⟨26, _⟩ => ⟨S4096x4x8x64, .f32⟩
  | .hbm, ⟨27, _⟩ => ⟨S4096x4x8x64, .f32⟩
  | .hbm, ⟨28, _⟩ => ⟨S4096x4x8x64, .f32⟩
  | .hbm, ⟨29, _⟩ => ⟨S_, .i32⟩
  | .hbm, ⟨30, _⟩ => ⟨S4x8x64x64, .f32⟩
  | .hbm, ⟨31, _⟩ => ⟨S4096x4x8x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x4x8x64, .f32⟩
  | .hbm, ⟨38, _⟩ => ⟨S4x8x64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x4x8x64, .f32⟩
  | .hbm, ⟨43, _⟩ => ⟨S4x8x64, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x8x64, .f32⟩
  | .hbm, ⟨48, _⟩ => ⟨S4x8x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x4x8x64, .f32⟩
  | .hbm, ⟨53, _⟩ => ⟨S4x8x64, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x4x8x64, .f32⟩
  | .hbm, ⟨58, _⟩ => ⟨S4x8x64, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x4x8x64, .f32⟩
  | .hbm, ⟨63, _⟩ => ⟨S4x8x64, .f32⟩
  | .hbm, ⟨64, _⟩ => ⟨S4x8x64, .f32⟩
  | .hbm, ⟨65, _⟩ => ⟨S4x8x64, .f32⟩
  | .hbm, ⟨66, _⟩ => ⟨S4x8x1x64, .f32⟩
  | .hbm, ⟨67, _⟩ => ⟨S4x8x64x64, .f32⟩
  | .hbm, ⟨68, _⟩ => ⟨S4x8x64x64, .f32⟩
  | .hbm, ⟨69, _⟩ => ⟨S4x8x64x1, .f32⟩
  | .hbm, ⟨70, _⟩ => ⟨S4x8x1x64, .f32⟩
  | .hbm, ⟨71, _⟩ => ⟨S4x8x64x64, .f32⟩
  | .hbm, ⟨72, _⟩ => ⟨S4x8x64x64, .f32⟩
  | .hbm, ⟨73, _⟩ => ⟨S4x8x64x64, .f32⟩
  | .hbm, ⟨74, _⟩ => ⟨S4x8x64x64, .f32⟩
  | .hbm, ⟨75, _⟩ => ⟨S4x8x64x1, .f32⟩
  | .hbm, ⟨76, _⟩ => ⟨S4x8x1x64, .f32⟩
  | .hbm, ⟨77, _⟩ => ⟨S4x8x64x64, .f32⟩
  | .hbm, ⟨78, _⟩ => ⟨S4x8x64x64, .f32⟩
  | .hbm, ⟨79, _⟩ => ⟨S4x8x64x64, .f32⟩
  | .hbm, ⟨80, _⟩ => ⟨S4x8x64x64, .f32⟩
  | .hbm, ⟨81, _⟩ => ⟨S4x8x64, .f32⟩
  | .hbm, ⟨82, _⟩ => ⟨S1x4x8x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S4096x4x8x64, .f32⟩
  | .hbm, ⟨87, _⟩ => ⟨S_, .i32⟩
  | .hbm, ⟨88, _⟩ => ⟨S_, .i32⟩
  | .hbm, ⟨89, _⟩ => ⟨S4x4096x8x64, .f32⟩
  | .hbm, ⟨90, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_c : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev main_v14_7 : Ref sig .tc := ⟨.hbm, 30, rfl⟩
abbrev main_v14_8 : Ref sig .tc := ⟨.hbm, 31, rfl⟩
abbrev main_while0c_c_8 : Ref sig .tc := ⟨.hbm, 32, rfl⟩
abbrev main_while0c_v17 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v17 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v18 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_v0 : Ref sig .tc := ⟨.hbm, 47, rfl⟩
abbrev main_while0b_v19 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_v0 : Ref sig .tc := ⟨.hbm, 52, rfl⟩
abbrev main_while0b_v20 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_v0 : Ref sig .tc := ⟨.hbm, 57, rfl⟩
abbrev main_while0b_v21 : Ref sig .tc := ⟨.hbm, 58, rfl⟩
abbrev main_while0b_call5_c : Ref sig .tc := ⟨.hbm, 59, rfl⟩
abbrev main_while0b_call5_c_0 : Ref sig .tc := ⟨.hbm, 60, rfl⟩
abbrev main_while0b_call5_c_1 : Ref sig .tc := ⟨.hbm, 61, rfl⟩
abbrev main_while0b_call5_v0 : Ref sig .tc := ⟨.hbm, 62, rfl⟩
abbrev main_while0b_v22 : Ref sig .tc := ⟨.hbm, 63, rfl⟩
abbrev main_while0b_v23 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_v40 : Ref sig .tc := ⟨.hbm, 81, rfl⟩
abbrev main_while0b_call6_v0 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_v41 : Ref sig .tc := ⟨.hbm, 86, rfl⟩
abbrev main_while0b_c_8 : Ref sig .tc := ⟨.hbm, 87, rfl⟩
abbrev main_while0b_v42 : Ref sig .tc := ⟨.hbm, 88, rfl⟩
abbrev main_v15 : Ref sig .tc := ⟨.hbm, 89, rfl⟩
abbrev main_v16 : Ref sig .tc := ⟨.hbm, 90, rfl⟩

abbrev nD : Nat := 1
abbrev τ : Topo := Topo.v7x

variable {F : FTy → Type} [FloatOps F]

abbrev main_while0_count : Scf.Loop 32 := ⟨0#32, 4096#32, 1#32⟩
-- ==== Ffn.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S512 : Shape := ⟨1, ![512]⟩
abbrev S512x1024 : Shape := ⟨2, ![512, 1024]⟩
abbrev S1024x1024 : Shape := ⟨2, ![1024, 1024]⟩
abbrev S1x512 : Shape := ⟨2, ![1, 512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩

abbrev nBuf : Space → Nat
  | .hbm => 38
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x1024, .bf16⟩
  | .hbm, ⟨8, _⟩ => ⟨S16384x1024, .bf16⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S_, .f32⟩
  | .hbm, ⟨26, _⟩ => ⟨S64x64, .f32⟩
  | .hbm, ⟨27, _⟩ => ⟨S8x1x8x1, .f32⟩
  | .hbm, ⟨28, _⟩ => ⟨S1x64x1x64, .f32⟩
  | .hbm, ⟨29, _⟩ => ⟨S8x64x8x64, .f32⟩
  | .hbm, ⟨30, _⟩ => ⟨S8x64x8x64, .f32⟩
  | .hbm, ⟨31, _⟩ => ⟨S8x64x8x64, .f32⟩
  | .hbm, ⟨32, _⟩ => ⟨S512x512, .f32⟩
  | .hbm, ⟨33, _⟩ => ⟨S512x512, .bf16⟩
  | .hbm, ⟨34, _⟩ => ⟨S512x1024, .bf16⟩
  | .hbm, ⟨35, _⟩ => ⟨S512x1024, .bf16⟩
  | .hbm, ⟨36, _⟩ => ⟨S1024x1024, .bf16⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S512x1024, .f32⟩
  | .local _ .vmem, ⟨26, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeIdeal.lean ====
abbrev S16384x1024 : Shape := ⟨2, ![16384, 1024]⟩
abbrev S16384x512 : Shape := ⟨2, ![16384, 512]⟩
abbrev S512 : Shape := ⟨1, ![512]⟩
abbrev S512x1024 : Shape := ⟨2, ![512, 1024]⟩
abbrev S1024x1024 : Shape := ⟨2, ![1024, 1024]⟩
abbrev S1x512 : Shape := ⟨2, ![1, 512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩

abbrev nBuf : Space → Nat
  | .hbm => 38
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x1024, .bf16⟩
  | .hbm, ⟨8, _⟩ => ⟨S16384x1024, .bf16⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S_, .f32⟩
  | .hbm, ⟨26, _⟩ => ⟨S64x64, .f32⟩
  | .hbm, ⟨27, _⟩ => ⟨S8x1x8x1, .f32⟩
  | .hbm, ⟨28, _⟩ => ⟨S1x64x1x64, .f32⟩
  | .hbm, ⟨29, _⟩ => ⟨S8x64x8x64, .f32⟩
  | .hbm, ⟨30, _⟩ => ⟨S8x64x8x64, .f32⟩
  | .hbm, ⟨31, _⟩ => ⟨S8x64x8x64, .f32⟩
  | .hbm, ⟨32, _⟩ => ⟨S512x512, .f32⟩
  | .hbm, ⟨33, _⟩ => ⟨S512x512, .bf16⟩
  | .hbm, ⟨34, _⟩ => ⟨S512x1024, .bf16⟩
  | .hbm, ⟨35, _⟩ => ⟨S512x1024, .bf16⟩
  | .hbm, ⟨36, _⟩ => ⟨S1024x1024, .bf16⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S512x1024, .f32⟩
  | .local _ .vmem, ⟨26, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeReferenceIdeal.lean ====
abbrev S16384x1024 : Shape := ⟨2, ![16384, 1024]⟩
abbrev S16384x512 : Shape := ⟨2, ![16384, 512]⟩
abbrev S512 : Shape := ⟨1, ![512]⟩
abbrev S512x1024 : Shape := ⟨2, ![512, 1024]⟩
abbrev S1024x1024 : Shape := ⟨2, ![1024, 1024]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S8x64 : Shape := ⟨2, ![8, 64]⟩
abbrev S1x8x64 : Shape := ⟨3, ![1, 8, 64]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x1024, .bf16⟩
  | .hbm, ⟨8, _⟩ => ⟨S16384x1024, .bf16⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S16384x8x64, .f32⟩
  | .hbm, ⟨16, _⟩ => ⟨S16384x8x64, .f32⟩
  | .hbm, ⟨17, _⟩ => ⟨S16384x8x64, .f32⟩
  | .hbm, ⟨18, _⟩ => ⟨S16384x8x64, .f32⟩
  | .hbm, ⟨19, _⟩ => ⟨S_, .f32⟩
  | .hbm, ⟨20, _⟩ => ⟨S16384x8, .f32⟩
  | .hbm, ⟨21, _⟩ => ⟨S16384x8x1, .f32⟩
  | .hbm, ⟨22, _⟩ => ⟨S_, .f32⟩
  | .hbm, ⟨23, _⟩ => ⟨S16384x8x1, .f32⟩
  | .hbm, ⟨24, _⟩ => ⟨S16384x8x1, .f32⟩
  | .hbm, ⟨25, _⟩ => ⟨S16384x8x64, .f32⟩
  | .hbm, ⟨26, _⟩ => ⟨S16384x8x64, .f32⟩
  | .hbm, ⟨27, _⟩ => ⟨S16384x8x64, .f32⟩
  | .hbm, ⟨28, _⟩ => ⟨S16384x8x64, .f32⟩
  | .hbm, ⟨29, _⟩ => ⟨S16384x8x64, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S16384x8x64, .f32⟩
  | .hbm, ⟨37, _⟩ => ⟨S16384x8x64, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S16384x8x1, .f32⟩
  | .hbm, ⟨42, _⟩ => ⟨S16384x8x64, .f32⟩
  | .hbm, ⟨43, _⟩ => ⟨S16384x8x64, .f32⟩
  | .hbm, ⟨44, _⟩ => ⟨S8x64, .f32⟩
  | .hbm, ⟨45, _⟩ => ⟨S1x8x64, .f32⟩
  | .hbm, ⟨46, _⟩ => ⟨S16384x8x64, .f32⟩
  | .hbm, ⟨47, _⟩ => ⟨S16384x8x64, .f32⟩
  | .hbm, ⟨48, _⟩ => ⟨S8x64, .f32⟩
  | .hbm, ⟨49, _⟩ => ⟨S1x8x64, .f32⟩
  | .hbm, ⟨50, _⟩ => ⟨S16384x8x64, .f32⟩
  | .hbm, ⟨51, _⟩ => ⟨S16384x8x64, .f32⟩
  | .hbm, ⟨52, _⟩ => ⟨S16384x8x64, .f32⟩
  | .hbm, ⟨53, _⟩ => ⟨S8x64, .f32⟩
  | .hbm, ⟨54, _⟩ => ⟨S1x8x64, .f32⟩
  | .hbm, ⟨55, _⟩ => ⟨S16384x8x64, .f32⟩
  | .hbm, ⟨56, _⟩ => ⟨S16384x8x64, .f32⟩
  | .hbm, ⟨57, _⟩ => ⟨S_, .f32⟩
  | .hbm, ⟨58, _⟩ => ⟨S16384x8, .f32⟩
  | .hbm, ⟨59, _⟩ => ⟨S16384x8x1, .f32⟩
  | .hbm, ⟨60, _⟩ => ⟨S16384x8x64, .f32⟩
  | .hbm, ⟨61, _⟩ => ⟨S16384x8x64, .f32⟩
  | .hbm, ⟨62, _⟩ => ⟨S16384x8x64, .f32⟩
  | .hbm, ⟨63, _⟩ => ⟨S16384x512, .f32⟩
  | .hbm, ⟨64, _⟩ => ⟨S16384x512, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Mix.lean ====
abbrev S16384x1024 : Shape := ⟨2, ![16384, 1024]⟩
abbrev S1024 : Shape := ⟨1, ![1024]⟩
abbrev S1024x5384 : Shape := ⟨2, ![1024, 5384]⟩
abbrev S8 : Shape := ⟨1, ![8]⟩
abbrev S64 : Shape := ⟨1, ![64]⟩
abbrev S1024x3328 : Shape := ⟨2, ![1024, 3328]⟩
abbrev S1024x2048 : Shape := ⟨2, ![1024, 2048]⟩
abbrev S1024x5376 : Shape := ⟨2, ![1024, 5376]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S16384x512 : Shape := ⟨2, ![16384, 512]⟩
abbrev S16384x8 : Shape := ⟨2, ![16384, 8]⟩
abbrev S16384x128 : Shape := ⟨2, ![16384, 128]⟩
abbrev S4x1x1792 : Shape := ⟨3, ![4, 1, 1792]⟩
abbrev S256x1024 : Shape := ⟨2, ![256, 1024]⟩
abbrev S256x512 : Shape := ⟨2, ![256, 512]⟩
abbrev S256x8 : Shape := ⟨2, ![256, 8]⟩
abbrev S256x128 : Shape := ⟨2, ![256, 128]⟩
abbrev S1x1x1792 : Shape := ⟨3, ![1, 1, 1792]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩
abbrev S1024x512 : Shape := ⟨2, ![1024, 512]⟩
abbrev S1024x1024 : Shape := ⟨2, ![1024, 1024]⟩
abbrev S256x256 : Shape := ⟨2, ![256, 256]⟩
abbrev S128x128 : Shape := ⟨2, ![128, 128]⟩
abbrev S1x1792 : Shape := ⟨2, ![1, 1792]⟩

abbrev nBuf : Space → Nat
  | .hbm => 53
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S1024x3328, .f32⟩
  | .hbm, ⟨7, _⟩ => ⟨S1024x2048, .f32⟩
  | .hbm, ⟨8, _⟩ => ⟨S1024x5376, .f32⟩
  | .hbm, ⟨9, _⟩ => ⟨S1024x5376, .bf16⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S1x64, .f32⟩
  | .hbm, ⟨25, _⟩ => ⟨S8x64, .f32⟩
  | .hbm, ⟨26, _⟩ => ⟨S512, .f32⟩
  | .hbm, ⟨27, _⟩ => ⟨S1x512, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S_, .f32⟩
  | .hbm, ⟨36, _⟩ => ⟨S64x64, .f32⟩
  | .hbm, ⟨37, _⟩ => ⟨S8x1x8x1, .f32⟩
  | .hbm, ⟨38, _⟩ => ⟨S1x64x1x64, .f32⟩
  | .hbm, ⟨39, _⟩ => ⟨S8x64x8x64, .f32⟩
  | .hbm, ⟨40, _⟩ => ⟨S8x64x8x64, .f32⟩
  | .hbm, ⟨41, _⟩ => ⟨S8x64x8x64, .f32⟩
  | .hbm, ⟨42, _⟩ => ⟨S512x512, .f32⟩
  | .hbm, ⟨43, _⟩ => ⟨S512x512, .bf16⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x1024, .bf16⟩
  | .hbm, ⟨48, _⟩ => ⟨S16384x1024, .bf16⟩
  | .hbm, ⟨49, _⟩ => ⟨S16384x8, .f32⟩
  | .hbm, ⟨50, _⟩ => ⟨S16384x8, .f32⟩
  | .hbm, ⟨51, _⟩ => ⟨S16384x128, .f32⟩
  | .hbm, ⟨52, _⟩ => ⟨S4x1x1792, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5376, .bf16⟩
  | .local _ .vmem, ⟨4, _⟩ => ⟨S1024x128, .bf16⟩
  | .local _ .vmem, ⟨5, _⟩ => ⟨S1x128, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x8, .f32⟩
  | .local _ .vmem, ⟨20, _⟩ => ⟨S256x8, .f32⟩
  | .local _ .vmem, ⟨21, _⟩ => ⟨S256x8, .f32⟩
  | .local _ .vmem, ⟨22, _⟩ => ⟨S256x8, .f32⟩
  | .local _ .vmem, ⟨23, _⟩ => ⟨S256x128, .f32⟩
  | .local _ .vmem, ⟨24, _⟩ => ⟨S256x128, .f32⟩
  | .local _ .vmem, ⟨25, _⟩ => ⟨S1x1x1792, .f32⟩
  | .local _ .vmem, ⟨26, _⟩ => ⟨S1x1x1792, .f32⟩
  | .local _ .vmem, ⟨27, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev main_v27_4 : Ref sig .tc := ⟨.hbm, 48, rfl⟩
abbrev main_v27_5 : Ref sig .tc := ⟨.hbm, 49, rfl⟩
abbrev main_v27_6 : Ref sig .tc := ⟨.hbm, 50, rfl⟩
abbrev main_v27_7 : Ref sig .tc := ⟨.hbm, 51, rfl⟩
abbrev main_v27_8 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1792 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixReferenceIdeal.lean ====
abbrev S16384x1024 : Shape := ⟨2, ![16384, 1024]⟩
abbrev S1024 : Shape := ⟨1, ![1024]⟩
abbrev S1024x5384 : Shape := ⟨2, ![1024, 5384]⟩
abbrev S8 : Shape := ⟨1, ![8]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5384 : Shape := ⟨2, ![16384, 5384]⟩
abbrev S16384x1792 : Shape := ⟨2, ![16384, 1792]⟩
abbrev S16384x512 : Shape := ⟨2, ![16384, 512]⟩
abbrev S16384x8 : Shape := ⟨2, ![16384, 8]⟩
abbrev S16384x8x64 : Shape := ⟨3, ![16384, 8, 64]⟩
abbrev S16384x8x1 : Shape := ⟨3, ![16384, 8, 1]⟩
abbrev S1x1x64 : Shape := ⟨3, ![1, 1, 64]⟩
abbrev S1x8 : Shape := ⟨2, ![1, 8]⟩
abbrev S4x4096x8 : Shape := ⟨3, ![4, 4096, 8]⟩
abbrev S16384x4x2 : Shape := ⟨3, ![16384, 4, 2]⟩
abbrev S16384x4x2x3 : Shape := ⟨4, ![16384, 4, 2, 3]⟩
abbrev S16384x4x6 : Shape := ⟨3, ![16384, 4, 6]⟩
abbrev S16384x8x16 : Shape := ⟨3, ![16384, 8, 16]⟩
abbrev S16384x128 : Shape := ⟨2, ![16384, 128]⟩
abbrev S4x4096x1792 : Shape := ⟨3, ![4, 4096, 1792]⟩
abbrev S4x1x1792 : Shape := ⟨3, ![4, 1, 1792]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x5384, .f32⟩
  | .hbm, ⟨23, _⟩ => ⟨S16384x1792, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x8, .f32⟩
  | .hbm, ⟨28, _⟩ => ⟨S16384x1024, .f32⟩
  | .hbm, ⟨29, _⟩ => ⟨S16384x1024, .f32⟩
  | .hbm, ⟨30, _⟩ => ⟨S16384x8x64, .f32⟩
  | .hbm, ⟨31, _⟩ => ⟨S16384x8x64, .f32⟩
  | .hbm, ⟨32, _⟩ => ⟨S_, .f32⟩
  | .hbm, ⟨33, _⟩ => ⟨S16384x8, .f32⟩
  | .hbm, ⟨34, _⟩ => ⟨S16384x8x1, .f32⟩
  | .hbm, ⟨35, _⟩ => ⟨S_, .f32⟩
  | .hbm, ⟨36, _⟩ => ⟨S16384x8x1, .f32⟩
  | .hbm, ⟨37, _⟩ => ⟨S16384x8x1, .f32⟩
  | .hbm, ⟨38, _⟩ => ⟨S_, .f32⟩
  | .hbm, ⟨39, _⟩ => ⟨S16384x8x1, .f32⟩
  | .hbm, ⟨40, _⟩ => ⟨S16384x8x1, .f32⟩
  | .hbm, ⟨41, _⟩ => ⟨S16384x8x1, .f32⟩
  | .hbm, ⟨42, _⟩ => ⟨S16384x8x64, .f32⟩
  | .hbm, ⟨43, _⟩ => ⟨S16384x8x64, .f32⟩
  | .hbm, ⟨44, _⟩ => ⟨S1x1x64, .f32⟩
  | .hbm, ⟨45, _⟩ => ⟨S16384x8x64, .f32⟩
  | .hbm, ⟨46, _⟩ => ⟨S16384x8x64, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S16384x8x64, .f32⟩
  | .hbm, ⟨52, _⟩ => ⟨S16384x8x64, .f32⟩
  | .hbm, ⟨53, _⟩ => ⟨S_, .f32⟩
  | .hbm, ⟨54, _⟩ => ⟨S16384x8, .f32⟩
  | .hbm, ⟨55, _⟩ => ⟨S16384x8x1, .f32⟩
  | .hbm, ⟨56, _⟩ => ⟨S_, .f32⟩
  | .hbm, ⟨57, _⟩ => ⟨S16384x8x1, .f32⟩
  | .hbm, ⟨58, _⟩ => ⟨S16384x8x1, .f32⟩
  | .hbm, ⟨59, _⟩ => ⟨S_, .f32⟩
  | .hbm, ⟨60, _⟩ => ⟨S16384x8x1, .f32⟩
  | .hbm, ⟨61, _⟩ => ⟨S16384x8x1, .f32⟩
  | .hbm, ⟨62, _⟩ => ⟨S16384x8x1, .f32⟩
  | .hbm, ⟨63, _⟩ => ⟨S16384x8x64, .f32⟩
  | .hbm, ⟨64, _⟩ => ⟨S16384x8x64, .f32⟩
  | .hbm, ⟨65, _⟩ => ⟨S1x1x64, .f32⟩
  | .hbm, ⟨66, _⟩ => ⟨S16384x8x64, .f32⟩
  | .hbm, ⟨67, _⟩ => ⟨S16384x8x64, .f32⟩
  | .hbm, ⟨68, _⟩ => ⟨S16384x512, .f32⟩
  | .hbm, ⟨69, _⟩ => ⟨S1x8, .f32⟩
  | .hbm, ⟨70, _⟩ => ⟨S16384x8, .f32⟩
  | .hbm, ⟨71, _⟩ => ⟨S16384x8, .f32⟩
  | .hbm, ⟨72, _⟩ => ⟨S16384x8, .f32⟩
  | .hbm, ⟨73, _⟩ => ⟨S_, .f32⟩
  | .hbm, ⟨74, _⟩ => ⟨S16384x8, .f32⟩
  | .hbm, ⟨75, _⟩ => ⟨S16384x8, .f32⟩
  | .hbm, ⟨76, _⟩ => ⟨S16384x8, .f32⟩
  | .hbm, ⟨77, _⟩ => ⟨S16384x8, .f32⟩
  | .hbm, ⟨78, _⟩ => ⟨S16384x8, .i1⟩
  | .hbm, ⟨79, _⟩ => ⟨S16384x8, .f32⟩
  | .hbm, ⟨80, _⟩ => ⟨S16384x8, .f32⟩
  | .hbm, ⟨81, _⟩ => ⟨S16384x8, .f32⟩
  | .hbm, ⟨82, _⟩ => ⟨S16384x8, .f32⟩
  | .hbm, ⟨83, _⟩ => ⟨S16384x8, .f32⟩
  | .hbm, ⟨84, _⟩ => ⟨S16384x8, .f32⟩
  | .hbm, ⟨85, _⟩ => ⟨S16384x8, .f32⟩
  | .hbm, ⟨86, _⟩ => ⟨S16384x8, .f32⟩
  | .hbm, ⟨87, _⟩ => ⟨S16384x8, .f32⟩
  | .hbm, ⟨88, _⟩ => ⟨S4x4096x8, .f32⟩
  | .hbm, ⟨89, _⟩ => ⟨S_, .f32⟩
  | .hbm, ⟨90, _⟩ => ⟨S_, .f32⟩
  | .hbm, ⟨91, _⟩ => ⟨S4x4096x8, .f32⟩
  | .hbm, ⟨92, _⟩ => ⟨S16384x8, .f32⟩
  | .hbm, ⟨93, _⟩ => ⟨S16384x4x2, .f32⟩
  | .hbm, ⟨94, _⟩ => ⟨S16384x4x2, .f32⟩
  | .hbm, ⟨95, _⟩ => ⟨S16384x4x2x3, .f32⟩
  | .hbm, ⟨96, _⟩ => ⟨S16384x4x6, .f32⟩
  | .hbm, ⟨97, _⟩ => ⟨S_, .i32⟩
  | .hbm, ⟨98, _⟩ => ⟨S_, .f32⟩
  | .hbm, ⟨99, _⟩ => ⟨S16384x8x16, .f32⟩
  | .hbm, ⟨100, _⟩ => ⟨S16384x128, .f32⟩
  | .hbm, ⟨101, _⟩ => ⟨S16384x1024, .f32⟩
  | .hbm, ⟨102, _⟩ => ⟨S16384x1024, .f32⟩
  | .hbm, ⟨103, _⟩ => ⟨S_, .f32⟩
  | .hbm, ⟨104, _⟩ => ⟨S16384x1024, .f32⟩
  | .hbm, ⟨105, _⟩ => ⟨S16384x1024, .f32⟩
  | .hbm, ⟨106, _⟩ => ⟨S_, .f32⟩
  | .hbm, ⟨107, _⟩ => ⟨S16384x1024, .f32⟩
  | .hbm, ⟨108, _⟩ => ⟨S16384x1024, .f32⟩
  | .hbm, ⟨109, _⟩ => ⟨S16384x1024, .bf16⟩
  | .hbm, ⟨110, _⟩ => ⟨S16384x1024, .f32⟩
  | .hbm, ⟨111, _⟩ => ⟨S16384x1024, .f32⟩
  | .hbm, ⟨112, _⟩ => ⟨S_, .f32⟩
  | .hbm, ⟨113, _⟩ => ⟨S16384x1024, .f32⟩
  | .hbm, ⟨114, _⟩ => ⟨S16384x1024, .f32⟩
  | .hbm, ⟨115, _⟩ => ⟨S_, .f32⟩
  | .hbm, ⟨116, _⟩ => ⟨S16384x1024, .f32⟩
  | .hbm, ⟨117, _⟩ => ⟨S16384x1024, .f32⟩
  | .hbm, ⟨118, _⟩ => ⟨S16384x1024, .bf16⟩
  | .hbm, ⟨119, _⟩ => ⟨S4x4096x1792, .f32⟩
  | .hbm, ⟨120, _⟩ => ⟨S4x1x1792, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call0_v0 : Ref sig .tc := ⟨.hbm, 72, rfl⟩
abbrev main_call0_call0_cst : Ref sig .tc := ⟨.hbm, 73, rfl⟩
abbrev main_call0_call0_v0 : Ref sig .tc := ⟨.hbm, 74, rfl⟩
abbrev main_call0_call0_v1 : Ref sig .tc := ⟨.hbm, 75, rfl⟩
abbrev main_call0_call0_v2 : Ref sig .tc := ⟨.hbm, 76, rfl⟩
abbrev main_call0_call0_v3 : Ref sig .tc := ⟨.hbm, 77, rfl⟩
abbrev main_call0_call0_v4 : Ref sig .tc := ⟨.hbm, 78, rfl⟩
abbrev main_call0_call0_v5 : Ref sig .tc := ⟨.hbm, 79, rfl⟩
abbrev main_call0_call0_v6 : Ref sig .tc := ⟨.hbm, 80, rfl⟩
abbrev main_call0_call0_v7 : Ref sig .tc := ⟨.hbm, 81, rfl⟩
abbrev main_call0_call0_v8 : Ref sig .tc := ⟨.hbm, 82, rfl⟩
abbrev main_call0_call0_v9 : Ref sig .tc := ⟨.hbm, 83, rfl⟩
abbrev main_call0_call0_v10 : Ref sig .tc := ⟨.hbm, 84, rfl⟩
abbrev main_call0_call0_v11 : Ref sig .tc := ⟨.hbm, 85, rfl⟩
abbrev main_call0_v1 : Ref sig .tc := ⟨.hbm, 86, rfl⟩
abbrev main_v56 : Ref sig .tc := ⟨.hbm, 87, rfl⟩
abbrev main_v57 : Ref sig .tc := ⟨.hbm, 88, rfl⟩
abbrev main_call1_call0_cst : Ref sig .tc := ⟨.hbm, 89, rfl⟩
abbrev main_call1_call0_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c : Ref sig .tc := ⟨.hbm, 97, rfl⟩
abbrev main_call2_v0 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_9 : Ref sig .tc := ⟨.hbm, 103, rfl⟩
abbrev main_v68 : Ref sig .tc := ⟨.hbm, 104, rfl⟩
abbrev main_v69 : Ref sig .tc := ⟨.hbm, 105, rfl⟩
abbrev main_cst_10 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_11 : Ref sig .tc := ⟨.hbm, 112, rfl⟩
abbrev main_v75 : Ref sig .tc := ⟨.hbm, 113, rfl⟩
abbrev main_v76 : Ref sig .tc := ⟨.hbm, 114, rfl⟩
abbrev main_cst_12 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== SampleFfn.lean ====
abbrev S256x1024 : Shape := ⟨2, ![256, 1024]⟩
abbrev S1x1024 : Shape := ⟨2, ![1, 1024]⟩
abbrev S1024x2816 : Shape := ⟨2, ![1024, 2816]⟩
abbrev S2816x1024 : Shape := ⟨2, ![2816, 1024]⟩
abbrev S256 : Shape := ⟨1, ![256]⟩
abbrev S256x1 : Shape := ⟨2, ![256, 1]⟩
abbrev S256x2816 : Shape := ⟨2, ![256, 2816]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== SampleFfnReferenceIdeal.lean ====
abbrev S256x1024 : Shape := ⟨2, ![256, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S256x2816 : Shape := ⟨2, ![256, 2816]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x2816, .f32⟩
  | .hbm, ⟨24, _⟩ => ⟨S256x2816, .f32⟩
  | .hbm, ⟨25, _⟩ => ⟨S256x2816, .f32⟩
  | .hbm, ⟨26, _⟩ => ⟨S_, .f32⟩
  | .hbm, ⟨27, _⟩ => ⟨S256x2816, .f32⟩
  | .hbm, ⟨28, _⟩ => ⟨S256x2816, .f32⟩
  | .hbm, ⟨29, _⟩ => ⟨S_, .f32⟩
  | .hbm, ⟨30, _⟩ => ⟨S256x2816, .f32⟩
  | .hbm, ⟨31, _⟩ => ⟨S256x2816, .f32⟩
  | .hbm, ⟨32, _⟩ => ⟨S256x2816, .f32⟩
  | .hbm, ⟨33, _⟩ => ⟨S256x2816, .f32⟩
  | .hbm, ⟨34, _⟩ => ⟨S256x2816, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== SampleMix.lean ====
abbrev S256x1024 : Shape := ⟨2, ![256, 1024]⟩
abbrev S1024 : Shape := ⟨1, ![1024]⟩
abbrev S1024x5384 : Shape := ⟨2, ![1024, 5384]⟩
abbrev S8 : Shape := ⟨1, ![8]⟩
abbrev S64 : Shape := ⟨1, ![64]⟩
abbrev S1024x3328 : Shape := ⟨2, ![1024, 3328]⟩
abbrev S1024x2048 : Shape := ⟨2, ![1024, 2048]⟩
abbrev S1024x5376 : Shape := ⟨2, ![1024, 5376]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S256x512 : Shape := ⟨2, ![256, 512]⟩
abbrev S256x8 : Shape := ⟨2, ![256, 8]⟩
abbrev S256x128 : Shape := ⟨2, ![256, 128]⟩
abbrev S32x1792 : Shape := ⟨2, ![32, 1792]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩
abbrev S1024x512 : Shape := ⟨2, ![1024, 512]⟩
abbrev S1024x1024 : Shape := ⟨2, ![1024, 1024]⟩
abbrev S256x256 : Shape := ⟨2, ![256, 256]⟩
abbrev S128x128 : Shape := ⟨2, ![128, 128]⟩
abbrev S32x256 : Shape := ⟨2, ![32, 256]⟩

abbrev nBuf : Space → Nat
  | .hbm => 53
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S1024x3328, .f32⟩
  | .hbm, ⟨7, _⟩ => ⟨S1024x2048, .f32⟩
  | .hbm, ⟨8, _⟩ => ⟨S1024x5376, .f32⟩
  | .hbm, ⟨9, _⟩ => ⟨S1024x5376, .bf16⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S1x64, .f32⟩
  | .hbm, ⟨21, _⟩ => ⟨S8x64, .f32⟩
  | .hbm, ⟨22, _⟩ => ⟨S512, .f32⟩
  | .hbm, ⟨23, _⟩ => ⟨S1x512, .f32⟩
  | .hbm, ⟨24, _⟩ => ⟨S1x64, .f32⟩
  | .hbm, ⟨25, _⟩ => ⟨S8x64, .f32⟩
  | .hbm, ⟨26, _⟩ => ⟨S512, .f32⟩
  | .hbm, ⟨27, _⟩ => ⟨S1x512, .f32⟩
  | .hbm, ⟨28, _⟩ => ⟨S8x8, .i32⟩
  | .hbm, ⟨29, _⟩ => ⟨S8x8, .i32⟩
  | .hbm, ⟨30, _⟩ => ⟨S_, .i32⟩
  | .hbm, ⟨31, _⟩ => ⟨S8x8, .i32⟩
  | .hbm, ⟨32, _⟩ => ⟨S8x8, .i32⟩
  | .hbm, ⟨33, _⟩ => ⟨S8x8, .i1⟩
  | .hbm, ⟨34, _⟩ => ⟨S8x8, .f32⟩
  | .hbm, ⟨35, _⟩ => ⟨S_, .f32⟩
  | .hbm, ⟨36, _⟩ => ⟨S64x64, .f32⟩
  | .hbm, ⟨37, _⟩ => ⟨S8x1x8x1, .f32⟩
  | .hbm, ⟨38, _⟩ => ⟨S1x64x1x64, .f32⟩
  | .hbm, ⟨39, _⟩ => ⟨S8x64x8x64, .f32⟩
  | .hbm, ⟨40, _⟩ => ⟨S8x64x8x64, .f32⟩
  | .hbm, ⟨41, _⟩ => ⟨S8x64x8x64, .f32⟩
  | .hbm, ⟨42, _⟩ => ⟨S512x512, .f32⟩
  | .hbm, ⟨43, _⟩ => ⟨S512x512, .bf16⟩
  | .hbm, ⟨44, _⟩ => ⟨S256x512, .f32⟩
  | .hbm, ⟨45, _⟩ => ⟨S256x512, .f32⟩
  | .hbm, ⟨46, _⟩ => ⟨S256x512, .f32⟩
  | .hbm, ⟨47, _⟩ => ⟨S256x1024, .bf16⟩
  | .hbm, ⟨48, _⟩ => ⟨S256x1024, .bf16⟩
  | .hbm, ⟨49, _⟩ => ⟨S256x8, .f32⟩
  | .hbm, ⟨50, _⟩ => ⟨S256x8, .f32⟩
  | .hbm, ⟨51, _⟩ => ⟨S256x128, .f32⟩
  | .hbm, ⟨52, _⟩ => ⟨S32x1792, .f32⟩
  | .local _ .vmem, ⟨0, _⟩ => ⟨S256x1024, .f32⟩
  | .local _ .vmem, ⟨1, _⟩ => ⟨S1x1024, .f32⟩
  | .local _ .vmem, ⟨2, _⟩ => ⟨S1024x5376, .bf16⟩
  | .local _ .vmem, ⟨3, _⟩ => ⟨S1024x128, .bf16⟩
  | .local _ .vmem, ⟨4, _⟩ => ⟨S1x128, .f32⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x1024, .bf16⟩
  | .local _ .vmem, ⟨12, _⟩ => ⟨S256x1024, .bf16⟩
  | .local _ .vmem, ⟨13, _⟩ => ⟨S256x8, .f32⟩
  | .local _ .vmem, ⟨14, _⟩ => ⟨S256x8, .f32⟩
  | .local _ .vmem, ⟨15, _⟩ => ⟨S256x128, .f32⟩
  | .local _ .vmem, ⟨16, _⟩ => ⟨S32x1792, .f32⟩
  | .local _ .vmem, ⟨17, _⟩ => ⟨S1x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev main_v27_4 : Ref sig .tc := ⟨.hbm, 48, rfl⟩
abbrev main_v27_5 : Ref sig .tc := ⟨.hbm, 49, rfl⟩
abbrev main_v27_6 : Ref sig .tc := ⟨.hbm, 50, rfl⟩
abbrev main_v27_7 : Ref sig .tc := ⟨.hbm, 51, rfl⟩
abbrev main_v27_8 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x1792 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== SampleMixReferenceIdeal.lean ====
abbrev S256x1024 : Shape := ⟨2, ![256, 1024]⟩
abbrev S1024 : Shape := ⟨1, ![1024]⟩
abbrev S1024x5384 : Shape := ⟨2, ![1024, 5384]⟩
abbrev S8 : Shape := ⟨1, ![8]⟩
abbrev S64 : Shape := ⟨1, ![64]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x5384 : Shape := ⟨2, ![256, 5384]⟩
abbrev S256x1792 : Shape := ⟨2, ![256, 1792]⟩
abbrev S256x512 : Shape := ⟨2, ![256, 512]⟩
abbrev S256x8 : Shape := ⟨2, ![256, 8]⟩
abbrev S256x8x64 : Shape := ⟨3, ![256, 8, 64]⟩
abbrev S256x8x1 : Shape := ⟨3, ![256, 8, 1]⟩
abbrev S1x1x64 : Shape := ⟨3, ![1, 1, 64]⟩
abbrev S1x8 : Shape := ⟨2, ![1, 8]⟩
abbrev S32x8x1792 : Shape := ⟨3, ![32, 8, 1792]⟩
abbrev S32x1x1792 : Shape := ⟨3, ![32, 1, 1792]⟩
abbrev S32x1792 : Shape := ⟨2, ![32, 1792]⟩

abbrev nBuf : Space → Nat
  | .hbm => 109
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x5384, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x5384, .f32⟩
  | .hbm, ⟨23, _⟩ => ⟨S256x1792, .f32⟩
  | .hbm, ⟨24, _⟩ => ⟨S256x512, .f32⟩
  | .hbm, ⟨25, _⟩ => ⟨S256x512, .f32⟩
  | .hbm, ⟨26, _⟩ => ⟨S256x512, .f32⟩
  | .hbm, ⟨27, _⟩ => ⟨S256x8, .f32⟩
  | .hbm, ⟨28, _⟩ => ⟨S256x1024, .f32⟩
  | .hbm, ⟨29, _⟩ => ⟨S256x1024, .f32⟩
  | .hbm, ⟨30, _⟩ => ⟨S256x8x64, .f32⟩
  | .hbm, ⟨31, _⟩ => ⟨S256x8x64, .f32⟩
  | .hbm, ⟨32, _⟩ => ⟨S_, .f32⟩
  | .hbm, ⟨33, _⟩ => ⟨S256x8, .f32⟩
  | .hbm, ⟨34, _⟩ => ⟨S256x8x1, .f32⟩
  | .hbm, ⟨35, _⟩ => ⟨S_, .f32⟩
  | .hbm, ⟨36, _⟩ => ⟨S256x8x1, .f32⟩
  | .hbm, ⟨37, _⟩ => ⟨S256x8x1, .f32⟩
  | .hbm, ⟨38, _⟩ => ⟨S_, .f32⟩
  | .hbm, ⟨39, _⟩ => ⟨S256x8x1, .f32⟩
  | .hbm, ⟨40, _⟩ => ⟨S256x8x1, .f32⟩
  | .hbm, ⟨41, _⟩ => ⟨S256x8x1, .f32⟩
  | .hbm, ⟨42, _⟩ => ⟨S256x8x64, .f32⟩
  | .hbm, ⟨43, _⟩ => ⟨S256x8x64, .f32⟩
  | .hbm, ⟨44, _⟩ => ⟨S1x1x64, .f32⟩
  | .hbm, ⟨45, _⟩ => ⟨S256x8x64, .f32⟩
  | .hbm, ⟨46, _⟩ => ⟨S256x8x64, .f32⟩
  | .hbm, ⟨47, _⟩ => ⟨S256x512, .f32⟩
  | .hbm, ⟨48, _⟩ => ⟨S_, .f32⟩
  | .hbm, ⟨49, _⟩ => ⟨S256x512, .f32⟩
  | .hbm, ⟨50, _⟩ => ⟨S256x512, .f32⟩
  | .hbm, ⟨51, _⟩ => ⟨S256x8x64, .f32⟩
  | .hbm, ⟨52, _⟩ => ⟨S256x8x64, .f32⟩
  | .hbm, ⟨53, _⟩ => ⟨S_, .f32⟩
  | .hbm, ⟨54, _⟩ => ⟨S256x8, .f32⟩
  | .hbm, ⟨55, _⟩ => ⟨S256x8x1, .f32⟩
  | .hbm, ⟨56, _⟩ => ⟨S_, .f32⟩
  | .hbm, ⟨57, _⟩ => ⟨S256x8x1, .f32⟩
  | .hbm, ⟨58, _⟩ => ⟨S256x8x1, .f32⟩
  | .hbm, ⟨59, _⟩ => ⟨S_, .f32⟩
  | .hbm, ⟨60, _⟩ => ⟨S256x8x1, .f32⟩
  | .hbm, ⟨61, _⟩ => ⟨S256x8x1, .f32⟩
  | .hbm, ⟨62, _⟩ => ⟨S256x8x1, .f32⟩
  | .hbm, ⟨63, _⟩ => ⟨S256x8x64, .f32⟩
  | .hbm, ⟨64, _⟩ => ⟨S256x8x64, .f32⟩
  | .hbm, ⟨65, _⟩ => ⟨S1x1x64, .f32⟩
  | .hbm, ⟨66, _⟩ => ⟨S256x8x64, .f32⟩
  | .hbm, ⟨67, _⟩ => ⟨S256x8x64, .f32⟩
  | .hbm, ⟨68, _⟩ => ⟨S256x512, .f32⟩
  | .hbm, ⟨69, _⟩ => ⟨S1x8, .f32⟩
  | .hbm, ⟨70, _⟩ => ⟨S256x8, .f32⟩
  | .hbm, ⟨71, _⟩ => ⟨S256x8, .f32⟩
  | .hbm, ⟨72, _⟩ => ⟨S256x8, .f32⟩
  | .hbm, ⟨73, _⟩ => ⟨S_, .f32⟩
  | .hbm, ⟨74, _⟩ => ⟨S256x8, .f32⟩
  | .hbm, ⟨75, _⟩ => ⟨S256x8, .f32⟩
  | .hbm, ⟨76, _⟩ => ⟨S256x8, .f32⟩
  | .hbm, ⟨77, _⟩ => ⟨S256x8, .f32⟩
  | .hbm, ⟨78, _⟩ => ⟨S256x8, .i1⟩
  | .hbm, ⟨79, _⟩ => ⟨S256x8, .f32⟩
  | .hbm, ⟨80, _⟩ => ⟨S256x8, .f32⟩
  | .hbm, ⟨81, _⟩ => ⟨S256x8, .f32⟩
  | .hbm, ⟨82, _⟩ => ⟨S256x8, .f32⟩
  | .hbm, ⟨83, _⟩ => ⟨S256x8, .f32⟩
  | .hbm, ⟨84, _⟩ => ⟨S256x8, .f32⟩
  | .hbm, ⟨85, _⟩ => ⟨S256x8, .f32⟩
  | .hbm, ⟨86, _⟩ => ⟨S256x8, .f32⟩
  | .hbm, ⟨87, _⟩ => ⟨S256x8, .f32⟩
  | .hbm, ⟨88, _⟩ => ⟨S256x1024, .f32⟩
  | .hbm, ⟨89, _⟩ => ⟨S256x1024, .f32⟩
  | .hbm, ⟨90, _⟩ => ⟨S_, .f32⟩
  | .hbm, ⟨91, _⟩ => ⟨S256x1024, .f32⟩
  | .hbm, ⟨92, _⟩ => ⟨S256x1024, .f32⟩
  | .hbm, ⟨93, _⟩ => ⟨S_, .f32⟩
  | .hbm, ⟨94, _⟩ => ⟨S256x1024, .f32⟩
  | .hbm, ⟨95, _⟩ => ⟨S256x1024, .f32⟩
  | .hbm, ⟨96, _⟩ => ⟨S256x1024, .bf16⟩
  | .hbm, ⟨97, _⟩ => ⟨S256x1024, .f32⟩
  | .hbm, ⟨98, _⟩ => ⟨S256x1024, .f32⟩
  | .hbm, ⟨99, _⟩ => ⟨S_, .f32⟩
  | .hbm, ⟨100, _⟩ => ⟨S256x1024, .f32⟩
  | .hbm, ⟨101, _⟩ => ⟨S256x1024, .f32⟩
  | .hbm, ⟨102, _⟩ => ⟨S_, .f32⟩
  | .hbm, ⟨103, _⟩ => ⟨S256x1024, .f32⟩
  | .hbm, ⟨104, _⟩ => ⟨S256x1024, .f32⟩
  | .hbm, ⟨105, _⟩ => ⟨S256x1024, .bf16⟩
  | .hbm, ⟨106, _⟩ => ⟨S32x8x1792, .f32⟩
  | .hbm, ⟨107, _⟩ => ⟨S32x1x1792, .f32⟩
  | .hbm, ⟨108, _⟩ => ⟨S32x1792, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call0_v0 : Ref sig .tc := ⟨.hbm, 72, rfl⟩
abbrev main_call0_call0_cst : Ref sig .tc := ⟨.hbm, 73, rfl⟩
abbrev main_call0_call0_v0 : Ref sig .tc := ⟨.hbm, 74, rfl⟩
abbrev main_call0_call0_v1 : Ref sig .tc := ⟨.hbm, 75, rfl⟩
abbrev main_call0_call0_v2 : Ref sig .tc := ⟨.hbm, 76, rfl⟩
abbrev main_call0_call0_v3 : Ref sig .tc := ⟨.hbm, 77, rfl⟩
abbrev main_call0_call0_v4 : Ref sig .tc := ⟨.hbm, 78, rfl⟩
abbrev main_call0_call0_v5 : Ref sig .tc := ⟨.hbm, 79, rfl⟩
abbrev main_call0_call0_v6 : Ref sig .tc := ⟨.hbm, 80, rfl⟩
abbrev main_call0_call0_v7 : Ref sig .tc := ⟨.hbm, 81, rfl⟩
abbrev main_call0_call0_v8 : Ref sig .tc := ⟨.hbm, 82, rfl⟩
abbrev main_call0_call0_v9 : Ref sig .tc := ⟨.hbm, 83, rfl⟩
abbrev main_call0_call0_v10 : Ref sig .tc := ⟨.hbm, 84, rfl⟩
abbrev main_call0_call0_v11 : Ref sig .tc := ⟨.hbm, 85, rfl⟩
abbrev main_call0_v1 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== SampleMerge.lean ====
abbrev S256x1024 : Shape := ⟨2, ![256, 1024]⟩
abbrev S256x512 : Shape := ⟨2, ![256, 512]⟩
abbrev S512 : Shape := ⟨1, ![512]⟩
abbrev S512x1024 : Shape := ⟨2, ![512, 1024]⟩
abbrev S1024x1024 : Shape := ⟨2, ![1024, 1024]⟩
abbrev S1x512 : Shape := ⟨2, ![1, 512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩

abbrev nBuf : Space → Nat
  | .hbm => 38
  | .vmem => 17
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x1024, .bf16⟩
  | .hbm, ⟨8, _⟩ => ⟨S256x1024, .bf16⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S_, .f32⟩
  | .hbm, ⟨26, _⟩ => ⟨S64x64, .f32⟩
  | .hbm, ⟨27, _⟩ => ⟨S8x1x8x1, .f32⟩
  | .hbm, ⟨28, _⟩ => ⟨S1x64x1x64, .f32⟩
  | .hbm, ⟨29, _⟩ => ⟨S8x64x8x64, .f32⟩
  | .hbm, ⟨30, _⟩ => ⟨S8x64x8x64, .f32⟩
  | .hbm, ⟨31, _⟩ => ⟨S8x64x8x64, .f32⟩
  | .hbm, ⟨32, _⟩ => ⟨S512x512, .f32⟩
  | .hbm, ⟨33, _⟩ => ⟨S512x512, .bf16⟩
  | .hbm, ⟨34, _⟩ => ⟨S512x1024, .bf16⟩
  | .hbm, ⟨35, _⟩ => ⟨S512x1024, .bf16⟩
  | .hbm, ⟨36, _⟩ => ⟨S1024x1024, .bf16⟩
  | .hbm, ⟨37, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x1024, .bf16⟩
  | .local _ .vmem, ⟨8, _⟩ => ⟨S256x1024, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== SampleMergeReferenceIdeal.lean ====
abbrev S256x1024 : Shape := ⟨2, ![256, 1024]⟩
abbrev S256x512 : Shape := ⟨2, ![256, 512]⟩
abbrev S512 : Shape := ⟨1, ![512]⟩
abbrev S512x1024 : Shape := ⟨2, ![512, 1024]⟩
abbrev S1024x1024 : Shape := ⟨2, ![1024, 1024]⟩
abbrev S256x8x64 : Shape := ⟨3, ![256, 8, 64]⟩
abbrev S_ : Shape := ⟨0, ![]⟩
abbrev S256x8 : Shape := ⟨2, ![256, 8]⟩
abbrev S256x8x1 : Shape := ⟨3, ![256, 8, 1]⟩
abbrev S8x64 : Shape := ⟨2, ![8, 64]⟩
abbrev S1x8x64 : Shape := ⟨3, ![1, 8, 64]⟩

abbrev nBuf : Space → Nat
  | .hbm => 74
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x1024, .bf16⟩
  | .hbm, ⟨8, _⟩ => ⟨S256x1024, .bf16⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S256x8x64, .f32⟩
  | .hbm, ⟨16, _⟩ => ⟨S256x8x64, .f32⟩
  | .hbm, ⟨17, _⟩ => ⟨S256x8x64, .f32⟩
  | .hbm, ⟨18, _⟩ => ⟨S256x8x64, .f32⟩
  | .hbm, ⟨19, _⟩ => ⟨S_, .f32⟩
  | .hbm, ⟨20, _⟩ => ⟨S256x8, .f32⟩
  | .hbm, ⟨21, _⟩ => ⟨S256x8x1, .f32⟩
  | .hbm, ⟨22, _⟩ => ⟨S_, .f32⟩
  | .hbm, ⟨23, _⟩ => ⟨S256x8x1, .f32⟩
  | .hbm, ⟨24, _⟩ => ⟨S256x8x1, .f32⟩
  | .hbm, ⟨25, _⟩ => ⟨S256x8x64, .f32⟩
  | .hbm, ⟨26, _⟩ => ⟨S256x8x64, .f32⟩
  | .hbm, ⟨27, _⟩ => ⟨S256x8x64, .f32⟩
  | .hbm, ⟨28, _⟩ => ⟨S256x8x64, .f32⟩
  | .hbm, ⟨29, _⟩ => ⟨S256x8x64, .f32⟩
  | .hbm, ⟨30, _⟩ => ⟨S_, .f32⟩
  | .hbm, ⟨31, _⟩ => ⟨S256x8, .f32⟩
  | .hbm, ⟨32, _⟩ => ⟨S256x8x1, .f32⟩
  | .hbm, ⟨33, _⟩ => ⟨S_, .f32⟩
  | .hbm, ⟨34, _⟩ => ⟨S256x8x1, .f32⟩
  | .hbm, ⟨35, _⟩ => ⟨S256x8x1, .f32⟩
  | .hbm, ⟨36, _⟩ => ⟨S256x8x64, .f32⟩
  | .hbm, ⟨37, _⟩ => ⟨S256x8x64, .f32⟩
  | .hbm, ⟨38, _⟩ => ⟨S_, .f32⟩
  | .hbm, ⟨39, _⟩ => ⟨S256x8x1, .f32⟩
  | .hbm, ⟨40, _⟩ => ⟨S256x8x1, .f32⟩
  | .hbm, ⟨41, _⟩ => ⟨S256x8x1, .f32⟩
  | .hbm, ⟨42, _⟩ => ⟨S256x8x64, .f32⟩
  | .hbm, ⟨43, _⟩ => ⟨S256x8x64, .f32⟩
  | .hbm, ⟨44, _⟩ => ⟨S8x64, .f32⟩
  | .hbm, ⟨45, _⟩ => ⟨S1x8x64, .f32⟩
  | .hbm, ⟨46, _⟩ => ⟨S256x8x64, .f32⟩
  | .hbm, ⟨47, _⟩ => ⟨S256x8x64, .f32⟩
  | .hbm, ⟨48, _⟩ => ⟨S8x64, .f32⟩
  | .hbm, ⟨49, _⟩ => ⟨S1x8x64, .f32⟩
  | .hbm, ⟨50, _⟩ => ⟨S256x8x64, .f32⟩
  | .hbm, ⟨51, _⟩ => ⟨S256x8x64, .f32⟩
  | .hbm, ⟨52, _⟩ => ⟨S256x8x64, .f32⟩
  | .hbm, ⟨53, _⟩ => ⟨S8x64, .f32⟩
  | .hbm, ⟨54, _⟩ => ⟨S1x8x64, .f32⟩
  | .hbm, ⟨55, _⟩ => ⟨S256x8x64, .f32⟩
  | .hbm, ⟨56, _⟩ => ⟨S256x8x64, .f32⟩
  | .hbm, ⟨57, _⟩ => ⟨S_, .f32⟩
  | .hbm, ⟨58, _⟩ => ⟨S256x8, .f32⟩
  | .hbm, ⟨59, _⟩ => ⟨S256x8x1, .f32⟩
  | .hbm, ⟨60, _⟩ => ⟨S256x8x64, .f32⟩
  | .hbm, ⟨61, _⟩ => ⟨S256x8x64, .f32⟩
  | .hbm, ⟨62, _⟩ => ⟨S256x8x64, .f32⟩
  | .hbm, ⟨63, _⟩ => ⟨S256x512, .f32⟩
  | .hbm, ⟨64, _⟩ => ⟨S256x512, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S256x1024, .f32⟩
  | .hbm, ⟨72, _⟩ => ⟨S256x1024, .f32⟩
  | .hbm, ⟨73, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Proof.Ffn.lean ====
module

public import proofs.«01_k».proof.Defs
public import proofs.«01_k».proof.Proof.Gen.FfnIdeal.Value
public import proofs.«01_k».proof.Proof.Gen.FfnReferenceIdeal.Run
public import Idealize.ShloMosaic.Lib.Pointwise
public import Idealize.ShloMosaic.Lib.Claim

@[expose] public section

noncomputable section

/-! # The feed-forward call: the kernel's rows are the reference's rows

Both programs compute, for each row `x` of the activations, `x + 0.5 · (silu (h·Wg) ∘ (h·Wu)) · Wd` with
`h` the root-mean-square normalisation of `x` scaled by `g`. The kernel does it 512 rows at a time. -/

namespace Cert.Proof.Ffn

open Idealize.ShloMosaic

/-- One normalised entry of a row: `x k / sqrt (mean of squares + eps) * g k`. -/
def normAt (x g : Fin 1024 → EReal) (k : Fin 1024) : EReal :=
  x k * Ideal.rsqrt (Ideal.div (∑ j : Fin 1024, x j * x j) (Ideal.ofBits .f32 0x44800000#32)
    + Ideal.ofBits .f32 0x358637BD#32) * g k

/-- One hidden unit of a row: `silu (h · wg) * (h · wu)`. -/
def hiddenAt (x g wg wu : Fin 1024 → EReal) : EReal :=
  (∑ k, normAt x g k * wg k)
    * Ideal.div (Ideal.ofBits .f32 0x3F800000#32)
        (Ideal.ofBits .f32 0x3F800000#32 + Ideal.exp (-(∑ k, normAt x g k * wg k)))
    * (∑ k, normAt x g k * wu k)

/-- One entry of the result row. -/
def rowAt (x g : Fin 1024 → EReal) (wg wu : Fin 1024 → Fin 2816 → EReal) (wd : Fin 2816 → EReal) (xl : EReal) : EReal :=
  xl + Ideal.ofBits .f32 0x3F000000#32
    * ∑ f : Fin 2816, hiddenAt x g (fun k => wg k f) (fun k => wu k f) * wd f

section kernel
open Cert.FfnIdeal Cert.FfnIdeal.Gen

set_option maxHeartbeats 4000000 in
/-- What the kernel's body stores at row `r`, column `l` of its block. -/
theorem pay_apply (x : Vec Ideal S512x1024 .f32) (g : Vec Ideal S1x1024 .f32) (wg wu : Vec Ideal S1024x2816 .bf16)
    (wd : Vec Ideal S2816x1024 .bf16) (r : Fin 512) (l : Fin 1024) :
    k0_pay1 (F := Ideal) x g wg wu wd (ix2 r l)
      = rowAt (fun k => x (ix2 r k)) (fun k => g (ix2 0 k)) (fun k f => wg (ix2 k f)) (fun k f => wu (ix2 k f))
          (fun f => wd (ix2 f l)) (x (ix2 r l)) := by
  pointwise [k0_pay1, rowAt, hiddenAt, normAt]
  simp only [zero_sub]

end kernel

section reference
open Cert.FfnReferenceIdeal Cert.FfnReferenceIdeal.Gen

/-- The reference's normalised activations. -/
def refNorm (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g)

/-- The reference's projection of the normalised activations. -/
def refProj (x : FVec Ideal S16384x1024 .f32) (g : FVec Ideal S1x1024 .f32) (w : FVec Ideal S1024x2816 .bf16) : FVec Ideal S16384x2816 .f32 :=
  Host.dotGeneral dot_S16384x1024_S1024x2816_S16384x2816_1_0_0_1_n_n none (refNorm x g) (extf .f32 w bitsLt_bf16_f32)

/-- The reference's hidden units. -/
def refHidden (x : FVec Ideal S16384x1024 .f32) (g : FVec Ideal S1x1024 .f32) (wg wu : FVec Ideal S1024x2816 .bf16) : FVec Ideal S16384x2816 .f32 :=
  mulf (mulf (refProj x g wg) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (refProj x g wg)))))) (refProj x g wu)

/-- The reference's result. -/
def refOut (x : FVec Ideal S16384x1024 .f32) (g : FVec Ideal S1x1024 .f32) (wg wu : FVec Ideal S1024x2816 .bf16)
    (wd : FVec Ideal S2816x1024 .bf16) : FVec Ideal S16384x1024 .f32 :=
  addf x (mulf (broadcastInDim S16384x1024 ![] bcast_S_S16384x1024 (constant S_ .f32 0x3F000000#32)) (Host.dotGeneral dot_S16384x2816_S2816x1024_S16384x1024_1_0_0_1_n_n none (refHidden x g wg wu) (extf .f32 wd bitsLt_bf16_f32)))

set_option maxHeartbeats 4000000 in
/-- The reference's result at row `r`, column `l`. -/
theorem refOut_apply (x : FVec Ideal S16384x1024 .f32) (g : FVec Ideal S1x1024 .f32) (wg wu : FVec Ideal S1024x2816 .bf16)
    (wd : FVec Ideal S2816x1024 .bf16) (r : Fin 16384) (l : Fin 1024) :
    refOut x g wg wu wd (ix2 r l)
      = rowAt (fun k => x (ix2 r k)) (fun k => g (ix2 0 k)) (fun k f => wg (ix2 k f)) (fun k f => wu (ix2 k f))
          (fun f => wd (ix2 f l)) (x (ix2 r l)) := by
  pointwise [refOut, refHidden, refProj, refNorm, rowAt, hiddenAt, normAt]

end reference

section array
open Cert.FfnIdeal Cert.FfnIdeal.Gen Idealize.ShloMosaic.TcCoe Idealize.SL.Sem
open Idealize.ShloMosaic.Pipeline (Dat)

variable (m : (ℓ : Loc nD τ sig) → Buf (Elt Ideal) ℓ)

/-- The body's loads and its one store are of whole buffers: it leaves its payload. -/
theorem out_eq (x : Vec Ideal S512x1024 .f32) (g : Vec Ideal S1x1024 .f32) (wg wu : Vec Ideal S1024x2816 .bf16)
    (wd : Vec Ideal S2816x1024 .bf16) : out0_5 (F := Ideal) x g wg wu wd = k0_pay1 x g wg wu wd := by
  have h : (![0, 0] : Fin 2 → Nat) = fun _ => 0 := funext fun a => by fin_cases a <;> rfl
  unfold out0_5
  rw [View.canon_unit_zero h, View.ld_unit_zero h, View.ld_unit_zero h, View.ld_unit_zero h, View.ld_unit_zero h,
    View.ld_unit_zero h]

/-- The result array: the reference's term of the argument arrays. -/
def G (c : Dev nD) : FVec Ideal S16384x1024 .f32 :=
  refOut (m ((c : Thread nD τ).loc main_arg0)) (m ((c : Thread nD τ).loc main_arg1))
    (m ((c : Thread nD τ).loc main_arg2)) (m ((c : Thread nD τ).loc main_arg3)) (m ((c : Thread nD τ).loc main_arg4))

/-- Point `t` works on rows `512 t …`; the gain and the three weights are whole at every point. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 ∧ (cfg0.win 5).flush t = true :=
  (by decide +kernel : ∀ t : Fin grid0.N, _)

/-- What point `t` writes back is its block of `G`. -/
theorem flushed_eq (c : Dev nD) (t : Fin cfg0.N) (_ : (cfg0.win 5).flush t = true) :
    (dats m 0 c).flushed 5 t = ((cfg0.win 5).blk t).view.read (Elt Ideal) (G m c) := by
  rw [Cert.FfnIdeal.Value.flushed5, out_eq]
  obtain ⟨e50, e51, e00, e01, e10, e11, e20, e21, e30, e31, e40, e41, -⟩ := idx_facts t
  have ht : t.val < 32 := t.isLt
  funext y
  have hy0 : (y 0).val < 512 := (y 0).isLt
  have hy1 : (y 1).val < 1024 := (y 1).isLt
  have hR : t.val * 512 + (y 0).val < 16384 := by omega
  have hemb : ((cfg0.win 5).blk t).view.emb y = ix2 (⟨t.val * 512 + (y 0).val, hR⟩ : Fin 16384) (⟨(y 1).val, hy1⟩ : Fin 1024) := by
    funext a; apply Fin.ext
    match a with
    | ⟨0, _⟩ => show win0_5.index t (0 : Fin 2) * 512 + 1 * (y 0).val = t.val * 512 + (y 0).val; omega
    | ⟨1, _⟩ => show win0_5.index t (1 : Fin 2) * 1024 + 1 * (y 1).val = (y 1).val; omega
  have hx : ∀ k : Fin 1024, iblk m c 0 t (ix2 (⟨(y 0).val, hy0⟩ : Fin 512) k)
      = m ((c : Thread nD τ).loc main_arg0) (ix2 (⟨t.val * 512 + (y 0).val, hR⟩ : Fin 16384) k) := fun k => by
    show m ((c : Thread nD τ).loc main_arg0) (((cfg0.win 0).blk t).view.emb _) = _
    congr 1
    funext a; apply Fin.ext
    match a with
    | ⟨0, _⟩ => show win0_0.index t (0 : Fin 2) * 512 + 1 * (y 0).val = t.val * 512 + (y 0).val; omega
    | ⟨1, _⟩ => show win0_0.index t (1 : Fin 2) * 1024 + 1 * k.val = k.val; omega
  have hg : ∀ i : S1x1024.Idx, iblk m c 1 t i = m ((c : Thread nD τ).loc main_arg1) i := fun i => by
    show m ((c : Thread nD τ).loc main_arg1) (((cfg0.win 1).blk t).view.emb i) = _
    congr 1
    funext a; apply Fin.ext
    match a with
    | ⟨0, _⟩ => show win0_1.index t (0 : Fin 2) * 1 + 1 * (i 0).val = (i 0).val; omega
    | ⟨1, _⟩ => show win0_1.index t (1 : Fin 2) * 1024 + 1 * (i 1).val = (i 1).val; omega
  have hwg : ∀ i : S1024x2816.Idx, iblk m c 2 t i = m ((c : Thread nD τ).loc main_arg2) i := fun i => by
    show m ((c : Thread nD τ).loc main_arg2) (((cfg0.win 2).blk t).view.emb i) = _
    congr 1
    funext a; apply Fin.ext
    match a with
    | ⟨0, _⟩ => show win0_2.index t (0 : Fin 2) * 1024 + 1 * (i 0).val = (i 0).val; omega
    | ⟨1, _⟩ => show win0_2.index t (1 : Fin 2) * 2816 + 1 * (i 1).val = (i 1).val; omega
  have hwu : ∀ i : S1024x2816.Idx, iblk m c 3 t i = m ((c : Thread nD τ).loc main_arg3) i := fun i => by
    show m ((c : Thread nD τ).loc main_arg3) (((cfg0.win 3).blk t).view.emb i) = _
    congr 1
    funext a; apply Fin.ext
    match a with
    | ⟨0, _⟩ => show win0_3.index t (0 : Fin 2) * 1024 + 1 * (i 0).val = (i 0).val; omega
    | ⟨1, _⟩ => show win0_3.index t (1 : Fin 2) * 2816 + 1 * (i 1).val = (i 1).val; omega
  have hwd : ∀ i : S2816x1024.Idx, iblk m c 4 t i = m ((c : Thread nD τ).loc main_arg4) i := fun i => by
    show m ((c : Thread nD τ).loc main_arg4) (((cfg0.win 4).blk t).view.emb i) = _
    congr 1
    funext a; apply Fin.ext
    match a with
    | ⟨0, _⟩ => show win0_4.index t (0 : Fin 2) * 2816 + 1 * (i 0).val = (i 0).val; omega
    | ⟨1, _⟩ => show win0_4.index t (1 : Fin 2) * 1024 + 1 * (i 1).val = (i 1).val; omega
  have hyy : (cfg0.win 5).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  show k0_pay1 (iblk m c 0 t) (iblk m c 1 t) (iblk m c 2 t) (iblk m c 3 t) (iblk m c 4 t) ((cfg0.win 5).xinj (grid0.coords t) y)
    = G m c (((cfg0.win 5).blk t).view.emb y)
  rw [hyy, hemb, G, refOut_apply, pay_apply]
  simp only [hx, hg, hwg, hwu, hwd]

/-- Every row lies in some point's block. -/
theorem covered (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  have hN : (i 0).val / 512 < grid0.N := lt_of_lt_of_eq (by omega : (i 0).val / 512 < 32) N_0.symm
  obtain ⟨e50, e51, -, -, -, -, -, -, -, -, -, -, hf⟩ := idx_facts ⟨(i 0).val / 512, hN⟩
  dsimp only at e50
  refine ⟨⟨(i 0).val / 512, hN⟩, hf, ?_⟩
  show i ∈ ((View.whole main_v0).slice (win0_5.rect ⟨(i 0).val / 512, hN⟩)).set
  rw [View.set_slice_whole, Rect.mem_set_unit]
  intro a
  match a with
  | ⟨0, _⟩ => show win0_5.index ⟨(i 0).val / 512, hN⟩ (0 : Fin 2) * 512 ≤ (i 0).val ∧ (i 0).val < win0_5.index ⟨(i 0).val / 512, hN⟩ (0 : Fin 2) * 512 + 512; omega
  | ⟨1, _⟩ => show win0_5.index ⟨(i 0).val / 512, hN⟩ (1 : Fin 2) * 1024 ≤ (i 1).val ∧ (i 1).val < win0_5.index ⟨(i 0).val / 512, hN⟩ (1 : Fin 2) * 1024 + 1024; omega

/-- The result array after the run. -/
theorem final (c : Dev nD) : (dats m 0 c).arrAt 5 cfg0.N = G m c :=
  (dats m 0 c).arrAt_eq_of_cover 5 _ (fun t hf => flushed_eq m c t hf) covered

end array

/-- The feed-forward kernel and its reference end with equal results. -/
theorem claim : Cert.algebraic_FfnIdeal_FfnReferenceIdeal := by
  intro m g m' g' _ hm
  refine ⟨fun c => G m c, ?_, ?_⟩
  · refine Idealize.ShloMosaic.θ_run_mono (Cert.FfnIdeal.Value.run_blocks (F := Ideal) m g) fun r h c => ?_
    obtain ⟨h0, h1⟩ := h c
    exact ⟨h0.trans (final m c), h1⟩
  · refine Idealize.ShloMosaic.θ_run_mono (Cert.FfnReferenceIdeal.Value.run (F := Ideal) m' g') fun r h c => ?_
    obtain ⟨h0, h1⟩ := h c
    refine ⟨h0.trans ?_, h1⟩
    obtain ⟨a0, a1, a2, a3, a4⟩ := hm c
    rw [a0, a1, a2, a3, a4]
    rfl

end Cert.Proof.Ffn

end
-- ==== Proof.Heads.lean ====
module

public import Idealize.ShloMosaic.Lib.Pointwise

@[expose] public section

noncomputable section

/-! # Lanes and heads

512 lanes are 8 heads of 64. A kernel sums over the heads by a product with the matrix that is 1 where two lanes are of
one head; a reference sums over the last axis of the lanes laid out as heads. -/

namespace Cert.Proof.Heads

open Idealize.ShloMosaic

/-- The head of a lane. -/
def head (l : Fin 512) : Fin 8 := ⟨l.val / 64, by omega⟩

/-- The place of a lane in its head. -/
def place (l : Fin 512) : Fin 64 := ⟨l.val % 64, by omega⟩

/-- The lane at a place of a head. -/
def lane (h : Fin 8) (d : Fin 64) : Fin 512 := ⟨h.val * 64 + d.val, by omega⟩

theorem lane_head_place (l : Fin 512) : lane (head l) (place l) = l :=
  Fin.ext (Nat.div_add_mod' l.val 64)

theorem head_lane (h : Fin 8) (d : Fin 64) : head (lane h d) = h :=
  Fin.ext (by simp only [head, lane]; omega)

theorem place_lane (h : Fin 8) (d : Fin 64) : place (lane h d) = d :=
  Fin.ext (by simp only [place, lane]; omega)

/-- Lanes are pairs of a head and a place. -/
def pairs : Fin 512 ≃ Fin 8 × Fin 64 where
  toFun l := (head l, place l)
  invFun p := lane p.1 p.2
  left_inv := lane_head_place
  right_inv p := Prod.ext (head_lane p.1 p.2) (place_lane p.1 p.2)

/-- A sum against the head matrix is the sum over the lane's own head. -/
theorem sum_ones (f : Fin 512 → EReal) (l : Fin 512) :
    ∑ j, f j * (if head j = head l then 1 else 0) = ∑ d, f (lane (head l) d) := by
  rw [← Equiv.sum_comp pairs.symm, Fintype.sum_prod_type, Finset.sum_eq_single (head l)]
  · refine Finset.sum_congr rfl fun d _ => ?_
    show f (lane (head l) d) * (if head (lane (head l) d) = head l then 1 else 0) = _
    rw [head_lane, if_pos rfl, mul_one]
  · intro h _ hh
    refine Finset.sum_eq_zero fun d _ => ?_
    show f (lane h d) * (if head (lane h d) = head l then 1 else 0) = 0
    rw [head_lane, if_neg hh, mul_zero]
  · intro h; exact absurd (Finset.mem_univ _) h

/-- One sixty-fourth, as the kernels multiply by it. -/
theorem one_64th : Ideal.ofBits .f32 0x3C800000#32 = ((1 / 64 : ℝ) : EReal) := by
  have e : Ideal.ofBits .f32 0x3C800000#32 = ((8388608 * (2 : ℝ) ^ (-29 : Int) : ℝ) : EReal) := by simp [Ideal.ofBits, Ideal.ieee]
  rw [e]; congr 1; norm_num

/-- Sixty-four, as the references divide by it. -/
theorem sixty_four : Ideal.ofBits .f32 0x42800000#32 = ((64 : ℝ) : EReal) := by
  have e : Ideal.ofBits .f32 0x42800000#32 = ((8388608 * (2 : ℝ) ^ (-17 : Int) : ℝ) : EReal) := by simp [Ideal.ofBits, Ideal.ieee]
  rw [e]; congr 1; norm_num

/-- Multiplying by 1/64 is dividing by 64. -/
theorem mul_64th (x : EReal) :
    x * Ideal.ofBits .f32 0x3C800000#32 = Ideal.div x (Ideal.ofBits .f32 0x42800000#32) := by
  rw [one_64th, sixty_four, Ideal.div_coe (by norm_num)]

/-- An array read at an index with the coordinates `r` and `k`. -/
theorem read_at {α : Type} {a b : Nat} (f : (⟨2, ![a, b]⟩ : Shape).Idx → α) (i : (⟨2, ![a, b]⟩ : Shape).Idx) (r : Fin a) (k : Fin b)
    (h0 : (i 0).val = r.val) (h1 : (i 1).val = k.val) : f i = f (ix2 r k) := by
  congr 1
  funext x
  match x with
  | ⟨0, _⟩ => exact Fin.ext h0
  | ⟨1, _⟩ => exact Fin.ext h1

/-- The coordinate of a block's entry, where the block's index is `t`. -/
theorem at_block {i t b r : Nat} (e : i = t) : i * b + 1 * r = t * b + r := by rw [e, one_mul]

/-- The coordinate of a block's entry, where the block is the first. -/
theorem at_first {i b r : Nat} (e : i = 0) : i * b + 1 * r = r := by rw [e, zero_mul, zero_add, one_mul]

/-- The 8×8 identity matrix a host writes as a comparison of two counters. -/
theorem eye (a b : Fin 8) :
    FloatOps.uitofp (F := Ideal) FTy.f32 (IntOp.cmpi CmpIPredicate.eq (IntOp.addi (BitVec.ofNat 32 a.val) 0#32) (BitVec.ofNat 32 b.val))
      = if a = b then (1 : EReal) else 0 := by
  have h : IntOp.cmpi CmpIPredicate.eq (IntOp.addi (BitVec.ofNat 32 a.val) 0#32) (BitVec.ofNat 32 b.val)
      = if a = b then 1#1 else 0#1 := by revert a b; decide
  rw [h]
  split
  · show (((1#1).toNat : ℝ) : EReal) = 1
    simp
  · show (((0#1).toNat : ℝ) : EReal) = 0
    simp

end Cert.Proof.Heads

end
-- ==== Proof.MergeCell.lean ====
module

public import proofs.«01_k».proof.Proof.Gen.MergeIdeal.Value
public import proofs.«01_k».proof.Proof.Gen.MergeReferenceIdeal.Run
public import proofs.«01_k».proof.Proof.Heads

@[expose] public section

noncomputable section

/-! # The merge of the two branches, cell by cell

Both programs normalise the recurrence's rows head by head, add the bonus `(Σ r·k·rk) · v`, gate, project both branches,
mix them by the two gates, project again and add the input. -/

namespace Cert.Proof.Merge

open Idealize.ShloMosaic Cert.Proof.Heads

/-- The sum of a row over the head of lane `l`. -/
def headSum (f : Fin 512 → EReal) (l : Fin 512) : EReal := ∑ d, f (lane (head l) d)

/-- A lane minus its head's mean. -/
def devAt (y : Fin 512 → EReal) (l : Fin 512) : EReal :=
  y l - Ideal.div (headSum y l) (Ideal.ofBits .f32 0x42800000#32)

/-- A lane normalised over its head, with the bonus, gated. -/
def gatedAt (y r k v g lw lb rk : Fin 512 → EReal) (l : Fin 512) : EReal :=
  (devAt y l * Ideal.rsqrt (Ideal.div (headSum (fun j => devAt y j * devAt y j) l) (Ideal.ofBits .f32 0x42800000#32)
      + Ideal.ofBits .f32 0x3A27C5AC#32) * lw l + lb l
    + headSum (fun j => r j * k j * rk j) l * v l) * g l

/-- One entry of the result row. -/
def rowAt (xl : EReal) (ya yb : Fin 512 → EReal) (ga gb : Fin 1024 → EReal) (wa wb : Fin 512 → Fin 1024 → EReal)
    (wo : Fin 1024 → EReal) : EReal :=
  xl + ∑ f, (ga f * (∑ c, ya c * wa c f) + gb f * (∑ c, yb c * wb c f)) * wo f

section kernel
open Cert.MergeIdeal Cert.MergeIdeal.Gen

set_option maxHeartbeats 4000000 in
/-- What the kernel's body stores at row `i`, column `l` of its block, where `bd` is the head matrix. -/
theorem pay_apply (x : Vec Ideal S512x1024 .f32) (y r k v g yb : Vec Ideal S512x512 .f32) (ga gb : Vec Ideal S512x1024 .bf16)
    (lw lb rk : Vec Ideal S1x512 .f32) (bd : Vec Ideal S512x512 .bf16) (wa wb : Vec Ideal S512x1024 .bf16)
    (wo : Vec Ideal S1024x1024 .bf16) (hbd : ∀ j l, bd (ix2 j l) = if head j = head l then 1 else 0)
    (i : Fin 512) (l : Fin 1024) :
    k0_pay1 (F := Ideal) (k0_pay2 y bd bd lw lb) v (k0_pay3 r k rk) bd g wa yb wb ga gb x wo (ix2 i l)
      = rowAt (x (ix2 i l)) (gatedAt (fun j => y (ix2 i j)) (fun j => r (ix2 i j)) (fun j => k (ix2 i j))
            (fun j => v (ix2 i j)) (fun j => g (ix2 i j)) (fun j => lw (ix2 0 j)) (fun j => lb (ix2 0 j)) (fun j => rk (ix2 0 j)))
          (fun j => yb (ix2 i j)) (fun j => ga (ix2 i j)) (fun j => gb (ix2 i j)) (fun c f => wa (ix2 c f))
          (fun c f => wb (ix2 c f)) (fun f => wo (ix2 f l)) := by
  pointwise [k0_pay1, k0_pay2, k0_pay3, rowAt, gatedAt, devAt, headSum]
  simp only [hbd, sum_ones, mul_64th]

end kernel

section reference
open Cert.MergeReferenceIdeal Cert.MergeReferenceIdeal.Gen

/-- The reference's mean over each head. -/
def refMean (y : FVec Ideal S16384x8x64 .f32) : FVec Ideal S16384x8x64 .f32 :=
  broadcastInDim S16384x8x64 ![0, 1, 2] bcast_S16384x8x1_S16384x8x64_0_1_2 (Host.divf (broadcastInDim S16384x8x1 ![0, 1] bcast_S16384x8_S16384x8x1_0_1 (Host.reduceAdd y (constant S_ .f32 0x00000000#32) reducesTo_S16384x8x64_S16384x8_d2 h_S_)) (broadcastInDim S16384x8x1 ![] bcast_S_S16384x8x1 (constant S_ .f32 0x42800000#32)))

theorem refMean_apply (y : FVec Ideal S16384x8x64 .f32) (i : Fin 16384) (h : Fin 8) (d : Fin 64) :
    refMean y (ix3 i h d) = Ideal.div (∑ e, y (ix3 i h e)) (Ideal.ofBits .f32 0x42800000#32) := by
  pointwise [refMean]

theorem heads_apply (y : FVec Ideal S16384x512 .f32) (i : Fin 16384) (h : Fin 8) (d : Fin 64) :
    shapeCast S16384x8x64 y shapeCasts_S16384x512_S16384x8x64 (ix3 i h d) = y (ix2 i (lane h d)) := by
  pointwise [lane]

theorem flat_apply (y : FVec Ideal S16384x8x64 .f32) (i : Fin 16384) (l : Fin 512) :
    shapeCast S16384x512 y shapeCasts_S16384x8x64_S16384x512 (ix2 i l) = y (ix3 i (head l) (place l)) := by
  pointwise [head, place]

/-- The reference's normalised rows with the bonus, head by head. -/
def refHeads (y r k v : FVec Ideal S16384x8x64 .f32) (lw lb rk : FVec Ideal S16384x8x64 .f32) : FVec Ideal S16384x8x64 .f32 :=
  addf (addf (mulf (mulf (subf y (refMean y)) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (subf y (refMean y)) (subf y (refMean y))) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x3A27C5AC#32)))))) lw) lb) (mulf (broadcastInDim S16384x8x64 ![0, 1, 2] bcast_S16384x8x1_S16384x8x64_0_1_2 (broadcastInDim S16384x8x1 ![0, 1] bcast_S16384x8_S16384x8x1_0_1 (Host.reduceAdd (mulf (mulf r k) rk) (constant S_ .f32 0x00000000#32) reducesTo_S16384x8x64_S16384x8_d2 h_S_))) v)

theorem refHeads_apply (y r k v lw lb rk : FVec Ideal S16384x8x64 .f32) (i : Fin 16384) (h : Fin 8) (d : Fin 64) :
    refHeads y r k v lw lb rk (ix3 i h d)
      = (y (ix3 i h d) - refMean y (ix3 i h d))
          * Ideal.rsqrt (Ideal.div (∑ e, (y (ix3 i h e) - refMean y (ix3 i h e)) * (y (ix3 i h e) - refMean y (ix3 i h e)))
              (Ideal.ofBits .f32 0x42800000#32) + Ideal.ofBits .f32 0x3A27C5AC#32) * lw (ix3 i h d) + lb (ix3 i h d)
        + (∑ e, r (ix3 i h e) * k (ix3 i h e) * rk (ix3 i h e)) * v (ix3 i h d) := by
  generalize hM : refMean y = M
  pointwise [refHeads, hM]

/-- A weight row laid out as heads, at every row. -/
def weights (w : FVec Ideal S512 .f32) : FVec Ideal S16384x8x64 .f32 :=
  broadcastInDim S16384x8x64 ![0, 1, 2] bcast_S1x8x64_S16384x8x64_0_1_2 (broadcastInDim S1x8x64 ![1, 2] bcast_S8x64_S1x8x64_1_2 (shapeCast S8x64 w shapeCasts_S512_S8x64))

theorem weights_apply (w : FVec Ideal S512 .f32) (i : Fin 16384) (h : Fin 8) (d : Fin 64) :
    weights w (ix3 i h d) = w (ix1 (lane h d)) := by
  pointwise [weights, lane]

/-- Rows laid out as heads. -/
def heads (y : FVec Ideal S16384x512 .f32) : FVec Ideal S16384x8x64 .f32 := shapeCast S16384x8x64 y shapeCasts_S16384x512_S16384x8x64

/-- The reference's gated rows. -/
def refGated (y r k v g : FVec Ideal S16384x512 .f32) (lw lb rk : FVec Ideal S512 .f32) : FVec Ideal S16384x512 .f32 :=
  mulf (shapeCast S16384x512 (refHeads (heads y) (heads r) (heads k) (heads v) (weights lw) (weights lb) (weights rk)) shapeCasts_S16384x8x64_S16384x512) g

theorem refGated_apply (y r k v g : FVec Ideal S16384x512 .f32) (lw lb rk : FVec Ideal S512 .f32) (i : Fin 16384) (l : Fin 512) :
    refGated y r k v g lw lb rk (ix2 i l)
      = gatedAt (fun j => y (ix2 i j)) (fun j => r (ix2 i j)) (fun j => k (ix2 i j)) (fun j => v (ix2 i j)) (fun j => g (ix2 i j))
          (fun j => lw (ix1 j)) (fun j => lb (ix1 j)) (fun j => rk (ix1 j)) l := by
  show shapeCast S16384x512 _ _ (ix2 i l) * g (ix2 i l) = _
  rw [flat_apply, refHeads_apply]
  simp only [refMean_apply, heads, heads_apply, weights_apply, gatedAt, devAt, headSum, head_lane, lane_head_place]

/-- The reference's result. -/
def refOut (x : FVec Ideal S16384x1024 .f32) (y r k v g yb : FVec Ideal S16384x512 .f32) (ga gb : FVec Ideal S16384x1024 .bf16)
    (lw lb rk : FVec Ideal S512 .f32) (wa wb : FVec Ideal S512x1024 .f32) (wo : FVec Ideal S1024x1024 .f32) : FVec Ideal S16384x1024 .f32 :=
  addf x (Host.dotGeneral dot_S16384x1024_S1024x1024_S16384x1024_1_0_0_1_n_n none (addf (mulf (extf .f32 ga bitsLt_bf16_f32) (Host.dotGeneral dot_S16384x512_S512x1024_S16384x1024_1_0_0_1_n_n none (refGated y r k v g lw lb rk) wa)) (mulf (extf .f32 gb bitsLt_bf16_f32) (Host.dotGeneral dot_S16384x512_S512x1024_S16384x1024_1_0_0_1_n_n none yb wb))) wo)

/-- The reference's result at row `i`, column `l`. -/
theorem refOut_apply (x : FVec Ideal S16384x1024 .f32) (y r k v g yb : FVec Ideal S16384x512 .f32) (ga gb : FVec Ideal S16384x1024 .bf16)
    (lw lb rk : FVec Ideal S512 .f32) (wa wb : FVec Ideal S512x1024 .f32) (wo : FVec Ideal S1024x1024 .f32) (i : Fin 16384) (l : Fin 1024) :
    refOut x y r k v g yb ga gb lw lb rk wa wb wo (ix2 i l)
      = rowAt (x (ix2 i l)) (gatedAt (fun j => y (ix2 i j)) (fun j => r (ix2 i j)) (fun j => k (ix2 i j))
            (fun j => v (ix2 i j)) (fun j => g (ix2 i j)) (fun j => lw (ix1 j)) (fun j => lb (ix1 j)) (fun j => rk (ix1 j)))
          (fun j => yb (ix2 i j)) (fun j => ga (ix2 i j)) (fun j => gb (ix2 i j)) (fun c f => wa (ix2 c f))
          (fun c f => wb (ix2 c f)) (fun f => wo (ix2 f l)) := by
  unfold refOut
  pointwise [rowAt]
  simp only [refGated_apply]

end reference

section bd
open Cert.MergeIdeal Cert.MergeIdeal.Gen Idealize.ShloMosaic.TcCoe Idealize.SL.Sem

variable (m : (ℓ : Loc nD τ sig) → Buf (Elt Ideal) ℓ) (c : Dev nD)

/-- The head matrix, as the program builds it. -/
def ones : FVec Ideal S512x512 .bf16 :=
  truncf .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 (uitofp .f32 (cmpi .eq (addi (iotaInDim S8x8 32 0) (broadcastInDim S8x8 ![] bcast_S_S8x8 (constantI S_ 32 0#32))) (iotaInDim S8x8 32 1))))) (broadcastInDim S8x64x8x64 ![0, 1, 2, 3] bcast_S1x64x1x64_S8x64x8x64_0_1_2_3 (broadcastInDim S1x64x1x64 ![1, 3] bcast_S64x64_S1x64x1x64_1_3 (broadcastInDim S64x64 ![] bcast_S_S64x64 (constant S_ .f32 0x3F800000#32))))) shapeCasts_S8x64x8x64_S512x512) bitsLt_bf16_f32

theorem ones_apply (j l : Fin 512) : ones (ix2 j l) = if head j = head l then 1 else 0 := by
  pointwise [ones]
  exact eye (head j) (head l)

theorem V_ones : V m c main_v11 = ones := by
  dsimp only [V]
  after_reads_simp; rfl

/-- What the region finds where the program reshapes a weight row. -/
theorem V_rows :
    V m c main_v0 = shapeCast S1x512 (m ((c : Thread nD τ).loc main_arg9)) shapeCasts_S512_S1x512
    ∧ V m c main_v1 = shapeCast S1x512 (m ((c : Thread nD τ).loc main_arg10)) shapeCasts_S512_S1x512
    ∧ V m c main_v2 = shapeCast S1x512 (m ((c : Thread nD τ).loc main_arg11)) shapeCasts_S512_S1x512 := by
  refine ⟨?_, ?_, ?_⟩ <;> (dsimp only [V]; after_reads_simp; rfl)

/-- What the region finds where the program narrows a weight matrix. -/
theorem V_mats :
    V m c main_v12 = m ((c : Thread nD τ).loc main_arg12) ∧ V m c main_v13 = m ((c : Thread nD τ).loc main_arg13)
    ∧ V m c main_v14 = m ((c : Thread nD τ).loc main_arg14) := by
  refine ⟨?_, ?_, ?_⟩ <;> (dsimp only [V]; after_reads_simp; rfl)

/-- A weight row as the region finds it. -/
theorem row_apply (w : FVec Ideal S512 .f32) (j : Fin 512) : shapeCast S1x512 w shapeCasts_S512_S1x512 (ix2 0 j) = w (ix1 j) := by
  pointwise []

end bd

end Cert.Proof.Merge

end
-- ==== Proof.Merge.lean ====
module

public import proofs.«01_k».proof.Defs
public import proofs.«01_k».proof.Proof.MergeCell
public import Idealize.ShloMosaic.Lib.Claim

@[expose] public section

noncomputable section

/-! # The merge: the kernel's result array is the reference's -/

namespace Cert.Proof.Merge

open Idealize.ShloMosaic Cert.Proof.Heads
open Cert.MergeIdeal Cert.MergeIdeal.Gen Idealize.ShloMosaic.TcCoe Idealize.SL.Sem
open Idealize.ShloMosaic.Pipeline (Dat)

variable (m : (ℓ : Loc nD τ sig) → Buf (Elt Ideal) ℓ)

/-- The body's loads and its one store are of whole buffers: it leaves its payload. -/
theorem out_eq (x : Vec Ideal S512x1024 .f32) (y r k v g yb : Vec Ideal S512x512 .f32) (ga gb : Vec Ideal S512x1024 .bf16)
    (lw lb rk : Vec Ideal S1x512 .f32) (bd : Vec Ideal S512x512 .bf16) (wa wb : Vec Ideal S512x1024 .bf16)
    (wo : Vec Ideal S1024x1024 .bf16) :
    out0_16 (F := Ideal) x y r k v g yb ga gb lw lb rk bd wa wb wo
      = k0_pay1 (k0_pay2 y bd bd lw lb) v (k0_pay3 r k rk) bd g wa yb wb ga gb x wo := by
  have h : (![0, 0] : Fin 2 → Nat) = fun _ => 0 := funext fun a => by fin_cases a <;> rfl
  unfold out0_16
  rw [View.canon_unit_zero h]
  iterate 16 rw [View.ld_unit_zero h]

/-- The result array: the reference's term of the argument arrays. -/
def G (c : Dev nD) : FVec Ideal S16384x1024 .f32 :=
  refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- Point `t` works on rows `512 t …` of the activations and of the result. -/
theorem rows_at : ∀ t : Fin cfg0.N,
    (win0_16.index t (0 : Fin 2) = t.val ∧ win0_16.index t (1 : Fin 2) = 0 ∧ (cfg0.win 16).flush t = true)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The weights are whole at every point. -/
theorem wholes_at : ∀ t : Fin cfg0.N,
    (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-- Row `i` of point `t`'s block, in the whole array. -/
def rowOf (t : Fin cfg0.N) (i : Fin 512) : Fin 16384 := ⟨t.val * 512 + i.val, by have : t.val < 32 := t.isLt; omega⟩

set_option maxHeartbeats 1000000 in
/-- What point `t` finds of the activations. -/
theorem rows_read (c : Dev nD) (t : Fin cfg0.N) (i : Fin 512) :
    (∀ k : Fin 1024, iblk m c 0 t (ix2 i k) = m ((c : Thread nD τ).loc main_arg0) (ix2 (rowOf t i) k))
    ∧ (∀ k : Fin 512, iblk m c 1 t (ix2 i k) = m ((c : Thread nD τ).loc main_arg1) (ix2 (rowOf t i) k))
    ∧ (∀ k : Fin 512, iblk m c 2 t (ix2 i k) = m ((c : Thread nD τ).loc main_arg2) (ix2 (rowOf t i) k))
    ∧ (∀ k : Fin 512, iblk m c 3 t (ix2 i k) = m ((c : Thread nD τ).loc main_arg3) (ix2 (rowOf t i) k))
    ∧ (∀ k : Fin 512, iblk m c 4 t (ix2 i k) = m ((c : Thread nD τ).loc main_arg4) (ix2 (rowOf t i) k))
    ∧ (∀ k : Fin 512, iblk m c 5 t (ix2 i k) = m ((c : Thread nD τ).loc main_arg5) (ix2 (rowOf t i) k))
    ∧ (∀ k : Fin 512, iblk m c 6 t (ix2 i k) = m ((c : Thread nD τ).loc main_arg6) (ix2 (rowOf t i) k))
    ∧ (∀ k : Fin 1024, iblk m c 7 t (ix2 i k) = m ((c : Thread nD τ).loc main_arg7) (ix2 (rowOf t i) k))
    ∧ (∀ k : Fin 1024, iblk m c 8 t (ix2 i k) = m ((c : Thread nD τ).loc main_arg8) (ix2 (rowOf t i) k)) := by
  obtain ⟨-, e0, e1, e2, e3, e4, e5, e6, e7, e8⟩ := rows_at t
  exact ⟨fun k => (read_at (V m c main_arg0) _ _ _ (at_block e0.1) (at_first e0.2)).trans (congrFun (V_main_arg0 m c) _),
    fun k => (read_at (V m c main_arg1) _ _ _ (at_block e1.1) (at_first e1.2)).trans (congrFun (V_main_arg1 m c) _),
    fun k => (read_at (V m c main_arg2) _ _ _ (at_block e2.1) (at_first e2.2)).trans (congrFun (V_main_arg2 m c) _),
    fun k => (read_at (V m c main_arg3) _ _ _ (at_block e3.1) (at_first e3.2)).trans (congrFun (V_main_arg3 m c) _),
    fun k => (read_at (V m c main_arg4) _ _ _ (at_block e4.1) (at_first e4.2)).trans (congrFun (V_main_arg4 m c) _),
    fun k => (read_at (V m c main_arg5) _ _ _ (at_block e5.1) (at_first e5.2)).trans (congrFun (V_main_arg5 m c) _),
    fun k => (read_at (V m c main_arg6) _ _ _ (at_block e6.1) (at_first e6.2)).trans (congrFun (V_main_arg6 m c) _),
    fun k => (read_at (V m c main_arg7) _ _ _ (at_block e7.1) (at_first e7.2)).trans (congrFun (V_main_arg7 m c) _),
    fun k => (read_at (V m c main_arg8) _ _ _ (at_block e8.1) (at_first e8.2)).trans (congrFun (V_main_arg8 m c) _)⟩

/-- What point `t` finds of the weights. -/
theorem wholes_read (c : Dev nD) (t : Fin cfg0.N) :
    (∀ k : Fin 512, iblk m c 9 t (ix2 (0 : Fin 1) k) = m ((c : Thread nD τ).loc main_arg9) (ix1 k))
    ∧ (∀ k : Fin 512, iblk m c 10 t (ix2 (0 : Fin 1) k) = m ((c : Thread nD τ).loc main_arg10) (ix1 k))
    ∧ (∀ k : Fin 512, iblk m c 11 t (ix2 (0 : Fin 1) k) = m ((c : Thread nD τ).loc main_arg11) (ix1 k))
    ∧ (∀ (j : Fin 512) (k : Fin 512), iblk m c 12 t (ix2 j k) = (if head j = head k then (1 : EReal) else 0))
    ∧ (∀ (j : Fin 512) (k : Fin 1024), iblk m c 13 t (ix2 j k) = m ((c : Thread nD τ).loc main_arg12) (ix2 j k))
    ∧ (∀ (j : Fin 512) (k : Fin 1024), iblk m c 14 t (ix2 j k) = m ((c : Thread nD τ).loc main_arg13) (ix2 j k))
    ∧ (∀ (j : Fin 1024) (k : Fin 1024), iblk m c 15 t (ix2 j k) = m ((c : Thread nD τ).loc main_arg14) (ix2 j k)) := by
  obtain ⟨e9, e10, e11, e12, e13, e14, e15⟩ := wholes_at t
  obtain ⟨r0, r1, r2⟩ := V_rows m c
  obtain ⟨w0, w1, w2⟩ := V_mats m c
  refine ⟨fun k => ?_, fun k => ?_, fun k => ?_, fun j k => ?_, fun j k => ?_, fun j k => ?_, fun j k => ?_⟩
  · exact (read_at (V m c main_v0) _ _ _ (at_first e9.1) (at_first e9.2)).trans (by rw [r0]; exact row_apply _ k)
  · exact (read_at (V m c main_v1) _ _ _ (at_first e10.1) (at_first e10.2)).trans (by rw [r1]; exact row_apply _ k)
  · exact (read_at (V m c main_v2) _ _ _ (at_first e11.1) (at_first e11.2)).trans (by rw [r2]; exact row_apply _ k)
  · exact (read_at (V m c main_v11) _ _ _ (at_first e12.1) (at_first e12.2)).trans (by rw [V_ones]; exact ones_apply j k)
  · exact (read_at (V m c main_v12) _ _ _ (at_first e13.1) (at_first e13.2)).trans (congrFun w0 _)
  · exact (read_at (V m c main_v13) _ _ _ (at_first e14.1) (at_first e14.2)).trans (congrFun w1 _)
  · exact (read_at (V m c main_v14) _ _ _ (at_first e15.1) (at_first e15.2)).trans (congrFun w2 _)

/-- What point `t` writes back is its block of `G`. -/
theorem flushed_eq (c : Dev nD) (t : Fin cfg0.N) (_ : (cfg0.win 16).flush t = true) :
    (dats m 0 c).flushed 16 t = ((cfg0.win 16).blk t).view.read (Elt Ideal) (G m c) := by
  rw [Cert.MergeIdeal.Value.flushed16, out_eq]
  obtain ⟨⟨e0, e1, -⟩, -⟩ := rows_at t
  funext y
  have hy0 : (y 0).val < 512 := (y 0).isLt
  have hy1 : (y 1).val < 1024 := (y 1).isLt
  have hemb := read_at (G m c) (((cfg0.win 16).blk t).view.emb y) (rowOf t ⟨(y 0).val, hy0⟩) ⟨(y 1).val, hy1⟩ (at_block e0) (at_first e1)
  have hyy : (cfg0.win 16).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  obtain ⟨h0, h1, h2, h3, h4, h5, h6, h7, h8⟩ := rows_read m c t ⟨(y 0).val, hy0⟩
  obtain ⟨h9, h10, h11, h12, h13, h14, h15⟩ := wholes_read m c t
  refine Eq.trans ?_ hemb.symm
  show k0_pay1 (k0_pay2 (iblk m c 1 t) (iblk m c 12 t) (iblk m c 12 t) (iblk m c 9 t) (iblk m c 10 t)) (iblk m c 4 t)
    (k0_pay3 (iblk m c 2 t) (iblk m c 3 t) (iblk m c 11 t)) (iblk m c 12 t) (iblk m c 5 t) (iblk m c 13 t) (iblk m c 6 t)
    (iblk m c 14 t) (iblk m c 7 t) (iblk m c 8 t) (iblk m c 0 t) (iblk m c 15 t) ((cfg0.win 16).xinj (grid0.coords t) y) = _
  rw [hyy, G, refOut_apply, pay_apply _ _ _ _ _ _ _ _ _ _ _ _ _ _ _ _ h12]
  simp only [h0, h1, h2, h3, h4, h5, h6, h7, h8, h9, h10, h11, h13, h14, h15]

/-- Every row lies in some point's block. -/
theorem covered (i : S16384x1024.Idx) : ∃ t : Fin cfg0.N, (cfg0.win 16).flush t = true ∧ i ∈ ((cfg0.win 16).blk t).view.set := by
  have h0 : (i 0).val < 16384 := (i 0).isLt
  have h1 : (i 1).val < 1024 := (i 1).isLt
  have hN : (i 0).val / 512 < grid0.N := lt_of_lt_of_eq (by omega : (i 0).val / 512 < 32) N_0.symm
  obtain ⟨⟨e0, e1, hf⟩, -⟩ := rows_at ⟨(i 0).val / 512, hN⟩
  dsimp only at e0
  refine ⟨⟨(i 0).val / 512, hN⟩, hf, ?_⟩
  show i ∈ ((View.whole main_v15).slice (win0_16.rect ⟨(i 0).val / 512, hN⟩)).set
  rw [View.set_slice_whole, Rect.mem_set_unit]
  intro a
  match a with
  | ⟨0, _⟩ => show win0_16.index ⟨(i 0).val / 512, hN⟩ (0 : Fin 2) * 512 ≤ (i 0).val ∧ (i 0).val < win0_16.index ⟨(i 0).val / 512, hN⟩ (0 : Fin 2) * 512 + 512; omega
  | ⟨1, _⟩ => show win0_16.index ⟨(i 0).val / 512, hN⟩ (1 : Fin 2) * 1024 ≤ (i 1).val ∧ (i 1).val < win0_16.index ⟨(i 0).val / 512, hN⟩ (1 : Fin 2) * 1024 + 1024; omega

/-- The result array after the run. -/
theorem final (c : Dev nD) : (dats m 0 c).arrAt 16 cfg0.N = G m c :=
  (dats m 0 c).arrAt_eq_of_cover 16 _ (fun t hf => flushed_eq m c t hf) covered

/-- The merge kernel and its reference end with equal results. -/
theorem claim : Cert.algebraic_MergeIdeal_MergeReferenceIdeal := by
  intro m g m' g' _ hm
  refine ⟨fun c => G m c, ?_, ?_⟩
  · refine Idealize.ShloMosaic.θ_run_mono (Cert.MergeIdeal.Value.run_blocks (F := Ideal) m g) fun r h c => ?_
    obtain ⟨h0, h1⟩ := h c
    exact ⟨h0.trans (final m c), h1⟩
  · refine Idealize.ShloMosaic.θ_run_mono (Cert.MergeReferenceIdeal.Value.run (F := Ideal) m' g') fun r h c => ?_
    obtain ⟨h0, h1⟩ := h c
    refine ⟨h0.trans ?_, h1⟩
    obtain ⟨a0, a1, a2, a3, a4, a5, a6, a7, a8, a9, a10, a11, a12, a13, a14⟩ := hm c
    rw [a0, a1, a2, a3, a4, a5, a6, a7, a8, a9, a10, a11, a12, a13, a14]
    rfl

end Cert.Proof.Merge

end
-- ==== Proof.MixCell.lean ====
module

public import proofs.«01_k».proof.Proof.Gen.MixIdeal.Skeleton
public import proofs.«01_k».proof.Proof.Heads

@[expose] public section

noncomputable section

/-! # The combined projection, cell by cell: the kernel's body

A row is normalised over its 1024 entries and projected; queries and keys are normalised head by head, two gates go through
the logistic function, and eight lanes give the logarithms of the forget gates, which are added up along a sequence. -/

namespace Cert.Proof.Mix

open Idealize.ShloMosaic Cert.Proof.Heads

/-- A row over its root mean square, times the weights. -/
def rowH (x g : Fin 1024 → EReal) (k : Fin 1024) : EReal :=
  x k * Ideal.rsqrt (Ideal.div (∑ e, x e * x e) (Ideal.ofBits .f32 0x44800000#32) + Ideal.ofBits .f32 0x358637BD#32) * g k

/-- A normalised row times one column. -/
def proj (x g w : Fin 1024 → EReal) : EReal := ∑ k, rowH x g k * w k

/-- A lane over its head's root mean square, times the weight. -/
def normAt (p g : Fin 512 → EReal) (l : Fin 512) : EReal :=
  p l * Ideal.rsqrt (Ideal.div (∑ d, p (lane (head l) d) * p (lane (head l) d)) (Ideal.ofBits .f32 0x42800000#32)
    + Ideal.ofBits .f32 0x358637BD#32) * g l

/-- The logistic function. -/
def sigAt (z : EReal) : EReal :=
  Ideal.div 1 (1 + Ideal.exp (-z))

section kernel
open Cert.MixIdeal Cert.MixIdeal.Gen

variable (x : Vec Ideal S256x1024 .f32) (g : Vec Ideal S1x1024 .f32)

theorem pay2_apply (i : Fin 256) (k : Fin 1024) :
    k0_pay2 (F := Ideal) x g (ix2 i k) = rowH (fun e => x (ix2 i e)) (fun e => g (ix2 0 e)) k := by
  pointwise [k0_pay2, rowH]

theorem pay3_apply (w : Vec Ideal S1024x1792 .bf16) (i : Fin 256) (l : Fin 1792) :
    k0_pay3 (F := Ideal) x g w (ix2 i l) = proj (fun e => x (ix2 i e)) (fun e => g (ix2 0 e)) (fun k => w (ix2 k l)) := by
  generalize hH : k0_pay2 (F := Ideal) x g = H
  pointwise [k0_pay3, hH, proj]
  simp only [← hH, pay2_apply]

theorem pay1_apply (p : FVec Ideal S256x1792 .f32) (l : Fin 1792) :
    k0_pay1 (F := Ideal) p (ix3 0 0 l) = p (ix2 255 l) := by
  pointwise [k0_pay1]

theorem pay4_apply (w : Vec Ideal S1024x512 .bf16) (i : Fin 256) (l : Fin 512) :
    k0_pay4 (F := Ideal) x g w (ix2 i l) = proj (fun e => x (ix2 i e)) (fun e => g (ix2 0 e)) (fun k => w (ix2 k l)) := by
  generalize hH : k0_pay2 (F := Ideal) x g = H
  pointwise [k0_pay4, hH, proj]
  simp only [← hH, pay2_apply]

theorem pay7_apply (w : Vec Ideal S1024x1024 .bf16) (i : Fin 256) (l : Fin 1024) :
    k0_pay7 (F := Ideal) x g w (ix2 i l) = proj (fun e => x (ix2 i e)) (fun e => g (ix2 0 e)) (fun k => w (ix2 k l)) := by
  generalize hH : k0_pay2 (F := Ideal) x g = H
  pointwise [k0_pay7, hH, proj]
  simp only [← hH, pay2_apply]

theorem pay9_apply (z : FVec Ideal S256x1024 .f32) (i : Fin 256) (l : Fin 1024) :
    k0_pay9 (F := Ideal) z (k0_pay8 (F := Ideal)) (ix2 i l) = sigAt (z (ix2 i l)) := by
  pointwise [k0_pay9, k0_pay8, sigAt]
  rw [zero_sub]

theorem pay10_apply (w : Vec Ideal S1024x1024 .bf16) (i : Fin 256) (l : Fin 1024) :
    k0_pay10 (F := Ideal) (k0_pay2 x g) w (ix2 i l)
      = sigAt (proj (fun e => x (ix2 i e)) (fun e => g (ix2 0 e)) (fun k => w (ix2 k l))) := by
  generalize hH : k0_pay2 (F := Ideal) x g = H
  pointwise [k0_pay10, sigAt, proj]
  simp only [← hH, pay2_apply, zero_sub]

variable (bd : Vec Ideal S512x512 .bf16) (hbd : ∀ j l, bd (ix2 j l) = if head j = head l then (1 : EReal) else 0)
include hbd

theorem pay11_apply (p : FVec Ideal S256x512 .f32) (w : Vec Ideal S1x512 .f32) (i : Fin 256) (l : Fin 512) :
    k0_pay11 (F := Ideal) p bd w (ix2 i l) = normAt (fun j => p (ix2 i j)) (fun j => w (ix2 0 j)) l := by
  pointwise [k0_pay11, normAt]
  simp only [hbd, sum_ones, mul_64th]

theorem pay13_apply (p : FVec Ideal S256x512 .f32) (w : Vec Ideal S1x512 .f32) (i : Fin 256) (l : Fin 512) :
    k0_pay13 (F := Ideal) p (k0_pay12 p) bd w (ix2 i l) = normAt (fun j => p (ix2 i j)) (fun j => w (ix2 0 j)) l := by
  pointwise [k0_pay13, k0_pay12, normAt]
  simp only [hbd, sum_ones, mul_64th]

omit hbd

theorem pay14_apply (p : FVec Ideal S256x512 .f32) (i : Fin 256) (l : Fin 512) :
    k0_pay14 (F := Ideal) p (ix2 i l) = p (ix2 i l) * Ideal.ofBits .f32 0x3E000000#32 := by
  pointwise [k0_pay14]

theorem pay16_apply (j : Fin 128) : k0_pay16 (F := Ideal) (ix2 0 j) = 0 := by
  pointwise [k0_pay16]

theorem pay18_apply (a : FVec Ideal S256x128 .f32) (r s : IVec S256x256 32) (c : Vec Ideal S1x128 .f32) (j : Fin 128) :
    k0_pay18 (F := Ideal) a r s c (ix2 0 j) = k0_pay17 a r s c (ix2 255 j) := by
  generalize hH : k0_pay17 (F := Ideal) a r s c = H
  pointwise [k0_pay18, hH]

theorem pay19_apply (a : FVec Ideal S256x128 .f32) (i : Fin 256) (h : Fin 8) :
    k0_pay19 (F := Ideal) a (ix2 i h) = a (ix2 i ⟨h.val, by omega⟩) := by
  pointwise [k0_pay19]

theorem pay20_apply (a : FVec Ideal S256x128 .f32) (i : Fin 256) (h : Fin 8) :
    k0_pay20 (F := Ideal) a (ix2 i h) = a (ix2 i ⟨h.val, by omega⟩) := by
  pointwise [k0_pay20]

end kernel

end Cert.Proof.Mix

end
-- ==== Proof.Cell.lean ====
module

public import proofs.«01_k».proof.Proof.Gen.KernelIdeal.Skeleton

@[expose] public section

noncomputable section

/-! # One chunk of one pair of heads, in the kernel's own operations

The kernel's body does the same arithmetic sixteen times, once for each batch row `i` and pair of heads `j`. This module
writes that arithmetic down once, operation by operation, over what the body loads for the pair: 64 rows by 128 lanes of
each of `r, k, v, kap, b, lw`, and the pair's 128 × 128 block-diagonal state. -/

namespace Cert.Proof.Rscan

open Idealize.ShloMosaic Idealize.SL.Sem
open Cert.KernelIdeal Cert.KernelIdeal.Gen

variable {F : FTy → Type} [FloatOps F]

/-- The lanes of the pair's first head. -/
def firstHead : IVec S64x128 1 := cmpi .slt (iota .tc S64x128 32 [1] iota_S64x128_d1_w32) (broadcast S64x128 64#32)

/-- The row number of each cell of a 128 × 128 square. -/
def rowNo : IVec S128x128 32 := iota .tc S128x128 32 [0] iota_S128x128_d0_w32

/-- The column number of each cell of a 128 × 128 square. -/
def colNo : IVec S128x128 32 := iota .tc S128x128 32 [1] iota_S128x128_d1_w32

/-- The cells of the two diagonal 64 × 64 blocks. -/
def sameHead : IVec S128x128 1 :=
  cmpi .eq (shrui rowNo (broadcast S128x128 6#32)) (shrui colNo (broadcast S128x128 6#32))

/-- The cells of the diagonal blocks strictly below the diagonal. -/
def strictMask : IVec S128x128 1 := andi sameHead (cmpi .slt colNo rowNo)

/-- The cells of the diagonal blocks on or below the diagonal. -/
def inclMask : IVec S128x128 1 := andi sameHead (cmpi .sle colNo rowNo)

/-- The float zero of the kernel's text. -/
def zeroF : F .f32 := Scalar.ofBits .f32 0x00000000#32

/-- The float one of the kernel's text. -/
def oneF : F .f32 := Scalar.ofBits .f32 0x3F800000#32

/-- A load's 64 × 128 matrix. -/
def flat (x : Vec F S1x64x128 .f32) : FVec F S64x128 .f32 := shapeCast S64x128 x shapeCasts_S1x64x128_S64x128

/-- The 64 × 64 lower triangle of ones, in the narrow format. -/
def triangle : FVec F S64x64 .bf16 :=
  truncf .bf16 (select (cmpi .sle (iota .tc S64x64 32 [1] iota_S64x64_d1_w32) (iota .tc S64x64 32 [0] iota_S64x64_d0_w32))
    (broadcast S64x64 (oneF (F := F))) (broadcast S64x64 (zeroF (F := F)))) bitsLt_bf16_f32

/-- The product of the triangle with a narrow matrix. -/
def triMul (x : FVec F S64x128 .bf16) : FVec F S64x128 .f32 :=
  matmul dot_S64x64_S64x128_S64x128_1_0_0_1_n_n none triangle x (constant S64x128 .f32 0x00000000#32)

/-- What rounding to the narrow format loses of a 64 × 128 matrix. -/
def lost64 (x : FVec F S64x128 .f32) : FVec F S64x128 .f32 :=
  subf x (extf .f32 (truncf .bf16 x bitsLt_bf16_f32) bitsLt_bf16_f32)

/-- What rounding to the narrow format loses of a 128 × 128 matrix. -/
def lost128 (x : FVec F S128x128 .f32) : FVec F S128x128 .f32 :=
  subf x (extf .f32 (truncf .bf16 x bitsLt_bf16_f32) bitsLt_bf16_f32)

/-- The running sums of the log decays within the chunk. -/
def cum (lw : Vec F S1x64x128 .f32) : FVec F S64x128 .f32 :=
  addf (addf (triMul (truncf .bf16 (lost64 (lost64 (flat lw))) bitsLt_bf16_f32))
      (triMul (truncf .bf16 (lost64 (flat lw)) bitsLt_bf16_f32)))
    (triMul (truncf .bf16 (flat lw) bitsLt_bf16_f32))

/-- The last running sum. -/
def cumEnd (lw : Vec F S1x64x128 .f32) : FVec F S1x128 .f32 :=
  extractStridedSlice S1x128 ![63, 0] (cum lw) slices_S64x128_o63_0_S1x128

/-- `exp (-cum)`. -/
def eNeg (lw : Vec F S1x64x128 .f32) : FVec F S64x128 .f32 := exp (subf (broadcast S64x128 (zeroF (F := F))) (cum lw))

/-- `exp (cum_end - cum)`. -/
def eRem (lw : Vec F S1x64x128 .f32) : FVec F S64x128 .f32 :=
  exp (subf (broadcastTo S64x128 (cumEnd lw) broadcasts_S1x128_S64x128) (cum lw))

/-- The two heads of a pair one above the other, each with zeros in the other head's lanes. -/
def stack (x : FVec F S64x128 .f32) : FVec F S128x128 .f32 :=
  concatenate S128x128 0 [⟨S64x128, select firstHead x (broadcast S64x128 (zeroF (F := F)))⟩,
    ⟨S64x128, select firstHead (broadcast S64x128 (zeroF (F := F))) x⟩] concatenates_S64x128_S64x128_S128x128_d0

/-- `-kap · exp (cum - lw)`, stacked. -/
def aT (kap lw : Vec F S1x64x128 .f32) : FVec F S128x128 .f32 :=
  stack (mulf (subf (broadcast S64x128 (zeroF (F := F))) (flat kap)) (exp (subf (cum lw) (flat lw))))

/-- `r · exp cum`, stacked. -/
def rT (r lw : Vec F S1x64x128 .f32) : FVec F S128x128 .f32 := stack (mulf (flat r) (exp (cum lw)))

/-- `x · exp (-cum)`, stacked. -/
def inT (x lw : Vec F S1x64x128 .f32) : FVec F S128x128 .f32 := stack (mulf (flat x) (eNeg lw))

/-- `x · exp (cum_end - cum)`, stacked. -/
def inP (x lw : Vec F S1x64x128 .f32) : FVec F S128x128 .f32 := stack (mulf (flat x) (eRem lw))

/-- `b` above `k`. -/
def bkT (b k lw : Vec F S1x64x128 .f32) : FVec F S256x128 .f32 :=
  concatenate S256x128 0 [⟨S128x128, inT b lw⟩, ⟨S128x128, inT k lw⟩] concatenates_S128x128_S128x128_S256x128_d0

/-- Every row of `x` against every row of `y`. -/
def scores (x : FVec F S128x128 .f32) (y : FVec F S256x128 .f32) : FVec F S128x256 .f32 :=
  matmul dot_S128x128_S256x128_S128x256_1_1_0_0_n_n none (truncf .bf16 x bitsLt_bf16_f32) (truncf .bf16 y bitsLt_bf16_f32)
    (constant S128x256 .f32 0x00000000#32)

/-- The left half of a 128 × 256 matrix. -/
def leftHalf (x : FVec F S128x256 .f32) : FVec F S128x128 .f32 :=
  extractStridedSlice S128x128 ![0, 0] x slices_S128x256_o0_0_S128x128

/-- The right half of a 128 × 256 matrix. -/
def rightHalf (x : FVec F S128x256 .f32) : FVec F S128x128 .f32 :=
  extractStridedSlice S128x128 ![0, 128] x slices_S128x256_o0_128_S128x128

/-- The upper half of a 256 × 128 matrix. -/
def upperHalf (x : FVec F S256x128 .f32) : FVec F S128x128 .f32 :=
  extractStridedSlice S128x128 ![0, 0] x slices_S256x128_o0_0_S128x128

/-- The lower half of a 256 × 128 matrix. -/
def lowerHalf (x : FVec F S256x128 .f32) : FVec F S128x128 .f32 :=
  extractStridedSlice S128x128 ![128, 0] x slices_S256x128_o128_0_S128x128

/-- A square kept where the mask holds, zero elsewhere. -/
def keep (k : IVec S128x128 1) (x : FVec F S128x128 .f32) : FVec F S128x128 .f32 :=
  select k x (broadcast S128x128 (zeroF (F := F)))

/-- The product of two squares. -/
def mulSq (x y : FVec F S128x128 .f32) : FVec F S128x128 .f32 :=
  matmul dot_S128x128_S128x128_S128x128_1_0_0_1_n_n none (truncf .bf16 x bitsLt_bf16_f32) (truncf .bf16 y bitsLt_bf16_f32)
    (constant S128x128 .f32 0x00000000#32)

/-- Two squares one above the other, times a square. -/
def mulBoth (x t y : FVec F S128x128 .f32) : FVec F S256x128 .f32 :=
  matmul dot_S256x128_S128x128_S256x128_1_0_0_1_n_n none
    (truncf .bf16 (concatenate S256x128 0 [⟨S128x128, x⟩, ⟨S128x128, t⟩] concatenates_S128x128_S128x128_S256x128_d0) bitsLt_bf16_f32)
    (truncf .bf16 y bitsLt_bf16_f32) (constant S256x128 .f32 0x00000000#32)

/-- A square times a 128 × 256 matrix. -/
def mulWide (x : FVec F S128x128 .f32) (y : FVec F S128x256 .f32) : FVec F S128x256 .f32 :=
  matmul dot_S128x128_S128x256_S128x256_1_0_0_1_n_n none (truncf .bf16 x bitsLt_bf16_f32) (truncf .bf16 y bitsLt_bf16_f32)
    (constant S128x256 .f32 0x00000000#32)

/-- The inverse of `1 - L`, for `L` nilpotent, by five squarings. -/
def invSq (L : FVec F S128x128 .f32) : FVec F S128x128 .f32 :=
  let t0 := addf (select (cmpi .eq rowNo colNo) (broadcast S128x128 (oneF (F := F))) (broadcast S128x128 (zeroF (F := F)))) L
  let l1 := mulSq L L
  let b1 := mulBoth l1 t0 l1
  let l2 := upperHalf b1
  let t1 := addf t0 (lowerHalf b1)
  let b2 := mulBoth l2 t1 l2
  let l3 := upperHalf b2
  let t2 := addf t1 (lowerHalf b2)
  let b3 := mulBoth l3 t2 l3
  let l4 := upperHalf b3
  let t3 := addf t2 (lowerHalf b3)
  let b4 := mulBoth l4 t3 l4
  let l5 := upperHalf b4
  let t4 := addf t3 (lowerHalf b4)
  addf t4 (mulSq t4 l5)

/-- Two squares side by side. -/
def side (x y : FVec F S128x128 .f32) : FVec F S128x256 .f32 :=
  concatenate S128x256 1 [⟨S128x128, x⟩, ⟨S128x128, y⟩] concatenates_S128x128_S128x128_S128x256_d1

/-- The chunk's `[a_p, u_0]`. -/
def auOf (k v kap b lw : Vec F S1x64x128 .f32) : FVec F S128x256 .f32 :=
  mulWide (invSq (keep strictMask (leftHalf (scores (aT kap lw) (bkT b k lw)))))
    (side (aT kap lw) (mulSq (keep strictMask (rightHalf (scores (aT kap lw) (bkT b k lw)))) (stack (flat v))))

/-- The read-out's correction `A_rb · [a_p, u_0]`. -/
def ryOf (r k v kap b lw : Vec F S1x64x128 .f32) : FVec F S128x256 .f32 :=
  mulWide (keep inclMask (leftHalf (scores (rT r lw) (bkT b k lw)))) (auOf k v kap b lw)

/-- The chunk's results before the two heads are added: `r_p · Sᵀ + y_0`. -/
def yStack (r k v kap b lw : Vec F S1x64x128 .f32) (s : Vec F S1x128x128 .f32) : FVec F S128x128 .f32 :=
  addf
    (matmul dot_S128x128_S128x128_S128x128_1_1_0_0_n_n none
      (truncf .bf16 (addf (rT r lw) (leftHalf (ryOf r k v kap b lw))) bitsLt_bf16_f32)
      (truncf .bf16 (shapeCast S128x128 s shapeCasts_S1x128x128_S128x128) bitsLt_bf16_f32) (constant S128x128 .f32 0x00000000#32))
    (addf (mulSq (keep inclMask (rightHalf (scores (rT r lw) (bkT b k lw)))) (stack (flat v)))
      (rightHalf (ryOf r k v kap b lw)))

/-- What the body stores of the results for the pair. -/
def cellY (r k v kap b lw : Vec F S1x64x128 .f32) (s : Vec F S1x128x128 .f32) : FVec F S1x64x128 .f32 :=
  shapeCast S1x64x128
    (addf (extractStridedSlice S64x128 ![0, 0] (yStack r k v kap b lw s) slices_S128x128_o0_0_S64x128)
      (extractStridedSlice S64x128 ![64, 0] (yStack r k v kap b lw s) slices_S128x128_o64_0_S64x128))
    shapeCasts_S64x128_S1x64x128

/-- `diag (exp cum_end) + a_pᵀ · b_p`. -/
def mC (k v kap b lw : Vec F S1x64x128 .f32) : FVec F S128x128 .f32 :=
  addf
    (select (cmpi .eq rowNo colNo)
      (broadcastTo S128x128 (shapeCast S1x128 (exp (cumEnd lw)) shapeCasts_S1x128_S1x128) broadcasts_S1x128_S128x128)
      (broadcast S128x128 (zeroF (F := F))))
    (matmul dot_S128x128_S128x128_S128x128_0_0_1_1_n_n none (truncf .bf16 (leftHalf (auOf k v kap b lw)) bitsLt_bf16_f32)
      (truncf .bf16 (inP b lw) bitsLt_bf16_f32) (constant S128x128 .f32 0x00000000#32))

/-- `xᵀ · y` in two pieces of each. -/
def mulTn2 (x y : FVec F S128x128 .f32) : FVec F S128x128 .f32 :=
  let z := matmul dot_S128x256_S128x128_S256x128_0_0_1_1_n_n none
    (concatenate S128x256 1 [⟨S128x128, truncf .bf16 x bitsLt_bf16_f32⟩, ⟨S128x128, truncf .bf16 (lost128 x) bitsLt_bf16_f32⟩]
      concatenates_S128x128_S128x128_S128x256_d1)
    (truncf .bf16 y bitsLt_bf16_f32) (constant S256x128 .f32 0x00000000#32)
  addf (addf (upperHalf z) (lowerHalf z))
    (matmul dot_S128x128_S128x128_S128x128_0_0_1_1_n_n none (truncf .bf16 x bitsLt_bf16_f32)
      (truncf .bf16 (lost128 y) bitsLt_bf16_f32) (constant S128x128 .f32 0x00000000#32))

/-- `x · y` in two pieces of each. -/
def mulNn2 (x y : FVec F S128x128 .f32) : FVec F S128x128 .f32 :=
  let z := matmul dot_S256x128_S128x128_S256x128_1_0_0_1_n_n none
    (concatenate S256x128 0 [⟨S128x128, truncf .bf16 x bitsLt_bf16_f32⟩, ⟨S128x128, truncf .bf16 (lost128 x) bitsLt_bf16_f32⟩]
      concatenates_S128x128_S128x128_S256x128_d0)
    (truncf .bf16 y bitsLt_bf16_f32) (constant S256x128 .f32 0x00000000#32)
  addf (addf (upperHalf z) (lowerHalf z))
    (matmul dot_S128x128_S128x128_S128x128_1_0_0_1_n_n none (truncf .bf16 x bitsLt_bf16_f32)
      (truncf .bf16 (lost128 y) bitsLt_bf16_f32) (constant S128x128 .f32 0x00000000#32))

/-- The pair's state after the chunk: `S · m_c + n_c`. -/
def sOut (k v kap b lw : Vec F S1x64x128 .f32) (s : Vec F S1x128x128 .f32) : FVec F S128x128 .f32 :=
  addf (mulNn2 (shapeCast S128x128 s shapeCasts_S1x128x128_S128x128) (mC k v kap b lw))
    (addf (mulTn2 (rightHalf (auOf k v kap b lw)) (inP b lw)) (mulTn2 (stack (flat v)) (inP k lw)))

/-- What the body stores of the state for the pair. -/
def cellS (k v kap b lw : Vec F S1x64x128 .f32) (s : Vec F S1x128x128 .f32) : FVec F S1x128x128 .f32 :=
  shapeCast S1x128x128 (sOut k v kap b lw s) shapeCasts_S128x128_S1x128x128

/-- The first head's state. -/
def cellTop (k v kap b lw : Vec F S1x64x128 .f32) (s : Vec F S1x128x128 .f32) : FVec F S1x1x64x64 .f32 :=
  shapeCast S1x1x64x64 (extractStridedSlice S64x64 ![0, 0] (sOut k v kap b lw s) slices_S128x128_o0_0_S64x64)
    shapeCasts_S64x64_S1x1x64x64

/-- The second head's state. -/
def cellBot (k v kap b lw : Vec F S1x64x128 .f32) (s : Vec F S1x128x128 .f32) : FVec F S1x1x64x64 .f32 :=
  shapeCast S1x1x64x64 (extractStridedSlice S64x64 ![64, 64] (sOut k v kap b lw s) slices_S128x128_o64_64_S64x64)
    shapeCasts_S64x64_S1x1x64x64

end Cert.Proof.Rscan
-- ==== Proof.Chunk.lean ====
module

public import Mathlib.LinearAlgebra.Matrix.NonsingularInverse
public import Mathlib.Analysis.SpecialFunctions.Exp
public import Mathlib.Tactic.NoncommRing

@[expose] public section

noncomputable section

/-! # One chunk of the recurrence, over the reals

For one head the recurrence takes, at each step `t`, the state `S` to
`S · diag (exp lw_t) - (S · kap_t) ⊗ b_t + v_t ⊗ k_t` and reads out `S · r_t` of the new state. The kernel does 64 steps
at once with matrix products and one triangular inverse. This module proves, over the reals, that the two agree. -/

namespace Cert.Proof.Rscan

open Matrix

/-- 64 × 64 real matrices. -/
abbrev M64 : Type := Matrix (Fin 64) (Fin 64) ℝ

/-- One step of the recurrence, from the step's rows. -/
def stepR (k v kap b lw : Fin 64 → ℝ) (S : M64) : M64 := fun i l =>
  S i l * Real.exp (lw l) + (∑ j, S i j * -kap j) * b l + v i * k l

/-- What a step reads out of its state. -/
def readR (r : Fin 64 → ℝ) (S : M64) : Fin 64 → ℝ := fun i => ∑ l, S i l * r l

/-- The running sums of the log decays. -/
def cumR (lw : M64) : M64 := fun t d => ∑ s : Fin 64, if s ≤ t then lw s d else 0

/-- The entries strictly below the diagonal. -/
def strictR (x : M64) : M64 := fun i j => if j < i then x i j else 0

/-- The entries on and below the diagonal. -/
def inclR (x : M64) : M64 := fun i j => if j ≤ i then x i j else 0

/-- The product of `1 + L^(2^i)` for six powers, as the kernel forms it. -/
def invR (L : M64) : M64 :=
  let l1 := L * L
  let t0 := 1 + L
  let l2 := l1 * l1
  let t1 := t0 + t0 * l1
  let l3 := l2 * l2
  let t2 := t1 + t1 * l2
  let l4 := l3 * l3
  let t3 := t2 + t2 * l3
  let l5 := l4 * l4
  let t4 := t3 + t3 * l4
  t4 + t4 * l5

/-- `-kap · exp (cum - lw)`. -/
def aR (kap lw : M64) : M64 := fun t d => -kap t d * Real.exp (cumR lw t d - lw t d)

/-- `r · exp cum`. -/
def rR (r lw : M64) : M64 := fun t d => r t d * Real.exp (cumR lw t d)

/-- `x · exp (-cum)`. -/
def inR (x lw : M64) : M64 := fun t d => x t d * Real.exp (-cumR lw t d)

/-- `x · exp (cum_end - cum)`. -/
def endR (x lw : M64) : M64 := fun t d => x t d * Real.exp (cumR lw 63 d - cumR lw t d)

/-- The inverse the chunk multiplies by. -/
def tR (kap b lw : M64) : M64 := invR (strictR (aR kap lw * (inR b lw)ᵀ))

/-- `a_p`. -/
def apR (kap b lw : M64) : M64 := tR kap b lw * aR kap lw

/-- `u_0`. -/
def u0R (k v kap b lw : M64) : M64 := tR kap b lw * (strictR (aR kap lw * (inR k lw)ᵀ) * v)

/-- The chunk's results. -/
def chunkY (r k v kap b lw S : M64) : M64 :=
  (rR r lw + inclR (rR r lw * (inR b lw)ᵀ) * apR kap b lw) * Sᵀ
    + (inclR (rR r lw * (inR k lw)ᵀ) * v + inclR (rR r lw * (inR b lw)ᵀ) * u0R k v kap b lw)

/-- The state after the chunk. -/
def chunkS (k v kap b lw S : M64) : M64 :=
  S * (Matrix.diagonal (fun d => Real.exp (cumR lw 63 d)) + (apR kap b lw)ᵀ * endR b lw)
    + ((u0R k v kap b lw)ᵀ * endR b lw + vᵀ * endR k lw)

/-- A power of a strictly lower triangular matrix vanishes above its own subdiagonal. -/
theorem strict_pow (x : M64) (m : ℕ) : ∀ i j : Fin 64, i.val < j.val + m → (strictR x ^ m) i j = 0 := by
  induction m with
  | zero => intro i j h; rw [pow_zero, Matrix.one_apply_ne]; intro e; subst e; omega
  | succ m ih =>
    intro i j h
    rw [pow_succ, Matrix.mul_apply]
    refine Finset.sum_eq_zero fun q _ => ?_
    by_cases hq : i.val < q.val + m
    · rw [ih i q hq, zero_mul]
    · have : ¬ j < q := by rw [Fin.lt_def]; omega
      simp [strictR, this]

/-- `invR` inverts `1 - L` for strictly lower triangular `L`. -/
theorem invR_mul (x : M64) : invR (strictR x) * (1 - strictR x) = 1 := by
  rw [mul_eq_one_comm]
  have h64 : strictR x ^ 64 = 0 := by
    ext i j; exact strict_pow x 64 i j (by omega)
  have key : (1 - strictR x) * invR (strictR x) = 1 - strictR x ^ 64 := by
    unfold invR
    generalize strictR x = L
    dsimp only
    noncomm_ring
  rw [key, h64, sub_zero]

section seq

variable (r k v kap b lw : M64) (s : ℕ → M64)

/-- What the steps subtract: `u_t = -S_{t-1} · kap_t`. -/
def seqU (kap : M64) (s : ℕ → M64) : M64 := fun t i => ∑ l, s t.val i l * -kap t l

/-- The state before each step, unrolled to the chunk's first state. -/
theorem seq_closed (hs : ∀ t : Fin 64, s (t.val + 1) = stepR (k t) (v t) (kap t) (b t) (lw t) (s t.val)) :
    ∀ (n : ℕ), n ≤ 64 → ∀ i l : Fin 64,
      s n i l = (s 0 i l + ∑ j : Fin 64, if j.val < n then seqU kap s j i * inR b lw j l + v j i * inR k lw j l else 0)
        * Real.exp (∑ j : Fin 64, if j.val < n then lw j l else 0) := by
  intro n
  induction n with
  | zero => intro _ i l; simp
  | succ n ih =>
    intro hn i l
    have e := hs ⟨n, by omega⟩
    dsimp only at e
    rw [e]
    unfold stepR
    have split : ∀ f : Fin 64 → ℝ, (∑ j : Fin 64, if j.val < n + 1 then f j else 0)
        = (∑ j : Fin 64, if j.val < n then f j else 0) + f ⟨n, by omega⟩ := by
      intro f
      have hpt : ∀ j : Fin 64, (if j.val < n + 1 then f j else 0)
          = (if j.val < n then f j else 0) + (if j = ⟨n, by omega⟩ then f j else 0) := by
        intro j
        by_cases h1 : j.val < n
        · have : j ≠ ⟨n, by omega⟩ := fun h => by rw [h] at h1; simp at h1
          simp [h1, this, Nat.lt_succ_of_lt h1]
        · by_cases h2 : j.val = n
          · have : j = ⟨n, by omega⟩ := Fin.ext h2
            rw [this]; simp
          · have : j ≠ ⟨n, by omega⟩ := fun h => h2 (by rw [h])
            have h3 : ¬ j.val < n + 1 := by omega
            simp [h1, this, h3]
      rw [Finset.sum_congr rfl fun j _ => hpt j, Finset.sum_add_distrib, Finset.sum_ite_eq']
      simp
    have hcum : cumR lw ⟨n, by omega⟩ l = (∑ j : Fin 64, if j.val < n + 1 then lw j l else 0) := by
      unfold cumR
      refine Finset.sum_congr rfl fun j _ => ?_
      have : (j ≤ (⟨n, by omega⟩ : Fin 64)) ↔ j.val < n + 1 := by rw [Fin.le_def]; exact Nat.lt_succ_iff.symm
      simp only [this]
    have hin : ∀ x : M64, inR x lw ⟨n, by omega⟩ l
        * Real.exp (∑ j : Fin 64, if j.val < n + 1 then lw j l else 0) = x ⟨n, by omega⟩ l := by
      intro x
      unfold inR
      rw [hcum, mul_assoc, ← Real.exp_add, neg_add_cancel, Real.exp_zero, mul_one]
    rw [split fun j => seqU kap s j i * inR b lw j l + v j i * inR k lw j l]
    rw [show ∀ A B C E : ℝ, (A + (B + C)) * E = (A + B) * E + C * E from fun A B C E => by ring]
    rw [show ∀ p q x y E : ℝ, (p * x + q * y) * E = p * (x * E) + q * (y * E) from fun p q x y E => by ring]
    rw [hin b, hin k, split fun j => lw j l, Real.exp_add, ← mul_assoc, ← ih (by omega) i l]
    unfold seqU
    ring

/-- A step's row of a matrix product with a transposed factor. -/
theorem mul_transpose_row (x y : M64) (i j : Fin 64) : (x * yᵀ) i j = ∑ l, x i l * y j l := by
  rw [Matrix.mul_apply]; rfl

/-- A row read against the unrolled state: the scores of the row with every earlier step's `b` and `k`. -/
theorem row_against (n : ℕ) (f : Fin 64 → ℝ) (i : Fin 64) (S U V B K : M64) :
    (∑ l, (S i l + ∑ j : Fin 64, if j.val < n then U j i * B j l + V j i * K j l else 0) * f l)
      = (∑ l, f l * S i l) + ((∑ j, (if j.val < n then ∑ l, f l * B j l else 0) * U j i)
        + ∑ j, (if j.val < n then ∑ l, f l * K j l else 0) * V j i) := by
  have h1 : ∀ l, (S i l + ∑ j : Fin 64, if j.val < n then U j i * B j l + V j i * K j l else 0) * f l
      = f l * S i l + ∑ j : Fin 64, ((if j.val < n then f l * B j l else 0) * U j i
          + (if j.val < n then f l * K j l else 0) * V j i) := by
    intro l
    rw [add_mul, Finset.sum_mul, mul_comm (S i l)]
    congr 1
    refine Finset.sum_congr rfl fun j _ => ?_
    split <;> ring
  rw [Finset.sum_congr rfl fun l _ => h1 l, Finset.sum_add_distrib]
  congr 1
  rw [Finset.sum_comm, ← Finset.sum_add_distrib]
  refine Finset.sum_congr rfl fun j _ => ?_
  rw [Finset.sum_add_distrib, ← Finset.sum_mul, ← Finset.sum_mul]
  by_cases h : j.val < n <;> simp [h]

/-- The state before a step against the step's row, through the row scaled by the decays so far. -/
theorem state_against (hs : ∀ t : Fin 64, s (t.val + 1) = stepR (k t) (v t) (kap t) (b t) (lw t) (s t.val))
    (n : ℕ) (hn : n ≤ 64) (i : Fin 64) (g : Fin 64 → ℝ) :
    (∑ l, s n i l * g l)
      = (∑ l, (Real.exp (∑ j : Fin 64, if j.val < n then lw j l else 0) * g l) * s 0 i l)
        + ((∑ j, (if j.val < n then ∑ l, (Real.exp (∑ j : Fin 64, if j.val < n then lw j l else 0) * g l) * inR b lw j l else 0)
            * seqU kap s j i)
          + ∑ j, (if j.val < n then ∑ l, (Real.exp (∑ j : Fin 64, if j.val < n then lw j l else 0) * g l) * inR k lw j l else 0)
            * v j i) := by
  rw [← row_against n (fun l => Real.exp (∑ j : Fin 64, if j.val < n then lw j l else 0) * g l) i (s 0) (seqU kap s) v]
  refine Finset.sum_congr rfl fun l _ => ?_
  rw [seq_closed k v kap b lw s hs n hn i l, mul_assoc]

/-- What the steps subtract solves the chunk's triangular system. -/
theorem seqU_eq (hs : ∀ t : Fin 64, s (t.val + 1) = stepR (k t) (v t) (kap t) (b t) (lw t) (s t.val)) :
    seqU kap s = aR kap lw * (s 0)ᵀ
      + (strictR (aR kap lw * (inR b lw)ᵀ) * seqU kap s + strictR (aR kap lw * (inR k lw)ᵀ) * v) := by
  ext t i
  have ha : ∀ l, Real.exp (∑ j : Fin 64, if j.val < t.val then lw j l else 0) * -kap t l = aR kap lw t l := by
    intro l
    unfold aR cumR
    have : (∑ j : Fin 64, if j ≤ t then lw j l else 0) - lw t l = ∑ j : Fin 64, if j.val < t.val then lw j l else 0 := by
      have hpt : ∀ j : Fin 64, (if j ≤ t then lw j l else 0)
          = (if j.val < t.val then lw j l else 0) + (if j = t then lw j l else 0) := by
        intro j
        rcases lt_trichotomy j t with h | h | h
        · simp [h, h.le, h.ne]
        · subst h; simp
        · have h3 : ¬ j.val < t.val := by rw [Fin.lt_def] at h; omega
          simp [h3, h.ne', not_le.mpr h]
      rw [Finset.sum_congr rfl fun j _ => hpt j, Finset.sum_add_distrib, Finset.sum_ite_eq']
      simp
    rw [this, mul_comm]
  have e := state_against k v kap b lw s hs t.val t.isLt.le i (fun l => -kap t l)
  simp only [ha] at e
  show (∑ l, s t.val i l * -kap t l) = _
  rw [e]
  simp only [Matrix.add_apply, Matrix.mul_apply (M := strictR _), mul_transpose_row, strictR, Fin.lt_def]

/-- So it is the chunk's own `a_p · Sᵀ + u_0`. -/
theorem seqU_solved (hs : ∀ t : Fin 64, s (t.val + 1) = stepR (k t) (v t) (kap t) (b t) (lw t) (s t.val)) :
    seqU kap s = apR kap b lw * (s 0)ᵀ + u0R k v kap b lw := by
  have e := seqU_eq k v kap b lw s hs
  have h : (1 - strictR (aR kap lw * (inR b lw)ᵀ)) * seqU kap s
      = aR kap lw * (s 0)ᵀ + strictR (aR kap lw * (inR k lw)ᵀ) * v := by
    rw [sub_mul, one_mul, sub_eq_iff_eq_add]
    exact e.trans (by abel)
  have h2 := congrArg (fun x => tR kap b lw * x) h
  rw [← Matrix.mul_assoc, show tR kap b lw * (1 - strictR (aR kap lw * (inR b lw)ᵀ)) = 1 from invR_mul _, Matrix.one_mul] at h2
  rw [h2, Matrix.mul_add, ← Matrix.mul_assoc]
  rfl

/-- The chunk's results are the steps' read-outs. -/
theorem chunkY_eq (hs : ∀ t : Fin 64, s (t.val + 1) = stepR (k t) (v t) (kap t) (b t) (lw t) (s t.val)) (t i : Fin 64) :
    chunkY r k v kap b lw (s 0) t i = readR (r t) (s (t.val + 1)) i := by
  have hr : ∀ l, Real.exp (∑ j : Fin 64, if j.val < t.val + 1 then lw j l else 0) * r t l = rR r lw t l := by
    intro l
    unfold rR cumR
    have : ∀ j : Fin 64, (j ≤ t) ↔ j.val < t.val + 1 := fun j => by rw [Fin.le_def]; exact Nat.lt_succ_iff.symm
    simp only [this]
    rw [mul_comm]
  have e := state_against k v kap b lw s hs (t.val + 1) t.isLt i (fun l => r t l)
  simp only [hr] at e
  show _ = ∑ l, s (t.val + 1) i l * r t l
  rw [e]
  have hY : chunkY r k v kap b lw (s 0) = rR r lw * (s 0)ᵀ
      + (inclR (rR r lw * (inR b lw)ᵀ) * seqU kap s + inclR (rR r lw * (inR k lw)ᵀ) * v) := by
    rw [seqU_solved k v kap b lw s hs]
    unfold chunkY
    rw [Matrix.add_mul, Matrix.mul_add, Matrix.mul_assoc]
    abel
  rw [hY]
  have hle : ∀ j : Fin 64, (j ≤ t) ↔ j.val < t.val + 1 := fun j => by rw [Fin.le_def]; exact Nat.lt_succ_iff.symm
  simp only [Matrix.add_apply, Matrix.mul_apply (M := inclR _), mul_transpose_row, inclR, hle]

/-- The chunk's state is the state after its 64 steps. -/
theorem chunkS_eq (hs : ∀ t : Fin 64, s (t.val + 1) = stepR (k t) (v t) (kap t) (b t) (lw t) (s t.val)) :
    chunkS k v kap b lw (s 0) = s 64 := by
  have hS : chunkS k v kap b lw (s 0) = s 0 * Matrix.diagonal (fun d => Real.exp (cumR lw 63 d))
      + ((seqU kap s)ᵀ * endR b lw + vᵀ * endR k lw) := by
    rw [seqU_solved k v kap b lw s hs]
    unfold chunkS
    rw [Matrix.transpose_add, Matrix.transpose_mul, Matrix.transpose_transpose, Matrix.add_mul, Matrix.mul_add, Matrix.mul_assoc]
    abel
  rw [hS]
  ext i l
  rw [seq_closed k v kap b lw s hs 64 le_rfl i l]
  have hend : (∑ j : Fin 64, if j.val < 64 then lw j l else 0) = cumR lw 63 l := by
    unfold cumR
    refine Finset.sum_congr rfl fun j _ => ?_
    have h1 : j ≤ (63 : Fin 64) := by rw [Fin.le_def]; have := j.isLt; show j.val ≤ 63; omega
    rw [if_pos j.isLt, if_pos h1]
  have hin : ∀ (x : M64) (j : Fin 64), inR x lw j l * Real.exp (cumR lw 63 l) = endR x lw j l := by
    intro x j
    unfold inR endR
    rw [mul_assoc, ← Real.exp_add, neg_add_eq_sub]
  rw [hend, add_mul, Finset.sum_mul]
  simp only [Matrix.add_apply, Matrix.mul_diagonal, Matrix.mul_apply (M := (seqU kap s)ᵀ), Matrix.mul_apply (M := vᵀ), Matrix.transpose_apply]
  rw [← Finset.sum_add_distrib]
  congr 1
  refine Finset.sum_congr rfl fun j _ => ?_
  rw [if_pos j.isLt, ← hin b, ← hin k]
  ring

end seq

end Cert.Proof.Rscan
-- ==== Proof.Blocks.lean ====
module

public import proofs.«01_k».proof.Proof.Cell
public import proofs.«01_k».proof.Proof.Chunk
public import Idealize.ShloMosaic.Lib.Pointwise
public import Idealize.ShloMosaic.Lib.WordArith

@[expose] public section

noncomputable section

/-! # The kernel's squares as pairs of real matrices

Over the extended reals, for finite inputs, each 128 × 128 square the kernel forms for a pair of heads has one real
64 × 64 matrix per head on its diagonal and zeros elsewhere. This module says so for each of the kernel's operations. -/

namespace Cert.Proof.Rscan

open Idealize.ShloMosaic
open Cert.KernelIdeal Cert.KernelIdeal.Gen

/-- One 64 × 64 matrix for each head of a pair. -/
abbrev Two : Type := Fin 2 → M64

/-- The lane `d` of head `h` among a pair's 128 lanes. -/
def lane (h : Fin 2) (d : Fin 64) : Fin 128 := ⟨64 * h.val + d.val, by omega⟩

/-- Every one of the 128 lanes is a lane of a head. -/
theorem exists_lane (i : Fin 128) : ∃ h d, i = lane h d :=
  ⟨⟨i.val / 64, by omega⟩, ⟨i.val % 64, by omega⟩, Fin.ext (by show i.val = 64 * (i.val / 64) + i.val % 64; omega)⟩

/-- A sum over 128 lanes is a sum over the heads of sums over their lanes. -/
theorem sum_lane {α : Type} [AddCommMonoid α] (f : Fin 128 → α) :
    ∑ i, f i = (∑ d, f (lane 0 d)) + ∑ d, f (lane 1 d) := by
  rw [show (∑ i, f i) = ∑ i : Fin (64 + 64), f i from rfl, Fin.sum_univ_add]
  congr 1

/-- A finite sum of reals is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A square with real matrices on the diagonal, zero elsewhere. -/
def bd (M : Two) (i l : Fin 128) : ℝ :=
  if i.val / 64 = l.val / 64 then M ⟨i.val / 64, by omega⟩ ⟨i.val % 64, by omega⟩ ⟨l.val % 64, by omega⟩ else 0

/-- The entries of such a square. -/
theorem bd_lane (M : Two) (h h' : Fin 2) (t d : Fin 64) : bd M (lane h t) (lane h' d) = if h = h' then M h t d else 0 := by
  have e1 : (64 * h.val + t.val) / 64 = h.val := by omega
  have e2 : (64 * h'.val + d.val) / 64 = h'.val := by omega
  have e3 : (64 * h.val + t.val) % 64 = t.val := by omega
  have e4 : (64 * h'.val + d.val) % 64 = d.val := by omega
  simp only [bd, lane, e1, e2, e3, e4, Fin.val_inj]

/-- The square `x` holds the matrices `M`. -/
def Sq (x : FVec Ideal S128x128 .f32) (M : Two) : Prop := ∀ i l : Fin 128, x (ix2 i l) = (bd M i l : EReal)

/-- The 64 × 128 matrix `x` holds the matrices `M` side by side. -/
def Rows (x : FVec Ideal S64x128 .f32) (M : Two) : Prop :=
  ∀ (t : Fin 64) (h : Fin 2) (d : Fin 64), x (ix2 t (lane h d)) = (M h t d : EReal)

variable {x y z : FVec Ideal S128x128 .f32} {M N Q : Two}

/-- To hold matrices is to have their entries. -/
theorem sq_iff : Sq x M ↔ ∀ h t h' d, x (ix2 (lane h t) (lane h' d)) = ((if h = h' then M h t d else 0 : ℝ) : EReal) := by
  constructor
  · intro H h t h' d; rw [H, bd_lane]
  · intro H i l
    obtain ⟨h, t, rfl⟩ := exists_lane i
    obtain ⟨h', d, rfl⟩ := exists_lane l
    rw [H, bd_lane]

/-- The rows of a product of two such squares. -/
theorem bd_mul (i l : Fin 128) : ∑ k, bd M i k * bd N k l = bd (fun h => M h * N h) i l := by
  obtain ⟨h, t, rfl⟩ := exists_lane i
  obtain ⟨h', d, rfl⟩ := exists_lane l
  rw [sum_lane]
  simp only [bd_lane]
  fin_cases h <;> fin_cases h' <;> simp [Matrix.mul_apply]

/-- The transpose of such a square. -/
theorem bd_tr (i l : Fin 128) : bd M l i = bd (fun h => (M h).transpose) i l := by
  obtain ⟨h, t, rfl⟩ := exists_lane i
  obtain ⟨h', d, rfl⟩ := exists_lane l
  simp only [bd_lane, Matrix.transpose_apply, eq_comm]
  split
  · next e => subst e; rfl
  · rfl

theorem bd_add (i l : Fin 128) : bd M i l + bd N i l = bd (fun h => M h + N h) i l := by
  unfold bd; split <;> simp

/-- A square's product with another, read at an entry. -/
theorem dot_nn (hx : Sq x M) (hy : Sq y N) (i l : Fin 128) :
    ∑ k : Fin 128, x (ix2 i k) * y (ix2 k l) = (bd (fun h => M h * N h) i l : EReal) := by
  rw [← bd_mul, coe_sum]; exact Finset.sum_congr rfl fun k _ => by rw [hx, hy, EReal.coe_mul]

/-- A square's product with the transpose of another. -/
theorem dot_nt (hx : Sq x M) (hy : Sq y N) (i l : Fin 128) :
    ∑ k : Fin 128, x (ix2 i k) * y (ix2 l k) = (bd (fun h => M h * (N h).transpose) i l : EReal) := by
  rw [← bd_mul, coe_sum]; exact Finset.sum_congr rfl fun k _ => by rw [hx, hy, EReal.coe_mul, bd_tr (M := N)]

/-- The transpose of a square times another. -/
theorem dot_tn (hx : Sq x M) (hy : Sq y N) (i l : Fin 128) :
    ∑ k : Fin 128, x (ix2 k i) * y (ix2 k l) = (bd (fun h => (M h).transpose * N h) i l : EReal) := by
  rw [← bd_mul, coe_sum]; exact Finset.sum_congr rfl fun k _ => by rw [hx, hy, EReal.coe_mul, bd_tr (M := M)]

theorem Sq.add (hx : Sq x M) (hy : Sq y N) : Sq (addf x y) (fun h => M h + N h) := fun i l => by
  rw [← bd_add, EReal.coe_add, ← hx, ← hy]; pointwise

theorem Sq.mulSq (hx : Sq x M) (hy : Sq y N) : Sq (mulSq x y) (fun h => M h * N h) := fun i l => by
  rw [← dot_nn hx hy]; pointwise [Rscan.mulSq]

theorem Sq.upper (hx : Sq x M) (hy : Sq y N) : Sq (upperHalf (mulBoth x z y)) (fun h => M h * N h) := fun i l => by
  rw [← dot_nn hx hy]; pointwise [upperHalf, mulBoth]

theorem Sq.lower (hx : Sq x M) (hy : Sq y N) : Sq (lowerHalf (mulBoth z x y)) (fun h => M h * N h) := fun i l => by
  rw [← dot_nn hx hy]; pointwise [lowerHalf, mulBoth]

theorem Sq.left (hx : Sq x M) (hy : Sq y N) : Sq (leftHalf (mulWide x (side y z))) (fun h => M h * N h) := fun i l => by
  rw [← dot_nn hx hy]; pointwise [leftHalf, mulWide, side]

theorem Sq.right (hx : Sq x M) (hy : Sq y N) : Sq (rightHalf (mulWide x (side z y))) (fun h => M h * N h) := fun i l => by
  rw [← dot_nn hx hy]; pointwise [rightHalf, mulWide, side]

/-- Twice such a product: the left half. -/
theorem Sq.left2 (w : FVec Ideal S128x256 .f32) (hx : Sq x M) (hy : Sq (leftHalf w) N) : Sq (leftHalf (mulWide x w)) (fun h => M h * N h) := fun i l => by
  rw [← dot_nn hx hy]; pointwise [leftHalf, mulWide]

theorem Sq.right2 (w : FVec Ideal S128x256 .f32) (hx : Sq x M) (hy : Sq (rightHalf w) N) : Sq (rightHalf (mulWide x w)) (fun h => M h * N h) := fun i l => by
  rw [← dot_nn hx hy]; pointwise [rightHalf, mulWide]

theorem Sq.scoresB {b k lw : Vec Ideal S1x64x128 .f32} (hx : Sq x M) (hy : Sq (inT b lw) N) :
    Sq (leftHalf (scores x (bkT b k lw))) (fun h => M h * (N h).transpose) := fun i l => by
  rw [← dot_nt hx hy]; pointwise [leftHalf, scores, bkT]

theorem Sq.scoresK {b k lw : Vec Ideal S1x64x128 .f32} (hx : Sq x M) (hy : Sq (inT k lw) N) :
    Sq (rightHalf (scores x (bkT b k lw))) (fun h => M h * (N h).transpose) := fun i l => by
  rw [← dot_nt hx hy]; pointwise [rightHalf, scores, bkT]

/-- What rounding loses is nothing, for finite entries. -/
theorem lost128_zero (hx : Sq x M) (i l : Fin 128) : x (ix2 i l) - x (ix2 i l) = 0 := by
  rw [hx, ← EReal.coe_sub, sub_self, EReal.coe_zero]

theorem Sq.mulNn2 (hx : Sq x M) (hy : Sq y N) : Sq (mulNn2 x y) (fun h => M h * N h) := fun i l => by
  rw [← dot_nn hx hy]
  pointwise [Rscan.mulNn2, upperHalf, lowerHalf, lost128]
  simp only [lost128_zero hx, lost128_zero hy, mul_zero, zero_mul, Finset.sum_const_zero, add_zero]

theorem Sq.mulTn2 (hx : Sq x M) (hy : Sq y N) : Sq (mulTn2 x y) (fun h => (M h).transpose * N h) := fun i l => by
  rw [← dot_tn hx hy]
  pointwise [Rscan.mulTn2, upperHalf, lowerHalf, lost128]
  simp only [lost128_zero hx, lost128_zero hy, mul_zero, zero_mul, Finset.sum_const_zero, add_zero]

/-- The word of a small number compares as the number. -/
theorem cmpi_sle (a b : ℕ) (ha : a < 128) (hb : b < 128) :
    IntOp.cmpi .sle (BitVec.ofNat 32 a) (BitVec.ofNat 32 b) = BitVec.ofBool (decide (a ≤ b)) := by
  simp only [IntOp.cmpi, BitVec.sle, WordArith.toInt_ofNat_small a (by omega), WordArith.toInt_ofNat_small b (by omega), Nat.cast_le]

theorem cmpi_slt (a b : ℕ) (ha : a < 128) (hb : b < 128) :
    IntOp.cmpi .slt (BitVec.ofNat 32 a) (BitVec.ofNat 32 b) = BitVec.ofBool (decide (a < b)) := by
  simp only [IntOp.cmpi, BitVec.slt, WordArith.toInt_ofNat_small a (by omega), WordArith.toInt_ofNat_small b (by omega), Nat.cast_lt]

theorem cmpi_eq (a b : ℕ) (ha : a < 128) (hb : b < 128) :
    IntOp.cmpi .eq (BitVec.ofNat 32 a) (BitVec.ofNat 32 b) = BitVec.ofBool (decide (a = b)) := by
  have : (BitVec.ofNat 32 a == BitVec.ofNat 32 b) = decide (a = b) := by
    rw [Bool.eq_iff_iff, beq_iff_eq, decide_eq_true_iff]
    constructor
    · intro h
      have := congrArg BitVec.toNat h
      rwa [WordArith.toNat_ofNat_of_lt a (by omega), WordArith.toNat_ofNat_of_lt b (by omega)] at this
    · rintro rfl; rfl
  simp only [IntOp.cmpi, this]

/-- Six bits to the right is a division by 64. -/
theorem shr6 (a : ℕ) (ha : a < 128) : IntOp.shrui .vector (BitVec.ofNat 32 a) 6#32 = BitVec.ofNat 32 (a / 64) := by
  have h6 : (6#32).toNat < 32 := by decide
  simp only [IntOp.shrui, if_pos h6]
  apply BitVec.eq_of_toNat_eq
  rw [BitVec.ushiftRight_eq', BitVec.toNat_ushiftRight, WordArith.toNat_ofNat_of_lt a (by omega),
    WordArith.toNat_ofNat_of_lt (a / 64) (by omega), Nat.shiftRight_eq_div_pow]
  rfl

/-- A choice by a truth value's bit. -/
theorem select_ofBool {α : Type} (p : Bool) (u v : α) : Scalar.select (BitVec.ofBool p) u v = if p then u else v := by
  cases p <;> rfl

theorem Rows.cum {lw : Vec Ideal S1x64x128 .f32} (h : Rows (flat lw) M) : Rows (cum lw) (fun h => cumR (M h)) := by
  intro t g d
  have hz : ∀ s : Fin 64, flat lw (ix2 s (lane g d)) - flat lw (ix2 s (lane g d)) = 0 := fun s => by
    rw [h, ← EReal.coe_sub, sub_self, EReal.coe_zero]
  have hs : ∀ (s : Fin 64) (u v : EReal), Scalar.select (IntOp.cmpi .sle (BitVec.ofNat 32 s.val) (BitVec.ofNat 32 t.val)) u v
      = if s ≤ t then u else v := fun s u v => by
    rw [cmpi_sle _ _ (by omega) (by omega), select_ofBool]; simp only [decide_eq_true_iff, Fin.le_def]
  simp only [cumR]
  rw [coe_sum]
  pointwise [Rscan.cum, triMul, triangle, oneF, zeroF, lost64]
  simp only [hz, hs, h, sub_zero, ite_self, Finset.sum_const_zero, zero_add]
  exact Finset.sum_congr rfl fun s _ => by split; exacts [h s g d, rfl]

theorem Rows.stack {x : FVec Ideal S64x128 .f32} (h : Rows x M) : Sq (stack x) M := sq_iff.2 fun g t g' d => by
  have h0 := h t 0 d
  have h1 := h t 1 d
  have e0 : IntOp.cmpi .slt (BitVec.ofNat 32 d.val) 64#32 = BitVec.ofBool true := by
    rw [cmpi_slt _ _ (by omega) (by omega)]; simp
  have e1 : IntOp.cmpi .slt (BitVec.ofNat 32 (64 + d.val)) 64#32 = BitVec.ofBool false := by
    rw [cmpi_slt _ _ (by omega) (by omega)]; simp
  simp only [lane, Fin.val_zero, Fin.val_one, mul_zero, mul_one, zero_add] at h0 h1
  fin_cases g <;> fin_cases g' <;> pointwise [Rscan.stack, firstHead, zeroF, lane] <;>
    simp only [e0, e1, h0, h1] <;> rfl

/-- The bit of the two diagonal blocks, joined with another. -/
theorem sameHead_bit (g g' : Fin 2) (t d : Fin 64) (p : Bool) :
    IntOp.andi (IntOp.cmpi .eq (IntOp.shrui .vector (BitVec.ofNat 32 (lane g t).val) 6#32)
      (IntOp.shrui .vector (BitVec.ofNat 32 (lane g' d).val) 6#32)) (BitVec.ofBool p) = BitVec.ofBool (decide (g = g') && p) := by
  have e1 : (lane g t).val / 64 = g.val := by show (64 * g.val + t.val) / 64 = g.val; omega
  have e2 : (lane g' d).val / 64 = g'.val := by show (64 * g'.val + d.val) / 64 = g'.val; omega
  rw [shr6 _ (by omega), shr6 _ (by omega), e1, e2, cmpi_eq _ _ (by omega) (by omega), WordArith.andi_ofBool]
  simp only [Fin.val_inj]

theorem Sq.strict (hx : Sq x M) : Sq (keep strictMask x) (fun h => strictR (M h)) := sq_iff.2 fun g t g' d => by
  pointwise [keep, strictMask, sameHead, rowNo, colNo, zeroF]
  rw [cmpi_slt _ _ (by omega) (by omega), sameHead_bit, select_ofBool, sq_iff.1 hx]
  by_cases e : g = g'
  · subst e; simp only [strictR, lane, decide_true, Bool.true_and, decide_eq_true_iff, if_true, Nat.add_lt_add_iff_left, Fin.val_fin_lt]
    split <;> rfl
  · simp [e]

theorem Sq.incl (hx : Sq x M) : Sq (keep inclMask x) (fun h => inclR (M h)) := sq_iff.2 fun g t g' d => by
  pointwise [keep, inclMask, sameHead, rowNo, colNo, zeroF]
  rw [cmpi_sle _ _ (by omega) (by omega), sameHead_bit, select_ofBool, sq_iff.1 hx]
  by_cases e : g = g'
  · subst e; simp only [inclR, lane, decide_true, Bool.true_and, decide_eq_true_iff, if_true, Nat.add_le_add_iff_left, Fin.val_fin_le]
    split <;> rfl
  · simp [e]

/-- Two lanes have one number only if they are the same. -/
theorem lane_eq (g g' : Fin 2) (t d : Fin 64) : (lane g t).val = (lane g' d).val ↔ g = g' ∧ t = d := by
  show 64 * g.val + t.val = 64 * g'.val + d.val ↔ _
  rw [← Fin.val_inj, ← Fin.val_inj]; omega

/-- One doubling of the inverse's series. -/
theorem Sq.double (hx : Sq x M) (hy : Sq y N) :
    Sq (upperHalf (mulBoth x y x)) (fun h => M h * M h) ∧
      Sq (addf y (lowerHalf (mulBoth x y x))) (fun h => N h + N h * M h) :=
  ⟨hx.upper hx, hy.add (hy.lower hx)⟩

/-- The kernel's inverse is the real one, head by head. -/
theorem Sq.inv (hx : Sq x M) : Sq (invSq x) (fun h => invR (M h)) := by
  have h0 : Sq (addf (select (cmpi .eq rowNo colNo) (broadcast S128x128 (oneF (F := Ideal))) (broadcast S128x128 (zeroF (F := Ideal)))) x)
      (fun h => 1 + M h) := by
    refine Sq.add (M := fun _ => 1) (sq_iff.2 fun g t g' d => ?_) hx
    pointwise [rowNo, colNo, oneF, zeroF]
    rw [cmpi_eq _ _ (by omega) (by omega), select_ofBool]
    simp only [lane_eq, decide_eq_true_iff, Matrix.one_apply]
    by_cases e : g = g' <;> by_cases e' : t = d <;> simp [e, e']
  have l1 := hx.mulSq hx
  obtain ⟨l2, t1⟩ := Sq.double l1 h0
  obtain ⟨l3, t2⟩ := Sq.double l2 t1
  obtain ⟨l4, t3⟩ := Sq.double l3 t2
  obtain ⟨l5, t4⟩ := Sq.double l4 t3
  exact t4.add (t4.mulSq l5)

section cell

variable {r k v kap b lw : Vec Ideal S1x64x128 .f32} {R K V A B L : Two}

/-- The last running sum, at a lane. -/
theorem cumEnd_apply (hl : Rows (flat lw) L) (h : Fin 2) (d : Fin 64) :
    cumEnd lw (ix2 0 (lane h d)) = (cumR (L h) 63 d : EReal) := by
  rw [← hl.cum 63 h d]; pointwise [cumEnd]

theorem sq_aT (hk : Rows (flat kap) A) (hl : Rows (flat lw) L) : Sq (aT kap lw) (fun h => aR (A h) (L h)) :=
  Rows.stack fun t h d => by
    pointwise [zeroF]
    rw [hk, hl.cum, hl, zero_sub, ← EReal.coe_neg, ← EReal.coe_sub, Ideal.exp_coe, ← EReal.coe_mul]; rfl

theorem sq_rT (hr : Rows (flat r) R) (hl : Rows (flat lw) L) : Sq (rT r lw) (fun h => rR (R h) (L h)) :=
  Rows.stack fun t h d => by
    pointwise [zeroF]
    rw [hr, hl.cum, Ideal.exp_coe, ← EReal.coe_mul]; rfl

theorem sq_inT (hb : Rows (flat b) B) (hl : Rows (flat lw) L) : Sq (inT b lw) (fun h => inR (B h) (L h)) :=
  Rows.stack fun t h d => by
    pointwise [zeroF, eNeg]
    rw [hb, hl.cum, zero_sub, ← EReal.coe_neg, Ideal.exp_coe, ← EReal.coe_mul]; rfl

theorem sq_inP (hb : Rows (flat b) B) (hl : Rows (flat lw) L) : Sq (inP b lw) (fun h => endR (B h) (L h)) :=
  Rows.stack fun t h d => by
    pointwise [zeroF, eRem]
    rw [hb, hl.cum, cumEnd_apply hl, ← EReal.coe_sub, Ideal.exp_coe, ← EReal.coe_mul]; rfl

theorem sq_ap (hk : Rows (flat k) K) (hv : Rows (flat v) V) (ha : Rows (flat kap) A) (hb : Rows (flat b) B)
    (hl : Rows (flat lw) L) : Sq (leftHalf (auOf k v kap b lw)) (fun h => apR (A h) (B h) (L h)) :=
  Sq.left (((sq_aT ha hl).scoresB (sq_inT hb hl)).strict.inv) (sq_aT ha hl)

theorem sq_u0 (hk : Rows (flat k) K) (hv : Rows (flat v) V) (ha : Rows (flat kap) A) (hb : Rows (flat b) B)
    (hl : Rows (flat lw) L) : Sq (rightHalf (auOf k v kap b lw)) (fun h => u0R (K h) (V h) (A h) (B h) (L h)) :=
  Sq.right (((sq_aT ha hl).scoresB (sq_inT hb hl)).strict.inv) (((sq_aT ha hl).scoresK (sq_inT hk hl)).strict.mulSq hv.stack)

/-- The pair's state holds its heads' states. -/
def State (s : Vec Ideal S1x128x128 .f32) (S : Two) : Prop := ∀ i l : Fin 128, s (ix3 0 i l) = (bd S i l : EReal)

variable {s : Vec Ideal S1x128x128 .f32} {S : Two}

theorem State.sq (hs : State s S) : Sq (shapeCast S128x128 s shapeCasts_S1x128x128_S128x128) S := fun i l => by
  rw [← hs i l]; pointwise

theorem sq_y (hr : Rows (flat r) R) (hk : Rows (flat k) K) (hv : Rows (flat v) V) (ha : Rows (flat kap) A) (hb : Rows (flat b) B)
    (hl : Rows (flat lw) L) (hs : State s S) :
    Sq (yStack r k v kap b lw s) (fun h => chunkY (R h) (K h) (V h) (A h) (B h) (L h) (S h)) := by
  have hB := ((sq_rT hr hl).scoresB (k := k) (sq_inT hb hl)).incl
  have hK := ((sq_rT hr hl).scoresK (b := b) (sq_inT hk hl)).incl
  have h1 := (sq_rT hr hl).add (hB.left2 _ (sq_ap hk hv ha hb hl))
  refine Sq.add (M := fun h => (rR (R h) (L h) + inclR (rR (R h) (L h) * (inR (B h) (L h)).transpose) * apR (A h) (B h) (L h)) * (S h).transpose)
    (fun i l => ?_) ((hK.mulSq hv.stack).add (hB.right2 _ (sq_u0 hk hv ha hb hl)))
  rw [← dot_nt h1 hs.sq]; pointwise [ryOf]

/-- What the body stores of a pair's results: at each head's lanes, the chunk's results. -/
theorem cellY_apply (hr : Rows (flat r) R) (hk : Rows (flat k) K) (hv : Rows (flat v) V) (ha : Rows (flat kap) A) (hb : Rows (flat b) B)
    (hl : Rows (flat lw) L) (hs : State s S) (t : Fin 64) (h : Fin 2) (d : Fin 64) :
    cellY r k v kap b lw s (ix3 0 t (lane h d)) = (chunkY (R h) (K h) (V h) (A h) (B h) (L h) (S h) t d : EReal) := by
  have e : cellY r k v kap b lw s (ix3 0 t (lane h d))
      = yStack r k v kap b lw s (ix2 (lane 0 t) (lane h d)) + yStack r k v kap b lw s (ix2 (lane 1 t) (lane h d)) := by
    pointwise [cellY, lane]
  have H := sq_iff.1 (sq_y hr hk hv ha hb hl hs)
  rw [e, H, H, ← EReal.coe_add]
  fin_cases h <;> simp

theorem sq_mC (hk : Rows (flat k) K) (hv : Rows (flat v) V) (ha : Rows (flat kap) A) (hb : Rows (flat b) B)
    (hl : Rows (flat lw) L) : Sq (mC k v kap b lw) (fun h =>
      Matrix.diagonal (fun d => Real.exp (cumR (L h) 63 d)) + (apR (A h) (B h) (L h)).transpose * endR (B h) (L h)) := by
  refine Sq.add (M := fun h => Matrix.diagonal (fun d => Real.exp (cumR (L h) 63 d))) (sq_iff.2 fun g t g' d => ?_) fun i l => ?_
  · pointwise [rowNo, colNo, zeroF]
    rw [cmpi_eq _ _ (by omega) (by omega), select_ofBool, cumEnd_apply hl, Ideal.exp_coe]
    simp only [lane_eq, decide_eq_true_iff, Matrix.diagonal_apply]
    by_cases e : g = g'
    · subst e
      by_cases e' : t = d
      · subst e'; simp
      · simp [e']
    · simp [e]
  · rw [← dot_tn (sq_ap hk hv ha hb hl) (sq_inP hb hl)]; pointwise

theorem sq_sOut (hk : Rows (flat k) K) (hv : Rows (flat v) V) (ha : Rows (flat kap) A) (hb : Rows (flat b) B)
    (hl : Rows (flat lw) L) (hs : State s S) :
    Sq (sOut k v kap b lw s) (fun h => chunkS (K h) (V h) (A h) (B h) (L h) (S h)) :=
  (hs.sq.mulNn2 (sq_mC hk hv ha hb hl)).add
    (((sq_u0 hk hv ha hb hl).mulTn2 (sq_inP hb hl)).add (hv.stack.mulTn2 (sq_inP hk hl)))

/-- What the body stores of a pair's state. -/
theorem state_cellS (hk : Rows (flat k) K) (hv : Rows (flat v) V) (ha : Rows (flat kap) A) (hb : Rows (flat b) B)
    (hl : Rows (flat lw) L) (hs : State s S) :
    State (cellS k v kap b lw s) (fun h => chunkS (K h) (V h) (A h) (B h) (L h) (S h)) := fun i l => by
  rw [← sq_sOut hk hv ha hb hl hs i l]; pointwise [cellS]

/-- What the last point stores of the first head's state. -/
theorem cellTop_apply (hk : Rows (flat k) K) (hv : Rows (flat v) V) (ha : Rows (flat kap) A) (hb : Rows (flat b) B)
    (hl : Rows (flat lw) L) (hs : State s S) (i l : Fin 64) :
    cellTop k v kap b lw s (ix4 0 0 i l) = (chunkS (K 0) (V 0) (A 0) (B 0) (L 0) (S 0) i l : EReal) := by
  have e : cellTop k v kap b lw s (ix4 0 0 i l) = sOut k v kap b lw s (ix2 (lane 0 i) (lane 0 l)) := by
    pointwise [cellTop, lane]
  rw [e, sq_iff.1 (sq_sOut hk hv ha hb hl hs), if_pos rfl]

/-- What the last point stores of the second head's state. -/
theorem cellBot_apply (hk : Rows (flat k) K) (hv : Rows (flat v) V) (ha : Rows (flat kap) A) (hb : Rows (flat b) B)
    (hl : Rows (flat lw) L) (hs : State s S) (i l : Fin 64) :
    cellBot k v kap b lw s (ix4 0 0 i l) = (chunkS (K 1) (V 1) (A 1) (B 1) (L 1) (S 1) i l : EReal) := by
  have e : cellBot k v kap b lw s (ix4 0 0 i l) = sOut k v kap b lw s (ix2 (lane 1 i) (lane 1 l)) := by
    pointwise [cellBot, lane]
  rw [e, sq_iff.1 (sq_sOut hk hv ha hb hl hs), if_pos rfl]

end cell

end Cert.Proof.Rscan
-- ==== Proof.MixGate.lean ====
module

public import proofs.«01_k».proof.Proof.MixCell
public import proofs.«01_k».proof.Proof.Blocks

@[expose] public section

noncomputable section

/-! # The forget gates' logarithms

A logarithm of the logistic function is real or minus infinity, so the low parts of a sum in several pieces change nothing:
what the body adds up along the rows of a tile is the exact sum of the gates' logarithms. -/

namespace Cert.Proof.Mix

open Idealize.ShloMosaic Cert.Proof.Heads
open Cert.Proof.Rscan (select_ofBool)

/-- The logarithm of the logistic function, of any extended real. -/
def lf (z : EReal) : EReal := min z 0 - Ideal.log1p (Ideal.exp (0 - FloatOps.absf (F := Ideal) (φ := .f32) z))

/-- A sum over the rows up to one of them. -/
theorem sum_upto (f : ℕ → EReal) {n : ℕ} (i : Fin n) :
    ∑ s : Fin n, (if s.val ≤ i.val then f s.val else 0) = ∑ s ∈ Finset.range (i.val + 1), f s := by
  rw [Fin.sum_univ_eq_sum_range (fun s => if s ≤ i.val then f s else 0) n, ← Finset.sum_filter]
  refine Finset.sum_congr (Finset.ext fun s => ?_) fun _ _ => rfl
  simp only [Finset.mem_filter, Finset.mem_range]
  omega

theorem coe_min (r s : ℝ) : min (r : EReal) (s : EReal) = ((min r s : ℝ) : EReal) :=
  ((Monotone.map_min (f := fun x : ℝ => (x : EReal)) fun _ _ h => EReal.coe_le_coe_iff.2 h)).symm

theorem coe_max (r s : ℝ) : max (r : EReal) (s : EReal) = ((max r s : ℝ) : EReal) :=
  ((Monotone.map_max (f := fun x : ℝ => (x : EReal)) fun _ _ h => EReal.coe_le_coe_iff.2 h)).symm

theorem log1p_exp (r : ℝ) : Ideal.log1p (Ideal.exp (r : EReal)) = ((Real.log (1 + Real.exp r) : ℝ) : EReal) := by
  have h : ¬ 1 + Real.exp r ≤ 0 := by have := Real.exp_pos r; linarith
  rw [Ideal.exp_coe, Ideal.log1p, ← EReal.coe_one, ← EReal.coe_add, Ideal.log_coe, if_neg h]

theorem absf_coe (r : ℝ) : FloatOps.absf (F := Ideal) (φ := .f32) (r : EReal) = ((|r| : ℝ) : EReal) := by
  rw [Ideal.absf_def, ← EReal.coe_neg, coe_max]; rfl

theorem lf_coe (r : ℝ) : lf (r : EReal) = ((min r 0 - Real.log (1 + Real.exp (-|r|)) : ℝ) : EReal) := by
  rw [lf, absf_coe, zero_sub, ← EReal.coe_neg, log1p_exp, ← EReal.coe_zero, coe_min, ← EReal.coe_sub]

/-- What is added to nothing: one plus the exponential of minus infinity. -/
theorem log1p_exp_bot : Ideal.log1p (Ideal.exp ⊥) = 0 := by
  rw [Ideal.exp_bot, Ideal.log1p, add_zero, ← EReal.coe_one, Ideal.log_coe, if_neg (by norm_num), Real.log_one, EReal.coe_zero]

theorem lf_top : lf ⊤ = 0 := by
  rw [lf, Ideal.absf_def, EReal.neg_top, max_eq_left bot_le, zero_sub, EReal.neg_top, log1p_exp_bot, min_eq_right le_top, sub_zero]

theorem lf_bot : lf ⊥ = ⊥ := by
  rw [lf, Ideal.absf_def, EReal.neg_bot, max_eq_right bot_le, zero_sub, EReal.neg_top, log1p_exp_bot, min_eq_left bot_le, sub_zero]

theorem lf_ne_top (z : EReal) : lf z ≠ ⊤ := by
  induction z using EReal.rec with
  | bot => rw [lf_bot]; exact bot_ne_top
  | coe r => rw [lf_coe]; exact EReal.coe_ne_top _
  | top => rw [lf_top]; exact EReal.zero_ne_top

/-- The host's writing of the logarithm. -/
theorem lf_host (z : EReal) : -(max (-z) 0 + Ideal.log1p (Ideal.exp (-FloatOps.absf (F := Ideal) (φ := .f32) (-z)))) = lf z := by
  induction z using EReal.rec with
  | bot =>
    rw [lf_bot, EReal.neg_bot, Ideal.absf_def, max_eq_left le_top, max_eq_left le_top, EReal.neg_top, log1p_exp_bot, add_zero, EReal.neg_top]
  | coe r =>
    have e : min r 0 = -max (-r) 0 := by
      rcases le_total r 0 with h | h
      · rw [min_eq_left h, max_eq_left (by linarith), neg_neg]
      · rw [min_eq_right h, max_eq_right (by linarith), neg_zero]
    rw [lf_coe, ← EReal.coe_neg, absf_coe, abs_neg, ← EReal.coe_neg, log1p_exp, ← EReal.coe_zero, coe_max, ← EReal.coe_add,
      ← EReal.coe_neg, e, neg_add, sub_eq_add_neg]
  | top =>
    rw [lf_top, EReal.neg_top, Ideal.absf_def, EReal.neg_bot, max_eq_right bot_le, max_eq_right bot_le, EReal.neg_top, log1p_exp_bot,
      add_zero, neg_zero]

/-- Below plus infinity, what a difference from itself leaves changes nothing. -/
theorem add_rest {x : EReal} (h : x ≠ ⊤) : x + (x - x) = x := by
  induction x using EReal.rec with
  | bot => rfl
  | coe r => rw [← EReal.coe_sub, sub_self, EReal.coe_zero, add_zero]
  | top => exact absurd rfl h

theorem rest_ne_top {x : EReal} (h : x ≠ ⊤) : x - x ≠ ⊤ := by
  induction x using EReal.rec with
  | bot => exact bot_ne_top
  | coe r => rw [← EReal.coe_sub]; exact EReal.coe_ne_top _
  | top => exact absurd rfl h

/-- Three pieces of one number add up to it. -/
theorem pieces {x : EReal} (h : x ≠ ⊤) : x - x - (x - x) + (x - x) + x = x := by
  rw [add_comm (x - x - (x - x)), add_rest (rest_ne_top h), add_comm, add_rest h]

theorem pieces_neg {x : EReal} (h : x ≠ ⊤) :
    (x - x - (x - x)) * ((-1 : ℝ) : EReal) + (x - x) * ((-1 : ℝ) : EReal) + x * ((-1 : ℝ) : EReal) = -x := by
  induction x using EReal.rec with
  | bot =>
    have e : (⊥ : EReal) - ⊥ = ⊥ := rfl
    rw [e, e, EReal.bot_mul_coe_of_neg (by norm_num)]; rfl
  | coe r => rw [← EReal.coe_sub, ← EReal.coe_sub, ← EReal.coe_mul, ← EReal.coe_mul, ← EReal.coe_mul, ← EReal.coe_add, ← EReal.coe_add, ← EReal.coe_neg]; congr 1; ring
  | top => exact absurd rfl h

theorem sum_ne_top {ι : Type} (s : Finset ι) (f : ι → EReal) (h : ∀ i, f i ≠ ⊤) : ∑ i ∈ s, f i ≠ ⊤ := by
  classical
  induction s using Finset.induction_on with
  | empty => rw [Finset.sum_empty]; exact EReal.zero_ne_top
  | insert a s ha ih => rw [Finset.sum_insert ha]; exact EReal.add_ne_top (h a) ih

section kernel
open Cert.MixIdeal Cert.MixIdeal.Gen

theorem slt_eight (j : Fin 128) : IntOp.cmpi .slt (BitVec.ofNat 32 j.val) 8#32 = BitVec.ofBool (decide (j.val < 8)) := by
  revert j; decide +kernel

theorem sle_rows (s i : Fin 256) :
    IntOp.cmpi .sle (BitVec.ofNat 32 s.val) (BitVec.ofNat 32 i.val) = BitVec.ofBool (decide (s.val ≤ i.val)) := by
  simp only [IntOp.cmpi, BitVec.sle, WordArith.toInt_ofNat_small s.val (by omega), WordArith.toInt_ofNat_small i.val (by omega), Nat.cast_le]

/-- The gates' logarithms in the first eight lanes, zero in the others. -/
theorem pay15_apply (h : FVec Ideal S256x1024 .bf16) (w : Vec Ideal S1024x128 .bf16) (b : Vec Ideal S1x128 .f32)
    (i : Fin 256) (j : Fin 128) :
    k0_pay15 (F := Ideal) h w b (ix2 i j) = if j.val < 8 then lf (∑ k, h (ix2 i k) * w (ix2 k j) + b (ix2 0 j)) else 0 := by
  pointwise [k0_pay15]
  rw [slt_eight, select_ofBool]
  simp only [decide_eq_true_iff]
  rfl

/-- The sums along the rows of a tile, on top of what the tiles before left. -/
theorem pay17_apply (a : FVec Ideal S256x128 .f32) (c : Vec Ideal S1x128 .f32) (α : ℕ → Fin 128 → EReal) (hα : ∀ s j, α s j ≠ ⊤)
    (ha : ∀ (i : Fin 256) (j : Fin 128), a (ix2 i j) = α i.val j) (i : Fin 256) (j : Fin 128) :
    k0_pay17 (F := Ideal) a (iota .tc S256x256 32 [0] iota_S256x256_d0_w32) (iota .tc S256x256 32 [1] iota_S256x256_d1_w32) c (ix2 i j)
      = c (ix2 0 j) + ∑ s ∈ Finset.range (i.val + 1), α s j := by
  rw [← sum_upto (fun s => α s j) i, add_comm]
  pointwise [k0_pay17]
  simp only [sle_rows, select_ofBool, decide_eq_true_iff, ha]
  congr 1
  rw [← Finset.sum_add_distrib, ← Finset.sum_add_distrib]
  refine Finset.sum_congr rfl fun s _ => ?_
  by_cases h : s.val ≤ i.val
  · simp only [if_pos h]; exact pieces (hα _ _)
  · simp only [if_neg h, add_zero]

/-- Which lane's sum a bias lane takes. -/
def src (j : Fin 128) : Fin 128 := ⟨(2 * (j.val / 16) + j.val % 16 / 3) % 128, by omega⟩

/-- The bias lanes that hold something. -/
def Used (j : Fin 128) : Prop := j.val % 16 < 6 ∧ j.val / 16 < 4

instance (j : Fin 128) : Decidable (Used j) := inferInstanceAs (Decidable (_ ∧ _))

theorem hit_bit (j x : Fin 128) :
    IntOp.andi (IntOp.andi (IntOp.andi
        (IntOp.cmpi CmpIPredicate.eq (IntOp.shrui ArithUnit.vector (BitVec.ofNat 32 j.val) 4#32)
          (IntOp.shrui ArithUnit.vector (BitVec.ofNat 32 x.val) 1#32))
        (IntOp.cmpi CmpIPredicate.slt (IntOp.andi (BitVec.ofNat 32 j.val) 15#32) 6#32))
      (IntOp.cmpi CmpIPredicate.slt (BitVec.ofNat 32 x.val) 8#32))
      (IntOp.xori (IntOp.xori (IntOp.cmpi CmpIPredicate.sge (IntOp.andi (BitVec.ofNat 32 j.val) 15#32) 3#32)
        (IntOp.cmpi CmpIPredicate.eq (IntOp.andi (BitVec.ofNat 32 x.val) 1#32) 1#32)) 1#1)
      = BitVec.ofBool (decide (x = src j ∧ Used j)) := by
  revert j x; decide +kernel

theorem minus_one : Ideal.ofBits FTy.f32 3212836864#32 = ((-1 : ℝ) : EReal) := by
  have e : Ideal.ofBits .f32 3212836864#32 = ((-(8388608 * (2 : ℝ) ^ (-23 : Int)) : ℝ) : EReal) := by simp [Ideal.ofBits, Ideal.ieee]
  rw [e]; congr 1; norm_num

/-- The bias lanes: minus the sums, three lanes of a head after the other. -/
theorem pay21_apply (a : FVec Ideal S256x128 .f32) (i : Fin 256) (α : Fin 128 → EReal) (hα : ∀ j, α j ≠ ⊤)
    (ha : ∀ j : Fin 128, a (ix2 i j) = α j) (j : Fin 128) :
    k0_pay21 (F := Ideal) a (ix2 i j) = if Used j then -α (src j) else 0 := by
  pointwise [k0_pay21]
  simp only [hit_bit, select_ofBool, decide_eq_true_iff, ha]
  have pick : ∀ f : Fin 128 → EReal, ∑ x, (if x = src j ∧ Used j then f x else 0) = if Used j then f (src j) else 0 := fun f => by
    rw [Finset.sum_eq_single (src j) (fun x _ hx => if_neg fun q => hx q.1) fun h => absurd (Finset.mem_univ _) h]
    exact if_congr ⟨fun q => q.2, fun q => ⟨rfl, q⟩⟩ rfl rfl
  rw [pick, pick, pick, minus_one]
  by_cases h : Used j
  · simp only [if_pos h]; exact pieces_neg (hα _)
  · simp only [if_neg h, add_zero]

end kernel

end Cert.Proof.Mix

end
-- ==== Proof.MixBody.lean ====
module

public import proofs.«01_k».proof.Proof.MixGate
public import proofs.«01_k».proof.Proof.Gen.MixIdeal.Frame
public import proofs.«01_k».proof.Proof.Gen.MixIdeal.Value
public import Idealize.ShloMosaic.Lib.Pipeline.ValueKit.Basic

@[expose] public section

noncomputable section

/-! # The combined projection: what a grid point leaves

At each tile of 256 rows the body stores nine blocks, each whole, and the running sums' last row. -/

namespace Cert.Proof.Mix

open Idealize.ShloMosaic Idealize.SL.Sem
open Cert.MixIdeal Cert.MixIdeal.Gen Cert.MixIdeal.Value

variable {F : FTy → Type} [FloatOps F]

/-- What one grid point leaves: nine blocks and the carried row. -/
abbrev Carried (F : FTy → Type) : Type := Vec F S256x512 .f32 × Vec F S256x512 .f32 × Vec F S256x512 .f32 × Vec F S256x1024 .bf16 × Vec F S256x1024 .bf16 × Vec F S256x8 .f32 × Vec F S256x8 .f32 × Vec F S256x128 .f32 × Vec F S1x1x1792 .f32 × Vec F S1x128 .f32

/-- The running sums of a tile of gates' logarithms. -/
def sums (a : FVec F S256x128 .f32) (cin : Vec F S1x128 .f32) : FVec F S256x128 .f32 :=
  k0_pay17 a (iota .tc S256x256 32 [0] iota_S256x256_d0_w32) (iota .tc S256x256 32 [1] iota_S256x256_d1_w32) cin

/-- The nine blocks and the carried row of one tile, from what the body loads. -/
def tile (x : Vec F S256x1024 .f32) (g : Vec F S1x1024 .f32) (wa : Vec F S1024x1792 .bf16) (wq wk wv : Vec F S1024x512 .bf16)
    (wga wgb : Vec F S1024x1024 .bf16) (wf : Vec F S1024x128 .bf16) (bf : Vec F S1x128 .f32) (qn kn : Vec F S1x512 .f32)
    (bd : Vec F S512x512 .bf16) (cin : Vec F S1x128 .f32) : Carried F :=
  (k0_pay14 (k0_pay11 (k0_pay4 x g wq) bd qn), k0_pay13 (k0_pay5 x g wk) (k0_pay12 (k0_pay5 x g wk)) bd kn, k0_pay6 x g wv,
    k0_pay9 (k0_pay7 x g wga) (k0_pay8 (F := F)), k0_pay10 (k0_pay2 x g) wgb, k0_pay19 (k0_pay15 (k0_pay2 x g) wf bf),
    k0_pay20 (sums (k0_pay15 (k0_pay2 x g) wf bf) cin), k0_pay21 (sums (k0_pay15 (k0_pay2 x g) wf bf) cin),
    k0_pay1 (k0_pay3 x g wa),
    k0_pay18 (k0_pay15 (k0_pay2 x g) wf bf) (iota .tc S256x256 32 [0] iota_S256x256_d0_w32) (iota .tc S256x256 32 [1] iota_S256x256_d1_w32) cin)

/-- The rectangles the body loads and stores. -/
abbrev allX : Rect S256x1024 := Rect.unit (s := S256x1024) ![0, 0] S256x1024.size inb_S256x1024_S256x1024_0_0
abbrev allG : Rect S1x1024 := Rect.unit (s := S1x1024) ![0, 0] S1x1024.size inb_S1x1024_S1x1024_0_0
abbrev allWf : Rect S1024x128 := Rect.unit (s := S1024x128) ![0, 0] S1024x128.size inb_S1024x128_S1024x128_0_0
abbrev allL : Rect S1x128 := Rect.unit (s := S1x128) ![0, 0] S1x128.size inb_S1x128_S1x128_0_0
abbrev allN : Rect S1x512 := Rect.unit (s := S1x512) ![0, 0] S1x512.size inb_S1x512_S1x512_0_0
abbrev allB : Rect S512x512 := Rect.unit (s := S512x512) ![0, 0] S512x512.size inb_S512x512_S512x512_0_0
abbrev allO : Rect S256x512 := Rect.unit (s := S256x512) ![0, 0] S256x512.size inb_S256x512_S256x512_0_0
abbrev all8 : Rect S256x8 := Rect.unit (s := S256x8) ![0, 0] S256x8.size inb_S256x8_S256x8_0_0
abbrev allC : Rect S256x128 := Rect.unit (s := S256x128) ![0, 0] S256x128.size inb_S256x128_S256x128_0_0
abbrev allS : Rect S1x1x1792 := Rect.unit (s := S1x1x1792) ![0, 0, 0] S1x1x1792.size inb_S1x1x1792_S1x1x1792_0_0_0
abbrev colsA : Rect S1024x5376 := Rect.unit (s := S1024x5376) ![0, 0] S1024x1792.size inb_S1024x5376_S1024x1792_0_0
abbrev colsQ : Rect S1024x5376 := Rect.unit (s := S1024x5376) ![0, 1792] S1024x512.size inb_S1024x5376_S1024x512_0_1792
abbrev colsK : Rect S1024x5376 := Rect.unit (s := S1024x5376) ![0, 2304] S1024x512.size inb_S1024x5376_S1024x512_0_2304
abbrev colsV : Rect S1024x5376 := Rect.unit (s := S1024x5376) ![0, 2816] S1024x512.size inb_S1024x5376_S1024x512_0_2816
abbrev colsGa : Rect S1024x5376 := Rect.unit (s := S1024x5376) ![0, 3328] S1024x1024.size inb_S1024x5376_S1024x1024_0_3328
abbrev colsGb : Rect S1024x5376 := Rect.unit (s := S1024x5376) ![0, 4352] S1024x1024.size inb_S1024x5376_S1024x1024_0_4352

/-- What a load reads of a staging buffer. -/
def rd {s : Shape} {e : EltTy} (arg : Memref sig .tc .vmem s e) (h : arg.IsWhole) (x : Vec F s e) (r : Rect s) : Vec F r.shape e :=
  View.readAt (Elt F) arg.view r.toLoadRect (h.unread x)

theorem rd_eq {s : Shape} {e : EltTy} (arg : Memref sig .tc .vmem s e) (h : arg.IsWhole) (x : Vec F s e) (r : Rect s) :
    rd arg h x r = View.ld x r := by
  unfold rd; rw [View.readAt_eq_ld, h.read_unread]

section runs

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5376 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x8 .f32) (harg14 : arg14.IsWhole) (arg15 : Memref sig .tc .vmem S256x8 .f32) (harg15 : arg15.IsWhole) (arg16 : Memref sig .tc .vmem S256x128 .f32) (harg16 : arg16.IsWhole) (arg17 : Memref sig .tc .vmem S1x1x1792 .f32) (harg17 : arg17.IsWhole) (arg18 : Memref sig .tc .vmem S1x128 .f32) (harg18 : arg18.IsWhole)
  (x0 : Vec F S256x1024 .f32) (x1 : Vec F S1x1024 .f32) (x2 : Vec F S1024x5376 .bf16) (x3 : Vec F S1024x128 .bf16) (x4 : Vec F S1x128 .f32) (x5 x6 : Vec F S1x512 .f32) (x7 : Vec F S512x512 .bf16) (xs0 : Vec F S1x128 .f32)

/-- The stores at the first tile of a sequence. -/
theorem storesA (hc0 : cond0_0 i) :
    ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).1 = [⟨allO, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.1 = [⟨allO, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.2.1 = [⟨allO, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.2.1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.2.2.1 = [⟨allX, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.2.2.1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.2.2.2.1 = [⟨allX, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.2.2.2.1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.2.2.2.2.1 = [⟨all8, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.2.2.2.2.1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.2.2.2.2.2.1 = [⟨all8, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.2.2.2.2.2.1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.2.2.2.2.2.2.1 = [⟨allC, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.2.2.2.2.2.2.1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.2.2.2.2.2.2.2.1 = [⟨allS, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.2.2.2.2.2.2.2.1⟩])
      ∧ ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7).2.2.2.2.2.2.2.2.2.1 = [⟨allL, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (arg18.view.readCov [⟨allL, k0_pay16⟩] allL.toLoadRect)).2.2.2.2.2.2.2.2.2⟩, ⟨allL, k0_pay16⟩]) :=
  ⟨rfl, rfl, rfl, rfl, rfl, rfl, rfl, rfl, rfl, rfl⟩

/-- The stores at the other tiles. -/
theorem storesB (hc0 : ¬cond0_0 i) :
    ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).1 = [⟨allO, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.1 = [⟨allO, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.2.1 = [⟨allO, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.2.1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.2.2.1 = [⟨allX, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.2.2.1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.2.2.2.1 = [⟨allX, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.2.2.2.1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.2.2.2.2.1 = [⟨all8, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.2.2.2.2.1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.2.2.2.2.2.1 = [⟨all8, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.2.2.2.2.2.1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.2.2.2.2.2.2.1 = [⟨allC, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.2.2.2.2.2.2.1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.2.2.2.2.2.2.2.1 = [⟨allS, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.2.2.2.2.2.2.2.1⟩])
      ∧ ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0).2.2.2.2.2.2.2.2.2.1 = [⟨allL, (tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL)).2.2.2.2.2.2.2.2.2⟩]) :=
  ⟨rfl, rfl, rfl, rfl, rfl, rfl, rfl, rfl, rfl, rfl⟩

end runs

theorem zero2 : ∀ a : Fin 2, (![0, 0] : Fin 2 → ℕ) a = 0 := by decide
theorem zero3 : ∀ a : Fin 3, (![0, 0, 0] : Fin 3 → ℕ) a = 0 := by decide

/-- The loads read the windows' blocks: whole, or a slice of the weight's columns. -/
theorem loaded_tile (arg1 : Memref sig .tc .vmem S256x1024 .f32) (harg1 : arg1.IsWhole) (arg2 : Memref sig .tc .vmem S1x1024 .f32) (harg2 : arg2.IsWhole) (arg3 : Memref sig .tc .vmem S1024x5376 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (x0 : Vec F S256x1024 .f32) (x1 : Vec F S1x1024 .f32) (x2 : Vec F S1024x5376 .bf16) (x3 : Vec F S1024x128 .bf16) (x4 : Vec F S1x128 .f32) (x5 x6 : Vec F S1x512 .f32) (x7 : Vec F S512x512 .bf16) (cin : Vec F S1x128 .f32) :
    tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) cin = tile x0 x1 (View.ld x2 colsA) (View.ld x2 colsQ) (View.ld x2 colsK) (View.ld x2 colsV) (View.ld x2 colsGa) (View.ld x2 colsGb) x3 x4 x5 x6 x7 cin := by
  have l0 : rd arg1 harg1 x0 allX = x0 := (rd_eq _ _ _ _).trans (View.ld_unit_lit _ _ zero2)
  have l1 : rd arg2 harg2 x1 allG = x1 := (rd_eq _ _ _ _).trans (View.ld_unit_lit _ _ zero2)
  have l3 : rd arg4 harg4 x3 allWf = x3 := (rd_eq _ _ _ _).trans (View.ld_unit_lit _ _ zero2)
  have l4 : rd arg5 harg5 x4 allL = x4 := (rd_eq _ _ _ _).trans (View.ld_unit_lit _ _ zero2)
  have l5 : rd arg6 harg6 x5 allN = x5 := (rd_eq _ _ _ _).trans (View.ld_unit_lit _ _ zero2)
  have l6 : rd arg7 harg7 x6 allN = x6 := (rd_eq _ _ _ _).trans (View.ld_unit_lit _ _ zero2)
  have l7 : rd arg8 harg8 x7 allB = x7 := (rd_eq _ _ _ _).trans (View.ld_unit_lit _ _ zero2)
  rw [l0, l1, l3, l4, l5, l6, l7, rd_eq, rd_eq, rd_eq, rd_eq, rd_eq, rd_eq]

section outs

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x5376 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x8 .f32) (harg14 : arg14.IsWhole) (arg15 : Memref sig .tc .vmem S256x8 .f32) (harg15 : arg15.IsWhole) (arg16 : Memref sig .tc .vmem S256x128 .f32) (harg16 : arg16.IsWhole) (arg17 : Memref sig .tc .vmem S1x1x1792 .f32) (harg17 : arg17.IsWhole) (arg18 : Memref sig .tc .vmem S1x128 .f32) (harg18 : arg18.IsWhole)
  (x0 : Vec F S256x1024 .f32) (x1 : Vec F S1x1024 .f32) (x2 : Vec F S1024x5376 .bf16) (x3 : Vec F S1024x128 .bf16) (x4 : Vec F S1x128 .f32) (x5 x6 : Vec F S1x512 .f32) (x7 : Vec F S512x512 .bf16) (xs0 : Vec F S1x128 .f32)

set_option maxHeartbeats 2000000 in
/-- What the first tile of a sequence leaves. -/
theorem outsA (hc0 : cond0_0 i) :
    (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7,
      sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7)
    = tile x0 x1 (View.ld x2 colsA) (View.ld x2 colsQ) (View.ld x2 colsK) (View.ld x2 colsV) (View.ld x2 colsGa) (View.ld x2 colsGb) x3 x4 x5 x6 x7 k0_pay16 := by
  obtain ⟨e8, e9, e10, e11, e12, e13, e14, e15, e16, e17⟩ := storesA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 hc0
  have hc : (View.readCov (Val := Elt F) arg18.view [⟨allL, k0_pay16 (F := F)⟩] allL.toLoadRect) = (k0_pay16 (F := F)) := View.readCov_unit_lit (Val := Elt F) arg18.view _ _ zero2
  have R : tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (View.readCov (Val := Elt F) arg18.view [⟨allL, k0_pay16 (F := F)⟩] allL.toLoadRect) = tile x0 x1 (View.ld x2 colsA) (View.ld x2 colsQ) (View.ld x2 colsK) (View.ld x2 colsV) (View.ld x2 colsGa) (View.ld x2 colsGb) x3 x4 x5 x6 x7 (k0_pay16 (F := F)) := by
    rw [hc]; exact loaded_tile arg1 harg1 arg2 harg2 arg3 harg3 arg4 harg4 arg5 harg5 arg6 harg6 arg7 harg7 arg8 harg8 x0 x1 x2 x3 x4 x5 x6 x7 (k0_pay16 (F := F))
  have a8 : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).1 := (View.read_writes_junk_eq_canon _ _).trans ((congrArg View.canon e8).trans ((View.canon_cons_unit_lit _ _ _ zero2).trans (congrArg (fun z : Carried F => z.1) R)))
  have a9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.1 := (View.read_writes_junk_eq_canon _ _).trans ((congrArg View.canon e9).trans ((View.canon_cons_unit_lit _ _ _ zero2).trans (congrArg (fun z : Carried F => z.2.1) R)))
  have a10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.2.1 := (View.read_writes_junk_eq_canon _ _).trans ((congrArg View.canon e10).trans ((View.canon_cons_unit_lit _ _ _ zero2).trans (congrArg (fun z : Carried F => z.2.2.1) R)))
  have a11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.2.2.1 := (View.read_writes_junk_eq_canon _ _).trans ((congrArg View.canon e11).trans ((View.canon_cons_unit_lit _ _ _ zero2).trans (congrArg (fun z : Carried F => z.2.2.2.1) R)))
  have a12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.2.2.2.1 := (View.read_writes_junk_eq_canon _ _).trans ((congrArg View.canon e12).trans ((View.canon_cons_unit_lit _ _ _ zero2).trans (congrArg (fun z : Carried F => z.2.2.2.2.1) R)))
  have a13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.2.2.2.2.1 := (View.read_writes_junk_eq_canon _ _).trans ((congrArg View.canon e13).trans ((View.canon_cons_unit_lit _ _ _ zero2).trans (congrArg (fun z : Carried F => z.2.2.2.2.2.1) R)))
  have a14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.2.2.2.2.2.1 := (View.read_writes_junk_eq_canon _ _).trans ((congrArg View.canon e14).trans ((View.canon_cons_unit_lit _ _ _ zero2).trans (congrArg (fun z : Carried F => z.2.2.2.2.2.2.1) R)))
  have a15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.2.2.2.2.2.2.1 := (View.read_writes_junk_eq_canon _ _).trans ((congrArg View.canon e15).trans ((View.canon_cons_unit_lit _ _ _ zero2).trans (congrArg (fun z : Carried F => z.2.2.2.2.2.2.2.1) R)))
  have a16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.2.2.2.2.2.2.2.1 := (View.read_writes_junk_eq_canon _ _).trans ((congrArg View.canon e16).trans ((View.canon_cons_unit_lit _ _ _ zero3).trans (congrArg (fun z : Carried F => z.2.2.2.2.2.2.2.2.1) R)))
  have a17 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 = (tile x0 x1 (View.ld x2 colsA) (View.ld x2 colsQ) (View.ld x2 colsK) (View.ld x2 colsV) (View.ld x2 colsGa) (View.ld x2 colsGb) x3 x4 x5 x6 x7 (k0_pay16 (F := F))).2.2.2.2.2.2.2.2.2 := (View.read_writes_junk_eq_canon _ _).trans ((congrArg View.canon e17).trans ((View.canon_cons_unit_lit _ _ _ zero2).trans (congrArg (fun z : Carried F => z.2.2.2.2.2.2.2.2.2) R)))
  rw [a8, a9, a10, a11, a12, a13, a14, a15, a16, a17]

set_option maxHeartbeats 2000000 in
/-- What another tile leaves, from the carried row. -/
theorem outsB (hc0 : ¬cond0_0 i) :
    (out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0,
      sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0)
    = tile x0 x1 (View.ld x2 colsA) (View.ld x2 colsQ) (View.ld x2 colsK) (View.ld x2 colsV) (View.ld x2 colsGa) (View.ld x2 colsGb) x3 x4 x5 x6 x7 xs0 := by
  obtain ⟨e8, e9, e10, e11, e12, e13, e14, e15, e16, e17⟩ := storesB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 xs0 hc0
  have hc : (rd arg18 harg18 xs0 allL) = xs0 := (rd_eq _ _ _ _).trans (View.ld_unit_lit _ _ zero2)
  have R : tile (rd arg1 harg1 x0 allX) (rd arg2 harg2 x1 allG) (rd arg3 harg3 x2 colsA) (rd arg3 harg3 x2 colsQ) (rd arg3 harg3 x2 colsK) (rd arg3 harg3 x2 colsV) (rd arg3 harg3 x2 colsGa) (rd arg3 harg3 x2 colsGb) (rd arg4 harg4 x3 allWf) (rd arg5 harg5 x4 allL) (rd arg6 harg6 x5 allN) (rd arg7 harg7 x6 allN) (rd arg8 harg8 x7 allB) (rd arg18 harg18 xs0 allL) = tile x0 x1 (View.ld x2 colsA) (View.ld x2 colsQ) (View.ld x2 colsK) (View.ld x2 colsV) (View.ld x2 colsGa) (View.ld x2 colsGb) x3 x4 x5 x6 x7 xs0 := by
    rw [hc]; exact loaded_tile arg1 harg1 arg2 harg2 arg3 harg3 arg4 harg4 arg5 harg5 arg6 harg6 arg7 harg7 arg8 harg8 x0 x1 x2 x3 x4 x5 x6 x7 xs0
  have a8 : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).1 := (View.read_writes_junk_eq_canon _ _).trans ((congrArg View.canon e8).trans ((View.canon_cons_unit_lit _ _ _ zero2).trans (congrArg (fun z : Carried F => z.1) R)))
  have a9 : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.1 := (View.read_writes_junk_eq_canon _ _).trans ((congrArg View.canon e9).trans ((View.canon_cons_unit_lit _ _ _ zero2).trans (congrArg (fun z : Carried F => z.2.1) R)))
  have a10 : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.2.1 := (View.read_writes_junk_eq_canon _ _).trans ((congrArg View.canon e10).trans ((View.canon_cons_unit_lit _ _ _ zero2).trans (congrArg (fun z : Carried F => z.2.2.1) R)))
  have a11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.2.2.1 := (View.read_writes_junk_eq_canon _ _).trans ((congrArg View.canon e11).trans ((View.canon_cons_unit_lit _ _ _ zero2).trans (congrArg (fun z : Carried F => z.2.2.2.1) R)))
  have a12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.2.2.2.1 := (View.read_writes_junk_eq_canon _ _).trans ((congrArg View.canon e12).trans ((View.canon_cons_unit_lit _ _ _ zero2).trans (congrArg (fun z : Carried F => z.2.2.2.2.1) R)))
  have a13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.2.2.2.2.1 := (View.read_writes_junk_eq_canon _ _).trans ((congrArg View.canon e13).trans ((View.canon_cons_unit_lit _ _ _ zero2).trans (congrArg (fun z : Carried F => z.2.2.2.2.2.1) R)))
  have a14 : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.2.2.2.2.2.1 := (View.read_writes_junk_eq_canon _ _).trans ((congrArg View.canon e14).trans ((View.canon_cons_unit_lit _ _ _ zero2).trans (congrArg (fun z : Carried F => z.2.2.2.2.2.2.1) R)))
  have a15 : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.2.2.2.2.2.2.1 := (View.read_writes_junk_eq_canon _ _).trans ((congrArg View.canon e15).trans ((View.canon_cons_unit_lit _ _ _ zero2).trans (congrArg (fun z : Carried F => z.2.2.2.2.2.2.2.1) R)))
  have a16 : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.2.2.2.2.2.2.2.1 := (View.read_writes_junk_eq_canon _ _).trans ((congrArg View.canon e16).trans ((View.canon_cons_unit_lit _ _ _ zero3).trans (congrArg (fun z : Carried F => z.2.2.2.2.2.2.2.2.1) R)))
  have a17 : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 xs0 = (tile x0 x1 (View.ld x2 colsA) (View.ld x2 colsQ) (View.ld x2 colsK) (View.ld x2 colsV) (View.ld x2 colsGa) (View.ld x2 colsGb) x3 x4 x5 x6 x7 xs0).2.2.2.2.2.2.2.2.2 := (View.read_writes_junk_eq_canon _ _).trans ((congrArg View.canon e17).trans ((View.canon_cons_unit_lit _ _ _ zero2).trans (congrArg (fun z : Carried F => z.2.2.2.2.2.2.2.2.2) R)))
  rw [a8, a9, a10, a11, a12, a13, a14, a15, a16, a17]

end outs

section step

variable (m : (ℓ : Loc nD τ sig) → Buf (Elt F) ℓ) (c : Dev nD)

/-- The tile of point `t`, from the row carried into it. -/
def tileAt (t : Fin cfg0.N) (cin : Vec F S1x128 .f32) : Carried F :=
  tile (iblk m c 0 t) (iblk m c 1 t) (View.ld (iblk m c 2 t) colsA) (View.ld (iblk m c 2 t) colsQ) (View.ld (iblk m c 2 t) colsK) (View.ld (iblk m c 2 t) colsV)
    (View.ld (iblk m c 2 t) colsGa) (View.ld (iblk m c 2 t) colsGb) (iblk m c 3 t) (iblk m c 4 t) (iblk m c 5 t) (iblk m c 6 t) (iblk m c 7 t) cin

/-- The first tile of a sequence starts from an empty sum. -/
theorem step_first (t : Fin cfg0.N) (acc : Carried F) (h : t.val % 16 = 0) : stAt0 m c t.val t.isLt acc = tileAt m c t k0_pay16 :=
  (stAt0_A m c t acc h).trans (outsA _ _ _ _ _ _ _ _ _ _ _ _ _ _ _ _ _ _ _ _ _ _ _ _ _ _ _ _ _ _ _ _ _ _ _ _ _ _ _ _ _ _ _ _ _ _ _)

/-- The other tiles go on from the carried row. -/
theorem step_next (t : Fin cfg0.N) (acc : Carried F) (h : ¬t.val % 16 = 0) : stAt0 m c t.val t.isLt acc = tileAt m c t acc.2.2.2.2.2.2.2.2.2 :=
  (stAt0_B m c t acc h).trans (outsB _ _ _ _ _ _ _ _ _ _ _ _ _ _ _ _ _ _ _ _ _ _ _ _ _ _ _ _ _ _ _ _ _ _ _ _ _ _ _ _ _ _ _ _ _ _ _ _)

end step

end Cert.Proof.Mix

end
-- ==== Proof.MixBlocks.lean ====
module

public import proofs.«01_k».proof.Proof.Heads
public import proofs.«01_k».proof.Proof.Gen.MixIdeal.Value
public import Idealize.ShloMosaic.Lib.StableHlo.RunRead

@[expose] public section

noncomputable section

/-! # The combined projection: what each grid point finds

The program drops the eight gate columns of the projection matrix into a matrix of their own, padded to 128 columns, repeats the
head norms' weights for every head, and builds the matrix that adds up a head's lanes. -/

namespace Cert.Proof.Mix

open Idealize.ShloMosaic Cert.Proof.Heads
open Cert.MixIdeal Cert.MixIdeal.Gen Idealize.ShloMosaic.TcCoe Idealize.SL.Sem

variable (m : (ℓ : Loc nD τ sig) → Buf (Elt Ideal) ℓ) (c : Dev nD)

/-- The matrix without its gate columns. -/
def wMain (w : FVec Ideal S1024x5384 .f32) : FVec Ideal S1024x5376 .bf16 :=
  truncf .bf16 (concatenate S1024x5376 1 [⟨S1024x3328, extractStridedSlice S1024x3328 ![0, 0] w slices_S1024x5384_S1024x3328_0_0⟩, ⟨S1024x2048, extractStridedSlice S1024x2048 ![0, 3336] w slices_S1024x5384_S1024x2048_0_3336⟩] concatenates_S1024x3328_S1024x2048_S1024x5376_d1) bitsLt_bf16_f32

/-- Where a column of the matrix without gates comes from. -/
def colOf (l : Fin 5376) : Fin 5384 := if l.val < 3328 then ⟨l.val, by omega⟩ else ⟨l.val + 8, by omega⟩

theorem wMain_apply (w : FVec Ideal S1024x5384 .f32) (k : Fin 1024) (l : Fin 5376) : wMain w (ix2 k l) = w (ix2 k (colOf l)) := by
  unfold colOf
  by_cases h : l.val < 3328
  · pointwise [wMain, h]
  · pointwise [wMain, h]
    exact congrArg (fun z => w (ix2 k z)) (Fin.ext (by show 3336 + (l.val - 3328) = l.val + 8; omega))

/-- The gate columns, padded with zeros. -/
def wGate (w : FVec Ideal S1024x5384 .f32) : FVec Ideal S1024x128 .bf16 :=
  truncf .bf16 (pad S1024x128 ![0, 0] ![0, 120] ![0, 0] (extractStridedSlice S1024x8 ![0, 3328] w slices_S1024x5384_S1024x8_0_3328) (sitofp .f32 (constantI S_ 32 0#32)) pads_S1024x8_S1024x128_000_01200 h_S_) bitsLt_bf16_f32

theorem wGate_apply (w : FVec Ideal S1024x5384 .f32) (k : Fin 1024) (j : Fin 8) : wGate w (ix2 k ⟨j.val, by omega⟩) = w (ix2 k ⟨3328 + j.val, by omega⟩) := by
  pointwise [wGate]

/-- The gates' offsets, padded with zeros. -/
def bGate (b : FVec Ideal S8 .f32) : FVec Ideal S1x128 .f32 :=
  shapeCast S1x128 (pad S128 ![0] ![120] ![0] b (sitofp .f32 (constantI S_ 32 0#32)) pads_S8_S128_01200 h_S_) shapeCasts_S128_S1x128

theorem bGate_apply (b : FVec Ideal S8 .f32) (j : Fin 8) : bGate b (ix2 0 ⟨j.val, by omega⟩) = b (ix1 j) := by
  pointwise [bGate]

/-- A head norm's weights, once for every head. -/
def tiled (n : FVec Ideal S64 .f32) : FVec Ideal S1x512 .f32 :=
  shapeCast S1x512 (shapeCast S512 (broadcastInDim S8x64 ![0, 1] bcast_S1x64_S8x64_0_1 (shapeCast S1x64 n shapeCasts_S64_S1x64)) shapeCasts_S8x64_S512) shapeCasts_S512_S1x512

theorem tiled_apply (n : FVec Ideal S64 .f32) (l : Fin 512) : tiled n (ix2 0 l) = n (ix1 (place l)) := by
  pointwise [tiled]
  rfl

/-- The norm's weights as a row. -/
theorem row_apply (g : FVec Ideal S1024 .f32) (k : Fin 1024) : shapeCast S1x1024 g shapeCasts_S1024_S1x1024 (ix2 0 k) = g (ix1 k) := by
  pointwise []

/-- The head matrix, as the program builds it. -/
def heads : FVec Ideal S512x512 .bf16 :=
  truncf .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 (uitofp .f32 (cmpi .eq (addi (iotaInDim S8x8 32 0) (broadcastInDim S8x8 ![] bcast_S_S8x8 (constantI S_ 32 0#32))) (iotaInDim S8x8 32 1))))) (broadcastInDim S8x64x8x64 ![0, 1, 2, 3] bcast_S1x64x1x64_S8x64x8x64_0_1_2_3 (broadcastInDim S1x64x1x64 ![1, 3] bcast_S64x64_S1x64x1x64_1_3 (broadcastInDim S64x64 ![] bcast_S_S64x64 (constant S_ .f32 0x3F800000#32))))) shapeCasts_S8x64x8x64_S512x512) bitsLt_bf16_f32

theorem heads_apply (j l : Fin 512) : heads (ix2 j l) = if head j = head l then (1 : EReal) else 0 := by
  pointwise [heads]
  exact eye (head j) (head l)

/-- What the region finds where the program prepares an operand. -/
theorem V_prepared :
    V m c main_v7 = shapeCast S1x1024 (m ((c : Thread nD τ).loc main_arg1)) shapeCasts_S1024_S1x1024
    ∧ V m c main_v3 = wMain (m ((c : Thread nD τ).loc main_arg2))
    ∧ V m c main_v6 = wGate (m ((c : Thread nD τ).loc main_arg2))
    ∧ V m c main_v9 = bGate (m ((c : Thread nD τ).loc main_arg3))
    ∧ V m c main_v13 = tiled (m ((c : Thread nD τ).loc main_arg4))
    ∧ V m c main_v17 = tiled (m ((c : Thread nD τ).loc main_arg5))
    ∧ V m c main_v26 = heads := by
  refine ⟨?_, ?_, ?_, ?_, ?_, ?_, ?_⟩ <;> (dsimp only [V]; after_reads_simp; rfl)

/-- Point `t` works on rows `256 t …`; everything else is whole at every point. -/
theorem inputs_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Row `i` of point `t`'s block, in the whole array. -/
def rowOf (t : Fin cfg0.N) (i : Fin 256) : Fin 16384 := ⟨t.val * 256 + i.val, by have : t.val < 64 := t.isLt; omega⟩

set_option maxHeartbeats 1000000 in
/-- What point `t` finds. -/
theorem found (t : Fin cfg0.N) :
    (∀ (i : Fin 256) (k : Fin 1024), iblk m c 0 t (ix2 i k) = m ((c : Thread nD τ).loc main_arg0) (ix2 (rowOf t i) k))
    ∧ (∀ k : Fin 1024, iblk m c 1 t (ix2 (0 : Fin 1) k) = m ((c : Thread nD τ).loc main_arg1) (ix1 k))
    ∧ (∀ (k : Fin 1024) (l : Fin 5376), iblk m c 2 t (ix2 k l) = m ((c : Thread nD τ).loc main_arg2) (ix2 k (colOf l)))
    ∧ (∀ (k : Fin 1024) (j : Fin 8), iblk m c 3 t (ix2 k (⟨j.val, by omega⟩ : Fin 128)) = m ((c : Thread nD τ).loc main_arg2) (ix2 k (⟨3328 + j.val, by omega⟩ : Fin 5384)))
    ∧ (∀ j : Fin 8, iblk m c 4 t (ix2 (0 : Fin 1) (⟨j.val, by omega⟩ : Fin 128)) = m ((c : Thread nD τ).loc main_arg3) (ix1 j))
    ∧ (∀ l : Fin 512, iblk m c 5 t (ix2 (0 : Fin 1) l) = m ((c : Thread nD τ).loc main_arg4) (ix1 (place l)))
    ∧ (∀ l : Fin 512, iblk m c 6 t (ix2 (0 : Fin 1) l) = m ((c : Thread nD τ).loc main_arg5) (ix1 (place l)))
    ∧ (∀ j l : Fin 512, iblk m c 7 t (ix2 j l) = if head j = head l then (1 : EReal) else 0) := by
  obtain ⟨e0, e1, e2, e3, e4, e5, e6, e7⟩ := inputs_at t
  obtain ⟨v1, v2, v3, v4, v5, v6, v7⟩ := V_prepared m c
  refine ⟨fun i k => ?_, fun k => ?_, fun k l => ?_, fun k j => ?_, fun j => ?_, fun l => ?_, fun l => ?_, fun j l => ?_⟩
  · exact (read_at (V m c main_arg0) _ _ _ (at_block e0.1) (at_first e0.2)).trans (congrFun (V_main_arg0 m c) _)
  · exact (read_at (V m c main_v7) _ _ _ (at_first e1.1) (at_first e1.2)).trans ((congrFun v1 _).trans (row_apply _ k))
  · exact (read_at (V m c main_v3) _ _ _ (at_first e2.1) (at_first e2.2)).trans ((congrFun v2 _).trans (wMain_apply _ k l))
  · exact (read_at (V m c main_v6) _ _ _ (at_first e3.1) (at_first e3.2)).trans ((congrFun v3 _).trans (wGate_apply _ k j))
  · exact (read_at (V m c main_v9) _ _ _ (at_first e4.1) (at_first e4.2)).trans ((congrFun v4 _).trans (bGate_apply _ j))
  · exact (read_at (V m c main_v13) _ _ _ (at_first e5.1) (at_first e5.2)).trans ((congrFun v5 _).trans (tiled_apply _ l))
  · exact (read_at (V m c main_v17) _ _ _ (at_first e6.1) (at_first e6.2)).trans ((congrFun v6 _).trans (tiled_apply _ l))
  · exact (read_at (V m c main_v26) _ _ _ (at_first e7.1) (at_first e7.2)).trans ((congrFun v7 _).trans (heads_apply j l))

end Cert.Proof.Mix

end
-- ==== Proof.MixFold.lean ====
module

public import proofs.«01_k».proof.Proof.MixBody
public import proofs.«01_k».proof.Proof.MixBlocks

@[expose] public section

noncomputable section

/-! # The combined projection: tile after tile

Each tile leaves its rows' projections; the sums of the gates' logarithms go on from tile to tile of one sequence. -/

namespace Cert.Proof.Mix

open Idealize.ShloMosaic Idealize.ShloMosaic.TcCoe Idealize.SL.Sem Cert.Proof.Heads
open Cert.MixIdeal Cert.MixIdeal.Gen Cert.MixIdeal.Value

variable (m : (ℓ : Loc nD τ sig) → Buf (Elt Ideal) ℓ) (c : Dev nD)

/-- The projection of row `n` on column `l`. -/
def cell (n : Fin 16384) (l : Fin 5384) : EReal :=
  proj (fun e => m ((c : Thread nD τ).loc main_arg0) (ix2 n e)) (fun e => m ((c : Thread nD τ).loc main_arg1) (ix1 e))
    (fun k => m ((c : Thread nD τ).loc main_arg2) (ix2 k l))

/-- A gate before the logistic function. -/
def gate (n : Fin 16384) (h : Fin 8) : EReal :=
  cell m c n ⟨3328 + h.val, by omega⟩ + m ((c : Thread nD τ).loc main_arg3) (ix1 h)

/-- The logarithm of a gate, by row and lane; zero past the eighth lane. -/
def logf (n : ℕ) (j : Fin 128) : EReal :=
  if j.val < 8 then lf (if h : n < 16384 ∧ j.val < 8 then gate m c ⟨n, h.1⟩ ⟨j.val, h.2⟩ else 0) else 0

/-- Their running sum, up to a row of its sequence. -/
def total (n : ℕ) (j : Fin 128) : EReal :=
  ∑ s ∈ Finset.range (n % 4096 + 1), logf m c (4096 * (n / 4096) + s) j

/-- The sum before a tile. -/
def before (t : ℕ) (j : Fin 128) : EReal :=
  ∑ s ∈ Finset.range (256 * (t % 16)), logf m c (4096 * (t / 16) + s) j

theorem logf_gate (n : Fin 16384) (h : Fin 8) (j : Fin 128) (hj : j.val = h.val) : logf m c n.val j = lf (gate m c n h) := by
  have hb : n.val < 16384 ∧ j.val < 8 := ⟨n.isLt, by omega⟩
  have e : (⟨j.val, hb.2⟩ : Fin 8) = h := Fin.ext hj
  unfold logf
  rw [if_pos hb.2, dif_pos hb, e, Fin.eta]

theorem logf_ne_top (n : ℕ) (j : Fin 128) : logf m c n j ≠ ⊤ := by
  unfold logf
  split
  · exact lf_ne_top _
  · exact EReal.zero_ne_top

theorem total_ne_top (n : ℕ) (j : Fin 128) : total m c n j ≠ ⊤ := sum_ne_top _ _ fun _ => logf_ne_top m c _ _

/-- The sum up to a row of a tile is the sum before the tile and the tile's own rows. -/
theorem total_tile (t : ℕ) (i : Fin 256) (j : Fin 128) :
    before m c t j + ∑ s ∈ Finset.range (i.val + 1), logf m c (256 * t + s) j = total m c (t * 256 + i.val) j := by
  have e1 : (t * 256 + i.val) % 4096 + 1 = 256 * (t % 16) + (i.val + 1) := by omega
  have e2 : (t * 256 + i.val) / 4096 = t / 16 := by omega
  unfold total before
  rw [e1, e2, Finset.sum_range_add (fun s => logf m c (4096 * (t / 16) + s) j)]
  congr 1
  refine Finset.sum_congr rfl fun s _ => ?_
  rw [show 256 * t + s = 4096 * (t / 16) + (256 * (t % 16) + s) by omega]

/-- The sum after a tile is the sum before the next of its sequence. -/
theorem total_last (t : ℕ) (j : Fin 128) (h : ¬(t + 1) % 16 = 0) : total m c (t * 256 + 255) j = before m c (t + 1) j := by
  have e1 : (t * 256 + 255) % 4096 + 1 = 256 * ((t + 1) % 16) := by omega
  have e2 : (t * 256 + 255) / 4096 = (t + 1) / 16 := by omega
  unfold total before
  rw [e1, e2]

section tile

variable (t : Fin cfg0.N)

/-- A projection of the blocks is the projection of the arrays. -/
theorem proj_found (i : Fin 256) (w : Fin 1024 → EReal) (l : Fin 5384) (hw : ∀ k, w k = m ((c : Thread nD τ).loc main_arg2) (ix2 k l)) :
    proj (fun e => iblk m c 0 t (ix2 i e)) (fun e => iblk m c 1 t (ix2 (0 : Fin 1) e)) w = cell m c (rowOf t i) l := by
  obtain ⟨f0, f1, -⟩ := found m c t
  unfold cell
  rw [show (fun e => iblk m c 0 t (ix2 i e)) = _ from funext fun e => f0 i e, show (fun e => iblk m c 1 t (ix2 (0 : Fin 1) e)) = _ from funext f1,
    show w = _ from funext hw]

/-- A slice of the staged matrix's columns. -/
theorem cols_found (k : Fin 1024) (l : Fin 5376) (l' : Fin 5384) (h : colOf l = l') :
    iblk m c 2 t (ix2 k l) = m ((c : Thread nD τ).loc main_arg2) (ix2 k l') := by
  rw [← h]; exact (found m c t).2.2.1 k l

theorem colOf_low (l : Fin 5376) (l' : Fin 5384) (h : l.val < 3328) (e : l'.val = l.val) : colOf l = l' := by
  unfold colOf; rw [if_pos h]; exact Fin.ext e.symm

theorem colOf_high (l : Fin 5376) (l' : Fin 5384) (h : ¬l.val < 3328) (e : l'.val = l.val + 8) : colOf l = l' := by
  unfold colOf; rw [if_neg h]; exact Fin.ext e.symm

variable (cin : Vec Ideal S1x128 .f32)

/-- The queries of a tile. -/
theorem tile_q (i : Fin 256) (l : Fin 512) : (tileAt m c t cin).1 (ix2 i l)
    = normAt (fun j => cell m c (rowOf t i) ⟨1792 + j.val, by omega⟩) (fun j => m ((c : Thread nD τ).loc main_arg4) (ix1 (place j))) l
      * Ideal.ofBits .f32 0x3E000000#32 := by
  obtain ⟨-, -, -, -, -, f5, -, f7⟩ := found m c t
  refine (pay14_apply _ i l).trans (congrArg (· * Ideal.ofBits .f32 0x3E000000#32) ((pay11_apply _ f7 _ _ i l).trans ?_))
  congr 1
  · funext j
    exact (pay4_apply _ _ _ i j).trans (proj_found m c t i _ _ fun k =>
      (read_at _ _ k (⟨1792 + j.val, by omega⟩ : Fin 5376) (by show 0 + 1 * k.val = k.val; omega) (by show 1792 + 1 * j.val = 1792 + j.val; omega)).trans
        (cols_found m c t k _ _ (colOf_low _ _ (by show 1792 + j.val < 3328; omega) rfl)))
  · funext j; exact f5 j

/-- The keys of a tile. -/
theorem tile_k (i : Fin 256) (l : Fin 512) : (tileAt m c t cin).2.1 (ix2 i l)
    = normAt (fun j => cell m c (rowOf t i) ⟨2304 + j.val, by omega⟩) (fun j => m ((c : Thread nD τ).loc main_arg5) (ix1 (place j))) l := by
  obtain ⟨-, -, -, -, -, -, f6, f7⟩ := found m c t
  refine (pay13_apply _ f7 _ _ i l).trans ?_
  congr 1
  · funext j
    exact (pay4_apply _ _ _ i j).trans (proj_found m c t i _ _ fun k =>
      (read_at _ _ k (⟨2304 + j.val, by omega⟩ : Fin 5376) (by show 0 + 1 * k.val = k.val; omega) (by show 2304 + 1 * j.val = 2304 + j.val; omega)).trans
        (cols_found m c t k _ _ (colOf_low _ _ (by show 2304 + j.val < 3328; omega) rfl)))
  · funext j; exact f6 j

/-- The values of a tile. -/
theorem tile_v (i : Fin 256) (l : Fin 512) : (tileAt m c t cin).2.2.1 (ix2 i l) = cell m c (rowOf t i) ⟨2816 + l.val, by omega⟩ :=
  (pay4_apply _ _ _ i l).trans (proj_found m c t i _ _ fun k =>
    (read_at _ _ k (⟨2816 + l.val, by omega⟩ : Fin 5376) (by show 0 + 1 * k.val = k.val; omega) (by show 2816 + 1 * l.val = 2816 + l.val; omega)).trans
      (cols_found m c t k _ _ (colOf_low _ _ (by show 2816 + l.val < 3328; omega) rfl)))

/-- The first gate of a tile. -/
theorem tile_ga (i : Fin 256) (l : Fin 1024) : (tileAt m c t cin).2.2.2.1 (ix2 i l) = sigAt (cell m c (rowOf t i) ⟨3336 + l.val, by omega⟩) :=
  (pay9_apply _ i l).trans (congrArg sigAt ((pay7_apply _ _ _ i l).trans (proj_found m c t i _ _ fun k =>
    (read_at _ _ k (⟨3328 + l.val, by omega⟩ : Fin 5376) (by show 0 + 1 * k.val = k.val; omega) (by show 3328 + 1 * l.val = 3328 + l.val; omega)).trans
      (cols_found m c t k _ _ (colOf_high _ _ (by show ¬3328 + l.val < 3328; omega) (by show 3336 + l.val = 3328 + l.val + 8; omega))))))

/-- The second gate of a tile. -/
theorem tile_gb (i : Fin 256) (l : Fin 1024) : (tileAt m c t cin).2.2.2.2.1 (ix2 i l) = sigAt (cell m c (rowOf t i) ⟨4360 + l.val, by omega⟩) :=
  (pay10_apply _ _ _ i l).trans (congrArg sigAt (proj_found m c t i _ _ fun k =>
    (read_at _ _ k (⟨4352 + l.val, by omega⟩ : Fin 5376) (by show 0 + 1 * k.val = k.val; omega) (by show 4352 + 1 * l.val = 4352 + l.val; omega)).trans
      (cols_found m c t k _ _ (colOf_high _ _ (by show ¬4352 + l.val < 3328; omega) (by show 4360 + l.val = 4352 + l.val + 8; omega)))))

/-- The last row of a tile. -/
theorem tile_sh (l : Fin 1792) : (tileAt m c t cin).2.2.2.2.2.2.2.2.1 (ix3 0 0 l) = cell m c (rowOf t 255) ⟨l.val, by omega⟩ :=
  (pay1_apply _ l).trans ((pay3_apply _ _ _ 255 l).trans (proj_found m c t 255 _ _ fun k =>
    (read_at _ _ k (⟨l.val, by omega⟩ : Fin 5376) (by show 0 + 1 * k.val = k.val; omega) (by show 0 + 1 * l.val = l.val; omega)).trans
      (cols_found m c t k _ _ (colOf_low _ _ (by show l.val < 3328; omega) rfl))))

/-- The gates' logarithms of a tile, in all lanes. -/
theorem tile_log (i : Fin 256) (j : Fin 128) :
    k0_pay15 (F := Ideal) (k0_pay2 (iblk m c 0 t) (iblk m c 1 t)) (iblk m c 3 t) (iblk m c 4 t) (ix2 i j) = logf m c (256 * t.val + i.val) j := by
  obtain ⟨-, -, -, f3, f4, -⟩ := found m c t
  refine (pay15_apply _ _ _ i j).trans ?_
  by_cases hj : j.val < 8
  · rw [show 256 * t.val + i.val = (rowOf t i).val from by show _ = t.val * 256 + i.val; omega, logf_gate m c (rowOf t i) ⟨j.val, hj⟩ j rfl, if_pos hj]
    unfold gate
    rw [← proj_found m c t i (fun k => iblk m c 3 t (ix2 k j)) ⟨3328 + j.val, by omega⟩ fun k => f3 k ⟨j.val, hj⟩]
    refine congrArg lf (congrArg₂ (· + ·) ?_ (f4 ⟨j.val, hj⟩))
    exact Finset.sum_congr rfl fun k _ => congrArg (· * _) (pay2_apply _ _ i k)
  · unfold logf
    rw [if_neg hj, if_neg hj]

variable (hc : ∀ j, cin (ix2 0 j) = before m c t.val j)
include hc

/-- The running sums of a tile, in all lanes. -/
theorem tile_sums (i : Fin 256) (j : Fin 128) :
    sums (k0_pay15 (F := Ideal) (k0_pay2 (iblk m c 0 t) (iblk m c 1 t)) (iblk m c 3 t) (iblk m c 4 t)) cin (ix2 i j)
      = total m c (t.val * 256 + i.val) j :=
  (pay17_apply _ _ (fun s => logf m c (256 * t.val + s)) (fun _ _ => logf_ne_top m c _ _) (tile_log m c t) i j).trans
    ((congrArg (· + _) (hc j)).trans (total_tile m c t.val i j))

omit hc in
theorem tile_lf (i : Fin 256) (h : Fin 8) : (tileAt m c t cin).2.2.2.2.2.1 (ix2 i h) = logf m c (256 * t.val + i.val) ⟨h.val, by omega⟩ :=
  (pay19_apply _ i h).trans (tile_log m c t i _)

theorem tile_cum (i : Fin 256) (h : Fin 8) :
    (tileAt m c t cin).2.2.2.2.2.2.1 (ix2 i h) = total m c (t.val * 256 + i.val) ⟨h.val, by omega⟩ :=
  (pay20_apply _ i h).trans (tile_sums m c t cin hc i _)

theorem tile_nck (i : Fin 256) (j : Fin 128) : (tileAt m c t cin).2.2.2.2.2.2.2.1 (ix2 i j)
    = if Used j then -total m c (t.val * 256 + i.val) (src j) else 0 :=
  pay21_apply _ i _ (fun _ => total_ne_top m c _ _) (tile_sums m c t cin hc i) j

/-- What a tile carries on. -/
theorem tile_carry (j : Fin 128) : (tileAt m c t cin).2.2.2.2.2.2.2.2.2 (ix2 0 j) = total m c (t.val * 256 + 255) j :=
  (pay18_apply _ _ _ _ j).trans (tile_sums m c t cin hc 255 j)

end tile

/-- Every tile in order: each goes on from the sum before it. -/
theorem fold_tile : ∀ (n : ℕ) (h : 0 + n < cfg0.N), ∃ cin : Vec Ideal S1x128 .f32,
    (∀ j, cin (ix2 0 j) = before m c n j)
    ∧ Pipeline.accAt (fun n h => stAt0 m c n h junk0) (stAt0 m c) 0 n h = tileAt m c ⟨n, by omega⟩ cin
  | 0, h => ⟨k0_pay16 (F := Ideal), fun j => by rw [pay16_apply]; simp [before], step_first m c ⟨0, by omega⟩ _ rfl⟩
  | n + 1, h => by
    obtain ⟨cin, hc, e⟩ := fold_tile n (Nat.lt_of_succ_lt h)
    rw [Pipeline.accAt_succ, e]
    have hz : ∀ (k : ℕ) (hk : k < cfg0.N), k = n + 1 → ∀ acc, stAt0 m c k hk acc = stAt0 m c (n + 1) (by omega) acc := by
      intro k hk e acc; subst e; rfl
    rw [hz _ _ (by omega)]
    by_cases h0 : (n + 1) % 16 = 0
    · exact ⟨k0_pay16 (F := Ideal), fun j => by rw [pay16_apply]; simp [before, h0], step_first m c ⟨n + 1, by omega⟩ _ h0⟩
    · exact ⟨_, fun j => by
        rw [← total_last m c n j h0]; exact tile_carry m c ⟨n, by omega⟩ cin hc j, step_next m c ⟨n + 1, by omega⟩ _ h0⟩

end Cert.Proof.Mix

end
-- ==== Proof.MixOut.lean ====
module

public import proofs.«01_k».proof.Proof.MixFold

@[expose] public section

noncomputable section

/-! # The combined projection: the kernel's results, entry by entry -/

namespace Cert.Proof.Mix

open Idealize.ShloMosaic Idealize.ShloMosaic.TcCoe Idealize.SL.Sem Cert.Proof.Heads
open Cert.MixIdeal Cert.MixIdeal.Gen Cert.MixIdeal.Value

variable (m : (ℓ : Loc nD τ sig) → Buf (Elt Ideal) ℓ) (c : Dev nD)

theorem tile_lt (n : Fin 16384) : n.val / 256 < cfg0.N := lt_of_lt_of_eq (by omega : n.val / 256 < 64) N_0.symm

/-- A row of the array is a row of its tile. -/
theorem row_back (n : Fin 16384) : rowOf (⟨n.val / 256, tile_lt n⟩ : Fin cfg0.N) (⟨n.val % 256, by omega⟩ : Fin 256) = n :=
  Fin.ext (by show n.val / 256 * 256 + n.val % 256 = n.val; omega)

theorem row_split (n : Fin 16384) : n.val / 256 * 256 + n.val % 256 = n.val := by omega

theorem row_split' (n : Fin 16384) : 256 * (n.val / 256) + n.val % 256 = n.val := by omega

/-- The queries. -/
theorem kernel_q (n : Fin 16384) (l : Fin 512) : G8 m c (ix2 n l)
    = normAt (fun j => cell m c n ⟨1792 + j.val, by omega⟩) (fun j => m ((c : Thread nD τ).loc main_arg4) (ix1 (place j))) l
      * Ideal.ofBits .f32 0x3E000000#32 := by
  obtain ⟨cin, hc, e⟩ := fold_tile m c (n.val / 256) (by have := tile_lt n; omega)
  have hp : pt8Of (ix2 n l) = n.val / 256 := by
    show 1 * (n.val / 256 - 0) + 1 * (l.val / 512 - 0) = _; omega
  have hl : loc8Of (ix2 n l) = ix2 (⟨n.val % 256, by omega⟩ : Fin 256) l := by
    funext q; apply Fin.ext
    match q with
    | ⟨0, _⟩ => rfl
    | ⟨1, _⟩ => show l.val % 512 = l.val; omega
  unfold G8
  rw [dif_pos (by rw [hp]; exact tile_lt n), hl, fold0_congr m c _ _ _ (by have := tile_lt n; omega) hp, e]
  refine (tile_q m c ⟨n.val / 256, tile_lt n⟩ cin ⟨n.val % 256, by omega⟩ l).trans ?_
  rw [row_back]

/-- The keys. -/
theorem kernel_k (n : Fin 16384) (l : Fin 512) : G9 m c (ix2 n l)
    = normAt (fun j => cell m c n ⟨2304 + j.val, by omega⟩) (fun j => m ((c : Thread nD τ).loc main_arg5) (ix1 (place j))) l := by
  obtain ⟨cin, hc, e⟩ := fold_tile m c (n.val / 256) (by have := tile_lt n; omega)
  have hp : pt9Of (ix2 n l) = n.val / 256 := by
    show 1 * (n.val / 256 - 0) + 1 * (l.val / 512 - 0) = _; omega
  have hl : loc9Of (ix2 n l) = ix2 (⟨n.val % 256, by omega⟩ : Fin 256) l := by
    funext q; apply Fin.ext
    match q with
    | ⟨0, _⟩ => rfl
    | ⟨1, _⟩ => show l.val % 512 = l.val; omega
  unfold G9
  rw [dif_pos (by rw [hp]; exact tile_lt n), hl, fold0_congr m c _ _ _ (by have := tile_lt n; omega) hp, e]
  refine (tile_k m c ⟨n.val / 256, tile_lt n⟩ cin ⟨n.val % 256, by omega⟩ l).trans ?_
  rw [row_back]

/-- The values. -/
theorem kernel_v (n : Fin 16384) (l : Fin 512) : G10 m c (ix2 n l)
    = cell m c n ⟨2816 + l.val, by omega⟩ := by
  obtain ⟨cin, hc, e⟩ := fold_tile m c (n.val / 256) (by have := tile_lt n; omega)
  have hp : pt10Of (ix2 n l) = n.val / 256 := by
    show 1 * (n.val / 256 - 0) + 1 * (l.val / 512 - 0) = _; omega
  have hl : loc10Of (ix2 n l) = ix2 (⟨n.val % 256, by omega⟩ : Fin 256) l := by
    funext q; apply Fin.ext
    match q with
    | ⟨0, _⟩ => rfl
    | ⟨1, _⟩ => show l.val % 512 = l.val; omega
  unfold G10
  rw [dif_pos (by rw [hp]; exact tile_lt n), hl, fold0_congr m c _ _ _ (by have := tile_lt n; omega) hp, e]
  refine (tile_v m c ⟨n.val / 256, tile_lt n⟩ cin ⟨n.val % 256, by omega⟩ l).trans ?_
  rw [row_back]

/-- The first gate. -/
theorem kernel_ga (n : Fin 16384) (l : Fin 1024) : G11 m c (ix2 n l)
    = sigAt (cell m c n ⟨3336 + l.val, by omega⟩) := by
  obtain ⟨cin, hc, e⟩ := fold_tile m c (n.val / 256) (by have := tile_lt n; omega)
  have hp : pt11Of (ix2 n l) = n.val / 256 := by
    show 1 * (n.val / 256 - 0) + 1 * (l.val / 1024 - 0) = _; omega
  have hl : loc11Of (ix2 n l) = ix2 (⟨n.val % 256, by omega⟩ : Fin 256) l := by
    funext q; apply Fin.ext
    match q with
    | ⟨0, _⟩ => rfl
    | ⟨1, _⟩ => show l.val % 1024 = l.val; omega
  unfold G11
  rw [dif_pos (by rw [hp]; exact tile_lt n), hl, fold0_congr m c _ _ _ (by have := tile_lt n; omega) hp, e]
  refine (tile_ga m c ⟨n.val / 256, tile_lt n⟩ cin ⟨n.val % 256, by omega⟩ l).trans ?_
  rw [row_back]

/-- The second gate. -/
theorem kernel_gb (n : Fin 16384) (l : Fin 1024) : G12 m c (ix2 n l)
    = sigAt (cell m c n ⟨4360 + l.val, by omega⟩) := by
  obtain ⟨cin, hc, e⟩ := fold_tile m c (n.val / 256) (by have := tile_lt n; omega)
  have hp : pt12Of (ix2 n l) = n.val / 256 := by
    show 1 * (n.val / 256 - 0) + 1 * (l.val / 1024 - 0) = _; omega
  have hl : loc12Of (ix2 n l) = ix2 (⟨n.val % 256, by omega⟩ : Fin 256) l := by
    funext q; apply Fin.ext
    match q with
    | ⟨0, _⟩ => rfl
    | ⟨1, _⟩ => show l.val % 1024 = l.val; omega
  unfold G12
  rw [dif_pos (by rw [hp]; exact tile_lt n), hl, fold0_congr m c _ _ _ (by have := tile_lt n; omega) hp, e]
  refine (tile_gb m c ⟨n.val / 256, tile_lt n⟩ cin ⟨n.val % 256, by omega⟩ l).trans ?_
  rw [row_back]

/-- The gates' logarithms. -/
theorem kernel_lf (n : Fin 16384) (l : Fin 8) : G13 m c (ix2 n l)
    = logf m c n.val ⟨l.val, by omega⟩ := by
  obtain ⟨cin, hc, e⟩ := fold_tile m c (n.val / 256) (by have := tile_lt n; omega)
  have hp : pt13Of (ix2 n l) = n.val / 256 := by
    show 1 * (n.val / 256 - 0) + 1 * (l.val / 8 - 0) = _; omega
  have hl : loc13Of (ix2 n l) = ix2 (⟨n.val % 256, by omega⟩ : Fin 256) l := by
    funext q; apply Fin.ext
    match q with
    | ⟨0, _⟩ => rfl
    | ⟨1, _⟩ => show l.val % 8 = l.val; omega
  unfold G13
  rw [dif_pos (by rw [hp]; exact tile_lt n), hl, fold0_congr m c _ _ _ (by have := tile_lt n; omega) hp, e]
  refine (tile_lf m c ⟨n.val / 256, tile_lt n⟩ cin ⟨n.val % 256, by omega⟩ l).trans ?_
  dsimp only; rw [row_split']

/-- Their running sums. -/
theorem kernel_cum (n : Fin 16384) (l : Fin 8) : G14 m c (ix2 n l)
    = total m c n.val ⟨l.val, by omega⟩ := by
  obtain ⟨cin, hc, e⟩ := fold_tile m c (n.val / 256) (by have := tile_lt n; omega)
  have hp : pt14Of (ix2 n l) = n.val / 256 := by
    show 1 * (n.val / 256 - 0) + 1 * (l.val / 8 - 0) = _; omega
  have hl : loc14Of (ix2 n l) = ix2 (⟨n.val % 256, by omega⟩ : Fin 256) l := by
    funext q; apply Fin.ext
    match q with
    | ⟨0, _⟩ => rfl
    | ⟨1, _⟩ => show l.val % 8 = l.val; omega
  unfold G14
  rw [dif_pos (by rw [hp]; exact tile_lt n), hl, fold0_congr m c _ _ _ (by have := tile_lt n; omega) hp, e]
  refine (tile_cum m c ⟨n.val / 256, tile_lt n⟩ cin hc ⟨n.val % 256, by omega⟩ l).trans ?_
  dsimp only; rw [row_split]

/-- The running sums with the sign turned, in the lanes of the scores. -/
theorem kernel_nck (n : Fin 16384) (l : Fin 128) : G15 m c (ix2 n l)
    = if Used l then -total m c n.val (src l) else 0 := by
  obtain ⟨cin, hc, e⟩ := fold_tile m c (n.val / 256) (by have := tile_lt n; omega)
  have hp : pt15Of (ix2 n l) = n.val / 256 := by
    show 1 * (n.val / 256 - 0) + 1 * (l.val / 128 - 0) = _; omega
  have hl : loc15Of (ix2 n l) = ix2 (⟨n.val % 256, by omega⟩ : Fin 256) l := by
    funext q; apply Fin.ext
    match q with
    | ⟨0, _⟩ => rfl
    | ⟨1, _⟩ => show l.val % 128 = l.val; omega
  unfold G15
  rw [dif_pos (by rw [hp]; exact tile_lt n), hl, fold0_congr m c _ _ _ (by have := tile_lt n; omega) hp, e]
  refine (tile_nck m c ⟨n.val / 256, tile_lt n⟩ cin hc ⟨n.val % 256, by omega⟩ l).trans ?_
  dsimp only; rw [row_split]

/-- The last rows of the sequences. -/
theorem kernel_sh (b : Fin 4) (l : Fin 1792) : G16 m c (ix3 b 0 l) = cell m c ⟨4096 * b.val + 4095, by omega⟩ ⟨l.val, by omega⟩ := by
  have hN : 16 * b.val + 15 < cfg0.N := lt_of_lt_of_eq (by omega : 16 * b.val + 15 < 64) N_0.symm
  obtain ⟨cin, hc, e⟩ := fold_tile m c (16 * b.val + 15) (by omega)
  have hp : pt16Of (ix3 b 0 l) = 16 * b.val + 15 := by
    show 16 * (1 * (b.val / 1 - 0) + 1 * (0 / 1 - 0) + 1 * (l.val / 1792 - 0)) + 15 = _; omega
  have hl : loc16Of (ix3 b 0 l) = ix3 0 0 l := by
    funext q; apply Fin.ext
    match q with
    | ⟨0, _⟩ => show b.val % 1 = 0; omega
    | ⟨1, _⟩ => rfl
    | ⟨2, _⟩ => show l.val % 1792 = l.val; omega
  unfold G16
  rw [dif_pos (by rw [hp]; exact hN), hl, fold0_congr m c _ _ _ (by omega) hp, e]
  refine (tile_sh m c ⟨16 * b.val + 15, hN⟩ cin l).trans ?_
  rw [show rowOf (⟨16 * b.val + 15, hN⟩ : Fin cfg0.N) 255 = ⟨4096 * b.val + 4095, by omega⟩ from
    Fin.ext (by show (16 * b.val + 15) * 256 + 255 = 4096 * b.val + 4095; omega)]

end Cert.Proof.Mix

end
-- ==== Proof.MixSum.lean ====
module

public import proofs.«01_k».proof.Proof.Gen.MixReferenceIdeal
public import proofs.«01_k».proof.Proof.Heads

@[expose] public section

noncomputable section

/-! # The reference's running sum

The host writes a running sum along an axis as a window sum of the padded array: each window ends at its own row and reaches
over all rows before it; the padding adds zeros. -/

namespace Cert.Proof.Mix

open Idealize.ShloMosaic Cert.MixReferenceIdeal Cert.MixReferenceIdeal.Gen

theorem foldl_eq_sum {n : ℕ} (f : Fin n → EReal) (v : EReal) :
    (List.finRange n).foldl (fun r k => r + f k) v = v + ∑ k, f k := by
  rw [Fin.sum_univ_def]
  generalize List.finRange n = L
  induction L generalizing v with
  | nil => simp
  | cons a L ih => rw [List.foldl_cons, ih, List.map_cons, List.sum_cons, add_assoc]

/-- The window that ends at row `t` covers the rows up to `t`. -/
theorem sum_window (f : ℕ → EReal) (t : Fin 4096) :
    ∑ k : Fin 4096, (if 4095 ≤ t.val + k.val then f (t.val + k.val - 4095) else 0) = ∑ s ∈ Finset.range (t.val + 1), f s := by
  rw [Fin.sum_univ_eq_sum_range (fun k => if 4095 ≤ t.val + k then f (t.val + k - 4095) else 0) 4096, ← Finset.sum_filter]
  have ht := t.isLt
  refine Finset.sum_nbij' (fun k => t.val + k - 4095) (fun s => s + 4095 - t.val) ?_ ?_ ?_ ?_ ?_
  all_goals
    intro a ha
    simp only [Finset.mem_filter, Finset.mem_range] at ha ⊢
    try omega

/-- The indices of a window. -/
def windowIdx : (⟨3, ![1, 4096, 1]⟩ : Shape).Idx ≃ Fin 4096 where
  toFun i := i 1
  invFun k := ix3 0 k 0
  left_inv i := by
    funext d; match d with
    | ⟨0, _⟩ => exact Subsingleton.elim (α := Fin 1) _ _
    | ⟨1, _⟩ => rfl
    | ⟨2, _⟩ => exact Subsingleton.elim (α := Fin 1) _ _
  right_inv _ := rfl

/-- The reference's running sum at row `t` of a sequence: the sum of the rows up to `t`. -/
theorem running_sum (x : FVec Ideal S4x4096x8 .f32) (b : Fin 4) (t : Fin 4096) (h : Fin 8) (f : ℕ → EReal)
    (hf : ∀ s : Fin 4096, x (ix3 b s h) = f s.val) :
    Host.reduceWindowAdd ![1, 4096, 1] ![1, 1, 1] ![0, 4095, 0] ![0, 0, 0] x
        (broadcastInDim S_ ![] bcast_S_S_ (constant S_ .f32 0x00000000#32))
        reduceWindows_S4x4096x8_S4x4096x8_w1s1p0_0_w4096s1p4095_0_w1s1p0_0 h_S_ (ix3 b t h)
      = ∑ s ∈ Finset.range (t.val + 1), f s := by
  have hv : broadcastInDim S_ ![] bcast_S_S_ (constant (F := Ideal) S_ .f32 0x00000000#32) (Shape.Idx.first h_S_) = (0 : EReal) := by
    pointwise []
  rw [Host.reduceWindowAdd, Ideal.hostReduceWindowAdd_def, hv, Ideal.hostReduceWindowAdd, Host.reduceWindow]
  refine (foldl_eq_sum _ _).trans ?_
  rw [zero_add, ← sum_window f t]
  refine Fintype.sum_equiv ((Shape.rowMajor _).symm.trans windowIdx) _ _ fun n => ?_
  let i := (Shape.rowMajor (⟨3, ![1, 4096, 1]⟩ : Shape)).symm n
  let k : Fin 4096 := i 1
  have e0 : ((Shape.rowMajor (⟨3, ![1, 4096, 1]⟩ : Shape)).symm n 0).val = 0 := Nat.lt_one_iff.1 (i 0).isLt
  have e2 : ((Shape.rowMajor (⟨3, ![1, 4096, 1]⟩ : Shape)).symm n 2).val = 0 := Nat.lt_one_iff.1 (i 2).isLt
  have ht := t.isLt
  have hk := k.isLt
  show _ = if 4095 ≤ t.val + k.val then f (t.val + k.val - 4095) else 0
  by_cases hc : 4095 ≤ t.val + k.val
  · rw [if_pos hc]
    refine (dif_pos ?_).trans ?_
    · intro a
      match a with
      | ⟨0, _⟩ => exact ⟨Nat.zero_le _, by show b.val * 1 + (i 0).val - 0 < 4; have := b.isLt; have : (i 0).val = 0 := e0; omega⟩
      | ⟨1, _⟩ => exact ⟨by show 4095 ≤ t.val * 1 + k.val; omega, by show t.val * 1 + k.val - 4095 < 4096; omega⟩
      | ⟨2, _⟩ => exact ⟨Nat.zero_le _, by show h.val * 1 + (i 2).val - 0 < 8; have := h.isLt; have : (i 2).val = 0 := e2; omega⟩
    · rw [← hf ⟨t.val + k.val - 4095, by omega⟩]
      congr 1
      funext a
      match a with
      | ⟨0, _⟩ => exact Fin.ext (by show b.val * 1 + (i 0).val - 0 = b.val; have : (i 0).val = 0 := e0; omega)
      | ⟨1, _⟩ => exact Fin.ext (by show t.val * 1 + k.val - 4095 = t.val + k.val - 4095; omega)
      | ⟨2, _⟩ => exact Fin.ext (by show h.val * 1 + (i 2).val - 0 = h.val; have : (i 2).val = 0 := e2; omega)
  · rw [if_neg hc]
    refine dif_neg fun hin => hc ?_
    have h1 : 4095 ≤ t.val * 1 + k.val := (hin 1).1
    omega

end Cert.Proof.Mix

end
-- ==== Proof.MixRef.lean ====
module

public import proofs.«01_k».proof.Proof.Gen.MixReferenceIdeal.Run
public import proofs.«01_k».proof.Proof.MixGate
public import proofs.«01_k».proof.Proof.MixSum

@[expose] public section

noncomputable section

/-! # The combined projection, cell by cell: the reference -/

namespace Cert.Proof.Mix

open Idealize.ShloMosaic Cert.Proof.Heads
open Cert.MixReferenceIdeal Cert.MixReferenceIdeal.Gen

/-- The reference's normalised rows times the weights. -/
def refP (x : FVec Ideal S16384x1024 .f32) (g : FVec Ideal S1024 .f32) (w : FVec Ideal S1024x5384 .f32) : FVec Ideal S16384x5384 .f32 :=
  Host.dotGeneral dot_S16384x1024_S1024x5384_S16384x5384_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem refP_apply (x : FVec Ideal S16384x1024 .f32) (g : FVec Ideal S1024 .f32) (w : FVec Ideal S1024x5384 .f32)
    (i : Fin 16384) (l : Fin 5384) :
    refP x g w (ix2 i l) = proj (fun e => x (ix2 i e)) (fun e => g (ix1 e)) (fun k => w (ix2 k l)) := by
  pointwise [refP, proj, rowH]

/-- The reference's normalisation of each head. -/
def refNorm (y : FVec Ideal S16384x512 .f32) (n : FVec Ideal S64 .f32) : FVec Ideal S16384x8x64 .f32 :=
  (mulf (mulf (shapeCast S16384x8x64 y shapeCasts_S16384x512_S16384x8x64) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (shapeCast S16384x8x64 y shapeCasts_S16384x512_S16384x8x64) (shapeCast S16384x8x64 y shapeCasts_S16384x512_S16384x8x64)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 n)))

theorem refNorm_apply (y : FVec Ideal S16384x512 .f32) (n : FVec Ideal S64 .f32) (i : Fin 16384) (l : Fin 512) :
    shapeCast S16384x512 (refNorm y n) shapeCasts_S16384x8x64_S16384x512 (ix2 i l)
      = normAt (fun j => y (ix2 i j)) (fun j => n (ix1 (place j))) l := by
  obtain ⟨h, d, rfl⟩ : ∃ h d, l = lane h d := ⟨head l, place l, (lane_head_place l).symm⟩
  have e1 : shapeCast S16384x512 (refNorm y n) shapeCasts_S16384x8x64_S16384x512 (ix2 i (lane h d)) = refNorm y n (ix3 i h d) := by
    generalize refNorm y n = Y
    have : shapeCast S16384x512 Y shapeCasts_S16384x8x64_S16384x512 (ix2 i (lane h d)) = Y (ix3 i (head (lane h d)) (place (lane h d))) := by
      pointwise [head, place]
    rw [this, head_lane, place_lane]
  have e2 : ∀ (h : Fin 8) (d : Fin 64), shapeCast S16384x8x64 y shapeCasts_S16384x512_S16384x8x64 (ix3 i h d) = y (ix2 i (lane h d)) := by
    intro h d; pointwise [lane]
  rw [e1, normAt, head_lane, place_lane]
  generalize hY : shapeCast S16384x8x64 y shapeCasts_S16384x512_S16384x8x64 = Y at e2
  pointwise [refNorm, hY]
  simp only [e2]

/-- The reference's logistic function. -/
def refSig (z : FVec Ideal S16384x1024 .f32) : FVec Ideal S16384x1024 .bf16 :=
  truncf .bf16 (Host.divf (broadcastInDim S16384x1024 ![] bcast_S_S16384x1024 (constant S_ .f32 0x3F800000#32)) (addf (broadcastInDim S16384x1024 ![] bcast_S_S16384x1024 (constant S_ .f32 0x3F800000#32)) (Host.exp (Host.negf z)))) bitsLt_bf16_f32

theorem refSig_apply (z : FVec Ideal S16384x1024 .f32) (i : Fin 16384) (l : Fin 1024) :
    refSig z (ix2 i l) = sigAt (z (ix2 i l)) := by
  pointwise [refSig, sigAt]

/-- The gates with their offsets. -/
def refZ (p : FVec Ideal S16384x5384 .f32) (b : FVec Ideal S8 .f32) : FVec Ideal S16384x8 .f32 :=
  addf (extractStridedSlice S16384x8 ![0, 3328] p slices_S16384x5384_S16384x8_0_3328) (broadcastInDim S16384x8 ![0, 1] bcast_S1x8_S16384x8_0_1 (broadcastInDim S1x8 ![1] bcast_S8_S1x8_1 b))

theorem refZ_apply (p : FVec Ideal S16384x5384 .f32) (b : FVec Ideal S8 .f32) (i : Fin 16384) (h : Fin 8) :
    refZ p b (ix2 i h) = p (ix2 i ⟨3328 + h.val, by omega⟩) + b (ix1 h) := by
  pointwise [refZ]

/-- The reference's logarithm of the logistic function. -/
def refLf (z : FVec Ideal S16384x8 .f32) : FVec Ideal S16384x8 .f32 :=
  Host.negf (select (cmpf .une (subf (Host.negf z) (broadcastInDim S16384x8 ![] bcast_S_S16384x8 (constant S_ .f32 0x00000000#32))) (subf (Host.negf z) (broadcastInDim S16384x8 ![] bcast_S_S16384x8 (constant S_ .f32 0x00000000#32)))) (addf (Host.negf z) (broadcastInDim S16384x8 ![] bcast_S_S16384x8 (constant S_ .f32 0x00000000#32))) (addf (maximumf (Host.negf z) (broadcastInDim S16384x8 ![] bcast_S_S16384x8 (constant S_ .f32 0x00000000#32))) (Host.log1p (Host.exp (Host.negf (Host.absf (subf (Host.negf z) (broadcastInDim S16384x8 ![] bcast_S_S16384x8 (constant S_ .f32 0x00000000#32)))))))))

theorem refLf_apply (z : FVec Ideal S16384x8 .f32) (i : Fin 16384) (h : Fin 8) : refLf z (ix2 i h) = lf (z (ix2 i h)) := by
  pointwise [refLf]
  rw [if_neg (fun h => h rfl)]
  exact lf_host _

/-- The reference's running sums along each sequence. -/
def refCum (a : FVec Ideal S16384x8 .f32) : FVec Ideal S16384x8 .f32 :=
  shapeCast S16384x8 (Host.reduceWindowAdd ![1, 4096, 1] ![1, 1, 1] ![0, 4095, 0] ![0, 0, 0] (shapeCast S4x4096x8 a shapeCasts_S16384x8_S4x4096x8) (broadcastInDim S_ ![] bcast_S_S_ (constant S_ .f32 0x00000000#32)) reduceWindows_S4x4096x8_S4x4096x8_w1s1p0_0_w4096s1p4095_0_w1s1p0_0 h_S_) shapeCasts_S4x4096x8_S16384x8

theorem refCum_apply (a : FVec Ideal S16384x8 .f32) (i : Fin 16384) (h : Fin 8) (f : ℕ → EReal)
    (hf : ∀ (s : Fin 16384), a (ix2 s h) = f s.val) :
    refCum a (ix2 i h) = ∑ s ∈ Finset.range (i.val % 4096 + 1), f (4096 * (i.val / 4096) + s) := by
  unfold refCum
  generalize hW : Host.reduceWindowAdd ![1, 4096, 1] ![1, 1, 1] ![0, 4095, 0] ![0, 0, 0] (shapeCast S4x4096x8 a shapeCasts_S16384x8_S4x4096x8) (broadcastInDim S_ ![] bcast_S_S_ (constant S_ .f32 0x00000000#32)) reduceWindows_S4x4096x8_S4x4096x8_w1s1p0_0_w4096s1p4095_0_w1s1p0_0 h_S_ = W
  have e : shapeCast S16384x8 W shapeCasts_S4x4096x8_S16384x8 (ix2 i h) = W (ix3 ⟨i.val / 4096, by omega⟩ ⟨i.val % 4096, by omega⟩ h) := by
    pointwise []
  rw [e, ← hW, running_sum _ _ _ _ (fun s => f (4096 * (i.val / 4096) + s)) ?_]
  intro s
  rw [← hf ⟨4096 * (i.val / 4096) + s.val, by omega⟩]
  pointwise []
  exact read_at a _ _ _ (by show i.val / 4096 * 4096 + s.val = 4096 * (i.val / 4096) + s.val; omega) rfl

/-- The reference's bias lanes. -/
def refNck (a : FVec Ideal S16384x8 .f32) : FVec Ideal S16384x128 .f32 :=
  shapeCast S16384x128 (pad S16384x8x16 ![0, 0, 0] ![0, 4, 10] ![0, 0, 0] (shapeCast S16384x4x6 (broadcastInDim S16384x4x2x3 ![0, 1, 2] bcast_S16384x4x2_S16384x4x2x3_0_1_2 (Host.negf (shapeCast S16384x4x2 a shapeCasts_S16384x8_S16384x4x2))) shapeCasts_S16384x4x2x3_S16384x4x6) (sitofp .f32 (constantI S_ 32 0#32)) pads_S16384x4x6_S16384x8x16_000_040_0100 h_S_) shapeCasts_S16384x8x16_S16384x128

theorem refNck_apply (a : FVec Ideal S16384x8 .f32) (i : Fin 16384) (j : Fin 128) (f : Fin 128 → EReal)
    (hf : ∀ h : Fin 8, a (ix2 i h) = f ⟨h.val, by omega⟩) :
    refNck a (ix2 i j) = if Used j then -f (src j) else 0 := by
  pointwise [refNck]
  by_cases u : Used j
  · have u1 := u.1
    have u2 := u.2
    have e : src j = ⟨j.val / 16 * 2 + j.val % 16 / 3, by omega⟩ :=
      Fin.ext (by show (2 * (j.val / 16) + j.val % 16 / 3) % 128 = j.val / 16 * 2 + j.val % 16 / 3; omega)
    have rhs : (if Used j then -f (src j) else 0) = -f ⟨j.val / 16 * 2 + j.val % 16 / 3, by omega⟩ := by
      rw [← e]; exact if_pos u
    refine (dif_pos ⟨u.2, u.1⟩).trans (Eq.trans ?_ rhs.symm)
    generalize hz : a (ix2 i ⟨j.val / 16 * 2 + j.val % 16 / 3, by omega⟩) = z
    rw [← hf ⟨j.val / 16 * 2 + j.val % 16 / 3, by omega⟩, hz]
  · refine (dif_neg (fun h => u ⟨h.2, h.1⟩)).trans (Eq.trans ?_ (if_neg u).symm)
    show (((0#32 : BitVec 32).toInt : ℝ) : EReal) = 0
    simp

/-- The reference's last rows. -/
def refSh (p : FVec Ideal S16384x5384 .f32) : FVec Ideal S4x1x1792 .f32 :=
  extractStridedSlice S4x1x1792 ![0, 4095, 0] (shapeCast S4x4096x1792 (extractStridedSlice S16384x1792 ![0, 0] p slices_S16384x5384_S16384x1792_0_0) shapeCasts_S16384x1792_S4x4096x1792) slices_S4x4096x1792_S4x1x1792_0_4095_0

set_option maxRecDepth 8192 in
theorem refSh_apply (p : FVec Ideal S16384x5384 .f32) (b : Fin 4) (l : Fin 1792) :
    refSh p (ix3 b 0 l) = p (ix2 ⟨4096 * b.val + 4095, by omega⟩ ⟨l.val, by omega⟩) := by
  unfold refSh
  generalize hr : (⟨4096 * b.val + 4095, by omega⟩ : Fin 16384) = r
  generalize hy : extractStridedSlice S16384x1792 ![0, 0] p slices_S16384x5384_S16384x1792_0_0 = y
  have e1 : ∀ z : FVec Ideal S4x4096x1792 .f32,
      extractStridedSlice S4x1x1792 ![0, 4095, 0] z slices_S4x4096x1792_S4x1x1792_0_4095_0 (ix3 b 0 l) = z (ix3 b ⟨4095, by omega⟩ l) := by
    intro z; pointwise []
  have e2 : shapeCast S4x4096x1792 y shapeCasts_S16384x1792_S4x4096x1792 (ix3 b ⟨4095, by omega⟩ l) = y (ix2 r l) := by
    pointwise []
    exact read_at y _ _ _ (by rw [← hr]; show b.val * 4096 + 4095 = 4096 * b.val + 4095; omega) rfl
  have e3 : y (ix2 r l) = p (ix2 r ⟨l.val, by omega⟩) := by
    subst hy; pointwise []
  rw [e1, e2, e3]

theorem slice_q (p : FVec Ideal S16384x5384 .f32) (i : Fin 16384) (l : Fin 512) :
    extractStridedSlice S16384x512 ![0, 1792] p slices_S16384x5384_S16384x512_0_1792 (ix2 i l) = p (ix2 i ⟨1792 + l.val, by omega⟩) := by
  pointwise []

theorem slice_k (p : FVec Ideal S16384x5384 .f32) (i : Fin 16384) (l : Fin 512) :
    extractStridedSlice S16384x512 ![0, 2304] p slices_S16384x5384_S16384x512_0_2304 (ix2 i l) = p (ix2 i ⟨2304 + l.val, by omega⟩) := by
  pointwise []

theorem slice_v (p : FVec Ideal S16384x5384 .f32) (i : Fin 16384) (l : Fin 512) :
    extractStridedSlice S16384x512 ![0, 2816] p slices_S16384x5384_S16384x512_0_2816 (ix2 i l) = p (ix2 i ⟨2816 + l.val, by omega⟩) := by
  pointwise []

theorem slice_ga (p : FVec Ideal S16384x5384 .f32) (i : Fin 16384) (l : Fin 1024) :
    extractStridedSlice S16384x1024 ![0, 3336] p slices_S16384x5384_S16384x1024_0_3336 (ix2 i l) = p (ix2 i ⟨3336 + l.val, by omega⟩) := by
  pointwise []

theorem slice_gb (p : FVec Ideal S16384x5384 .f32) (i : Fin 16384) (l : Fin 1024) :
    extractStridedSlice S16384x1024 ![0, 4360] p slices_S16384x5384_S16384x1024_0_4360 (ix2 i l) = p (ix2 i ⟨4360 + l.val, by omega⟩) := by
  pointwise []

end Cert.Proof.Mix

end
-- ==== Proof.Mix.lean ====
module

public import proofs.«01_k».proof.Defs
public import proofs.«01_k».proof.Proof.MixOut
public import proofs.«01_k».proof.Proof.MixRef
public import Idealize.ShloMosaic.Lib.Claim

@[expose] public section

noncomputable section

/-! # The combined projection: the tiled kernel computes the plain projection

Both programs' nine results are the same entries of the same projections. -/

namespace Cert.Proof.Mix

open Idealize.ShloMosaic Idealize.ShloMosaic.TcCoe Idealize.SL.Sem Cert.Proof.Heads

section reference
open Cert.MixReferenceIdeal Cert.MixReferenceIdeal.Gen

variable (x : FVec Ideal S16384x1024 .f32) (g : FVec Ideal S1024 .f32) (w : FVec Ideal S1024x5384 .f32)

/-- The reference's queries. -/
def refQ (n : FVec Ideal S64 .f32) : FVec Ideal S16384x512 .f32 :=
  mulf (shapeCast S16384x512 (refNorm (extractStridedSlice S16384x512 ![0, 1792] (refP x g w) slices_S16384x5384_S16384x512_0_1792) n) shapeCasts_S16384x8x64_S16384x512)
    (broadcastInDim S16384x512 ![] bcast_S_S16384x512 (constant S_ .f32 0x3E000000#32))

/-- The reference's keys. -/
def refK (n : FVec Ideal S64 .f32) : FVec Ideal S16384x512 .f32 :=
  shapeCast S16384x512 (refNorm (extractStridedSlice S16384x512 ![0, 2304] (refP x g w) slices_S16384x5384_S16384x512_0_2304) n) shapeCasts_S16384x8x64_S16384x512

/-- An entry of the reference's projections. -/
def refCell (i : Fin 16384) (l : Fin 5384) : EReal := proj (fun e => x (ix2 i e)) (fun e => g (ix1 e)) (fun k => w (ix2 k l))

theorem refK_apply (n : FVec Ideal S64 .f32) (i : Fin 16384) (l : Fin 512) :
    refK x g w n (ix2 i l) = normAt (fun j => refCell x g w i ⟨2304 + j.val, by omega⟩) (fun j => n (ix1 (place j))) l := by
  refine (refNorm_apply _ n i l).trans ?_
  congr 1
  funext j
  exact (slice_k _ i j).trans (refP_apply x g w i _)

theorem refQ_apply (n : FVec Ideal S64 .f32) (i : Fin 16384) (l : Fin 512) : refQ x g w n (ix2 i l)
    = normAt (fun j => refCell x g w i ⟨1792 + j.val, by omega⟩) (fun j => n (ix1 (place j))) l * Ideal.ofBits .f32 0x3E000000#32 := by
  refine congrArg (· * Ideal.ofBits .f32 0x3E000000#32) ((refNorm_apply _ n i l).trans ?_)
  congr 1
  funext j
  exact (slice_q _ i j).trans (refP_apply x g w i _)

/-- The reference's logarithms of the gates. -/
def refLog (b : FVec Ideal S8 .f32) : FVec Ideal S16384x8 .f32 := refLf (refZ (refP x g w) b)

end reference

section logs
variable (m : (ℓ : Loc Cert.MixIdeal.nD Cert.MixIdeal.τ Cert.MixIdeal.sig) → Buf (Elt Ideal) ℓ) (c : Dev Cert.MixIdeal.nD)

theorem refLog_apply (i : Fin 16384) (h : Fin 8) :
    refLog (m ((c : Thread Cert.MixIdeal.nD Cert.MixIdeal.τ).loc Cert.MixIdeal.main_arg0)) (m ((c : Thread Cert.MixIdeal.nD Cert.MixIdeal.τ).loc Cert.MixIdeal.main_arg1))
      (m ((c : Thread Cert.MixIdeal.nD Cert.MixIdeal.τ).loc Cert.MixIdeal.main_arg2)) (m ((c : Thread Cert.MixIdeal.nD Cert.MixIdeal.τ).loc Cert.MixIdeal.main_arg3)) (ix2 i h)
      = logf m c i.val ⟨h.val, by omega⟩ := by
  rw [logf_gate m c i h ⟨h.val, by omega⟩ rfl]
  refine (refLf_apply _ i h).trans (congrArg lf ((refZ_apply _ _ i h).trans ?_))
  rw [refP_apply]
  rfl

theorem refTotal_apply (i : Fin 16384) (h : Fin 8) :
    refCum (refLog (m ((c : Thread Cert.MixIdeal.nD Cert.MixIdeal.τ).loc Cert.MixIdeal.main_arg0)) (m ((c : Thread Cert.MixIdeal.nD Cert.MixIdeal.τ).loc Cert.MixIdeal.main_arg1))
      (m ((c : Thread Cert.MixIdeal.nD Cert.MixIdeal.τ).loc Cert.MixIdeal.main_arg2)) (m ((c : Thread Cert.MixIdeal.nD Cert.MixIdeal.τ).loc Cert.MixIdeal.main_arg3))) (ix2 i h)
      = total m c i.val ⟨h.val, by omega⟩ :=
  refCum_apply _ i h (fun s => logf m c s ⟨h.val, by omega⟩) fun s => refLog_apply m c s h

end logs

/-- The kernel of the combined projection and its reference end with equal results. -/
theorem claim : Cert.algebraic_MixIdeal_MixReferenceIdeal := by
  intro m ρ m' ρ' _ hm
  refine ⟨fun c => Cert.MixIdeal.Value.G8 m c, fun c => Cert.MixIdeal.Value.G9 m c, fun c => Cert.MixIdeal.Value.G10 m c,
    fun c => Cert.MixIdeal.Value.G11 m c, fun c => Cert.MixIdeal.Value.G12 m c, fun c => Cert.MixIdeal.Value.G13 m c,
    fun c => Cert.MixIdeal.Value.G14 m c, fun c => Cert.MixIdeal.Value.G15 m c, fun c => Cert.MixIdeal.Value.G16 m c,
    Cert.MixIdeal.Value.run (F := Ideal) m ρ, ?_⟩
  refine Idealize.ShloMosaic.θ_run_mono (Cert.MixReferenceIdeal.Value.run (F := Ideal) m' ρ') fun r h c => ?_
  obtain ⟨hq, hk, hv, ha, hb, hl, hs, hn, hsh, hargs⟩ := h c
  obtain ⟨a0, a1, a2, a3, a4, a5⟩ := hm c
  generalize e0 : m' ((c.tc : Thread Cert.MixReferenceIdeal.nD Cert.MixReferenceIdeal.τ).loc Cert.MixReferenceIdeal.main_arg0) = x at a0
  generalize e1 : m' ((c.tc : Thread Cert.MixReferenceIdeal.nD Cert.MixReferenceIdeal.τ).loc Cert.MixReferenceIdeal.main_arg1) = g at a1
  generalize e2 : m' ((c.tc : Thread Cert.MixReferenceIdeal.nD Cert.MixReferenceIdeal.τ).loc Cert.MixReferenceIdeal.main_arg2) = w at a2
  generalize e3 : m' ((c.tc : Thread Cert.MixReferenceIdeal.nD Cert.MixReferenceIdeal.τ).loc Cert.MixReferenceIdeal.main_arg3) = b at a3
  generalize e4 : m' ((c.tc : Thread Cert.MixReferenceIdeal.nD Cert.MixReferenceIdeal.τ).loc Cert.MixReferenceIdeal.main_arg4) = qn at a4
  generalize e5 : m' ((c.tc : Thread Cert.MixReferenceIdeal.nD Cert.MixReferenceIdeal.τ).loc Cert.MixReferenceIdeal.main_arg5) = kn at a5
  have el : Cert.MixReferenceIdeal.Value.res_main_v56 m' c = refLog x g w b := by subst e0 e1 e2 e3; rfl
  have ec : Cert.MixReferenceIdeal.Value.res_main_v59 m' c = refCum (refLog x g w b) := by subst e0 e1 e2 e3; rfl
  have en : Cert.MixReferenceIdeal.Value.res_main_v65 m' c = refNck (refCum (refLog x g w b)) := by subst e0 e1 e2 e3; rfl
  rw [e0, e1, e2, e4] at hq
  rw [e0, e1, e2, e5] at hk
  rw [e0, e1, e2] at hv ha hb hsh
  rw [e0, e1, e2, e3, e4, e5] at hargs
  rw [el] at hl
  rw [ec] at hs
  rw [en] at hn
  clear el ec en
  subst a0 a1 a2 a3 a4 a5
  refine ⟨hq.trans ?_, hk.trans ?_, hv.trans ?_, ha.trans ?_, hb.trans ?_, hl.trans ?_, hs.trans ?_, hn.trans ?_, hsh.trans ?_, hargs⟩
  · funext i
    obtain ⟨n, l, rfl⟩ : ∃ (n : Fin 16384) (l : Fin 512), i = ix2 n l := ⟨i 0, i 1, by funext x; fin_cases x <;> rfl⟩
    exact (refQ_apply _ _ _ _ n l).trans (kernel_q m c n l).symm
  · funext i
    obtain ⟨n, l, rfl⟩ : ∃ (n : Fin 16384) (l : Fin 512), i = ix2 n l := ⟨i 0, i 1, by funext x; fin_cases x <;> rfl⟩
    exact (refK_apply _ _ _ _ n l).trans (kernel_k m c n l).symm
  · funext i
    obtain ⟨n, l, rfl⟩ : ∃ (n : Fin 16384) (l : Fin 512), i = ix2 n l := ⟨i 0, i 1, by funext x; fin_cases x <;> rfl⟩
    exact (slice_v _ n l).trans ((refP_apply _ _ _ n _).trans (kernel_v m c n l).symm)
  · funext i
    obtain ⟨n, l, rfl⟩ : ∃ (n : Fin 16384) (l : Fin 1024), i = ix2 n l := ⟨i 0, i 1, by funext x; fin_cases x <;> rfl⟩
    exact (refSig_apply _ n l).trans ((congrArg sigAt ((slice_ga _ n l).trans (refP_apply _ _ _ n _))).trans (kernel_ga m c n l).symm)
  · funext i
    obtain ⟨n, l, rfl⟩ : ∃ (n : Fin 16384) (l : Fin 1024), i = ix2 n l := ⟨i 0, i 1, by funext x; fin_cases x <;> rfl⟩
    exact (refSig_apply _ n l).trans ((congrArg sigAt ((slice_gb _ n l).trans (refP_apply _ _ _ n _))).trans (kernel_gb m c n l).symm)
  · funext i
    obtain ⟨n, l, rfl⟩ : ∃ (n : Fin 16384) (l : Fin 8), i = ix2 n l := ⟨i 0, i 1, by funext x; fin_cases x <;> rfl⟩
    exact (refLog_apply m c n l).trans (kernel_lf m c n l).symm
  · funext i
    obtain ⟨n, l, rfl⟩ : ∃ (n : Fin 16384) (l : Fin 8), i = ix2 n l := ⟨i 0, i 1, by funext x; fin_cases x <;> rfl⟩
    exact (refTotal_apply m c n l).trans (kernel_cum m c n l).symm
  · funext i
    obtain ⟨n, l, rfl⟩ : ∃ (n : Fin 16384) (l : Fin 128), i = ix2 n l := ⟨i 0, i 1, by funext x; fin_cases x <;> rfl⟩
    exact (refNck_apply _ n l (total m c n.val) fun h => refTotal_apply m c n h).trans (kernel_nck m c n l).symm
  · funext i
    obtain ⟨n, o, l, rfl⟩ : ∃ (n : Fin 4) (o : Fin 1) (l : Fin 1792), i = ix3 n o l := ⟨i 0, i 1, i 2, by funext x; fin_cases x <;> rfl⟩
    obtain rfl : o = 0 := Subsingleton.elim _ _
    exact (refSh_apply _ n l).trans ((refP_apply _ _ _ _ _).trans (kernel_sh m c n l).symm)

end Cert.Proof.Mix

end
-- ==== Proof.Body.lean ====
module

public import proofs.«01_k».proof.Proof.Cell
public import proofs.«01_k».proof.Proof.Gen.KernelIdeal.Frame

@[expose] public section

noncomputable section

/-! # What the body leaves in its buffers

At each grid point the body stores sixteen blocks of results, one per batch row and pair of heads, and sixteen states;
at the first point it first stores the given initial states, at the last point it also stores the states' diagonal
blocks. Each store's payload is the one chunk computation of `Cell.lean` on that pair's loads. -/

namespace Cert.Proof.Rscan

open Idealize.ShloMosaic Idealize.SL.Sem
open Cert.KernelIdeal Cert.KernelIdeal.Gen

variable {F : FTy → Type} [FloatOps F]

/-- A pair of heads of one batch row: the row and the pair. -/
abbrev Prob : Type := Fin 4 × Fin 4

/-- The pairs in the order of the list of stores, the last store first. -/
def probs : List Prob :=
  [(3, 3), (3, 2), (3, 1), (3, 0), (2, 3), (2, 2), (2, 1), (2, 0), (1, 3), (1, 2), (1, 1), (1, 0), (0, 3), (0, 2), (0, 1), (0, 0)]

/-- Every pair is in the list. -/
theorem mem_probs (p : Prob) : p ∈ probs := by revert p; decide

/-- A pair's 64 rows and 128 lanes of a block. -/
def rectY (p : Prob) : Rect S4x64x512 :=
  Rect.unit (s := S4x64x512) ![p.1.val, 0, 128 * p.2.val] S1x64x128.size (by
    obtain ⟨⟨a, ha⟩, ⟨b, hb⟩⟩ := p
    intro d; match d with
    | 0 => show a + 1 ≤ 4; omega
    | 1 => show 0 + 64 ≤ 64; omega
    | 2 => show 128 * b + 128 ≤ 512; omega)

/-- A pair's place in the scratch. -/
def rectS (p : Prob) : Rect S16x128x128 :=
  Rect.unit (s := S16x128x128) ![4 * p.1.val + p.2.val, 0, 0] S1x128x128.size (by
    obtain ⟨⟨a, ha⟩, ⟨b, hb⟩⟩ := p
    intro d; match d with
    | 0 => show 4 * a + b + 1 ≤ 16; omega
    | 1 => show 0 + 128 ≤ 128; omega
    | 2 => show 0 + 128 ≤ 128; omega)

/-- The place of one head of a pair in the array of states. -/
def rectT (p : Prob) (h : Fin 2) : Rect S4x8x64x64 :=
  Rect.unit (s := S4x8x64x64) ![p.1.val, 2 * p.2.val + h.val, 0, 0] S1x1x64x64.size (by
    obtain ⟨⟨a, ha⟩, ⟨b, hb⟩⟩ := p; obtain ⟨h, hh⟩ := h
    intro d; match d with
    | 0 => show a + 1 ≤ 4; omega
    | 1 => show 2 * b + h + 1 ≤ 8; omega
    | 2 => show 0 + 64 ≤ 64; omega
    | 3 => show 0 + 64 ≤ 64; omega)

/-- What a load of a pair's rows and lanes reads of a staging buffer. -/
def rd (arg : Memref sig .tc .vmem S4x64x512 .f32) (h : arg.IsWhole) (x : Vec F S4x64x512 .f32) (p : Prob) : Vec F S1x64x128 .f32 :=
  View.readAt (Elt F) arg.view (rectY p).toLoadRect (h.unread x)

/-- What a load of a pair's state reads of the scratch. -/
def rdS (arg : Memref sig .tc .vmem S16x128x128 .f32) (h : arg.IsWhole) (x : Vec F S16x128x128 .f32) (p : Prob) : Vec F S1x128x128 .f32 :=
  View.readAt (Elt F) arg.view (rectS p).toLoadRect (h.unread x)

/-- What a load of one head's state reads of the initial states. -/
def rdT (arg : Memref sig .tc .vmem S4x8x64x64 .f32) (h : arg.IsWhole) (x : Vec F S4x8x64x64 .f32) (p : Prob) (k : Fin 2) :
    Vec F S1x1x64x64 .f32 :=
  View.readAt (Elt F) arg.view (rectT p k).toLoadRect (h.unread x)

/-- The initial state of a pair: its two heads' states on the diagonal. -/
def cellInit (t b : Vec F S1x1x64x64 .f32) : FVec F S1x128x128 .f32 :=
  shapeCast S1x128x128 (concatenate S128x128 0
    [⟨S64x128, concatenate S64x128 1 [⟨S64x64, shapeCast S64x64 t shapeCasts_S1x1x64x64_S64x64⟩,
        ⟨S64x64, broadcast S64x64 (zeroF (F := F))⟩] concatenates_S64x64_S64x64_S64x128_d1⟩,
      ⟨S64x128, concatenate S64x128 1 [⟨S64x64, broadcast S64x64 (zeroF (F := F))⟩,
        ⟨S64x64, shapeCast S64x64 b shapeCasts_S1x1x64x64_S64x64⟩] concatenates_S64x64_S64x64_S64x128_d1⟩]
    concatenates_S64x128_S64x128_S128x128_d0) shapeCasts_S128x128_S1x128x128

/-- The stores of the results, over what each pair loads of its state. -/
def storesY (x0 x1 x2 x3 x4 x5 : Prob → Vec F S1x64x128 .f32) (s : Prob → Vec F S1x128x128 .f32) :
    List (View.Piece (Elt F) S4x64x512 .f32) :=
  probs.map fun p => ⟨rectY p, cellY (x0 p) (x1 p) (x2 p) (x3 p) (x4 p) (x5 p) (s p)⟩

/-- The stores of the states. -/
def storesS (x1 x2 x3 x4 x5 : Prob → Vec F S1x64x128 .f32) (s : Prob → Vec F S1x128x128 .f32) :
    List (View.Piece (Elt F) S16x128x128 .f32) :=
  probs.map fun p => ⟨rectS p, cellS (x1 p) (x2 p) (x3 p) (x4 p) (x5 p) (s p)⟩

/-- The stores of the initial states. -/
def storesInit (x6 : Prob → Fin 2 → Vec F S1x1x64x64 .f32) : List (View.Piece (Elt F) S16x128x128 .f32) :=
  probs.map fun p => ⟨rectS p, cellInit (x6 p 0) (x6 p 1)⟩

/-- The stores of the final states. -/
def storesT (x1 x2 x3 x4 x5 : Prob → Vec F S1x64x128 .f32) (s : Prob → Vec F S1x128x128 .f32) :
    List (View.Piece (Elt F) S4x8x64x64 .f32) :=
  probs.flatMap fun p => [⟨rectT p 1, cellBot (x1 p) (x2 p) (x3 p) (x4 p) (x5 p) (s p)⟩,
    ⟨rectT p 0, cellTop (x1 p) (x2 p) (x3 p) (x4 p) (x5 p) (s p)⟩]

section runs

variable (c : Dev nD) (i : grid0.Coords) (arg2 : Memref sig .tc .vmem S4x64x512 .f32) (harg2 : arg2.IsWhole) (arg3 : Memref sig .tc .vmem S4x64x512 .f32) (harg3 : arg3.IsWhole) (arg4 : Memref sig .tc .vmem S4x64x512 .f32) (harg4 : arg4.IsWhole) (arg5 : Memref sig .tc .vmem S4x64x512 .f32) (harg5 : arg5.IsWhole) (arg6 : Memref sig .tc .vmem S4x64x512 .f32) (harg6 : arg6.IsWhole) (arg7 : Memref sig .tc .vmem S4x64x512 .f32) (harg7 : arg7.IsWhole) (arg8 : Memref sig .tc .vmem S4x8x64x64 .f32) (harg8 : arg8.IsWhole) (arg9 : Memref sig .tc .vmem S4x64x512 .f32) (harg9 : arg9.IsWhole) (arg10 : Memref sig .tc .vmem S4x8x64x64 .f32) (harg10 : arg10.IsWhole) (arg11 : Memref sig .tc .vmem S16x128x128 .f32) (harg11 : arg11.IsWhole)
  (x0 x1 x2 x3 x4 x5 : Vec F S4x64x512 .f32) (x6 : Vec F S4x8x64x64 .f32) (xs0 : Vec F S16x128x128 .f32)

/-- The results' stores at the first point. -/
theorem piecesA_y (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 hc0 hc1 x0 x1 x2 x3 x4 x5 x6).1
      = storesY (rd arg2 harg2 x0) (rd arg3 harg3 x1) (rd arg4 harg4 x2) (rd arg5 harg5 x3) (rd arg6 harg6 x4) (rd arg7 harg7 x5)
          (fun p => arg11.view.readCov (storesInit (rdT arg8 harg8 x6)) (rectS p).toLoadRect) := rfl

/-- The states' stores at the first point. -/
theorem piecesA_s (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 hc0 hc1 x0 x1 x2 x3 x4 x5 x6).2.2.1
      = storesS (rd arg3 harg3 x1) (rd arg4 harg4 x2) (rd arg5 harg5 x3) (rd arg6 harg6 x4) (rd arg7 harg7 x5)
          (fun p => arg11.view.readCov (storesInit (rdT arg8 harg8 x6)) (rectS p).toLoadRect) ++ storesInit (rdT arg8 harg8 x6) := rfl

/-- The results' stores at a middle point. -/
theorem piecesB_y (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1
      = storesY (rd arg2 harg2 x0) (rd arg3 harg3 x1) (rd arg4 harg4 x2) (rd arg5 harg5 x3) (rd arg6 harg6 x4) (rd arg7 harg7 x5)
          (rdS arg11 harg11 xs0) := rfl

/-- The states' stores at a middle point. -/
theorem piecesB_s (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.2.1
      = storesS (rd arg3 harg3 x1) (rd arg4 harg4 x2) (rd arg5 harg5 x3) (rd arg6 harg6 x4) (rd arg7 harg7 x5)
          (rdS arg11 harg11 xs0) := rfl

/-- The results' stores at the last point. -/
theorem piecesC_y (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1
      = storesY (rd arg2 harg2 x0) (rd arg3 harg3 x1) (rd arg4 harg4 x2) (rd arg5 harg5 x3) (rd arg6 harg6 x4) (rd arg7 harg7 x5)
          (rdS arg11 harg11 xs0) := rfl

/-- The states' stores at the last point. -/
theorem piecesC_s (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1
      = storesS (rd arg3 harg3 x1) (rd arg4 harg4 x2) (rd arg5 harg5 x3) (rd arg6 harg6 x4) (rd arg7 harg7 x5)
          (rdS arg11 harg11 xs0) := rfl

/-- The final states' stores at the last point. -/
theorem piecesC_t (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1
      = storesT (rd arg3 harg3 x1) (rd arg4 harg4 x2) (rd arg5 harg5 x3) (rd arg6 harg6 x4) (rd arg7 harg7 x5)
          (rdS arg11 harg11 xs0) := rfl

end runs

end Cert.Proof.Rscan
-- ==== Proof.Stores.lean ====
module

public import proofs.«01_k».proof.Proof.Body
public import proofs.«01_k».proof.Proof.Blocks
public import Idealize.ShloMosaic.Lib.Pipeline.CanonAppend

@[expose] public section

noncomputable section

/-! # The body's loads and stores, at an index

What a pair's load reads, and what the lists of stores of `Body.lean` leave at each index of their buffers. -/

namespace Cert.Proof.Rscan

open Idealize.ShloMosaic Idealize.SL.Sem
open Cert.KernelIdeal Cert.KernelIdeal.Gen

/-- Lane `l` of pair `b`, among a row's 512 lanes. -/
def col (b : Fin 4) (l : Fin 128) : Fin 512 := ⟨128 * b.val + l.val, by omega⟩

/-- A pair's number among the sixteen. -/
def place (p : Prob) : Fin 16 := ⟨4 * p.1.val + p.2.val, by omega⟩

/-- A head's number among a row's eight. -/
def headNo (b : Fin 4) (h : Fin 2) : Fin 8 := ⟨2 * b.val + h.val, by omega⟩

theorem rectY_idx (p : Prob) (t : Fin 64) (l : Fin 128) : (rectY p).idx (ix3 0 t l) = ix3 p.1 t (col p.2 l) := by
  funext d; apply Fin.ext
  match d with
  | ⟨0, _⟩ => show p.1.val + 1 * 0 = p.1.val; omega
  | ⟨1, _⟩ => show 0 + 1 * t.val = t.val; omega
  | ⟨2, _⟩ => show 128 * p.2.val + 1 * l.val = 128 * p.2.val + l.val; omega

theorem rectS_idx (p : Prob) (i l : Fin 128) : (rectS p).idx (ix3 0 i l) = ix3 (place p) i l := by
  funext d; apply Fin.ext
  match d with
  | ⟨0, _⟩ => show 4 * p.1.val + p.2.val + 1 * 0 = 4 * p.1.val + p.2.val; omega
  | ⟨1, _⟩ => show 0 + 1 * i.val = i.val; omega
  | ⟨2, _⟩ => show 0 + 1 * l.val = l.val; omega

theorem rectT_idx (p : Prob) (h : Fin 2) (i l : Fin 64) : (rectT p h).idx (ix4 0 0 i l) = ix4 p.1 (headNo p.2 h) i l := by
  funext d; apply Fin.ext
  match d with
  | ⟨0, _⟩ => show p.1.val + 1 * 0 = p.1.val; omega
  | ⟨1, _⟩ => show 2 * p.2.val + h.val + 1 * 0 = 2 * p.2.val + h.val; omega
  | ⟨2, _⟩ => show 0 + 1 * i.val = i.val; omega
  | ⟨3, _⟩ => show 0 + 1 * l.val = l.val; omega

/-- An index of a box one row deep. -/
theorem idxY (j : S1x64x128.Idx) : j = ix3 0 (j 1) (j 2) := by
  funext d; match d with
  | ⟨0, _⟩ => exact Subsingleton.elim (α := Fin 1) _ _
  | ⟨1, _⟩ => rfl
  | ⟨2, _⟩ => rfl

theorem idxS (j : S1x128x128.Idx) : j = ix3 0 (j 1) (j 2) := by
  funext d; match d with
  | ⟨0, _⟩ => exact Subsingleton.elim (α := Fin 1) _ _
  | ⟨1, _⟩ => rfl
  | ⟨2, _⟩ => rfl

theorem idxT (j : S1x1x64x64.Idx) : j = ix4 0 0 (j 2) (j 3) := by
  funext d; match d with
  | ⟨0, _⟩ => exact Subsingleton.elim (α := Fin 1) _ _
  | ⟨1, _⟩ => exact Subsingleton.elim (α := Fin 1) _ _
  | ⟨2, _⟩ => rfl
  | ⟨3, _⟩ => rfl

variable {F : FTy → Type} [FloatOps F]

theorem rd_apply (arg : Memref sig .tc .vmem S4x64x512 .f32) (h : arg.IsWhole) (x : Vec F S4x64x512 .f32) (p : Prob) (t : Fin 64) (l : Fin 128) :
    rd arg h x p (ix3 0 t l) = x (ix3 p.1 t (col p.2 l)) := by
  unfold rd; rw [View.readAt_eq_ld, h.read_unread, ← rectY_idx]

theorem rdS_apply (arg : Memref sig .tc .vmem S16x128x128 .f32) (h : arg.IsWhole) (x : Vec F S16x128x128 .f32) (p : Prob) (i l : Fin 128) :
    rdS arg h x p (ix3 0 i l) = x (ix3 (place p) i l) := by
  unfold rdS; rw [View.readAt_eq_ld, h.read_unread, ← rectS_idx]

theorem rdT_apply (arg : Memref sig .tc .vmem S4x8x64x64 .f32) (h : arg.IsWhole) (x : Vec F S4x8x64x64 .f32) (p : Prob) (k : Fin 2) (i l : Fin 64) :
    rdT arg h x p k (ix4 0 0 i l) = x (ix4 p.1 (headNo p.2 k) i l) := by
  unfold rdT; rw [View.readAt_eq_ld, h.read_unread, ← rectT_idx]

/-- The place of a pair's box of rows in the whole: which pair holds an index. -/
theorem canonY (f : Prob → Vec F S1x64x128 .f32) (p : Prob) (t : Fin 64) (l : Fin 128) :
    View.canon (Val := Elt F) (probs.map fun q => (⟨rectY q, f q⟩ : View.Piece (Elt F) S4x64x512 .f32)) (ix3 p.1 t (col p.2 l)) = f p (ix3 0 t l) := by
  let G : S4x64x512.Idx → Elt F .f32 := fun y => f (⟨(y 0).val, (y 0).isLt⟩, ⟨(y 2).val / 128, by have : (y 2).val < 512 := (y 2).isLt; omega⟩)
    (ix3 0 ⟨(y 1).val, (y 1).isLt⟩ ⟨(y 2).val % 128, by omega⟩)
  have key : ∀ (q : Prob) (t : Fin 64) (l : Fin 128), G (ix3 q.1 t (col q.2 l)) = f q (ix3 0 t l) := by
    intro q t l
    show f (⟨q.1.val, _⟩, ⟨(128 * q.2.val + l.val) / 128, _⟩) (ix3 0 ⟨t.val, _⟩ ⟨(128 * q.2.val + l.val) % 128, _⟩) = _
    have e1 : (128 * q.2.val + l.val) / 128 = q.2.val := by omega
    have e2 : (128 * q.2.val + l.val) % 128 = l.val := by omega
    simp only [e1, e2]
  rw [← key]
  refine View.canon_apply_of_pieces G _ ?_ _ ?_
  · intro P hP x
    obtain ⟨q, -, rfl⟩ := List.mem_map.1 hP
    show f q x = G ((rectY q).idx x)
    rw [idxY x]; exact ((congrArg G (rectY_idx q _ _)).trans (key q _ _)).symm
  · refine ⟨_, List.mem_map.2 ⟨p, mem_probs p, rfl⟩, ?_⟩
    rw [← rectY_idx]; exact (rectY p).idx_mem _

/-- Which pair's state holds an index of the scratch, whatever was stored before. -/
theorem canonS (f : Prob → Vec F S1x128x128 .f32) (L' : List (View.Piece (Elt F) S16x128x128 .f32)) (p : Prob) (i l : Fin 128) :
    View.canon (Val := Elt F) ((probs.map fun q => (⟨rectS q, f q⟩ : View.Piece (Elt F) S16x128x128 .f32)) ++ L') (ix3 (place p) i l) = f p (ix3 0 i l) := by
  let G : S16x128x128.Idx → Elt F .f32 := fun y => f (⟨(y 0).val / 4, by have : (y 0).val < 16 := (y 0).isLt; omega⟩, ⟨(y 0).val % 4, by omega⟩)
    (ix3 0 ⟨(y 1).val, (y 1).isLt⟩ ⟨(y 2).val, (y 2).isLt⟩)
  have key : ∀ (q : Prob) (i l : Fin 128), G (ix3 (place q) i l) = f q (ix3 0 i l) := by
    intro q i l
    show f (⟨(4 * q.1.val + q.2.val) / 4, _⟩, ⟨(4 * q.1.val + q.2.val) % 4, _⟩) (ix3 0 ⟨i.val, _⟩ ⟨l.val, _⟩) = _
    have e1 : (4 * q.1.val + q.2.val) / 4 = q.1.val := by omega
    have e2 : (4 * q.1.val + q.2.val) % 4 = q.2.val := by omega
    simp only [e1, e2]
  rw [← key]
  refine View.canon_append_of_pieces G L' _ ?_ _ ?_
  · intro P hP x
    obtain ⟨q, -, rfl⟩ := List.mem_map.1 hP
    show f q x = G ((rectS q).idx x)
    rw [idxS x]; exact ((congrArg G (rectS_idx q _ _)).trans (key q _ _)).symm
  · refine ⟨_, List.mem_map.2 ⟨p, mem_probs p, rfl⟩, ?_⟩
    rw [← rectS_idx]; exact (rectS p).idx_mem _

/-- Which head's state holds an index of the array of states. -/
theorem canonT (f : Prob → Fin 2 → Vec F S1x1x64x64 .f32) (p : Prob) (h : Fin 2) (i l : Fin 64) :
    View.canon (Val := Elt F) (probs.flatMap fun q => [(⟨rectT q 1, f q 1⟩ : View.Piece (Elt F) S4x8x64x64 .f32), ⟨rectT q 0, f q 0⟩])
      (ix4 p.1 (headNo p.2 h) i l) = f p h (ix4 0 0 i l) := by
  let G : S4x8x64x64.Idx → Elt F .f32 := fun y => f (⟨(y 0).val, (y 0).isLt⟩, ⟨(y 1).val / 2, by have : (y 1).val < 8 := (y 1).isLt; omega⟩)
    ⟨(y 1).val % 2, by omega⟩ (ix4 0 0 ⟨(y 2).val, (y 2).isLt⟩ ⟨(y 3).val, (y 3).isLt⟩)
  have key : ∀ (q : Prob) (h : Fin 2) (i l : Fin 64), G (ix4 q.1 (headNo q.2 h) i l) = f q h (ix4 0 0 i l) := by
    intro q h i l
    show f (⟨q.1.val, _⟩, ⟨(2 * q.2.val + h.val) / 2, _⟩) ⟨(2 * q.2.val + h.val) % 2, _⟩ (ix4 0 0 ⟨i.val, _⟩ ⟨l.val, _⟩) = _
    have e1 : (2 * q.2.val + h.val) / 2 = q.2.val := by omega
    have e2 : (2 * q.2.val + h.val) % 2 = h.val := by omega
    simp only [e1, e2]
  have one : ∀ (q : Prob) (h : Fin 2) (x : S1x1x64x64.Idx), f q h x = G ((rectT q h).idx x) := fun q h x => by
    rw [idxT x]; exact ((congrArg G (rectT_idx q h _ _)).trans (key q h _ _)).symm
  rw [← key]
  refine View.canon_apply_of_pieces G _ ?_ _ ?_
  · intro P hP x
    obtain ⟨q, -, hq⟩ := List.mem_flatMap.1 hP
    rcases List.mem_cons.1 hq with rfl | hq
    · exact one q 1 x
    · obtain rfl := List.mem_singleton.1 hq
      exact one q 0 x
  · refine ⟨⟨rectT p h, f p h⟩, List.mem_flatMap.2 ⟨p, mem_probs p, ?_⟩, ?_⟩
    · fin_cases h <;> simp
    · rw [← rectT_idx]; exact (rectT p h).idx_mem _

/-- A load of a pair's state after the initial states were stored. -/
theorem readInit (arg : Memref sig .tc .vmem S16x128x128 .f32) (x6 : Prob → Fin 2 → Vec F S1x1x64x64 .f32) (p : Prob) :
    arg.view.readCov (storesInit x6) (rectS p).toLoadRect = cellInit (x6 p 0) (x6 p 1) := by
  have key : ∀ j : S1x128x128.Idx, View.canon (storesInit x6) ((rectS p).idx j) = cellInit (x6 p 0) (x6 p 1) j := fun j => by
    obtain ⟨i, l, rfl⟩ : ∃ i l, j = ix3 0 i l := ⟨_, _, idxS j⟩
    rw [rectS_idx]
    exact (congrFun (congrArg View.canon (List.append_nil _).symm) _).trans (canonS (fun q => cellInit (x6 q 0) (x6 q 1)) [] p _ _)
  rw [View.readCov_eq_canon']
  exact funext key

end Cert.Proof.Rscan
-- ==== Proof.Point.lean ====
module

public import proofs.«01_k».proof.Proof.Stores
public import proofs.«01_k».proof.Proof.Gen.KernelIdeal.Value

@[expose] public section

noncomputable section

/-! # One grid point, over the reals

If the blocks a point stages and the states it carries hold real matrices, head by head, then the results it stores are
the chunk's results, and the states it leaves are the states after the chunk. -/

namespace Cert.Proof.Rscan

open Idealize.ShloMosaic Idealize.SL.Sem
open Cert.KernelIdeal Cert.KernelIdeal.Gen

/-- A real matrix for each batch row and head. -/
abbrev Mats : Type := Fin 4 → Fin 8 → M64

/-- A pair's two heads' matrices. -/
def twoOf (X : Mats) (p : Prob) : Two := fun h => X p.1 (headNo p.2 h)

/-- A block of 64 rows holds a matrix for each row and head. -/
def Blk (x : Vec Ideal S4x64x512 .f32) (X : Mats) : Prop :=
  ∀ (p : Prob) (t : Fin 64) (h : Fin 2) (d : Fin 64), x (ix3 p.1 t (col p.2 (lane h d))) = (X p.1 (headNo p.2 h) t d : EReal)

/-- The scratch holds the heads' states, two to a square. -/
def Held (s : Vec Ideal S16x128x128 .f32) (S : Mats) : Prop :=
  ∀ (p : Prob) (i l : Fin 128), s (ix3 (place p) i l) = (bd (twoOf S p) i l : EReal)

/-- An array of states holds the heads' states. -/
def Given (x : Vec Ideal S4x8x64x64 .f32) (S : Mats) : Prop :=
  ∀ (p : Prob) (h : Fin 2) (i l : Fin 64), x (ix4 p.1 (headNo p.2 h) i l) = (S p.1 (headNo p.2 h) i l : EReal)

theorem Blk.rows {x : Vec Ideal S4x64x512 .f32} {X : Mats} (H : Blk x X) (arg : Memref sig .tc .vmem S4x64x512 .f32) (harg : arg.IsWhole) (p : Prob) :
    Rows (flat (rd arg harg x p)) (twoOf X p) := fun t h d => by
  rw [show flat (rd arg harg x p) (ix2 t (lane h d)) = rd arg harg x p (ix3 0 t (lane h d)) by pointwise [flat], rd_apply]
  exact H p t h d

theorem Held.state {s : Vec Ideal S16x128x128 .f32} {S : Mats} (H : Held s S) (arg : Memref sig .tc .vmem S16x128x128 .f32) (harg : arg.IsWhole)
    (p : Prob) : State (rdS arg harg s p) (twoOf S p) := fun i l => by
  rw [rdS_apply]; exact H p i l

/-- The initial state of a pair holds its two heads' states. -/
theorem Given.state {x : Vec Ideal S4x8x64x64 .f32} {S : Mats} (H : Given x S) (arg : Memref sig .tc .vmem S4x8x64x64 .f32) (harg : arg.IsWhole)
    (p : Prob) : State (cellInit (rdT arg harg x p 0) (rdT arg harg x p 1)) (twoOf S p) := fun i l => by
  obtain ⟨h, t, rfl⟩ := exists_lane i
  obtain ⟨h', d, rfl⟩ := exists_lane l
  have e0 := (rdT_apply arg harg x p 0 t d).trans (H p 0 t d)
  have e1 := (rdT_apply arg harg x p 1 t d).trans (H p 1 t d)
  rw [bd_lane]
  fin_cases h <;> fin_cases h' <;> pointwise [cellInit, lane, zeroF] <;> simp [e0, e1, twoOf]

section point

variable (x0 x1 x2 x3 x4 x5 : Prob → Vec Ideal S1x64x128 .f32) (s : Prob → Vec Ideal S1x128x128 .f32) (R K V A B L S : Mats)

/-- The chunk's results of one head. -/
def outY (R K V A B L S : Mats) : Mats := fun a g => chunkY (R a g) (K a g) (V a g) (A a g) (B a g) (L a g) (S a g)

/-- The state after the chunk of one head. -/
def outS (K V A B L S : Mats) : Mats := fun a g => chunkS (K a g) (V a g) (A a g) (B a g) (L a g) (S a g)

/-- What a point leaves in its block of results. -/
theorem point_y (h0 : ∀ p, Rows (flat (x0 p)) (twoOf R p)) (h1 : ∀ p, Rows (flat (x1 p)) (twoOf K p))
    (h2 : ∀ p, Rows (flat (x2 p)) (twoOf V p)) (h3 : ∀ p, Rows (flat (x3 p)) (twoOf A p)) (h4 : ∀ p, Rows (flat (x4 p)) (twoOf B p))
    (h5 : ∀ p, Rows (flat (x5 p)) (twoOf L p)) (hs : ∀ p, State (s p) (twoOf S p)) :
    Blk (View.canon (storesY x0 x1 x2 x3 x4 x5 s)) (outY R K V A B L S) := fun p t h d =>
  (canonY (fun p => cellY (x0 p) (x1 p) (x2 p) (x3 p) (x4 p) (x5 p) (s p)) p t (lane h d)).trans
    (cellY_apply (h0 p) (h1 p) (h2 p) (h3 p) (h4 p) (h5 p) (hs p) t h d)

/-- What a point leaves in the scratch. -/
theorem point_s (L' : List (View.Piece (Elt Ideal) S16x128x128 .f32)) (h1 : ∀ p, Rows (flat (x1 p)) (twoOf K p))
    (h2 : ∀ p, Rows (flat (x2 p)) (twoOf V p)) (h3 : ∀ p, Rows (flat (x3 p)) (twoOf A p)) (h4 : ∀ p, Rows (flat (x4 p)) (twoOf B p))
    (h5 : ∀ p, Rows (flat (x5 p)) (twoOf L p)) (hs : ∀ p, State (s p) (twoOf S p)) :
    Held (View.canon (storesS x1 x2 x3 x4 x5 s ++ L')) (outS K V A B L S) := fun p i l =>
  (canonS (fun p => cellS (x1 p) (x2 p) (x3 p) (x4 p) (x5 p) (s p)) L' p i l).trans
    (state_cellS (h1 p) (h2 p) (h3 p) (h4 p) (h5 p) (hs p) i l)

/-- What the last point leaves in the array of states. -/
theorem point_t (h1 : ∀ p, Rows (flat (x1 p)) (twoOf K p))
    (h2 : ∀ p, Rows (flat (x2 p)) (twoOf V p)) (h3 : ∀ p, Rows (flat (x3 p)) (twoOf A p)) (h4 : ∀ p, Rows (flat (x4 p)) (twoOf B p))
    (h5 : ∀ p, Rows (flat (x5 p)) (twoOf L p)) (hs : ∀ p, State (s p) (twoOf S p)) :
    Given (View.canon (storesT x1 x2 x3 x4 x5 s)) (outS K V A B L S) := fun p h i l =>
  (canonT (fun p h => if h = 0 then cellTop (x1 p) (x2 p) (x3 p) (x4 p) (x5 p) (s p) else cellBot (x1 p) (x2 p) (x3 p) (x4 p) (x5 p) (s p))
    p h i l).trans (by
      fin_cases h
      · exact cellTop_apply (h1 p) (h2 p) (h3 p) (h4 p) (h5 p) (hs p) i l
      · exact cellBot_apply (h1 p) (h2 p) (h3 p) (h4 p) (h5 p) (hs p) i l)

end point

section grid

variable (m : (ℓ : Loc nD τ sig) → Buf (Elt Ideal) ℓ) (c : Dev nD)

/-- The state one point hands to the next: its block of results, the array of states, the scratch. -/
abbrev Carried : Type := Vec Ideal S4x64x512 .f32 × Vec Ideal S4x8x64x64 .f32 × Vec Ideal S16x128x128 .f32

/-- One point's step, in real terms. -/
theorem point_step (t : Fin cfg0.N) (acc : Carried) (R K V A B L S : Mats)
    (h0 : Blk (iblk m c 0 t) R) (h1 : Blk (iblk m c 1 t) K) (h2 : Blk (iblk m c 2 t) V) (h3 : Blk (iblk m c 3 t) A)
    (h4 : Blk (iblk m c 4 t) B) (h5 : Blk (iblk m c 5 t) L)
    (hs : if t.val % 64 = 0 then Given (iblk m c 6 t) S else Held acc.2.2 S) :
    Blk (Cert.KernelIdeal.Value.stAt0 m c t.val t.isLt acc).1 (outY R K V A B L S)
      ∧ Held (Cert.KernelIdeal.Value.stAt0 m c t.val t.isLt acc).2.2 (outS K V A B L S)
      ∧ (t.val % 64 = 63 → Given (Cert.KernelIdeal.Value.stAt0 m c t.val t.isLt acc).2.1 (outS K V A B L S)) := by
  by_cases c0 : t.val % 64 = 0
  · have c1 : ¬ t.val % 64 = 63 := by omega
    rw [if_pos c0] at hs
    rw [Cert.KernelIdeal.Value.stAt0_A m c t acc c0 c1]
    dsimp only
    refine ⟨?_, ?_, fun h => absurd h c1⟩
    · unfold out0_A_7
      rw [View.read_writes_junk_eq_canon, piecesA_y]
      exact point_y _ _ _ _ _ _ _ _ _ _ _ _ _ _ (fun p => h0.rows _ _ p) (fun p => h1.rows _ _ p) (fun p => h2.rows _ _ p) (fun p => h3.rows _ _ p) (fun p => h4.rows _ _ p) (fun p => h5.rows _ _ p)
        (fun p => by rw [readInit]; exact hs.state _ _ p)
    · unfold sout0_A_0
      rw [View.read_writes_junk_eq_canon, piecesA_s]
      exact point_s _ _ _ _ _ _ _ _ _ _ _ _ _ (fun p => h1.rows _ _ p) (fun p => h2.rows _ _ p) (fun p => h3.rows _ _ p) (fun p => h4.rows _ _ p) (fun p => h5.rows _ _ p)
        (fun p => by rw [readInit]; exact hs.state _ _ p)
  · rw [if_neg c0] at hs
    by_cases c1 : t.val % 64 = 63
    · rw [Cert.KernelIdeal.Value.stAt0_C m c t acc c0 c1]
      dsimp only
      refine ⟨?_, ?_, fun _ => ?_⟩
      · unfold out0_C_7
        rw [View.read_writes_junk_eq_canon, piecesC_y]
        exact point_y _ _ _ _ _ _ _ _ _ _ _ _ _ _ (fun p => h0.rows _ _ p) (fun p => h1.rows _ _ p) (fun p => h2.rows _ _ p) (fun p => h3.rows _ _ p) (fun p => h4.rows _ _ p) (fun p => h5.rows _ _ p)
          (fun p => hs.state _ _ p)
      · unfold sout0_C_0
        rw [View.read_writes_junk_eq_canon, piecesC_s, ← List.append_nil (storesS _ _ _ _ _ _)]
        exact point_s _ _ _ _ _ _ _ _ _ _ _ _ _ (fun p => h1.rows _ _ p) (fun p => h2.rows _ _ p) (fun p => h3.rows _ _ p) (fun p => h4.rows _ _ p) (fun p => h5.rows _ _ p)
          (fun p => hs.state _ _ p)
      · unfold out0_C_8
        rw [View.read_writes_junk_eq_canon, piecesC_t]
        exact point_t _ _ _ _ _ _ _ _ _ _ _ _ (fun p => h1.rows _ _ p) (fun p => h2.rows _ _ p) (fun p => h3.rows _ _ p) (fun p => h4.rows _ _ p) (fun p => h5.rows _ _ p)
          (fun p => hs.state _ _ p)
    · rw [Cert.KernelIdeal.Value.stAt0_B m c t acc c0 c1]
      dsimp only
      refine ⟨?_, ?_, fun h => absurd h c1⟩
      · unfold out0_B_7
        rw [View.read_writes_junk_eq_canon, piecesB_y]
        exact point_y _ _ _ _ _ _ _ _ _ _ _ _ _ _ (fun p => h0.rows _ _ p) (fun p => h1.rows _ _ p) (fun p => h2.rows _ _ p) (fun p => h3.rows _ _ p) (fun p => h4.rows _ _ p) (fun p => h5.rows _ _ p)
          (fun p => hs.state _ _ p)
      · unfold sout0_B_0
        rw [View.read_writes_junk_eq_canon, piecesB_s, ← List.append_nil (storesS _ _ _ _ _ _)]
        exact point_s _ _ _ _ _ _ _ _ _ _ _ _ _ (fun p => h1.rows _ _ p) (fun p => h2.rows _ _ p) (fun p => h3.rows _ _ p) (fun p => h4.rows _ _ p) (fun p => h5.rows _ _ p)
          (fun p => hs.state _ _ p)

end grid

end Cert.Proof.Rscan
-- ==== Proof.Fold.lean ====
module

public import proofs.«01_k».proof.Proof.Point

@[expose] public section

noncomputable section

/-! # The kernel's 64 points, over the reals

For finite arguments the kernel's results and final states are those of the recurrence, step by step. -/

namespace Cert.Proof.Rscan

open Idealize.ShloMosaic Idealize.ShloMosaic.TcCoe Idealize.SL.Sem
open Cert.KernelIdeal Cert.KernelIdeal.Gen

/-- The shapes of the two kinds of argument. -/
abbrev Seq : Type := Vec Ideal S4x4096x512 .f32
abbrev Sts : Type := Vec Ideal S4x8x64x64 .f32

/-- Lane `d` of head `g`, among a row's 512 lanes. -/
def hcol (g : Fin 8) (d : Fin 64) : Fin 512 := ⟨64 * g.val + d.val, by omega⟩

/-- Every entry is a real number. -/
def Finite {S : Shape} (x : S.Idx → EReal) : Prop := ∀ i, ((x i).toReal : EReal) = x i

/-- One head's row of an argument at step `n`. -/
def realRow (x : Seq) (a : Fin 4) (g : Fin 8) (n : ℕ) : Fin 64 → ℝ := fun d =>
  if h : n < 4096 then (x (ix3 a ⟨n, h⟩ (hcol g d))).toReal else 0

/-- One head's initial state. -/
def realState (x : Sts) (a : Fin 4) (g : Fin 8) : M64 := fun i l => (x (ix4 a g i l)).toReal

/-- One head's state before step `n`. -/
def seqS (k v kap b lw : Seq) (s0 : Sts) (a : Fin 4) (g : Fin 8) : ℕ → M64
  | 0 => realState s0 a g
  | n + 1 => stepR (realRow k a g n) (realRow v a g n) (realRow kap a g n) (realRow b a g n) (realRow lw a g n) (seqS k v kap b lw s0 a g n)

theorem seqS_zero (k v kap b lw : Seq) (s0 : Sts) (a : Fin 4) (g : Fin 8) : seqS k v kap b lw s0 a g 0 = realState s0 a g := rfl

theorem seqS_succ (k v kap b lw : Seq) (s0 : Sts) (a : Fin 4) (g : Fin 8) (n : ℕ) : seqS k v kap b lw s0 a g (n + 1)
    = stepR (realRow k a g n) (realRow v a g n) (realRow kap a g n) (realRow b a g n) (realRow lw a g n) (seqS k v kap b lw s0 a g n) := rfl

-- The states are followed one chunk at a time, never all 4096 steps at once.
attribute [irreducible] seqS

/-- The 64 rows of chunk `n`. -/
def chunkOf (x : Seq) (n : ℕ) : Mats := fun a g t => realRow x a g (64 * n + t.val)

/-- The states before chunk `n`. -/
def statesAt (k v kap b lw : Seq) (s0 : Sts) (n : ℕ) : Mats := fun a g => seqS k v kap b lw s0 a g (64 * n)

variable (r k v kap b lw : Seq) (s0 : Sts)

/-- The states after a chunk are the states before the next. -/
theorem outS_eq (n : ℕ) : outS (chunkOf k n) (chunkOf v n) (chunkOf kap n) (chunkOf b n) (chunkOf lw n) (statesAt k v kap b lw s0 n)
    = statesAt k v kap b lw s0 (n + 1) := by
  funext a g
  exact chunkS_eq (chunkOf k n a g) (chunkOf v n a g) (chunkOf kap n a g) (chunkOf b n a g) (chunkOf lw n a g)
    (fun j => seqS k v kap b lw s0 a g (64 * n + j)) (fun t => seqS_succ _ _ _ _ _ _ _ _ _)

/-- A chunk's results are the recurrence's. -/
theorem outY_eq (n : ℕ) (a : Fin 4) (g : Fin 8) (t : Fin 64) :
    outY (chunkOf r n) (chunkOf k n) (chunkOf v n) (chunkOf kap n) (chunkOf b n) (chunkOf lw n) (statesAt k v kap b lw s0 n) a g t
      = readR (realRow r a g (64 * n + t.val)) (seqS k v kap b lw s0 a g (64 * n + t.val + 1)) := by
  funext i
  exact chunkY_eq (chunkOf r n a g) (chunkOf k n a g) (chunkOf v n a g) (chunkOf kap n a g) (chunkOf b n a g) (chunkOf lw n a g)
    (fun j => seqS k v kap b lw s0 a g (64 * n + j)) (fun t => seqS_succ _ _ _ _ _ _ _ _ _) t i

section grid

variable (m : (ℓ : Loc nD τ sig) → Buf (Elt Ideal) ℓ) (c : Dev nD)

/-- Point `t` works on rows `64 t …` of every argument. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 4) = 0 ∧ win0_6.index t (1 : Fin 4) = 0 ∧ win0_6.index t (2 : Fin 4) = 0 ∧ win0_6.index t (3 : Fin 4) = 0) :=
  (by decide +kernel : ∀ t : Fin grid0.N, _)

/-- A finite argument's block holds its chunk's rows. -/
theorem blk_of (x : Seq) (hx : Finite x) (y : Vec Ideal S4x64x512 .f32) (n : ℕ) (hn : n < 64)
    (h : ∀ (a : Fin 4) (t : Fin 64) (l : Fin 512), y (ix3 a t l) = x (ix3 a ⟨64 * n + t.val, by omega⟩ l)) : Blk y (chunkOf x n) := by
  intro p t h' d
  have e : col p.2 (lane h' d) = hcol (headNo p.2 h') d :=
    Fin.ext (by show 128 * p.2.val + (64 * h'.val + d.val) = 64 * (2 * p.2.val + h'.val) + d.val; omega)
  rw [h, e, ← hx]
  simp only [chunkOf, realRow, dif_pos (show 64 * n + t.val < 4096 by omega)]

/-- What window 0 to 5 stages at point `t`. -/
theorem stage (t : Fin cfg0.N) (a : Fin 4) (i : Fin 64) (l : Fin 512) :
    iblk m c 0 t (ix3 a i l) = m ((c : Thread nD τ).loc main_arg0) (ix3 a (⟨64 * t.val + i.val, by have : t.val < 64 := t.isLt; omega⟩ : Fin 4096) l)
    ∧ iblk m c 1 t (ix3 a i l) = m ((c : Thread nD τ).loc main_arg1) (ix3 a (⟨64 * t.val + i.val, by have : t.val < 64 := t.isLt; omega⟩ : Fin 4096) l)
    ∧ iblk m c 2 t (ix3 a i l) = m ((c : Thread nD τ).loc main_arg2) (ix3 a (⟨64 * t.val + i.val, by have : t.val < 64 := t.isLt; omega⟩ : Fin 4096) l)
    ∧ iblk m c 3 t (ix3 a i l) = m ((c : Thread nD τ).loc main_arg3) (ix3 a (⟨64 * t.val + i.val, by have : t.val < 64 := t.isLt; omega⟩ : Fin 4096) l)
    ∧ iblk m c 4 t (ix3 a i l) = m ((c : Thread nD τ).loc main_arg4) (ix3 a (⟨64 * t.val + i.val, by have : t.val < 64 := t.isLt; omega⟩ : Fin 4096) l)
    ∧ iblk m c 5 t (ix3 a i l) = m ((c : Thread nD τ).loc main_arg5) (ix3 a (⟨64 * t.val + i.val, by have : t.val < 64 := t.isLt; omega⟩ : Fin 4096) l) := by
  have ht : t.val < 64 := t.isLt
  obtain ⟨e0, e1, e2, e3, e4, e5, -⟩ := idx_facts t
  refine ⟨?_, ?_, ?_, ?_, ?_, ?_⟩
  · show m ((c : Thread nD τ).loc main_arg0) (((cfg0.win 0).blk t).view.emb _) = _
    congr 1; funext d; apply Fin.ext
    match d with
    | ⟨0, _⟩ => show win0_0.index t (0 : Fin 3) * 4 + 1 * a.val = a.val; omega
    | ⟨1, _⟩ => show win0_0.index t (1 : Fin 3) * 64 + 1 * i.val = 64 * t.val + i.val; omega
    | ⟨2, _⟩ => show win0_0.index t (2 : Fin 3) * 512 + 1 * l.val = l.val; omega
  · show m ((c : Thread nD τ).loc main_arg1) (((cfg0.win 1).blk t).view.emb _) = _
    congr 1; funext d; apply Fin.ext
    match d with
    | ⟨0, _⟩ => show win0_1.index t (0 : Fin 3) * 4 + 1 * a.val = a.val; omega
    | ⟨1, _⟩ => show win0_1.index t (1 : Fin 3) * 64 + 1 * i.val = 64 * t.val + i.val; omega
    | ⟨2, _⟩ => show win0_1.index t (2 : Fin 3) * 512 + 1 * l.val = l.val; omega
  · show m ((c : Thread nD τ).loc main_arg2) (((cfg0.win 2).blk t).view.emb _) = _
    congr 1; funext d; apply Fin.ext
    match d with
    | ⟨0, _⟩ => show win0_2.index t (0 : Fin 3) * 4 + 1 * a.val = a.val; omega
    | ⟨1, _⟩ => show win0_2.index t (1 : Fin 3) * 64 + 1 * i.val = 64 * t.val + i.val; omega
    | ⟨2, _⟩ => show win0_2.index t (2 : Fin 3) * 512 + 1 * l.val = l.val; omega
  · show m ((c : Thread nD τ).loc main_arg3) (((cfg0.win 3).blk t).view.emb _) = _
    congr 1; funext d; apply Fin.ext
    match d with
    | ⟨0, _⟩ => show win0_3.index t (0 : Fin 3) * 4 + 1 * a.val = a.val; omega
    | ⟨1, _⟩ => show win0_3.index t (1 : Fin 3) * 64 + 1 * i.val = 64 * t.val + i.val; omega
    | ⟨2, _⟩ => show win0_3.index t (2 : Fin 3) * 512 + 1 * l.val = l.val; omega
  · show m ((c : Thread nD τ).loc main_arg4) (((cfg0.win 4).blk t).view.emb _) = _
    congr 1; funext d; apply Fin.ext
    match d with
    | ⟨0, _⟩ => show win0_4.index t (0 : Fin 3) * 4 + 1 * a.val = a.val; omega
    | ⟨1, _⟩ => show win0_4.index t (1 : Fin 3) * 64 + 1 * i.val = 64 * t.val + i.val; omega
    | ⟨2, _⟩ => show win0_4.index t (2 : Fin 3) * 512 + 1 * l.val = l.val; omega
  · show m ((c : Thread nD τ).loc main_arg5) (((cfg0.win 5).blk t).view.emb _) = _
    congr 1; funext d; apply Fin.ext
    match d with
    | ⟨0, _⟩ => show win0_5.index t (0 : Fin 3) * 4 + 1 * a.val = a.val; omega
    | ⟨1, _⟩ => show win0_5.index t (1 : Fin 3) * 64 + 1 * i.val = 64 * t.val + i.val; omega
    | ⟨2, _⟩ => show win0_5.index t (2 : Fin 3) * 512 + 1 * l.val = l.val; omega

/-- Every point stages the whole array of initial states. -/
theorem stage6 (t : Fin cfg0.N) (j : S4x8x64x64.Idx) : iblk m c 6 t j = m ((c : Thread nD τ).loc main_arg6) j := by
  obtain ⟨-, -, -, -, -, -, e⟩ := idx_facts t
  show m ((c : Thread nD τ).loc main_arg6) (((cfg0.win 6).blk t).view.emb _) = _
  congr 1; funext d; apply Fin.ext
  match d with
  | ⟨0, _⟩ => show win0_6.index t (0 : Fin 4) * 4 + 1 * (j 0).val = (j 0).val; omega
  | ⟨1, _⟩ => show win0_6.index t (1 : Fin 4) * 8 + 1 * (j 1).val = (j 1).val; omega
  | ⟨2, _⟩ => show win0_6.index t (2 : Fin 4) * 64 + 1 * (j 2).val = (j 2).val; omega
  | ⟨3, _⟩ => show win0_6.index t (3 : Fin 4) * 64 + 1 * (j 3).val = (j 3).val; omega

/-- The arguments, as arrays. -/
abbrev argR : Seq := m ((c : Thread nD τ).loc main_arg0)
abbrev argK : Seq := m ((c : Thread nD τ).loc main_arg1)
abbrev argV : Seq := m ((c : Thread nD τ).loc main_arg2)
abbrev argA : Seq := m ((c : Thread nD τ).loc main_arg3)
abbrev argB : Seq := m ((c : Thread nD τ).loc main_arg4)
abbrev argL : Seq := m ((c : Thread nD τ).loc main_arg5)
abbrev argS : Sts := m ((c : Thread nD τ).loc main_arg6)

/-- Every argument is finite. -/
def AllFinite : Prop := Finite (argR m c) ∧ Finite (argK m c) ∧ Finite (argV m c) ∧ Finite (argA m c) ∧ Finite (argB m c)
  ∧ Finite (argL m c) ∧ Finite (argS m c)

/-- The states of the recurrence on this device's arguments. -/
abbrev seqOf (a : Fin 4) (g : Fin 8) : ℕ → M64 := seqS (argK m c) (argV m c) (argA m c) (argB m c) (argL m c) (argS m c) a g

/-- What a point holds after its step, in real terms. -/
def After (t : ℕ) (z : Carried) : Prop :=
  (∀ (p : Prob) (i : Fin 64) (h : Fin 2) (d : Fin 64), z.1 (ix3 p.1 i (col p.2 (lane h d)))
      = (readR (realRow (argR m c) p.1 (headNo p.2 h) (64 * t + i.val)) (seqOf m c p.1 (headNo p.2 h) (64 * t + i.val + 1)) d : EReal))
  ∧ Held z.2.2 (fun a g => seqOf m c a g (64 * (t + 1)))
  ∧ (t % 64 = 63 → Given z.2.1 (fun a g => seqOf m c a g (64 * (t + 1))))

/-- A step from the right states leaves the right results and states. -/
theorem step_after (H : AllFinite m c) (t : Fin cfg0.N) (acc : Carried)
    (hs : t.val % 64 = 0 ∨ Held acc.2.2 (fun a g => seqOf m c a g (64 * t.val))) :
    After m c t.val (Cert.KernelIdeal.Value.stAt0 m c t.val t.isLt acc) := by
  obtain ⟨H0, H1, H2, H3, H4, H5, H6⟩ := H
  have ht : t.val < 64 := t.isLt
  have hst : if t.val % 64 = 0 then Given (iblk m c 6 t) (statesAt (argK m c) (argV m c) (argA m c) (argB m c) (argL m c) (argS m c) t.val)
      else Held acc.2.2 (statesAt (argK m c) (argV m c) (argA m c) (argB m c) (argL m c) (argS m c) t.val) := by
    split
    · next e =>
      have e0 : t.val = 0 := by omega
      intro p h i l
      rw [stage6, e0]
      simp only [statesAt, Nat.mul_zero, seqS_zero]
      exact (H6 _).symm
    · next e => exact hs.resolve_left e
  obtain ⟨A1, A2, A3⟩ := point_step m c t acc _ _ _ _ _ _ _
    (blk_of _ H0 _ t.val ht fun a i l => (stage m c t a i l).1) (blk_of _ H1 _ t.val ht fun a i l => (stage m c t a i l).2.1)
    (blk_of _ H2 _ t.val ht fun a i l => (stage m c t a i l).2.2.1) (blk_of _ H3 _ t.val ht fun a i l => (stage m c t a i l).2.2.2.1)
    (blk_of _ H4 _ t.val ht fun a i l => (stage m c t a i l).2.2.2.2.1) (blk_of _ H5 _ t.val ht fun a i l => (stage m c t a i l).2.2.2.2.2)
    hst
  rw [outS_eq] at A2 A3
  refine ⟨fun p i h d => ?_, A2, A3⟩
  rw [A1 p i h d, outY_eq]

/-- Every point of the grid, in order. -/
theorem fold_after (H : AllFinite m c) : ∀ (n : ℕ) (h : 0 + n < cfg0.N),
    After m c n (Pipeline.accAt (fun n h => Cert.KernelIdeal.Value.stAt0 m c n h Cert.KernelIdeal.Value.junk0) (Cert.KernelIdeal.Value.stAt0 m c) 0 n h)
  | 0, h => step_after m c H ⟨0, h⟩ _ (Or.inl rfl)
  | n + 1, h => by
    have ih := fold_after H n (Nat.lt_of_succ_lt h)
    rw [Pipeline.accAt_succ]
    have := step_after m c H ⟨0 + (n + 1), h⟩ _ (Or.inr (by
      show Held _ (fun a g => seqOf m c a g (64 * (0 + (n + 1))))
      rw [Nat.zero_add]; exact ih.2.1))
    simpa only [Nat.zero_add] using this

/-- The kernel's results. -/
theorem kernel_y (H : AllFinite m c) (a : Fin 4) (n : Fin 4096) (g : Fin 8) (d : Fin 64) :
    Cert.KernelIdeal.Value.G7 m c (ix3 a n (hcol g d))
      = (readR (realRow (argR m c) a g n.val) (seqOf m c a g (n.val + 1)) d : EReal) := by
  have hp : Cert.KernelIdeal.Value.pt7Of (ix3 a n (hcol g d)) = n.val / 64 := by
    show 64 * (a.val / 4 - 0) + 1 * (n.val / 64 - 0) + 1 * ((64 * g.val + d.val) / 512 - 0) = _
    omega
  have hl : Cert.KernelIdeal.Value.loc7Of (ix3 a n (hcol g d))
      = ix3 a (⟨n.val % 64, by omega⟩ : Fin 64) (col ⟨g.val / 2, by omega⟩ (lane ⟨g.val % 2, by omega⟩ d)) := by
    funext q; apply Fin.ext
    match q with
    | ⟨0, _⟩ => show a.val % 4 = a.val; omega
    | ⟨1, _⟩ => rfl
    | ⟨2, _⟩ => show (64 * g.val + d.val) % 512 = 128 * (g.val / 2) + (64 * (g.val % 2) + d.val); omega
  have hN : n.val / 64 < cfg0.N := lt_of_lt_of_eq (by omega : n.val / 64 < 64) N_0.symm
  unfold Cert.KernelIdeal.Value.G7
  rw [dif_pos (by rw [hp]; exact hN), hl, Cert.KernelIdeal.Value.fold0_congr m c _ _ _ (by omega) hp]
  have := (fold_after m c H (n.val / 64) (by omega)).1 (a, ⟨g.val / 2, by omega⟩) ⟨n.val % 64, by omega⟩ ⟨g.val % 2, by omega⟩ d
  dsimp only at this
  rw [this]
  have hg : headNo ⟨g.val / 2, by omega⟩ ⟨g.val % 2, by omega⟩ = g := Fin.ext (by show 2 * (g.val / 2) + g.val % 2 = g.val; omega)
  have hn : 64 * (n.val / 64) + n.val % 64 = n.val := by omega
  rw [hg, hn]

/-- What `Given` says of a head, by the head's number. -/
theorem given_at {x : Sts} {M : Mats} (h : Given x M) (a : Fin 4) (g : Fin 8) (i l : Fin 64) : x (ix4 a g i l) = (M a g i l : EReal) := by
  have hg : headNo ⟨g.val / 2, by omega⟩ ⟨g.val % 2, by omega⟩ = g := Fin.ext (by show 2 * (g.val / 2) + g.val % 2 = g.val; omega)
  have e := h (a, ⟨g.val / 2, by omega⟩) ⟨g.val % 2, by omega⟩ i l
  rw [hg] at e
  exact e

/-- The kernel's final states. -/
theorem kernel_s (H : AllFinite m c) (a : Fin 4) (g : Fin 8) (i l : Fin 64) :
    Cert.KernelIdeal.Value.G8 m c (ix4 a g i l) = (seqOf m c a g 4096 i l : EReal) := by
  have hG := (fold_after m c H 63 (lt_of_lt_of_eq (by decide) N_0.symm)).2.2 rfl
  have hx := Cert.KernelIdeal.Value.G8_last m c
  generalize Cert.KernelIdeal.Value.G8 m c = x at hx ⊢
  generalize (Pipeline.accAt (fun n h => Cert.KernelIdeal.Value.stAt0 m c n h Cert.KernelIdeal.Value.junk0) (Cert.KernelIdeal.Value.stAt0 m c) 0 63 (lt_of_lt_of_eq (by decide) N_0.symm)) = z at hG hx
  subst hx
  exact given_at hG a g i l

end grid

end Cert.Proof.Rscan
-- ==== Proof.Ref.lean ====
module

public import proofs.«01_k».proof.Proof.Fold
public import proofs.«01_k».proof.Proof.Gen.ReferenceIdeal.Run
public import Idealize.ShloMosaic.Lib.DynamicIndex

@[expose] public section

noncomputable section

/-! # One step of the reference, entry by entry

The reference walks the 4096 steps one at a time: it reads the step's rows, forms the new state from the old, and stores
what the new state reads. -/

namespace Cert.Proof.Rscan

open Idealize.ShloMosaic
open Cert.ReferenceIdeal Cert.ReferenceIdeal.Gen

/-- The step counter. -/
def count (n : ℕ) : IVec S_ 32 := fun _ => BitVec.ofNat 32 n

/-- Where a step's rows start, as the reference computes it. -/
def starts (n : IVec S_ 32) : Fin 4 → ℤ := fun k =>
  (((![n, constantI S_ 32 0#32, constantI S_ 32 0#32, constantI S_ 32 0#32] : Fin 4 → IVec S_ 32)) k (Shape.Idx.first h_S_)).toInt

/-- One step's rows of all heads. -/
def rowsAt (X : FVec Ideal S4096x4x8x64 .f32) (n : IVec S_ 32) : FVec Ideal S4x8x64 .f32 :=
  shapeCast S4x8x64 (Host.dynamicSlice S1x4x8x64 X (starts n) sliceFits_S4096x4x8x64_S1x4x8x64) shapeCasts_S1x4x8x64_S4x8x64

/-- The stacked results with one step's rows replaced. -/
def putRows (X : FVec Ideal S4096x4x8x64 .f32) (y : FVec Ideal S4x8x64 .f32) (n : IVec S_ 32) : FVec Ideal S4096x4x8x64 .f32 :=
  Host.dynamicUpdateSlice X (broadcastInDim S1x4x8x64 ![1, 2, 3] bcast_S4x8x64_S1x4x8x64_1_2_3 y) (starts n) updateFits_S4096x4x8x64_S1x4x8x64

/-- The new states of all heads. -/
def trip (S : FVec Ideal S4x8x64x64 .f32) (w k v kap b : FVec Ideal S4x8x64 .f32) : FVec Ideal S4x8x64x64 .f32 :=
  addf (addf (mulf S (broadcastInDim S4x8x64x64 ![0, 1, 2, 3] bcast_S4x8x1x64_S4x8x64x64_0_1_2_3 (broadcastInDim S4x8x1x64 ![0, 1, 3] bcast_S4x8x64_S4x8x1x64_0_1_3 w))) (mulf (broadcastInDim S4x8x64x64 ![0, 1, 2, 3] bcast_S4x8x64x1_S4x8x64x64_0_1_2_3 (broadcastInDim S4x8x64x1 ![0, 1, 2] bcast_S4x8x64_S4x8x64x1_0_1_2 (Host.dotGeneral dot_S4x8x64x64_S4x8x64_S4x8x64_3_2_2_n_01_01 none S (Host.negf kap)))) (broadcastInDim S4x8x64x64 ![0, 1, 2, 3] bcast_S4x8x1x64_S4x8x64x64_0_1_2_3 (broadcastInDim S4x8x1x64 ![0, 1, 3] bcast_S4x8x64_S4x8x1x64_0_1_3 b)))) (mulf (broadcastInDim S4x8x64x64 ![0, 1, 2, 3] bcast_S4x8x64x1_S4x8x64x64_0_1_2_3 (broadcastInDim S4x8x64x1 ![0, 1, 2] bcast_S4x8x64_S4x8x64x1_0_1_2 v)) (broadcastInDim S4x8x64x64 ![0, 1, 2, 3] bcast_S4x8x1x64_S4x8x64x64_0_1_2_3 (broadcastInDim S4x8x1x64 ![0, 1, 3] bcast_S4x8x64_S4x8x1x64_0_1_3 k)))

/-- What all heads' states read. -/
def reads (S : FVec Ideal S4x8x64x64 .f32) (r : FVec Ideal S4x8x64 .f32) : FVec Ideal S4x8x64 .f32 :=
  Host.dotGeneral dot_S4x8x64x64_S4x8x64_S4x8x64_3_2_2_n_01_01 none S r

/-- Step `n` starts at row `n`. -/
theorem starts_count (n : ℕ) (h : n < 4096) : ∀ a, starts (count n) a = ((![n, 0, 0, 0] : Fin 4 → ℕ) a : ℤ) := fun a => by
  fin_cases a
  · exact toInt_ofNat_of_lt (by omega)
  all_goals rfl

theorem fits (n : ℕ) (h : n < 4096) : S4096x4x8x64.Slices (![n, 0, 0, 0] : Fin 4 → ℕ) S1x4x8x64 :=
  ⟨rfl, fun a => by fin_cases a <;> simp <;> omega⟩

/-- The rows of step `n`. -/
theorem rowsAt_apply (X : FVec Ideal S4096x4x8x64 .f32) (n : ℕ) (h : n < 4096) (a : Fin 4) (g : Fin 8) (d : Fin 64) :
    rowsAt X (count n) (ix3 a g d) = X (ix4 (⟨n, h⟩ : Fin 4096) a g d) := by
  unfold rowsAt
  rw [Host.dynamicSlice_eq_extractStridedSlice S1x4x8x64 X _ ![n, 0, 0, 0] _ (fits n h) (starts_count n h)]
  pointwise []

/-- The stacked results after step `n`'s rows are put in. -/
theorem putRows_apply (X : FVec Ideal S4096x4x8x64 .f32) (y : FVec Ideal S4x8x64 .f32) (n : ℕ) (h : n < 4096)
    (t : Fin 4096) (a : Fin 4) (g : Fin 8) (d : Fin 64) :
    putRows X y (count n) (ix4 t a g d) = if t.val = n then y (ix3 a g d) else X (ix4 t a g d) := by
  unfold putRows
  rw [Host.dynamicUpdateSlice_eq_updateSlice X _ _ _ ![n, 0, 0, 0] (fun a => by
    rw [starts_count n h a]; have := (fits n h).2 a; omega) (fits n h)]
  pointwise []
  by_cases e : t.val = n
  · rw [dif_pos (by omega), if_pos e]
  · rw [dif_neg (by omega), if_neg e]

/-- A head's new state. -/
theorem trip_apply (S : FVec Ideal S4x8x64x64 .f32) (w k v kap b : FVec Ideal S4x8x64 .f32) (a : Fin 4) (g : Fin 8) (i l : Fin 64) :
    trip S w k v kap b (ix4 a g i l)
      = S (ix4 a g i l) * w (ix3 a g l) + (∑ j : Fin 64, S (ix4 a g i j) * -kap (ix3 a g j)) * b (ix3 a g l) + v (ix3 a g i) * k (ix3 a g l) := by
  pointwise [trip]

/-- What a head's state reads. -/
theorem reads_apply (S : FVec Ideal S4x8x64x64 .f32) (r : FVec Ideal S4x8x64 .f32) (a : Fin 4) (g : Fin 8) (d : Fin 64) :
    reads S r (ix3 a g d) = ∑ l : Fin 64, S (ix4 a g d l) * r (ix3 a g l) := by
  pointwise [reads]

section contents
open Cert.ReferenceIdeal.Value Idealize.ShloMosaic.TcCoe

variable (V : Valuation τ sig (Elt Ideal))

/-- The reference's new states. -/
theorem state_eq : res_main_while0b_v39 V = trip (V (Proc.devRef .tc main_v14_7))
    (rowsAt (V (Proc.devRef .tc main_v14_1)) (V (Proc.devRef .tc main_v14_6))) (rowsAt (V (Proc.devRef .tc main_v14_2)) (V (Proc.devRef .tc main_v14_6)))
    (rowsAt (V (Proc.devRef .tc main_v14_3)) (V (Proc.devRef .tc main_v14_6))) (rowsAt (V (Proc.devRef .tc main_v14_4)) (V (Proc.devRef .tc main_v14_6)))
    (rowsAt (V (Proc.devRef .tc main_v14_5)) (V (Proc.devRef .tc main_v14_6))) := by
  unfold res_main_while0b_v39; rfl

/-- The reference's stacked results after a step. -/
theorem stack_eq : step_main_v14_8 V = putRows (V (Proc.devRef .tc main_v14_8))
    (reads (res_main_while0b_v39 V) (rowsAt (V (Proc.devRef .tc main_v14_0)) (V (Proc.devRef .tc main_v14_6)))) (V (Proc.devRef .tc main_v14_6)) := by
  unfold step_main_v14_8; rfl

end contents

end Cert.Proof.Rscan
-- ==== Proof.RefFold.lean ====
module

public import proofs.«01_k».proof.Proof.Ref

@[expose] public section

noncomputable section

/-! # The reference's 4096 steps, over the reals -/

namespace Cert.Proof.Rscan

open Idealize.ShloMosaic Idealize.ShloMosaic.TcCoe Idealize.ShloMosaic.StableHlo Idealize.ShloMosaic.Pipeline Idealize.SL.Sem
open Cert.ReferenceIdeal Cert.ReferenceIdeal.Gen Cert.ReferenceIdeal.Value

/-- An argument as the reference stacks it: by step, batch row, head and lane. -/
def stacked (x : Seq) : FVec Ideal S4096x4x8x64 .f32 :=
  transpose S4096x4x8x64 [1, 0, 2, 3] (shapeCast S4x4096x8x64 x shapeCasts_S4x4096x512_S4x4096x8x64) transposes_S4x4096x8x64_S4096x4x8x64_1_0_2_3

theorem stacked_apply (x : Seq) (n : Fin 4096) (a : Fin 4) (g : Fin 8) (d : Fin 64) :
    stacked x (ix4 n a g d) = x (ix3 a n (hcol g d)) := by
  pointwise [stacked, hcol]
  simp only [Nat.mul_comm]

/-- A finite argument's rows, stacked. -/
theorem stacked_real {x : Seq} (h : Finite x) (n : Fin 4096) (a : Fin 4) (g : Fin 8) (d : Fin 64) :
    stacked x (ix4 n a g d) = (realRow x a g n.val d : EReal) := by
  rw [stacked_apply, ← h]
  simp only [realRow, dif_pos n.isLt]

section steps

variable (r k v kap b lw : Seq) (s0 : Sts)

/-- What the reference's buffers hold before step `n`. -/
structure Holds (n : ℕ) (V : Valuation τ sig (Elt Ideal)) : Prop where
  row_r : ∀ (t : Fin 4096) a g d, V (Proc.devRef .tc main_v14_0) (ix4 t a g d) = (realRow r a g t.val d : EReal)
  row_lw : ∀ (t : Fin 4096) a g d, V (Proc.devRef .tc main_v14_1) (ix4 t a g d) = (Real.exp (realRow lw a g t.val d) : EReal)
  row_k : ∀ (t : Fin 4096) a g d, V (Proc.devRef .tc main_v14_2) (ix4 t a g d) = (realRow k a g t.val d : EReal)
  row_v : ∀ (t : Fin 4096) a g d, V (Proc.devRef .tc main_v14_3) (ix4 t a g d) = (realRow v a g t.val d : EReal)
  row_kap : ∀ (t : Fin 4096) a g d, V (Proc.devRef .tc main_v14_4) (ix4 t a g d) = (realRow kap a g t.val d : EReal)
  row_b : ∀ (t : Fin 4096) a g d, V (Proc.devRef .tc main_v14_5) (ix4 t a g d) = (realRow b a g t.val d : EReal)
  counter : V (Proc.devRef .tc main_v14_6) = count n
  state : ∀ a g i l, V (Proc.devRef .tc main_v14_7) (ix4 a g i l) = (seqS k v kap b lw s0 a g n i l : EReal)
  done : ∀ (t : Fin 4096), t.val < n → ∀ a g d, V (Proc.devRef .tc main_v14_8) (ix4 t a g d)
    = (readR (realRow r a g t.val) (seqS k v kap b lw s0 a g (t.val + 1)) d : EReal)

variable {r k v kap b lw s0}

/-- The new states of step `n`. -/
theorem Holds.next {n : ℕ} {V : Valuation τ sig (Elt Ideal)} (h : n < 4096) (H : Holds r k v kap b lw s0 n V) (a : Fin 4) (g : Fin 8) (i l : Fin 64) :
    res_main_while0b_v39 V (ix4 a g i l) = (seqS k v kap b lw s0 a g (n + 1) i l : EReal) := by
  rw [state_eq, trip_apply, H.counter]
  simp only [rowsAt_apply _ n h, H.state, H.row_lw, H.row_k, H.row_v, H.row_kap, H.row_b]
  rw [seqS_succ]
  simp only [stepR, EReal.coe_add, EReal.coe_mul, coe_sum, EReal.coe_neg]

/-- One step of the reference. -/
theorem Holds.step {n : ℕ} {V : Valuation τ sig (Elt Ideal)} (h : n < 4096) (H : Holds r k v kap b lw s0 n V) :
    Holds r k v kap b lw s0 (n + 1) (STEP V) where
  row_r := by rw [STEP_main_v14_0]; exact H.row_r
  row_lw := by rw [STEP_main_v14_1]; exact H.row_lw
  row_k := by rw [STEP_main_v14_2]; exact H.row_k
  row_v := by rw [STEP_main_v14_3]; exact H.row_v
  row_kap := by rw [STEP_main_v14_4]; exact H.row_kap
  row_b := by rw [STEP_main_v14_5]; exact H.row_b
  counter := by
    rw [STEP_main_v14_6]; unfold step_main_v14_6; rw [H.counter]
    funext x
    exact (BitVec.ofNat_add n 1).symm
  state := fun a g i l => by
    rw [STEP_main_v14_7]; unfold step_main_v14_7
    exact H.next h a g i l
  done := fun t ht a g d => by
    rw [STEP_main_v14_8, stack_eq, H.counter, putRows_apply _ _ n h]
    by_cases e : t.val = n
    · rw [if_pos e, reads_apply]
      simp only [rowsAt_apply _ n h, H.next h, H.row_r, readR, EReal.coe_mul, coe_sum, e]
    · rw [if_neg e]
      exact H.done t (by omega) a g d

/-- All steps up to `n`. -/
theorem Holds.steps {V : Valuation τ sig (Elt Ideal)} (H : Holds r k v kap b lw s0 0 V) :
    ∀ n, n ≤ 4096 → Holds r k v kap b lw s0 n (STEP^[n] V)
  | 0, _ => H
  | n + 1, h => by
    rw [Function.iterate_succ_apply']
    exact (Holds.steps H n (by omega)).step (by omega)

/-- The results, laid out by batch row, step and column. -/
theorem Holds.result {n : ℕ} (hn : n = 4096) {V : Valuation τ sig (Elt Ideal)} (H : Holds r k v kap b lw s0 n V) (a : Fin 4) (t : Fin 4096) (g : Fin 8) (d : Fin 64) :
    out_main_v16 V (ix3 a t (hcol g d)) = (readR (realRow r a g t.val) (seqS k v kap b lw s0 a g (t.val + 1)) d : EReal) := by
  rw [← H.done t (by omega) a g d]
  unfold out_main_v16
  generalize V (Proc.devRef .tc main_v14_8) = x
  pointwise [hcol]

end steps

section entry

variable (m : (ℓ : Loc nD τ sig) → Buf (Elt Ideal) ℓ) (c : Dev nD)

theorem entry_0 : entryContents preI m c (Proc.devRef .tc main_v14_0) = stacked (m ((c : Thread nD τ).loc main_arg0)) := by
  simp only [entryContents, afterL_cons, afterL_nil]; after_reads_simp; rfl

theorem entry_2 : entryContents preI m c (Proc.devRef .tc main_v14_2) = stacked (m ((c : Thread nD τ).loc main_arg1)) := by
  simp only [entryContents, afterL_cons, afterL_nil]; after_reads_simp; rfl

theorem entry_3 : entryContents preI m c (Proc.devRef .tc main_v14_3) = stacked (m ((c : Thread nD τ).loc main_arg2)) := by
  simp only [entryContents, afterL_cons, afterL_nil]; after_reads_simp; rfl

theorem entry_4 : entryContents preI m c (Proc.devRef .tc main_v14_4) = stacked (m ((c : Thread nD τ).loc main_arg3)) := by
  simp only [entryContents, afterL_cons, afterL_nil]; after_reads_simp; rfl

theorem entry_5 : entryContents preI m c (Proc.devRef .tc main_v14_5) = stacked (m ((c : Thread nD τ).loc main_arg4)) := by
  simp only [entryContents, afterL_cons, afterL_nil]; after_reads_simp; rfl

theorem entry_1 : entryContents preI m c (Proc.devRef .tc main_v14_1) = stacked (fun i => Ideal.exp (m ((c : Thread nD τ).loc main_arg5) i)) := by
  simp only [entryContents, afterL_cons, afterL_nil]; after_reads_simp; rfl

theorem entry_6 : entryContents preI m c (Proc.devRef .tc main_v14_6) = count 0 := by
  simp only [entryContents, afterL_cons, afterL_nil]; after_reads_simp; rfl

theorem entry_7 : entryContents preI m c (Proc.devRef .tc main_v14_7) = m ((c : Thread nD τ).loc main_arg6) := by
  simp only [entryContents, afterL_cons, afterL_nil]; after_reads_simp; rfl

end entry

end Cert.Proof.Rscan
-- ==== Proof.Recurrence.lean ====
module

public import proofs.«01_k».proof.Defs
public import proofs.«01_k».proof.Proof.RefFold
public import proofs.«01_k».proof.Proof.Gen.Pre_finite
public import Idealize.ShloMosaic.Lib.Claim

@[expose] public section

noncomputable section

/-! # The recurrence: the chunked kernel computes the step-by-step recurrence

Both programs' results are the real recurrence `seqS` on the arguments' real entries. -/

namespace Cert.Proof.Rscan

open Idealize.ShloMosaic Idealize.ShloMosaic.TcCoe Idealize.SL.Sem

/-- Every one of a row's 512 columns is a lane of a head. -/
theorem exists_hcol (i : Fin 512) : ∃ g d, i = hcol g d :=
  ⟨⟨i.val / 64, by omega⟩, ⟨i.val % 64, by omega⟩, Fin.ext (by show i.val = 64 * (i.val / 64) + i.val % 64; omega)⟩

/-- An extended real whose absolute value is below infinity is a real. -/
theorem real_of_abs_lt {x : EReal} (h : Ideal.cmp .olt (max x (-x)) (Ideal.ofBits .f32 0x7F800000#32) = 1#1) : (x.toReal : EReal) = x := by
  rw [show Ideal.ofBits .f32 0x7F800000#32 = ⊤ by simp [Ideal.ofBits, Ideal.ieee]] at h
  unfold Ideal.cmp at h
  induction x using EReal.rec with
  | bot => exact absurd h (by simp)
  | coe r => exact EReal.coe_toReal (EReal.coe_ne_top r) (EReal.coe_ne_bot r)
  | top => exact absurd h (by simp)

/-- The precondition's test of an array, passed everywhere, says the array is finite. -/
theorem finite_of_test {S : Shape} (x : FVec Ideal S .f32) (hb : (⟨0, ![]⟩ : Shape).BroadcastsInDim S (![] : Fin 0 → Fin S.rank))
    (h : cmpf .olt (Host.absf x) (broadcastInDim S ![] hb (constant (⟨0, ![]⟩ : Shape) .f32 0x7F800000#32)) = fun _ => 1#1) : Finite x :=
  fun i => real_of_abs_lt (congrFun h i)

/-- The precondition says that every argument is finite. -/
theorem allFinite (m : (ℓ : Loc Cert.KernelIdeal.nD Cert.KernelIdeal.τ Cert.KernelIdeal.sig) → Buf (Elt Ideal) ℓ)
    (h : Cert.Pre_KernelIdeal_finite m) (c : Dev Cert.KernelIdeal.nD) : AllFinite m c := by
  obtain ⟨h0, h1, h2, h3, h4, h5, h6⟩ := h c
  exact ⟨finite_of_test _ _ h0, finite_of_test _ _ h1, finite_of_test _ _ h2, finite_of_test _ _ h3, finite_of_test _ _ h4,
    finite_of_test _ _ h5, finite_of_test _ _ h6⟩

section agree
open Cert.ReferenceIdeal Cert.ReferenceIdeal.Gen Cert.ReferenceIdeal.Value

/-- What the reference holds before its first step. -/
theorem holds_entry (m : (ℓ : Loc nD τ sig) → Buf (Elt Ideal) ℓ) (c : Dev nD) (r k v kap b lw : Seq) (s0 : Sts)
    (er : m ((c : Thread nD τ).loc main_arg0) = r) (ek : m ((c : Thread nD τ).loc main_arg1) = k)
    (ev : m ((c : Thread nD τ).loc main_arg2) = v) (ea : m ((c : Thread nD τ).loc main_arg3) = kap)
    (eb : m ((c : Thread nD τ).loc main_arg4) = b) (el : m ((c : Thread nD τ).loc main_arg5) = lw)
    (es : m ((c : Thread nD τ).loc main_arg6) = s0)
    (hr : Finite r) (hk : Finite k) (hv : Finite v) (ha : Finite kap) (hb : Finite b) (hl : Finite lw) (hs : Finite s0) :
    Holds r k v kap b lw s0 0 (StableHlo.entryContents preI m c) where
  row_r := by rw [entry_0, er]; exact stacked_real hr
  row_lw := fun t a g d => by
    rw [entry_1, el, stacked_apply, ← hl, Ideal.exp_coe]
    simp only [realRow, dif_pos t.isLt]
  row_k := by rw [entry_2, ek]; exact stacked_real hk
  row_v := by rw [entry_3, ev]; exact stacked_real hv
  row_kap := by rw [entry_4, ea]; exact stacked_real ha
  row_b := by rw [entry_5, eb]; exact stacked_real hb
  counter := entry_6 m c
  state := fun a g i l => by rw [entry_7, es, seqS_zero]; exact (hs _).symm
  done := fun t h => absurd h (Nat.not_lt_zero _)

end agree

/-- The recurrence kernel and its reference end with equal results. -/
theorem claim : Cert.algebraic_KernelIdeal_ReferenceIdeal_pre_finite := by
  intro m ρ m' ρ' hpre hm
  refine ⟨fun c => Cert.KernelIdeal.Value.G7 m c, fun c => Cert.KernelIdeal.Value.G8 m c, Cert.KernelIdeal.Value.run (F := Ideal) m ρ, ?_⟩
  refine Idealize.ShloMosaic.θ_run_mono (Cert.ReferenceIdeal.Value.run (F := Ideal) m' ρ') fun r h c => ?_
  obtain ⟨hy, hs, hargs⟩ := h c
  have H := allFinite m hpre c
  obtain ⟨a0, a1, a2, a3, a4, a5, a6⟩ := hm c
  have E := holds_entry m' c _ _ _ _ _ _ _ a0 a1 a2 a3 a4 a5 a6 H.1 H.2.1 H.2.2.1 H.2.2.2.1 H.2.2.2.2.1 H.2.2.2.2.2.1 H.2.2.2.2.2.2
  have L := E.steps 4096 le_rfl
  refine ⟨hy.trans ?_, hs.trans ?_, hargs⟩
  · funext i
    obtain ⟨a, n, q, rfl⟩ : ∃ (a : Fin 4) (n : Fin 4096) (q : Fin 512), i = ix3 a n q :=
      ⟨i 0, i 1, i 2, by funext x; fin_cases x <;> rfl⟩
    obtain ⟨g, d, rfl⟩ := exists_hcol q
    exact (L.result rfl a n g d).trans (kernel_y m c H a n g d).symm
  · funext i
    obtain ⟨a, g, x, l, rfl⟩ : ∃ (a : Fin 4) (g : Fin 8) (x l : Fin 64), i = ix4 a g x l :=
      ⟨i 0, i 1, i 2, i 3, by funext x; fin_cases x <;> rfl⟩
    exact (L.state a g x l).trans (kernel_s m c H a g x l).symm

end Cert.Proof.Rscan
-- ==== Proof.SampleFfn.lean ====
module

public import proofs.«01_k».proof.Defs
public import proofs.«01_k».proof.Proof.Gen.SampleFfnIdeal.Value
public import proofs.«01_k».proof.Proof.Gen.SampleFfnReferenceIdeal.Run
public import proofs.«01_k».proof.Proof.Ffn
public import Idealize.ShloMosaic.Lib.Pointwise
public import Idealize.ShloMosaic.Lib.Claim

@[expose] public section

noncomputable section

/-! # The feed-forward call on the sample rows

The same call on the 256 rows of the sample batch: one block of 256 rows. A row of the result is the row of the prompt's
call, `rowAt`. -/

namespace Cert.Proof.SampleFfn

open Idealize.ShloMosaic Cert.Proof.Ffn

section kernel
open Cert.SampleFfnIdeal Cert.SampleFfnIdeal.Gen

set_option maxHeartbeats 4000000 in
/-- What the kernel's body stores at row `r`, column `l` of its block. -/
theorem pay_apply (x : Vec Ideal S256x1024 .f32) (g : Vec Ideal S1x1024 .f32) (wg wu : Vec Ideal S1024x2816 .bf16)
    (wd : Vec Ideal S2816x1024 .bf16) (r : Fin 256) (l : Fin 1024) :
    k0_pay1 (F := Ideal) x g wg wu wd (ix2 r l)
      = rowAt (fun k => x (ix2 r k)) (fun k => g (ix2 0 k)) (fun k f => wg (ix2 k f)) (fun k f => wu (ix2 k f))
          (fun f => wd (ix2 f l)) (x (ix2 r l)) := by
  pointwise [k0_pay1, rowAt, hiddenAt, normAt]
  simp only [zero_sub]

end kernel

section reference
open Cert.SampleFfnReferenceIdeal Cert.SampleFfnReferenceIdeal.Gen

/-- The reference's normalised activations. -/
def refNorm (x : FVec Ideal S256x1024 .f32) (g : FVec Ideal S1x1024 .f32) : FVec Ideal S256x1024 .f32 :=
  mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 g)

/-- The reference's projection of the normalised activations. -/
def refProj (x : FVec Ideal S256x1024 .f32) (g : FVec Ideal S1x1024 .f32) (w : FVec Ideal S1024x2816 .bf16) : FVec Ideal S256x2816 .f32 :=
  Host.dotGeneral dot_S256x1024_S1024x2816_S256x2816_1_0_0_1_n_n none (refNorm x g) (extf .f32 w bitsLt_bf16_f32)

/-- The reference's hidden units. -/
def refHidden (x : FVec Ideal S256x1024 .f32) (g : FVec Ideal S1x1024 .f32) (wg wu : FVec Ideal S1024x2816 .bf16) : FVec Ideal S256x2816 .f32 :=
  mulf (mulf (refProj x g wg) (Host.divf (broadcastInDim S256x2816 ![] bcast_S_S256x2816 (constant S_ .f32 0x3F800000#32)) (addf (broadcastInDim S256x2816 ![] bcast_S_S256x2816 (constant S_ .f32 0x3F800000#32)) (Host.exp (Host.negf (refProj x g wg)))))) (refProj x g wu)

/-- The reference's result. -/
def refOut (x : FVec Ideal S256x1024 .f32) (g : FVec Ideal S1x1024 .f32) (wg wu : FVec Ideal S1024x2816 .bf16)
    (wd : FVec Ideal S2816x1024 .bf16) : FVec Ideal S256x1024 .f32 :=
  addf x (mulf (broadcastInDim S256x1024 ![] bcast_S_S256x1024 (constant S_ .f32 0x3F000000#32)) (Host.dotGeneral dot_S256x2816_S2816x1024_S256x1024_1_0_0_1_n_n none (refHidden x g wg wu) (extf .f32 wd bitsLt_bf16_f32)))

set_option maxHeartbeats 4000000 in
/-- The reference's result at row `r`, column `l`. -/
theorem refOut_apply (x : FVec Ideal S256x1024 .f32) (g : FVec Ideal S1x1024 .f32) (wg wu : FVec Ideal S1024x2816 .bf16)
    (wd : FVec Ideal S2816x1024 .bf16) (r : Fin 256) (l : Fin 1024) :
    refOut x g wg wu wd (ix2 r l)
      = rowAt (fun k => x (ix2 r k)) (fun k => g (ix2 0 k)) (fun k f => wg (ix2 k f)) (fun k f => wu (ix2 k f))
          (fun f => wd (ix2 f l)) (x (ix2 r l)) := by
  pointwise [refOut, refHidden, refProj, refNorm, rowAt, hiddenAt, normAt]

end reference

section array
open Cert.SampleFfnIdeal Cert.SampleFfnIdeal.Gen Idealize.ShloMosaic.TcCoe Idealize.SL.Sem
open Idealize.ShloMosaic.Pipeline (Dat)

variable (m : (ℓ : Loc nD τ sig) → Buf (Elt Ideal) ℓ)

/-- The body's loads and its one store are of whole buffers: it leaves its payload. -/
theorem out_eq (x : Vec Ideal S256x1024 .f32) (g : Vec Ideal S1x1024 .f32) (wg wu : Vec Ideal S1024x2816 .bf16)
    (wd : Vec Ideal S2816x1024 .bf16) : out0_5 (F := Ideal) x g wg wu wd = k0_pay1 x g wg wu wd := by
  have h : (![0, 0] : Fin 2 → Nat) = fun _ => 0 := funext fun a => by fin_cases a <;> rfl
  unfold out0_5
  rw [View.canon_unit_zero h, View.ld_unit_zero h, View.ld_unit_zero h, View.ld_unit_zero h, View.ld_unit_zero h,
    View.ld_unit_zero h]

/-- The result array: the reference's term of the argument arrays. -/
def G (c : Dev nD) : FVec Ideal S256x1024 .f32 :=
  refOut (m ((c : Thread nD τ).loc main_arg0)) (m ((c : Thread nD τ).loc main_arg1))
    (m ((c : Thread nD τ).loc main_arg2)) (m ((c : Thread nD τ).loc main_arg3)) (m ((c : Thread nD τ).loc main_arg4))

/-- Point `t` works on rows `256 t …`; the gain and the three weights are whole at every point. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 ∧ (cfg0.win 5).flush t = true :=
  (by decide +kernel : ∀ t : Fin grid0.N, _)

/-- What point `t` writes back is its block of `G`. -/
theorem flushed_eq (c : Dev nD) (t : Fin cfg0.N) (_ : (cfg0.win 5).flush t = true) :
    (dats m 0 c).flushed 5 t = ((cfg0.win 5).blk t).view.read (Elt Ideal) (G m c) := by
  rw [Cert.SampleFfnIdeal.Value.flushed5, out_eq]
  obtain ⟨e50, e51, e00, e01, e10, e11, e20, e21, e30, e31, e40, e41, -⟩ := idx_facts t
  have ht : t.val < 1 := t.isLt
  funext y
  have hy0 : (y 0).val < 256 := (y 0).isLt
  have hy1 : (y 1).val < 1024 := (y 1).isLt
  have hR : t.val * 256 + (y 0).val < 256 := by omega
  have hemb : ((cfg0.win 5).blk t).view.emb y = ix2 (⟨t.val * 256 + (y 0).val, hR⟩ : Fin 256) (⟨(y 1).val, hy1⟩ : Fin 1024) := by
    funext a; apply Fin.ext
    match a with
    | ⟨0, _⟩ => show win0_5.index t (0 : Fin 2) * 256 + 1 * (y 0).val = t.val * 256 + (y 0).val; omega
    | ⟨1, _⟩ => show win0_5.index t (1 : Fin 2) * 1024 + 1 * (y 1).val = (y 1).val; omega
  have hx : ∀ k : Fin 1024, iblk m c 0 t (ix2 (⟨(y 0).val, hy0⟩ : Fin 256) k)
      = m ((c : Thread nD τ).loc main_arg0) (ix2 (⟨t.val * 256 + (y 0).val, hR⟩ : Fin 256) k) := fun k => by
    show m ((c : Thread nD τ).loc main_arg0) (((cfg0.win 0).blk t).view.emb _) = _
    congr 1
    funext a; apply Fin.ext
    match a with
    | ⟨0, _⟩ => show win0_0.index t (0 : Fin 2) * 256 + 1 * (y 0).val = t.val * 256 + (y 0).val; omega
    | ⟨1, _⟩ => show win0_0.index t (1 : Fin 2) * 1024 + 1 * k.val = k.val; omega
  have hg : ∀ i : S1x1024.Idx, iblk m c 1 t i = m ((c : Thread nD τ).loc main_arg1) i := fun i => by
    show m ((c : Thread nD τ).loc main_arg1) (((cfg0.win 1).blk t).view.emb i) = _
    congr 1
    funext a; apply Fin.ext
    match a with
    | ⟨0, _⟩ => show win0_1.index t (0 : Fin 2) * 1 + 1 * (i 0).val = (i 0).val; omega
    | ⟨1, _⟩ => show win0_1.index t (1 : Fin 2) * 1024 + 1 * (i 1).val = (i 1).val; omega
  have hwg : ∀ i : S1024x2816.Idx, iblk m c 2 t i = m ((c : Thread nD τ).loc main_arg2) i := fun i => by
    show m ((c : Thread nD τ).loc main_arg2) (((cfg0.win 2).blk t).view.emb i) = _
    congr 1
    funext a; apply Fin.ext
    match a with
    | ⟨0, _⟩ => show win0_2.index t (0 : Fin 2) * 1024 + 1 * (i 0).val = (i 0).val; omega
    | ⟨1, _⟩ => show win0_2.index t (1 : Fin 2) * 2816 + 1 * (i 1).val = (i 1).val; omega
  have hwu : ∀ i : S1024x2816.Idx, iblk m c 3 t i = m ((c : Thread nD τ).loc main_arg3) i := fun i => by
    show m ((c : Thread nD τ).loc main_arg3) (((cfg0.win 3).blk t).view.emb i) = _
    congr 1
    funext a; apply Fin.ext
    match a with
    | ⟨0, _⟩ => show win0_3.index t (0 : Fin 2) * 1024 + 1 * (i 0).val = (i 0).val; omega
    | ⟨1, _⟩ => show win0_3.index t (1 : Fin 2) * 2816 + 1 * (i 1).val = (i 1).val; omega
  have hwd : ∀ i : S2816x1024.Idx, iblk m c 4 t i = m ((c : Thread nD τ).loc main_arg4) i := fun i => by
    show m ((c : Thread nD τ).loc main_arg4) (((cfg0.win 4).blk t).view.emb i) = _
    congr 1
    funext a; apply Fin.ext
    match a with
    | ⟨0, _⟩ => show win0_4.index t (0 : Fin 2) * 2816 + 1 * (i 0).val = (i 0).val; omega
    | ⟨1, _⟩ => show win0_4.index t (1 : Fin 2) * 1024 + 1 * (i 1).val = (i 1).val; omega
  have hyy : (cfg0.win 5).xinj (grid0.coords t) y = ix2 (⟨(y 0).val, hy0⟩ : Fin 256) (⟨(y 1).val, hy1⟩ : Fin 1024) := by
    funext a; apply Fin.ext
    match a with
    | ⟨0, _⟩ => rfl
    | ⟨1, _⟩ => rfl
  show k0_pay1 (iblk m c 0 t) (iblk m c 1 t) (iblk m c 2 t) (iblk m c 3 t) (iblk m c 4 t) ((cfg0.win 5).xinj (grid0.coords t) y)
    = G m c (((cfg0.win 5).blk t).view.emb y)
  rw [hyy, hemb, G, refOut_apply, pay_apply]
  simp only [hx, hg, hwg, hwu, hwd]

/-- Every row lies in some point's block. -/
theorem covered (i : S256x1024.Idx) : ∃ t : Fin cfg0.N, (cfg0.win 5).flush t = true ∧ i ∈ ((cfg0.win 5).blk t).view.set := by
  have h0 : (i 0).val < 256 := (i 0).isLt
  have h1 : (i 1).val < 1024 := (i 1).isLt
  have hN : (i 0).val / 256 < grid0.N := lt_of_lt_of_eq (by omega : (i 0).val / 256 < 1) N_0.symm
  obtain ⟨e50, e51, -, -, -, -, -, -, -, -, -, -, hf⟩ := idx_facts ⟨(i 0).val / 256, hN⟩
  dsimp only at e50
  refine ⟨⟨(i 0).val / 256, hN⟩, hf, ?_⟩
  show i ∈ ((View.whole main_v0).slice (win0_5.rect ⟨(i 0).val / 256, hN⟩)).set
  rw [View.set_slice_whole, Rect.mem_set_unit]
  intro a
  match a with
  | ⟨0, _⟩ => show win0_5.index ⟨(i 0).val / 256, hN⟩ (0 : Fin 2) * 256 ≤ (i 0).val ∧ (i 0).val < win0_5.index ⟨(i 0).val / 256, hN⟩ (0 : Fin 2) * 256 + 256; omega
  | ⟨1, _⟩ => show win0_5.index ⟨(i 0).val / 256, hN⟩ (1 : Fin 2) * 1024 ≤ (i 1).val ∧ (i 1).val < win0_5.index ⟨(i 0).val / 256, hN⟩ (1 : Fin 2) * 1024 + 1024; omega

/-- The result array after the run. -/
theorem final (c : Dev nD) : (dats m 0 c).arrAt 5 cfg0.N = G m c :=
  (dats m 0 c).arrAt_eq_of_cover 5 _ (fun t hf => flushed_eq m c t hf) covered

end array

/-- The feed-forward kernel and its reference end with equal results. -/
theorem claim : Cert.algebraic_SampleFfnIdeal_SampleFfnReferenceIdeal := by
  intro m g m' g' _ hm
  refine ⟨fun c => G m c, ?_, ?_⟩
  · refine Idealize.ShloMosaic.θ_run_mono (Cert.SampleFfnIdeal.Value.run_blocks (F := Ideal) m g) fun r h c => ?_
    obtain ⟨h0, h1⟩ := h c
    exact ⟨h0.trans (final m c), h1⟩
  · refine Idealize.ShloMosaic.θ_run_mono (Cert.SampleFfnReferenceIdeal.Value.run (F := Ideal) m' g') fun r h c => ?_
    obtain ⟨h0, h1⟩ := h c
    refine ⟨h0.trans ?_, h1⟩
    obtain ⟨a0, a1, a2, a3, a4⟩ := hm c
    rw [a0, a1, a2, a3, a4]
    rfl

end Cert.Proof.SampleFfn

end
-- ==== Proof.SampleMixCell.lean ====
module

public import proofs.«01_k».proof.Proof.Gen.SampleMixIdeal.Skeleton
public import proofs.«01_k».proof.Proof.MixGate

@[expose] public section

noncomputable section

/-! # The combined projection on the sample rows, cell by cell: the kernel's body

The entries are those of the prompt's call: `rowH`, `proj`, `normAt`, `sigAt` and `lf`. The last rows of the sequences are
picked by a product with a matrix of ones and zeros, in three pieces. -/

namespace Cert.Proof.SampleMix

open Idealize.ShloMosaic Cert.Proof.Heads
open Cert.Proof.Mix (rowH proj normAt sigAt lf slt_eight)
open Cert.Proof.Rscan (select_ofBool)

section kernel
open Cert.SampleMixIdeal Cert.SampleMixIdeal.Gen

variable (x : Vec Ideal S256x1024 .f32) (g : Vec Ideal S1x1024 .f32)

theorem pay2_apply (i : Fin 256) (k : Fin 1024) :
    k0_pay2 (F := Ideal) x g (ix2 i k) = rowH (fun e => x (ix2 i e)) (fun e => g (ix2 0 e)) k := by
  pointwise [k0_pay2, rowH]

theorem pay3_apply (w : Vec Ideal S1024x1792 .bf16) (i : Fin 256) (l : Fin 1792) :
    k0_pay3 (F := Ideal) x g w (ix2 i l) = proj (fun e => x (ix2 i e)) (fun e => g (ix2 0 e)) (fun k => w (ix2 k l)) := by
  generalize hH : k0_pay2 (F := Ideal) x g = H
  pointwise [k0_pay3, hH, proj]
  simp only [← hH, pay2_apply]

theorem pay4_apply (w : Vec Ideal S1024x512 .bf16) (i : Fin 256) (l : Fin 512) :
    k0_pay4 (F := Ideal) x g w (ix2 i l) = proj (fun e => x (ix2 i e)) (fun e => g (ix2 0 e)) (fun k => w (ix2 k l)) := by
  generalize hH : k0_pay2 (F := Ideal) x g = H
  pointwise [k0_pay4, hH, proj]
  simp only [← hH, pay2_apply]

theorem pay5_apply (w : Vec Ideal S1024x512 .bf16) (i : Fin 256) (l : Fin 512) :
    k0_pay5 (F := Ideal) x g w (ix2 i l) = proj (fun e => x (ix2 i e)) (fun e => g (ix2 0 e)) (fun k => w (ix2 k l)) := by
  generalize hH : k0_pay2 (F := Ideal) x g = H
  pointwise [k0_pay5, hH, proj]
  simp only [← hH, pay2_apply]

theorem pay6_apply (w : Vec Ideal S1024x512 .bf16) (i : Fin 256) (l : Fin 512) :
    k0_pay6 (F := Ideal) x g w (ix2 i l) = proj (fun e => x (ix2 i e)) (fun e => g (ix2 0 e)) (fun k => w (ix2 k l)) := by
  generalize hH : k0_pay2 (F := Ideal) x g = H
  pointwise [k0_pay6, hH, proj]
  simp only [← hH, pay2_apply]

theorem pay7_apply (w : Vec Ideal S1024x1024 .bf16) (i : Fin 256) (l : Fin 1024) :
    k0_pay7 (F := Ideal) x g w (ix2 i l) = proj (fun e => x (ix2 i e)) (fun e => g (ix2 0 e)) (fun k => w (ix2 k l)) := by
  generalize hH : k0_pay2 (F := Ideal) x g = H
  pointwise [k0_pay7, hH, proj]
  simp only [← hH, pay2_apply]

theorem pay9_apply (z : FVec Ideal S256x1024 .f32) (i : Fin 256) (l : Fin 1024) :
    k0_pay9 (F := Ideal) z (k0_pay8 (F := Ideal)) (ix2 i l) = sigAt (z (ix2 i l)) := by
  pointwise [k0_pay9, k0_pay8, sigAt]
  rw [zero_sub]

theorem pay10_apply (w : Vec Ideal S1024x1024 .bf16) (i : Fin 256) (l : Fin 1024) :
    k0_pay10 (F := Ideal) (k0_pay2 x g) w (ix2 i l)
      = sigAt (proj (fun e => x (ix2 i e)) (fun e => g (ix2 0 e)) (fun k => w (ix2 k l))) := by
  generalize hH : k0_pay2 (F := Ideal) x g = H
  pointwise [k0_pay10, sigAt, proj]
  simp only [← hH, pay2_apply, zero_sub]

variable (bd : Vec Ideal S512x512 .bf16) (hbd : ∀ j l, bd (ix2 j l) = if head j = head l then (1 : EReal) else 0)
include hbd

theorem pay11_apply (p : FVec Ideal S256x512 .f32) (w : Vec Ideal S1x512 .f32) (i : Fin 256) (l : Fin 512) :
    k0_pay11 (F := Ideal) p bd w (ix2 i l) = normAt (fun j => p (ix2 i j)) (fun j => w (ix2 0 j)) l := by
  pointwise [k0_pay11, normAt]
  simp only [hbd, sum_ones, mul_64th]

theorem pay13_apply (p : FVec Ideal S256x512 .f32) (w : Vec Ideal S1x512 .f32) (i : Fin 256) (l : Fin 512) :
    k0_pay13 (F := Ideal) p (k0_pay12 p) bd w (ix2 i l) = normAt (fun j => p (ix2 i j)) (fun j => w (ix2 0 j)) l := by
  pointwise [k0_pay13, k0_pay12, normAt]
  simp only [hbd, sum_ones, mul_64th]

omit hbd

theorem pay14_apply (p : FVec Ideal S256x512 .f32) (i : Fin 256) (l : Fin 512) :
    k0_pay14 (F := Ideal) p (ix2 i l) = p (ix2 i l) * Ideal.ofBits .f32 0x3E000000#32 := by
  pointwise [k0_pay14]

theorem pay17_apply (a : FVec Ideal S256x128 .f32) (i : Fin 256) (h : Fin 8) :
    k0_pay17 (F := Ideal) a (ix2 i h) = a (ix2 i ⟨h.val, by omega⟩) := by
  pointwise [k0_pay17]

/-- The gates' logarithms in the first eight lanes, zero in the others. -/
theorem pay15_apply (h : FVec Ideal S256x1024 .bf16) (w : Vec Ideal S1024x128 .bf16) (b : Vec Ideal S1x128 .f32)
    (i : Fin 256) (j : Fin 128) :
    k0_pay15 (F := Ideal) h w b (ix2 i j) = if j.val < 8 then lf (∑ k, h (ix2 i k) * w (ix2 k j) + b (ix2 0 j)) else 0 := by
  pointwise [k0_pay15]
  rw [slt_eight, select_ofBool]
  simp only [decide_eq_true_iff]
  rfl

/-- Row `b` of the selection has its one at the last row of sequence `b`. -/
theorem last_bit (b : Fin 32) (s : Fin 256) :
    IntOp.cmpi .eq (BitVec.ofNat 32 s.val) (IntOp.addi (IntOp.muli (BitVec.ofNat 32 b.val) 8#32) 7#32)
      = BitVec.ofBool (decide (s = ⟨8 * b.val + 7, by omega⟩)) := by
  revert b s; decide +kernel

/-- The last row of a sequence, where it is real. -/
theorem last_apply (p : FVec Ideal S256x1792 .f32) (b : Fin 32) (l : Fin 1792) (h : ∃ r : ℝ, p (ix2 ⟨8 * b.val + 7, by omega⟩ l) = r) :
    k0_pay1 (F := Ideal) k0_pay22 (k0_pay23 p) (k0_pay25 p) (k0_pay26 p) (ix2 b l) = p (ix2 ⟨8 * b.val + 7, by omega⟩ l) := by
  obtain ⟨r, hr⟩ := h
  have e : p (ix2 ⟨8 * b.val + 7, by omega⟩ l) ≠ ⊤ := by rw [hr]; exact EReal.coe_ne_top r
  pointwise [k0_pay1, k0_pay22, k0_pay23, k0_pay24, k0_pay25, k0_pay26]
  simp only [last_bit, select_ofBool, decide_eq_true_iff, Finset.sum_ite_eq', Finset.mem_univ, if_true]
  exact Cert.Proof.Mix.pieces e

end kernel

end Cert.Proof.SampleMix

end
-- ==== Proof.SampleMixBody.lean ====
module

public import proofs.«01_k».proof.Proof.Gen.SampleMixIdeal.Frame
public import Idealize.ShloMosaic.Lib.Pipeline.ValueKit.Basic

@[expose] public section

noncomputable section

/-! # The combined projection on the sample rows: what the one grid point leaves

The body stores its blocks whole, from whole loads and slices of the projection matrix's columns. -/

namespace Cert.Proof.SampleMix

open Idealize.ShloMosaic Idealize.SL.Sem
open Cert.SampleMixIdeal Cert.SampleMixIdeal.Gen

variable {F : FTy → Type} [FloatOps F]

/-- The rectangles the body loads and stores. -/
abbrev allX : Rect S256x1024 := Rect.unit (s := S256x1024) ![0, 0] S256x1024.size inb_S256x1024_S256x1024_0_0
abbrev allG : Rect S1x1024 := Rect.unit (s := S1x1024) ![0, 0] S1x1024.size inb_S1x1024_S1x1024_0_0
abbrev allWf : Rect S1024x128 := Rect.unit (s := S1024x128) ![0, 0] S1024x128.size inb_S1024x128_S1024x128_0_0
abbrev allL : Rect S1x128 := Rect.unit (s := S1x128) ![0, 0] S1x128.size inb_S1x128_S1x128_0_0
abbrev allN : Rect S1x512 := Rect.unit (s := S1x512) ![0, 0] S1x512.size inb_S1x512_S1x512_0_0
abbrev allB : Rect S512x512 := Rect.unit (s := S512x512) ![0, 0] S512x512.size inb_S512x512_S512x512_0_0
abbrev allO : Rect S256x512 := Rect.unit (s := S256x512) ![0, 0] S256x512.size inb_S256x512_S256x512_0_0
abbrev all8 : Rect S256x8 := Rect.unit (s := S256x8) ![0, 0] S256x8.size inb_S256x8_S256x8_0_0
abbrev allR : Rect S32x1792 := Rect.unit (s := S32x1792) ![0, 0] S32x1792.size inb_S32x1792_S32x1792_0_0
abbrev allGate : Rect S256x1024 := Rect.unit (s := S256x1024) ![0, 0] S256x1024.size inb_S256x1024_S256x1024_0_0
abbrev colsA : Rect S1024x5376 := Rect.unit (s := S1024x5376) ![0, 0] S1024x1792.size inb_S1024x5376_S1024x1792_0_0
abbrev colsQ : Rect S1024x5376 := Rect.unit (s := S1024x5376) ![0, 1792] S1024x512.size inb_S1024x5376_S1024x512_0_1792
abbrev colsK : Rect S1024x5376 := Rect.unit (s := S1024x5376) ![0, 2304] S1024x512.size inb_S1024x5376_S1024x512_0_2304
abbrev colsV : Rect S1024x5376 := Rect.unit (s := S1024x5376) ![0, 2816] S1024x512.size inb_S1024x5376_S1024x512_0_2816
abbrev colsGa : Rect S1024x5376 := Rect.unit (s := S1024x5376) ![0, 3328] S1024x1024.size inb_S1024x5376_S1024x1024_0_3328
abbrev colsGb : Rect S1024x5376 := Rect.unit (s := S1024x5376) ![0, 4352] S1024x1024.size inb_S1024x5376_S1024x1024_0_4352

/-- What a load reads of a staging buffer. -/
def rd {s : Shape} {e : EltTy} (arg : Memref sig .tc .vmem s e) (h : arg.IsWhole) (x : Vec F s e) (r : Rect s) : Vec F r.shape e :=
  View.readAt (Elt F) arg.view r.toLoadRect (h.unread x)

theorem rd_eq {s : Shape} {e : EltTy} (arg : Memref sig .tc .vmem s e) (h : arg.IsWhole) (x : Vec F s e) (r : Rect s) :
    rd arg h x r = View.ld x r := by
  unfold rd; rw [View.readAt_eq_ld, h.read_unread]

theorem rd_all {s : Shape} {e : EltTy} (arg : Memref sig .tc .vmem s e) (h : arg.IsWhole) (x : Vec F s e) {o : Fin s.rank → ℕ}
    {inb : ∀ a, o a + s.size a ≤ s.size a} (z : ∀ a, o a = 0) : rd arg h x (Rect.unit o s.size inb) = x :=
  (rd_eq _ _ _ _).trans (View.ld_unit_lit _ _ z)

theorem zero2 : ∀ a : Fin 2, (![0, 0] : Fin 2 → ℕ) a = 0 := by decide

variable {c : Dev nD} {i : grid0.Coords} {arg1 : Memref sig .tc .vmem S256x1024 .f32} {harg1 : arg1.IsWhole} {arg2 : Memref sig .tc .vmem S1x1024 .f32} {harg2 : arg2.IsWhole} {arg3 : Memref sig .tc .vmem S1024x5376 .bf16} {harg3 : arg3.IsWhole} {arg4 : Memref sig .tc .vmem S1024x128 .bf16} {harg4 : arg4.IsWhole} {arg5 : Memref sig .tc .vmem S1x128 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S512x512 .bf16} {harg8 : arg8.IsWhole} {arg9 : Memref sig .tc .vmem S256x512 .f32} {harg9 : arg9.IsWhole} {arg10 : Memref sig .tc .vmem S256x512 .f32} {harg10 : arg10.IsWhole} {arg11 : Memref sig .tc .vmem S256x512 .f32} {harg11 : arg11.IsWhole} {arg12 : Memref sig .tc .vmem S256x1024 .bf16} {harg12 : arg12.IsWhole} {arg13 : Memref sig .tc .vmem S256x1024 .bf16} {harg13 : arg13.IsWhole} {arg14 : Memref sig .tc .vmem S256x8 .f32} {harg14 : arg14.IsWhole} {arg15 : Memref sig .tc .vmem S256x8 .f32} {harg15 : arg15.IsWhole} {arg16 : Memref sig .tc .vmem S256x128 .f32} {harg16 : arg16.IsWhole} {arg17 : Memref sig .tc .vmem S32x1792 .f32} {harg17 : arg17.IsWhole} {arg18 : Memref sig .tc .vmem S1x128 .f32} {harg18 : arg18.IsWhole}
  {x0 : Vec F S256x1024 .f32} {x1 : Vec F S1x1024 .f32} {x2 : Vec F S1024x5376 .bf16} {x3 : Vec F S1024x128 .bf16} {x4 : Vec F S1x128 .f32} {x5 : Vec F S1x512 .f32} {x6 : Vec F S1x512 .f32} {x7 : Vec F S512x512 .bf16}

/-- The queries, as stored. -/
theorem left_q : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = k0_pay14 (k0_pay11 (k0_pay4 x0 x1 (View.ld x2 colsQ)) x7 x5) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).1 = [⟨allO, k0_pay14 (k0_pay11 (k0_pay4 (rd arg1 harg1 x0 allX) (rd arg2 harg2 x1 allG) (rd arg3 harg3 x2 colsQ)) (rd arg8 harg8 x7 allB) (rd arg6 harg6 x5 allN))⟩] := rfl
  refine (View.read_writes_junk_eq_canon _ _).trans ((congrArg View.canon e).trans ((View.canon_cons_unit_lit _ _ _ zero2).trans ?_))
  rw [rd_all arg1 harg1 x0 zero2, rd_all arg2 harg2 x1 zero2, rd_all arg8 harg8 x7 zero2, rd_all arg6 harg6 x5 zero2, rd_eq]

/-- The keys, as stored. -/
theorem left_k : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = k0_pay13 (k0_pay5 x0 x1 (View.ld x2 colsK)) (k0_pay12 (k0_pay5 x0 x1 (View.ld x2 colsK))) x7 x6 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).2.1 = [⟨allO, k0_pay13 (k0_pay5 (rd arg1 harg1 x0 allX) (rd arg2 harg2 x1 allG) (rd arg3 harg3 x2 colsK)) (k0_pay12 (k0_pay5 (rd arg1 harg1 x0 allX) (rd arg2 harg2 x1 allG) (rd arg3 harg3 x2 colsK))) (rd arg8 harg8 x7 allB) (rd arg7 harg7 x6 allN)⟩] := rfl
  refine (View.read_writes_junk_eq_canon _ _).trans ((congrArg View.canon e).trans ((View.canon_cons_unit_lit _ _ _ zero2).trans ?_))
  rw [rd_all arg1 harg1 x0 zero2, rd_all arg2 harg2 x1 zero2, rd_all arg8 harg8 x7 zero2, rd_all arg7 harg7 x6 zero2, rd_eq]

/-- The values, as stored. -/
theorem left_v : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = k0_pay6 x0 x1 (View.ld x2 colsV) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).2.2.1 = [⟨allO, k0_pay6 (rd arg1 harg1 x0 allX) (rd arg2 harg2 x1 allG) (rd arg3 harg3 x2 colsV)⟩] := rfl
  refine (View.read_writes_junk_eq_canon _ _).trans ((congrArg View.canon e).trans ((View.canon_cons_unit_lit _ _ _ zero2).trans ?_))
  rw [rd_all arg1 harg1 x0 zero2, rd_all arg2 harg2 x1 zero2, rd_eq]

/-- The first gate, as stored. -/
theorem left_ga : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = k0_pay9 (k0_pay7 x0 x1 (View.ld x2 colsGa)) k0_pay8 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).2.2.2.1 = [⟨allGate, k0_pay9 (k0_pay7 (rd arg1 harg1 x0 allX) (rd arg2 harg2 x1 allG) (rd arg3 harg3 x2 colsGa)) k0_pay8⟩] := rfl
  refine (View.read_writes_junk_eq_canon _ _).trans ((congrArg View.canon e).trans ((View.canon_cons_unit_lit _ _ _ zero2).trans ?_))
  rw [rd_all arg1 harg1 x0 zero2, rd_all arg2 harg2 x1 zero2, rd_eq]

/-- The second gate, as stored. -/
theorem left_gb : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = k0_pay10 (k0_pay2 x0 x1) (View.ld x2 colsGb) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).2.2.2.2.1 = [⟨allGate, k0_pay10 (k0_pay2 (rd arg1 harg1 x0 allX) (rd arg2 harg2 x1 allG)) (rd arg3 harg3 x2 colsGb)⟩] := rfl
  refine (View.read_writes_junk_eq_canon _ _).trans ((congrArg View.canon e).trans ((View.canon_cons_unit_lit _ _ _ zero2).trans ?_))
  rw [rd_all arg1 harg1 x0 zero2, rd_all arg2 harg2 x1 zero2, rd_eq]

/-- The forget gates' logarithms, as stored. -/
theorem left_lf : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = k0_pay17 (k0_pay15 (k0_pay2 x0 x1) x3 x4) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).2.2.2.2.2.1 = [⟨all8, k0_pay17 (k0_pay15 (k0_pay2 (rd arg1 harg1 x0 allX) (rd arg2 harg2 x1 allG)) (rd arg4 harg4 x3 allWf) (rd arg5 harg5 x4 allL))⟩] := rfl
  refine (View.read_writes_junk_eq_canon _ _).trans ((congrArg View.canon e).trans ((View.canon_cons_unit_lit _ _ _ zero2).trans ?_))
  rw [rd_all arg1 harg1 x0 zero2, rd_all arg2 harg2 x1 zero2, rd_all arg4 harg4 x3 zero2, rd_all arg5 harg5 x4 zero2]

/-- The sequences' last rows, as stored. -/
theorem left_sh : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 = k0_pay1 k0_pay22 (k0_pay23 (k0_pay3 x0 x1 (View.ld x2 colsA))) (k0_pay25 (k0_pay3 x0 x1 (View.ld x2 colsA))) (k0_pay26 (k0_pay3 x0 x1 (View.ld x2 colsA))) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).2.2.2.2.2.2.2.2.1 = [⟨allR, k0_pay1 k0_pay22 (k0_pay23 (k0_pay3 (rd arg1 harg1 x0 allX) (rd arg2 harg2 x1 allG) (rd arg3 harg3 x2 colsA))) (k0_pay25 (k0_pay3 (rd arg1 harg1 x0 allX) (rd arg2 harg2 x1 allG) (rd arg3 harg3 x2 colsA))) (k0_pay26 (k0_pay3 (rd arg1 harg1 x0 allX) (rd arg2 harg2 x1 allG) (rd arg3 harg3 x2 colsA)))⟩] := rfl
  refine (View.read_writes_junk_eq_canon _ _).trans ((congrArg View.canon e).trans ((View.canon_cons_unit_lit _ _ _ zero2).trans ?_))
  rw [rd_all arg1 harg1 x0 zero2, rd_all arg2 harg2 x1 zero2, rd_eq]

end Cert.Proof.SampleMix

end
-- ==== Proof.SampleMixBlocks.lean ====
module

public import proofs.«01_k».proof.Proof.Heads
public import proofs.«01_k».proof.Proof.Gen.SampleMixIdeal.Frame.Runs
public import Idealize.ShloMosaic.Lib.StableHlo.RunRead

@[expose] public section

noncomputable section

/-! # The combined projection on the sample rows: what the one grid point finds

The program drops the eight gate columns of the projection matrix into a matrix of their own, padded to 128 columns, repeats the
head norms' weights for every head, and builds the matrix that adds up a head's lanes. -/

namespace Cert.Proof.SampleMix

open Idealize.ShloMosaic Cert.Proof.Heads
open Cert.SampleMixIdeal Cert.SampleMixIdeal.Gen Idealize.ShloMosaic.TcCoe Idealize.SL.Sem

variable (m : (ℓ : Loc nD τ sig) → Buf (Elt Ideal) ℓ) (c : Dev nD)

/-- The matrix without its gate columns. -/
def wMain (w : FVec Ideal S1024x5384 .f32) : FVec Ideal S1024x5376 .bf16 :=
  truncf .bf16 (concatenate S1024x5376 1 [⟨S1024x3328, extractStridedSlice S1024x3328 ![0, 0] w slices_S1024x5384_S1024x3328_0_0⟩, ⟨S1024x2048, extractStridedSlice S1024x2048 ![0, 3336] w slices_S1024x5384_S1024x2048_0_3336⟩] concatenates_S1024x3328_S1024x2048_S1024x5376_d1) bitsLt_bf16_f32

/-- Where a column of the matrix without gates comes from. -/
def colOf (l : Fin 5376) : Fin 5384 := if l.val < 3328 then ⟨l.val, by omega⟩ else ⟨l.val + 8, by omega⟩

theorem wMain_apply (w : FVec Ideal S1024x5384 .f32) (k : Fin 1024) (l : Fin 5376) : wMain w (ix2 k l) = w (ix2 k (colOf l)) := by
  unfold colOf
  by_cases h : l.val < 3328
  · pointwise [wMain, h]
  · pointwise [wMain, h]
    exact congrArg (fun z => w (ix2 k z)) (Fin.ext (by show 3336 + (l.val - 3328) = l.val + 8; omega))

/-- The gate columns, padded with zeros. -/
def wGate (w : FVec Ideal S1024x5384 .f32) : FVec Ideal S1024x128 .bf16 :=
  truncf .bf16 (pad S1024x128 ![0, 0] ![0, 120] ![0, 0] (extractStridedSlice S1024x8 ![0, 3328] w slices_S1024x5384_S1024x8_0_3328) (sitofp .f32 (constantI S_ 32 0#32)) pads_S1024x8_S1024x128_000_01200 h_S_) bitsLt_bf16_f32

theorem wGate_apply (w : FVec Ideal S1024x5384 .f32) (k : Fin 1024) (j : Fin 8) : wGate w (ix2 k ⟨j.val, by omega⟩) = w (ix2 k ⟨3328 + j.val, by omega⟩) := by
  pointwise [wGate]

/-- The gates' offsets, padded with zeros. -/
def bGate (b : FVec Ideal S8 .f32) : FVec Ideal S1x128 .f32 :=
  shapeCast S1x128 (pad S128 ![0] ![120] ![0] b (sitofp .f32 (constantI S_ 32 0#32)) pads_S8_S128_01200 h_S_) shapeCasts_S128_S1x128

theorem bGate_apply (b : FVec Ideal S8 .f32) (j : Fin 8) : bGate b (ix2 0 ⟨j.val, by omega⟩) = b (ix1 j) := by
  pointwise [bGate]

/-- A head norm's weights, once for every head. -/
def tiled (n : FVec Ideal S64 .f32) : FVec Ideal S1x512 .f32 :=
  shapeCast S1x512 (shapeCast S512 (broadcastInDim S8x64 ![0, 1] bcast_S1x64_S8x64_0_1 (shapeCast S1x64 n shapeCasts_S64_S1x64)) shapeCasts_S8x64_S512) shapeCasts_S512_S1x512

theorem tiled_apply (n : FVec Ideal S64 .f32) (l : Fin 512) : tiled n (ix2 0 l) = n (ix1 (place l)) := by
  pointwise [tiled]
  rfl

/-- The norm's weights as a row. -/
theorem row_apply (g : FVec Ideal S1024 .f32) (k : Fin 1024) : shapeCast S1x1024 g shapeCasts_S1024_S1x1024 (ix2 0 k) = g (ix1 k) := by
  pointwise []

/-- The head matrix, as the program builds it. -/
def heads : FVec Ideal S512x512 .bf16 :=
  truncf .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 (uitofp .f32 (cmpi .eq (addi (iotaInDim S8x8 32 0) (broadcastInDim S8x8 ![] bcast_S_S8x8 (constantI S_ 32 0#32))) (iotaInDim S8x8 32 1))))) (broadcastInDim S8x64x8x64 ![0, 1, 2, 3] bcast_S1x64x1x64_S8x64x8x64_0_1_2_3 (broadcastInDim S1x64x1x64 ![1, 3] bcast_S64x64_S1x64x1x64_1_3 (broadcastInDim S64x64 ![] bcast_S_S64x64 (constant S_ .f32 0x3F800000#32))))) shapeCasts_S8x64x8x64_S512x512) bitsLt_bf16_f32

theorem heads_apply (j l : Fin 512) : heads (ix2 j l) = if head j = head l then (1 : EReal) else 0 := by
  pointwise [heads]
  exact eye (head j) (head l)

/-- What the region finds where the program prepares an operand. -/
theorem V_prepared :
    V m c main_v7 = shapeCast S1x1024 (m ((c : Thread nD τ).loc main_arg1)) shapeCasts_S1024_S1x1024
    ∧ V m c main_v3 = wMain (m ((c : Thread nD τ).loc main_arg2))
    ∧ V m c main_v6 = wGate (m ((c : Thread nD τ).loc main_arg2))
    ∧ V m c main_v9 = bGate (m ((c : Thread nD τ).loc main_arg3))
    ∧ V m c main_v13 = tiled (m ((c : Thread nD τ).loc main_arg4))
    ∧ V m c main_v17 = tiled (m ((c : Thread nD τ).loc main_arg5))
    ∧ V m c main_v26 = heads := by
  refine ⟨?_, ?_, ?_, ?_, ?_, ?_, ?_⟩ <;> (dsimp only [V]; after_reads_simp; rfl)

/-- Point `t` works on rows `256 t …`; everything else is whole at every point. -/
theorem inputs_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Row `i` of point `t`'s block, in the whole array. -/
def rowOf (t : Fin cfg0.N) (i : Fin 256) : Fin 256 := ⟨t.val * 256 + i.val, by have : t.val < 1 := t.isLt; omega⟩

set_option maxHeartbeats 1000000 in
/-- What point `t` finds. -/
theorem found (t : Fin cfg0.N) :
    (∀ (i : Fin 256) (k : Fin 1024), iblk m c 0 t (ix2 i k) = m ((c : Thread nD τ).loc main_arg0) (ix2 (rowOf t i) k))
    ∧ (∀ k : Fin 1024, iblk m c 1 t (ix2 (0 : Fin 1) k) = m ((c : Thread nD τ).loc main_arg1) (ix1 k))
    ∧ (∀ (k : Fin 1024) (l : Fin 5376), iblk m c 2 t (ix2 k l) = m ((c : Thread nD τ).loc main_arg2) (ix2 k (colOf l)))
    ∧ (∀ (k : Fin 1024) (j : Fin 8), iblk m c 3 t (ix2 k (⟨j.val, by omega⟩ : Fin 128)) = m ((c : Thread nD τ).loc main_arg2) (ix2 k (⟨3328 + j.val, by omega⟩ : Fin 5384)))
    ∧ (∀ j : Fin 8, iblk m c 4 t (ix2 (0 : Fin 1) (⟨j.val, by omega⟩ : Fin 128)) = m ((c : Thread nD τ).loc main_arg3) (ix1 j))
    ∧ (∀ l : Fin 512, iblk m c 5 t (ix2 (0 : Fin 1) l) = m ((c : Thread nD τ).loc main_arg4) (ix1 (place l)))
    ∧ (∀ l : Fin 512, iblk m c 6 t (ix2 (0 : Fin 1) l) = m ((c : Thread nD τ).loc main_arg5) (ix1 (place l)))
    ∧ (∀ j l : Fin 512, iblk m c 7 t (ix2 j l) = if head j = head l then (1 : EReal) else 0) := by
  obtain ⟨e0, e1, e2, e3, e4, e5, e6, e7⟩ := inputs_at t
  obtain ⟨v1, v2, v3, v4, v5, v6, v7⟩ := V_prepared m c
  refine ⟨fun i k => ?_, fun k => ?_, fun k l => ?_, fun k j => ?_, fun j => ?_, fun l => ?_, fun l => ?_, fun j l => ?_⟩
  · exact (read_at (V m c main_arg0) _ _ _ (at_block e0.1) (at_first e0.2)).trans (congrFun (V_main_arg0 m c) _)
  · exact (read_at (V m c main_v7) _ _ _ (at_first e1.1) (at_first e1.2)).trans ((congrFun v1 _).trans (row_apply _ k))
  · exact (read_at (V m c main_v3) _ _ _ (at_first e2.1) (at_first e2.2)).trans ((congrFun v2 _).trans (wMain_apply _ k l))
  · exact (read_at (V m c main_v6) _ _ _ (at_first e3.1) (at_first e3.2)).trans ((congrFun v3 _).trans (wGate_apply _ k j))
  · exact (read_at (V m c main_v9) _ _ _ (at_first e4.1) (at_first e4.2)).trans ((congrFun v4 _).trans (bGate_apply _ j))
  · exact (read_at (V m c main_v13) _ _ _ (at_first e5.1) (at_first e5.2)).trans ((congrFun v5 _).trans (tiled_apply _ l))
  · exact (read_at (V m c main_v17) _ _ _ (at_first e6.1) (at_first e6.2)).trans ((congrFun v6 _).trans (tiled_apply _ l))
  · exact (read_at (V m c main_v26) _ _ _ (at_first e7.1) (at_first e7.2)).trans ((congrFun v7 _).trans (heads_apply j l))

end Cert.Proof.SampleMix

end
-- ==== Proof.SampleMixOut.lean ====
module

public import proofs.«01_k».proof.Proof.SampleMixCell
public import proofs.«01_k».proof.Proof.SampleMixBody
public import proofs.«01_k».proof.Proof.SampleMixBlocks
public import proofs.«01_k».proof.Proof.Gen.SampleMixIdeal.Value

@[expose] public section

noncomputable section

/-! # The combined projection on the sample rows: the kernel's results, entry by entry -/

namespace Cert.Proof.SampleMix

open Idealize.ShloMosaic Idealize.ShloMosaic.TcCoe Idealize.SL.Sem Cert.Proof.Heads
open Cert.SampleMixIdeal Cert.SampleMixIdeal.Gen Cert.SampleMixIdeal.Value
open Cert.Proof.Mix (rowH proj normAt sigAt lf)

variable (m : (ℓ : Loc nD τ sig) → Buf (Elt Ideal) ℓ) (c : Dev nD)

/-- The projection of row `n` on column `l`. -/
def cell (n : Fin 256) (l : Fin 5384) : EReal :=
  proj (fun e => m ((c : Thread nD τ).loc main_arg0) (ix2 n e)) (fun e => m ((c : Thread nD τ).loc main_arg1) (ix1 e))
    (fun k => m ((c : Thread nD τ).loc main_arg2) (ix2 k l))

/-- A gate before the logistic function. -/
def gate (n : Fin 256) (h : Fin 8) : EReal :=
  cell m c n ⟨3328 + h.val, by omega⟩ + m ((c : Thread nD τ).loc main_arg3) (ix1 h)

/-- The one grid point. -/
def t0 : Fin cfg0.N := ⟨0, lt_of_lt_of_eq Nat.one_pos N_0.symm⟩

theorem only (t : Fin cfg0.N) : t0 = t := Fin.ext (by have : t.val < 1 := t.isLt; show 0 = t.val; omega)

theorem row_first (i : Fin 256) : rowOf t0 i = i := Fin.ext (by show 0 * 256 + i.val = i.val; omega)

/-- A projection of the blocks is the projection of the arrays. -/
theorem proj_found (i : Fin 256) (w : Fin 1024 → EReal) (l : Fin 5384) (hw : ∀ k, w k = m ((c : Thread nD τ).loc main_arg2) (ix2 k l)) :
    proj (fun e => iblk m c 0 t0 (ix2 i e)) (fun e => iblk m c 1 t0 (ix2 (0 : Fin 1) e)) w = cell m c i l := by
  obtain ⟨f0, f1, -⟩ := found m c t0
  simp only [row_first] at f0
  unfold cell
  rw [show (fun e => iblk m c 0 t0 (ix2 i e)) = _ from funext fun e => f0 i e, show (fun e => iblk m c 1 t0 (ix2 (0 : Fin 1) e)) = _ from funext f1,
    show w = _ from funext hw]

/-- A slice of the staged matrix's columns. -/
theorem cols_found (k : Fin 1024) (l : Fin 5376) (l' : Fin 5384) (h : colOf l = l') :
    iblk m c 2 t0 (ix2 k l) = m ((c : Thread nD τ).loc main_arg2) (ix2 k l') := by
  rw [← h]; exact (found m c t0).2.2.1 k l

theorem colOf_low (l : Fin 5376) (l' : Fin 5384) (h : l.val < 3328) (e : l'.val = l.val) : colOf l = l' := by
  unfold colOf; rw [if_pos h]; exact Fin.ext e.symm

theorem colOf_high (l : Fin 5376) (l' : Fin 5384) (h : ¬l.val < 3328) (e : l'.val = l.val + 8) : colOf l = l' := by
  unfold colOf; rw [if_neg h]; exact Fin.ext e.symm

section point

/-- The queries at the one point. -/
theorem at_q : (outsAt0 m c t0).1
    = k0_pay14 (F := Ideal) (k0_pay11 (F := Ideal) (k0_pay4 (F := Ideal) (iblk m c 0 t0) (iblk m c 1 t0) (View.ld (Val := Elt Ideal) (S := S1024x5376) (e' := .bf16) (iblk m c 2 t0) colsQ)) (iblk m c 7 t0) (iblk m c 5 t0)) := by
  unfold outsAt0; dsimp only; rw [left_q]

/-- The keys at the one point. -/
theorem at_k : (outsAt0 m c t0).2.1
    = k0_pay13 (F := Ideal) (k0_pay5 (F := Ideal) (iblk m c 0 t0) (iblk m c 1 t0) (View.ld (Val := Elt Ideal) (S := S1024x5376) (e' := .bf16) (iblk m c 2 t0) colsK)) (k0_pay12 (F := Ideal) (k0_pay5 (F := Ideal) (iblk m c 0 t0) (iblk m c 1 t0) (View.ld (Val := Elt Ideal) (S := S1024x5376) (e' := .bf16) (iblk m c 2 t0) colsK))) (iblk m c 7 t0) (iblk m c 6 t0) := by
  unfold outsAt0; dsimp only; rw [left_k]

/-- The values at the one point. -/
theorem at_v : (outsAt0 m c t0).2.2.1
    = k0_pay6 (F := Ideal) (iblk m c 0 t0) (iblk m c 1 t0) (View.ld (Val := Elt Ideal) (S := S1024x5376) (e' := .bf16) (iblk m c 2 t0) colsV) := by
  unfold outsAt0; dsimp only; rw [left_v]

/-- The first gate at the one point. -/
theorem at_ga : (outsAt0 m c t0).2.2.2.1
    = k0_pay9 (F := Ideal) (k0_pay7 (F := Ideal) (iblk m c 0 t0) (iblk m c 1 t0) (View.ld (Val := Elt Ideal) (S := S1024x5376) (e' := .bf16) (iblk m c 2 t0) colsGa)) (k0_pay8 (F := Ideal)) := by
  unfold outsAt0; dsimp only; rw [left_ga]

/-- The second gate at the one point. -/
theorem at_gb : (outsAt0 m c t0).2.2.2.2.1
    = k0_pay10 (F := Ideal) (k0_pay2 (F := Ideal) (iblk m c 0 t0) (iblk m c 1 t0)) (View.ld (Val := Elt Ideal) (S := S1024x5376) (e' := .bf16) (iblk m c 2 t0) colsGb) := by
  unfold outsAt0; dsimp only; rw [left_gb]

/-- The logarithms at the one point. -/
theorem at_lf : (outsAt0 m c t0).2.2.2.2.2.1
    = k0_pay17 (F := Ideal) (k0_pay15 (F := Ideal) (k0_pay2 (F := Ideal) (iblk m c 0 t0) (iblk m c 1 t0)) (iblk m c 3 t0) (iblk m c 4 t0)) := by
  unfold outsAt0; dsimp only; rw [left_lf]

/-- The last rows at the one point. -/
theorem at_sh : (outsAt0 m c t0).2.2.2.2.2.2.2.2
    = k0_pay1 (F := Ideal) (k0_pay22 (F := Ideal)) (k0_pay23 (F := Ideal) (k0_pay3 (F := Ideal) (iblk m c 0 t0) (iblk m c 1 t0) (View.ld (Val := Elt Ideal) (S := S1024x5376) (e' := .bf16) (iblk m c 2 t0) colsA))) (k0_pay25 (F := Ideal) (k0_pay3 (F := Ideal) (iblk m c 0 t0) (iblk m c 1 t0) (View.ld (Val := Elt Ideal) (S := S1024x5376) (e' := .bf16) (iblk m c 2 t0) colsA))) (k0_pay26 (F := Ideal) (k0_pay3 (F := Ideal) (iblk m c 0 t0) (iblk m c 1 t0) (View.ld (Val := Elt Ideal) (S := S1024x5376) (e' := .bf16) (iblk m c 2 t0) colsA))) := by
  unfold outsAt0; dsimp only; rw [left_sh]

end point

/-- The kernel's queries. -/
theorem kernel_q (n : Fin 256) (l : Fin 512) : (outsAt0 m c t0).1 (ix2 n l)
    = normAt (fun j => cell m c n ⟨1792 + j.val, by omega⟩) (fun j => m ((c : Thread nD τ).loc main_arg4) (ix1 (place j))) l
      * Ideal.ofBits .f32 0x3E000000#32 := by
  obtain ⟨-, -, -, -, -, f5, -, f7⟩ := found m c t0
  refine (congrFun (at_q m c) _).trans ((pay14_apply _ n l).trans (congrArg (· * Ideal.ofBits .f32 0x3E000000#32) ((pay11_apply _ f7 _ _ n l).trans ?_)))
  congr 1
  · funext j
    exact (pay4_apply _ _ _ n j).trans (proj_found m c n _ _ fun k =>
      (read_at _ _ k (⟨1792 + j.val, by omega⟩ : Fin 5376) (by show 0 + 1 * k.val = k.val; omega) (by show 1792 + 1 * j.val = 1792 + j.val; omega)).trans
      (cols_found m c k _ _ (colOf_low _ _ (by show 1792 + j.val < 3328; omega) rfl)))
  · funext j; exact f5 j

/-- The kernel's keys. -/
theorem kernel_k (n : Fin 256) (l : Fin 512) : (outsAt0 m c t0).2.1 (ix2 n l)
    = normAt (fun j => cell m c n ⟨2304 + j.val, by omega⟩) (fun j => m ((c : Thread nD τ).loc main_arg5) (ix1 (place j))) l := by
  obtain ⟨-, -, -, -, -, -, f6, f7⟩ := found m c t0
  refine (congrFun (at_k m c) _).trans ((pay13_apply _ f7 _ _ n l).trans ?_)
  congr 1
  · funext j
    exact (pay5_apply _ _ _ n j).trans (proj_found m c n _ _ fun k =>
      (read_at _ _ k (⟨2304 + j.val, by omega⟩ : Fin 5376) (by show 0 + 1 * k.val = k.val; omega) (by show 2304 + 1 * j.val = 2304 + j.val; omega)).trans
      (cols_found m c k _ _ (colOf_low _ _ (by show 2304 + j.val < 3328; omega) rfl)))
  · funext j; exact f6 j

/-- The kernel's values. -/
theorem kernel_v (n : Fin 256) (j : Fin 512) : (outsAt0 m c t0).2.2.1 (ix2 n j) = cell m c n ⟨2816 + j.val, by omega⟩ :=
  (congrFun (at_v m c) _).trans ((pay6_apply _ _ _ n j).trans (proj_found m c n _ _ fun k =>
      (read_at _ _ k (⟨2816 + j.val, by omega⟩ : Fin 5376) (by show 0 + 1 * k.val = k.val; omega) (by show 2816 + 1 * j.val = 2816 + j.val; omega)).trans
      (cols_found m c k _ _ (colOf_low _ _ (by show 2816 + j.val < 3328; omega) rfl))))

/-- The kernel's first gate. -/
theorem kernel_ga (n : Fin 256) (j : Fin 1024) : (outsAt0 m c t0).2.2.2.1 (ix2 n j) = sigAt (cell m c n ⟨3336 + j.val, by omega⟩) :=
  (congrFun (at_ga m c) _).trans ((pay9_apply _ n j).trans (congrArg sigAt ((pay7_apply _ _ _ n j).trans (proj_found m c n _ _ fun k =>
      (read_at _ _ k (⟨3328 + j.val, by omega⟩ : Fin 5376) (by show 0 + 1 * k.val = k.val; omega) (by show 3328 + 1 * j.val = 3328 + j.val; omega)).trans
      (cols_found m c k _ _ (colOf_high _ _ (by show ¬3328 + j.val < 3328; omega) (by show 3336 + j.val = 3328 + j.val + 8; omega)))))))

/-- The kernel's second gate. -/
theorem kernel_gb (n : Fin 256) (j : Fin 1024) : (outsAt0 m c t0).2.2.2.2.1 (ix2 n j) = sigAt (cell m c n ⟨4360 + j.val, by omega⟩) :=
  (congrFun (at_gb m c) _).trans ((pay10_apply _ _ _ n j).trans (congrArg sigAt (proj_found m c n _ _ fun k =>
      (read_at _ _ k (⟨4352 + j.val, by omega⟩ : Fin 5376) (by show 0 + 1 * k.val = k.val; omega) (by show 4352 + 1 * j.val = 4352 + j.val; omega)).trans
      (cols_found m c k _ _ (colOf_high _ _ (by show ¬4352 + j.val < 3328; omega) (by show 4360 + j.val = 4352 + j.val + 8; omega))))))

/-- The kernel's last rows, where the projection is real. -/
theorem kernel_sh (b : Fin 32) (j : Fin 1792) (h : ∃ r : ℝ, cell m c ⟨8 * b.val + 7, by omega⟩ ⟨j.val, by omega⟩ = r) :
    (outsAt0 m c t0).2.2.2.2.2.2.2.2 (ix2 b j) = cell m c ⟨8 * b.val + 7, by omega⟩ ⟨j.val, by omega⟩ := by
  have e := (pay3_apply (iblk m c 0 t0) (iblk m c 1 t0) (View.ld (iblk m c 2 t0) colsA) ⟨8 * b.val + 7, by omega⟩ j).trans (proj_found m c _ _ ⟨j.val, by omega⟩ fun k =>
    (read_at _ _ k (⟨j.val, by omega⟩ : Fin 5376) (by show 0 + 1 * k.val = k.val; omega) (by show 0 + 1 * j.val = j.val; omega)).trans
      (cols_found m c k _ _ (colOf_low _ _ (by show j.val < 3328; omega) rfl)))
  refine (congrFun (at_sh m c) _).trans ((last_apply _ b j ?_).trans e)
  obtain ⟨r, hr⟩ := h
  exact ⟨r, e.trans hr⟩

/-- The kernel's logarithms of the forget gates. -/
theorem kernel_lf (n : Fin 256) (h : Fin 8) : (outsAt0 m c t0).2.2.2.2.2.1 (ix2 n h) = lf (gate m c n h) := by
  obtain ⟨-, -, -, f3, f4, -⟩ := found m c t0
  refine (congrFun (at_lf m c) _).trans ((pay17_apply _ n h).trans ((pay15_apply _ _ _ n _).trans ((if_pos h.isLt).trans (congrArg lf ?_))))
  unfold gate
  rw [← proj_found m c n (fun k => iblk m c 3 t0 (ix2 k ⟨h.val, by omega⟩)) ⟨3328 + h.val, by omega⟩ fun k => f3 k h]
  refine congrArg₂ (· + ·) ?_ (f4 h)
  exact Finset.sum_congr rfl fun k _ => congrArg (· * _) (pay2_apply _ _ n k)

/-- Every output is whole at the one point, which writes it back. -/
theorem outputs_all : ∀ t : Fin cfg0.N,
    (win0_8.index t (0 : Fin 2) = 0 ∧ win0_8.index t (1 : Fin 2) = 0 ∧ (cfg0.win 8).flush t = true)
    ∧ (win0_9.index t (0 : Fin 2) = 0 ∧ win0_9.index t (1 : Fin 2) = 0 ∧ (cfg0.win 9).flush t = true)
    ∧ (win0_10.index t (0 : Fin 2) = 0 ∧ win0_10.index t (1 : Fin 2) = 0 ∧ (cfg0.win 10).flush t = true)
    ∧ (win0_11.index t (0 : Fin 2) = 0 ∧ win0_11.index t (1 : Fin 2) = 0 ∧ (cfg0.win 11).flush t = true)
    ∧ (win0_12.index t (0 : Fin 2) = 0 ∧ win0_12.index t (1 : Fin 2) = 0 ∧ (cfg0.win 12).flush t = true)
    ∧ (win0_13.index t (0 : Fin 2) = 0 ∧ win0_13.index t (1 : Fin 2) = 0 ∧ (cfg0.win 13).flush t = true)
    ∧ (win0_16.index t (0 : Fin 2) = 0 ∧ win0_16.index t (1 : Fin 2) = 0 ∧ (cfg0.win 16).flush t = true) :=
  (by decide +kernel : ∀ t : Fin grid0.N, _)

/-- The array of the queries after the run is the one block. -/
theorem final_q : (dats m 0 c).arrAt 8 cfg0.N = (outsAt0 m c t0).1 := by
  obtain ⟨o8, o9, o10, o11, o12, o13, o16⟩ := outputs_all t0
  obtain ⟨e0, e1, hf⟩ := o8
  refine (dats m 0 c).arrAt_eq_of_cover 8 _ (fun t _ => ?_) (fun i => ⟨t0, hf, ?_⟩)
  · obtain rfl := only t
    rw [flushed8]
    generalize (outsAt0 m c t0).1 = z
    funext y
    show z ((cfg0.win 8).xinj (grid0.coords t0) y) = z (((cfg0.win 8).blk t0).view.emb y)
    congr 1
    funext a; apply Fin.ext
    match a with
    | ⟨0, _⟩ => show (y 0).val = win0_8.index t0 (0 : Fin 2) * 256 + 1 * (y 0).val; omega
    | ⟨1, _⟩ => show (y 1).val = win0_8.index t0 (1 : Fin 2) * 512 + 1 * (y 1).val; omega
  · have h0 : (i 0).val < 256 := (i 0).isLt
    have h1 : (i 1).val < 512 := (i 1).isLt
    show i ∈ ((View.whole main_v27_0).slice (win0_8.rect t0)).set
    rw [View.set_slice_whole, Rect.mem_set_unit]
    intro a
    match a with
    | ⟨0, _⟩ => show win0_8.index t0 (0 : Fin 2) * 256 ≤ (i 0).val ∧ (i 0).val < win0_8.index t0 (0 : Fin 2) * 256 + 256; omega
    | ⟨1, _⟩ => show win0_8.index t0 (1 : Fin 2) * 512 ≤ (i 1).val ∧ (i 1).val < win0_8.index t0 (1 : Fin 2) * 512 + 512; omega

/-- The array of the keys after the run is the one block. -/
theorem final_k : (dats m 0 c).arrAt 9 cfg0.N = (outsAt0 m c t0).2.1 := by
  obtain ⟨o8, o9, o10, o11, o12, o13, o16⟩ := outputs_all t0
  obtain ⟨e0, e1, hf⟩ := o9
  refine (dats m 0 c).arrAt_eq_of_cover 9 _ (fun t _ => ?_) (fun i => ⟨t0, hf, ?_⟩)
  · obtain rfl := only t
    rw [flushed9]
    generalize (outsAt0 m c t0).2.1 = z
    funext y
    show z ((cfg0.win 9).xinj (grid0.coords t0) y) = z (((cfg0.win 9).blk t0).view.emb y)
    congr 1
    funext a; apply Fin.ext
    match a with
    | ⟨0, _⟩ => show (y 0).val = win0_9.index t0 (0 : Fin 2) * 256 + 1 * (y 0).val; omega
    | ⟨1, _⟩ => show (y 1).val = win0_9.index t0 (1 : Fin 2) * 512 + 1 * (y 1).val; omega
  · have h0 : (i 0).val < 256 := (i 0).isLt
    have h1 : (i 1).val < 512 := (i 1).isLt
    show i ∈ ((View.whole main_v27_1).slice (win0_9.rect t0)).set
    rw [View.set_slice_whole, Rect.mem_set_unit]
    intro a
    match a with
    | ⟨0, _⟩ => show win0_9.index t0 (0 : Fin 2) * 256 ≤ (i 0).val ∧ (i 0).val < win0_9.index t0 (0 : Fin 2) * 256 + 256; omega
    | ⟨1, _⟩ => show win0_9.index t0 (1 : Fin 2) * 512 ≤ (i 1).val ∧ (i 1).val < win0_9.index t0 (1 : Fin 2) * 512 + 512; omega

/-- The array of the values after the run is the one block. -/
theorem final_v : (dats m 0 c).arrAt 10 cfg0.N = (outsAt0 m c t0).2.2.1 := by
  obtain ⟨o8, o9, o10, o11, o12, o13, o16⟩ := outputs_all t0
  obtain ⟨e0, e1, hf⟩ := o10
  refine (dats m 0 c).arrAt_eq_of_cover 10 _ (fun t _ => ?_) (fun i => ⟨t0, hf, ?_⟩)
  · obtain rfl := only t
    rw [flushed10]
    generalize (outsAt0 m c t0).2.2.1 = z
    funext y
    show z ((cfg0.win 10).xinj (grid0.coords t0) y) = z (((cfg0.win 10).blk t0).view.emb y)
    congr 1
    funext a; apply Fin.ext
    match a with
    | ⟨0, _⟩ => show (y 0).val = win0_10.index t0 (0 : Fin 2) * 256 + 1 * (y 0).val; omega
    | ⟨1, _⟩ => show (y 1).val = win0_10.index t0 (1 : Fin 2) * 512 + 1 * (y 1).val; omega
  · have h0 : (i 0).val < 256 := (i 0).isLt
    have h1 : (i 1).val < 512 := (i 1).isLt
    show i ∈ ((View.whole main_v27_2).slice (win0_10.rect t0)).set
    rw [View.set_slice_whole, Rect.mem_set_unit]
    intro a
    match a with
    | ⟨0, _⟩ => show win0_10.index t0 (0 : Fin 2) * 256 ≤ (i 0).val ∧ (i 0).val < win0_10.index t0 (0 : Fin 2) * 256 + 256; omega
    | ⟨1, _⟩ => show win0_10.index t0 (1 : Fin 2) * 512 ≤ (i 1).val ∧ (i 1).val < win0_10.index t0 (1 : Fin 2) * 512 + 512; omega

/-- The array of the first gate after the run is the one block. -/
theorem final_ga : (dats m 0 c).arrAt 11 cfg0.N = (outsAt0 m c t0).2.2.2.1 := by
  obtain ⟨o8, o9, o10, o11, o12, o13, o16⟩ := outputs_all t0
  obtain ⟨e0, e1, hf⟩ := o11
  refine (dats m 0 c).arrAt_eq_of_cover 11 _ (fun t _ => ?_) (fun i => ⟨t0, hf, ?_⟩)
  · obtain rfl := only t
    rw [flushed11]
    generalize (outsAt0 m c t0).2.2.2.1 = z
    funext y
    show z ((cfg0.win 11).xinj (grid0.coords t0) y) = z (((cfg0.win 11).blk t0).view.emb y)
    congr 1
    funext a; apply Fin.ext
    match a with
    | ⟨0, _⟩ => show (y 0).val = win0_11.index t0 (0 : Fin 2) * 256 + 1 * (y 0).val; omega
    | ⟨1, _⟩ => show (y 1).val = win0_11.index t0 (1 : Fin 2) * 1024 + 1 * (y 1).val; omega
  · have h0 : (i 0).val < 256 := (i 0).isLt
    have h1 : (i 1).val < 1024 := (i 1).isLt
    show i ∈ ((View.whole main_v27_3).slice (win0_11.rect t0)).set
    rw [View.set_slice_whole, Rect.mem_set_unit]
    intro a
    match a with
    | ⟨0, _⟩ => show win0_11.index t0 (0 : Fin 2) * 256 ≤ (i 0).val ∧ (i 0).val < win0_11.index t0 (0 : Fin 2) * 256 + 256; omega
    | ⟨1, _⟩ => show win0_11.index t0 (1 : Fin 2) * 1024 ≤ (i 1).val ∧ (i 1).val < win0_11.index t0 (1 : Fin 2) * 1024 + 1024; omega

/-- The array of the second gate after the run is the one block. -/
theorem final_gb : (dats m 0 c).arrAt 12 cfg0.N = (outsAt0 m c t0).2.2.2.2.1 := by
  obtain ⟨o8, o9, o10, o11, o12, o13, o16⟩ := outputs_all t0
  obtain ⟨e0, e1, hf⟩ := o12
  refine (dats m 0 c).arrAt_eq_of_cover 12 _ (fun t _ => ?_) (fun i => ⟨t0, hf, ?_⟩)
  · obtain rfl := only t
    rw [flushed12]
    generalize (outsAt0 m c t0).2.2.2.2.1 = z
    funext y
    show z ((cfg0.win 12).xinj (grid0.coords t0) y) = z (((cfg0.win 12).blk t0).view.emb y)
    congr 1
    funext a; apply Fin.ext
    match a with
    | ⟨0, _⟩ => show (y 0).val = win0_12.index t0 (0 : Fin 2) * 256 + 1 * (y 0).val; omega
    | ⟨1, _⟩ => show (y 1).val = win0_12.index t0 (1 : Fin 2) * 1024 + 1 * (y 1).val; omega
  · have h0 : (i 0).val < 256 := (i 0).isLt
    have h1 : (i 1).val < 1024 := (i 1).isLt
    show i ∈ ((View.whole main_v27_4).slice (win0_12.rect t0)).set
    rw [View.set_slice_whole, Rect.mem_set_unit]
    intro a
    match a with
    | ⟨0, _⟩ => show win0_12.index t0 (0 : Fin 2) * 256 ≤ (i 0).val ∧ (i 0).val < win0_12.index t0 (0 : Fin 2) * 256 + 256; omega
    | ⟨1, _⟩ => show win0_12.index t0 (1 : Fin 2) * 1024 ≤ (i 1).val ∧ (i 1).val < win0_12.index t0 (1 : Fin 2) * 1024 + 1024; omega

/-- The array of the forget gates' logarithms after the run is the one block. -/
theorem final_lf : (dats m 0 c).arrAt 13 cfg0.N = (outsAt0 m c t0).2.2.2.2.2.1 := by
  obtain ⟨o8, o9, o10, o11, o12, o13, o16⟩ := outputs_all t0
  obtain ⟨e0, e1, hf⟩ := o13
  refine (dats m 0 c).arrAt_eq_of_cover 13 _ (fun t _ => ?_) (fun i => ⟨t0, hf, ?_⟩)
  · obtain rfl := only t
    rw [flushed13]
    generalize (outsAt0 m c t0).2.2.2.2.2.1 = z
    funext y
    show z ((cfg0.win 13).xinj (grid0.coords t0) y) = z (((cfg0.win 13).blk t0).view.emb y)
    congr 1
    funext a; apply Fin.ext
    match a with
    | ⟨0, _⟩ => show (y 0).val = win0_13.index t0 (0 : Fin 2) * 256 + 1 * (y 0).val; omega
    | ⟨1, _⟩ => show (y 1).val = win0_13.index t0 (1 : Fin 2) * 8 + 1 * (y 1).val; omega
  · have h0 : (i 0).val < 256 := (i 0).isLt
    have h1 : (i 1).val < 8 := (i 1).isLt
    show i ∈ ((View.whole main_v27_5).slice (win0_13.rect t0)).set
    rw [View.set_slice_whole, Rect.mem_set_unit]
    intro a
    match a with
    | ⟨0, _⟩ => show win0_13.index t0 (0 : Fin 2) * 256 ≤ (i 0).val ∧ (i 0).val < win0_13.index t0 (0 : Fin 2) * 256 + 256; omega
    | ⟨1, _⟩ => show win0_13.index t0 (1 : Fin 2) * 8 ≤ (i 1).val ∧ (i 1).val < win0_13.index t0 (1 : Fin 2) * 8 + 8; omega

/-- The array of the sequences' last rows after the run is the one block. -/
theorem final_sh : (dats m 0 c).arrAt 16 cfg0.N = (outsAt0 m c t0).2.2.2.2.2.2.2.2 := by
  obtain ⟨o8, o9, o10, o11, o12, o13, o16⟩ := outputs_all t0
  obtain ⟨e0, e1, hf⟩ := o16
  refine (dats m 0 c).arrAt_eq_of_cover 16 _ (fun t _ => ?_) (fun i => ⟨t0, hf, ?_⟩)
  · obtain rfl := only t
    rw [flushed16]
    generalize (outsAt0 m c t0).2.2.2.2.2.2.2.2 = z
    funext y
    show z ((cfg0.win 16).xinj (grid0.coords t0) y) = z (((cfg0.win 16).blk t0).view.emb y)
    congr 1
    funext a; apply Fin.ext
    match a with
    | ⟨0, _⟩ => show (y 0).val = win0_16.index t0 (0 : Fin 2) * 32 + 1 * (y 0).val; omega
    | ⟨1, _⟩ => show (y 1).val = win0_16.index t0 (1 : Fin 2) * 1792 + 1 * (y 1).val; omega
  · have h0 : (i 0).val < 32 := (i 0).isLt
    have h1 : (i 1).val < 1792 := (i 1).isLt
    show i ∈ ((View.whole main_v27_8).slice (win0_16.rect t0)).set
    rw [View.set_slice_whole, Rect.mem_set_unit]
    intro a
    match a with
    | ⟨0, _⟩ => show win0_16.index t0 (0 : Fin 2) * 32 ≤ (i 0).val ∧ (i 0).val < win0_16.index t0 (0 : Fin 2) * 32 + 32; omega
    | ⟨1, _⟩ => show win0_16.index t0 (1 : Fin 2) * 1792 ≤ (i 1).val ∧ (i 1).val < win0_16.index t0 (1 : Fin 2) * 1792 + 1792; omega

end Cert.Proof.SampleMix

end
-- ==== Proof.SampleMixRef.lean ====
module

public import proofs.«01_k».proof.Proof.Gen.SampleMixReferenceIdeal.Run
public import proofs.«01_k».proof.Proof.MixGate

@[expose] public section

noncomputable section

/-! # The combined projection on the sample rows, cell by cell: the reference -/

namespace Cert.Proof.SampleMix

open Idealize.ShloMosaic Cert.Proof.Heads
open Cert.SampleMixReferenceIdeal Cert.SampleMixReferenceIdeal.Gen
open Cert.Proof.Mix (rowH proj normAt sigAt lf lf_host)

/-- The reference's normalised rows times the weights. -/
def refP (x : FVec Ideal S256x1024 .f32) (g : FVec Ideal S1024 .f32) (w : FVec Ideal S1024x5384 .f32) : FVec Ideal S256x5384 .f32 :=
  Host.dotGeneral dot_S256x1024_S1024x5384_S256x5384_1_0_0_1_n_n none (mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 g))) w

theorem refP_apply (x : FVec Ideal S256x1024 .f32) (g : FVec Ideal S1024 .f32) (w : FVec Ideal S1024x5384 .f32)
    (i : Fin 256) (l : Fin 5384) :
    refP x g w (ix2 i l) = proj (fun e => x (ix2 i e)) (fun e => g (ix1 e)) (fun k => w (ix2 k l)) := by
  pointwise [refP, proj, rowH]

/-- The reference's normalisation of each head. -/
def refNorm (y : FVec Ideal S256x512 .f32) (n : FVec Ideal S64 .f32) : FVec Ideal S256x8x64 .f32 :=
  (mulf (mulf (shapeCast S256x8x64 y shapeCasts_S256x512_S256x8x64) (broadcastInDim S256x8x64 ![0, 1, 2] bcast_S256x8x1_S256x8x64_0_1_2 (Host.rsqrt (addf (Host.divf (broadcastInDim S256x8x1 ![0, 1] bcast_S256x8_S256x8x1_0_1 (Host.reduceAdd (mulf (shapeCast S256x8x64 y shapeCasts_S256x512_S256x8x64) (shapeCast S256x8x64 y shapeCasts_S256x512_S256x8x64)) (constant S_ .f32 0x00000000#32) reducesTo_S256x8x64_S256x8_d2 h_S_)) (broadcastInDim S256x8x1 ![] bcast_S_S256x8x1 (constant S_ .f32 0x42800000#32))) (broadcastInDim S256x8x1 ![] bcast_S_S256x8x1 (constant S_ .f32 0x358637BD#32)))))) (broadcastInDim S256x8x64 ![0, 1, 2] bcast_S1x1x64_S256x8x64_0_1_2 (broadcastInDim S1x1x64 ![2] bcast_S64_S1x1x64_2 n)))

theorem refNorm_apply (y : FVec Ideal S256x512 .f32) (n : FVec Ideal S64 .f32) (i : Fin 256) (l : Fin 512) :
    shapeCast S256x512 (refNorm y n) shapeCasts_S256x8x64_S256x512 (ix2 i l)
      = normAt (fun j => y (ix2 i j)) (fun j => n (ix1 (place j))) l := by
  obtain ⟨h, d, rfl⟩ : ∃ h d, l = lane h d := ⟨head l, place l, (lane_head_place l).symm⟩
  have e1 : shapeCast S256x512 (refNorm y n) shapeCasts_S256x8x64_S256x512 (ix2 i (lane h d)) = refNorm y n (ix3 i h d) := by
    generalize refNorm y n = Y
    have : shapeCast S256x512 Y shapeCasts_S256x8x64_S256x512 (ix2 i (lane h d)) = Y (ix3 i (head (lane h d)) (place (lane h d))) := by
      pointwise [head, place]
    rw [this, head_lane, place_lane]
  have e2 : ∀ (h : Fin 8) (d : Fin 64), shapeCast S256x8x64 y shapeCasts_S256x512_S256x8x64 (ix3 i h d) = y (ix2 i (lane h d)) := by
    intro h d; pointwise [lane]
  rw [e1, normAt, head_lane, place_lane]
  generalize hY : shapeCast S256x8x64 y shapeCasts_S256x512_S256x8x64 = Y at e2
  pointwise [refNorm, hY]
  simp only [e2]

/-- The reference's logistic function. -/
def refSig (z : FVec Ideal S256x1024 .f32) : FVec Ideal S256x1024 .bf16 :=
  truncf .bf16 (Host.divf (broadcastInDim S256x1024 ![] bcast_S_S256x1024 (constant S_ .f32 0x3F800000#32)) (addf (broadcastInDim S256x1024 ![] bcast_S_S256x1024 (constant S_ .f32 0x3F800000#32)) (Host.exp (Host.negf z)))) bitsLt_bf16_f32

theorem refSig_apply (z : FVec Ideal S256x1024 .f32) (i : Fin 256) (l : Fin 1024) :
    refSig z (ix2 i l) = sigAt (z (ix2 i l)) := by
  pointwise [refSig, sigAt]

/-- The gates with their offsets. -/
def refZ (p : FVec Ideal S256x5384 .f32) (b : FVec Ideal S8 .f32) : FVec Ideal S256x8 .f32 :=
  addf (extractStridedSlice S256x8 ![0, 3328] p slices_S256x5384_S256x8_0_3328) (broadcastInDim S256x8 ![0, 1] bcast_S1x8_S256x8_0_1 (broadcastInDim S1x8 ![1] bcast_S8_S1x8_1 b))

theorem refZ_apply (p : FVec Ideal S256x5384 .f32) (b : FVec Ideal S8 .f32) (i : Fin 256) (h : Fin 8) :
    refZ p b (ix2 i h) = p (ix2 i ⟨3328 + h.val, by omega⟩) + b (ix1 h) := by
  pointwise [refZ]

/-- The reference's logarithm of the logistic function. -/
def refLf (z : FVec Ideal S256x8 .f32) : FVec Ideal S256x8 .f32 :=
  Host.negf (select (cmpf .une (subf (Host.negf z) (broadcastInDim S256x8 ![] bcast_S_S256x8 (constant S_ .f32 0x00000000#32))) (subf (Host.negf z) (broadcastInDim S256x8 ![] bcast_S_S256x8 (constant S_ .f32 0x00000000#32)))) (addf (Host.negf z) (broadcastInDim S256x8 ![] bcast_S_S256x8 (constant S_ .f32 0x00000000#32))) (addf (maximumf (Host.negf z) (broadcastInDim S256x8 ![] bcast_S_S256x8 (constant S_ .f32 0x00000000#32))) (Host.log1p (Host.exp (Host.negf (Host.absf (subf (Host.negf z) (broadcastInDim S256x8 ![] bcast_S_S256x8 (constant S_ .f32 0x00000000#32)))))))))

theorem refLf_apply (z : FVec Ideal S256x8 .f32) (i : Fin 256) (h : Fin 8) : refLf z (ix2 i h) = lf (z (ix2 i h)) := by
  pointwise [refLf]
  rw [if_neg (fun h => h rfl)]
  exact lf_host _

/-- The reference's last rows. -/
def refSh (p : FVec Ideal S256x5384 .f32) : FVec Ideal S32x1792 .f32 :=
  shapeCast S32x1792 (extractStridedSlice S32x1x1792 ![0, 7, 0] (shapeCast S32x8x1792 (extractStridedSlice S256x1792 ![0, 0] p slices_S256x5384_S256x1792_0_0) shapeCasts_S256x1792_S32x8x1792) slices_S32x8x1792_S32x1x1792_0_7_0) shapeCasts_S32x1x1792_S32x1792

theorem refSh_apply (p : FVec Ideal S256x5384 .f32) (b : Fin 32) (l : Fin 1792) :
    refSh p (ix2 b l) = p (ix2 ⟨8 * b.val + 7, by omega⟩ ⟨l.val, by omega⟩) := by
  unfold refSh
  generalize hr : (⟨8 * b.val + 7, by omega⟩ : Fin 256) = r
  generalize hy : extractStridedSlice S256x1792 ![0, 0] p slices_S256x5384_S256x1792_0_0 = y
  have e0 : ∀ z : FVec Ideal S32x1x1792 .f32, shapeCast S32x1792 z shapeCasts_S32x1x1792_S32x1792 (ix2 b l) = z (ix3 b 0 l) := by
    intro z; pointwise []
  have e1 : ∀ z : FVec Ideal S32x8x1792 .f32,
      extractStridedSlice S32x1x1792 ![0, 7, 0] z slices_S32x8x1792_S32x1x1792_0_7_0 (ix3 b 0 l) = z (ix3 b ⟨7, by omega⟩ l) := by
    intro z; pointwise []
  have e2 : shapeCast S32x8x1792 y shapeCasts_S256x1792_S32x8x1792 (ix3 b ⟨7, by omega⟩ l) = y (ix2 r l) := by
    pointwise []
    exact read_at y _ _ _ (by rw [← hr]; show b.val * 8 + 7 = 8 * b.val + 7; omega) rfl
  have e3 : y (ix2 r l) = p (ix2 r ⟨l.val, by omega⟩) := by
    subst hy; pointwise []
  rw [e0, e1, e2, e3]

theorem slice_q (p : FVec Ideal S256x5384 .f32) (i : Fin 256) (l : Fin 512) :
    extractStridedSlice S256x512 ![0, 1792] p slices_S256x5384_S256x512_0_1792 (ix2 i l) = p (ix2 i ⟨1792 + l.val, by omega⟩) := by
  pointwise []

theorem slice_k (p : FVec Ideal S256x5384 .f32) (i : Fin 256) (l : Fin 512) :
    extractStridedSlice S256x512 ![0, 2304] p slices_S256x5384_S256x512_0_2304 (ix2 i l) = p (ix2 i ⟨2304 + l.val, by omega⟩) := by
  pointwise []

theorem slice_v (p : FVec Ideal S256x5384 .f32) (i : Fin 256) (l : Fin 512) :
    extractStridedSlice S256x512 ![0, 2816] p slices_S256x5384_S256x512_0_2816 (ix2 i l) = p (ix2 i ⟨2816 + l.val, by omega⟩) := by
  pointwise []

theorem slice_ga (p : FVec Ideal S256x5384 .f32) (i : Fin 256) (l : Fin 1024) :
    extractStridedSlice S256x1024 ![0, 3336] p slices_S256x5384_S256x1024_0_3336 (ix2 i l) = p (ix2 i ⟨3336 + l.val, by omega⟩) := by
  pointwise []

theorem slice_gb (p : FVec Ideal S256x5384 .f32) (i : Fin 256) (l : Fin 1024) :
    extractStridedSlice S256x1024 ![0, 4360] p slices_S256x5384_S256x1024_0_4360 (ix2 i l) = p (ix2 i ⟨4360 + l.val, by omega⟩) := by
  pointwise []

variable (x : FVec Ideal S256x1024 .f32) (g : FVec Ideal S1024 .f32) (w : FVec Ideal S1024x5384 .f32)

/-- The reference's queries. -/
def refQ (n : FVec Ideal S64 .f32) : FVec Ideal S256x512 .f32 :=
  mulf (shapeCast S256x512 (refNorm (extractStridedSlice S256x512 ![0, 1792] (refP x g w) slices_S256x5384_S256x512_0_1792) n) shapeCasts_S256x8x64_S256x512)
    (broadcastInDim S256x512 ![] bcast_S_S256x512 (constant S_ .f32 0x3E000000#32))

/-- The reference's keys. -/
def refK (n : FVec Ideal S64 .f32) : FVec Ideal S256x512 .f32 :=
  shapeCast S256x512 (refNorm (extractStridedSlice S256x512 ![0, 2304] (refP x g w) slices_S256x5384_S256x512_0_2304) n) shapeCasts_S256x8x64_S256x512

/-- An entry of the reference's projections. -/
def refCell (i : Fin 256) (l : Fin 5384) : EReal := proj (fun e => x (ix2 i e)) (fun e => g (ix1 e)) (fun k => w (ix2 k l))

theorem refK_apply (n : FVec Ideal S64 .f32) (i : Fin 256) (l : Fin 512) :
    refK x g w n (ix2 i l) = normAt (fun j => refCell x g w i ⟨2304 + j.val, by omega⟩) (fun j => n (ix1 (place j))) l := by
  refine (refNorm_apply _ n i l).trans ?_
  congr 1
  funext j
  exact (slice_k _ i j).trans (refP_apply x g w i _)

theorem refQ_apply (n : FVec Ideal S64 .f32) (i : Fin 256) (l : Fin 512) : refQ x g w n (ix2 i l)
    = normAt (fun j => refCell x g w i ⟨1792 + j.val, by omega⟩) (fun j => n (ix1 (place j))) l * Ideal.ofBits .f32 0x3E000000#32 := by
  refine congrArg (· * Ideal.ofBits .f32 0x3E000000#32) ((refNorm_apply _ n i l).trans ?_)
  congr 1
  funext j
  exact (slice_q _ i j).trans (refP_apply x g w i _)

/-- The reference's logarithms of the gates. -/
def refLog (b : FVec Ideal S8 .f32) : FVec Ideal S256x8 .f32 := refLf (refZ (refP x g w) b)

theorem refLog_apply (b : FVec Ideal S8 .f32) (i : Fin 256) (h : Fin 8) :
    refLog x g w b (ix2 i h) = lf (refCell x g w i ⟨3328 + h.val, by omega⟩ + b (ix1 h)) :=
  (refLf_apply _ i h).trans (congrArg lf ((refZ_apply _ _ i h).trans (congrArg (· + b (ix1 h)) (refP_apply x g w i _))))

end Cert.Proof.SampleMix

end
-- ==== Proof.MixReal.lean ====
module

public import proofs.«01_k».proof.Proof.MixCell
public import proofs.«01_k».proof.Proof.Blocks

@[expose] public section

noncomputable section

/-! # The combined projection: a projected row is real

A row over its root mean square is real whatever the row: where the mean of the squares is infinite, the factor is zero. -/

namespace Cert.Proof.Mix

open Idealize.ShloMosaic
open Cert.Proof.Rscan (coe_sum)

theorem thousand : Ideal.ofBits .f32 0x44800000#32 = ((1024 : ℝ) : EReal) := by
  have e : Ideal.ofBits .f32 0x44800000#32 = ((8388608 * (2 : ℝ) ^ (-13 : Int) : ℝ) : EReal) := by simp [Ideal.ofBits, Ideal.ieee]
  rw [e]; congr 1; norm_num

theorem small : ∃ ε : ℝ, 0 < ε ∧ Ideal.ofBits .f32 0x358637BD#32 = (ε : EReal) :=
  ⟨8796093 * (2 : ℝ) ^ (-43 : Int), by positivity, by simp [Ideal.ofBits, Ideal.ieee]⟩

theorem square_nonneg (x : EReal) : 0 ≤ x * x := by
  induction x using EReal.rec with
  | bot => simp
  | coe r => rw [← EReal.coe_mul]; exact EReal.coe_nonneg.2 (mul_self_nonneg r)
  | top => simp

/-- An entry of a normalised row is real where the weight is. -/
theorem rowH_real (x g : Fin 1024 → EReal) (k : Fin 1024) (hg : ∃ r : ℝ, g k = r) : ∃ r : ℝ, rowH x g k = r := by
  obtain ⟨b, hb⟩ := hg
  obtain ⟨ε, hε, e⟩ := small
  have h0 : 0 ≤ ∑ e, x e * x e := Finset.sum_nonneg fun e _ => square_nonneg (x e)
  have hk : x k * x k ≤ ∑ e, x e * x e :=
    Finset.single_le_sum (f := fun e => x e * x e) (fun e _ => square_nonneg (x e)) (Finset.mem_univ k)
  unfold rowH
  rw [thousand, e, Ideal.div_coe (by norm_num), hb]
  generalize ∑ e, x e * x e = S at h0 hk
  by_cases hS : S = ⊤
  · refine ⟨0, ?_⟩
    rw [hS, EReal.top_mul_coe_of_pos (by norm_num), EReal.top_add_coe, Ideal.rsqrt_top, mul_zero, zero_mul, EReal.coe_zero]
  · lift S to ℝ using ⟨hS, fun h => by rw [h] at h0; exact absurd h0 (by simp)⟩
    have hx : ∃ r : ℝ, x k = r := by
      generalize x k = y at hk
      induction y using EReal.rec with
      | bot => rw [EReal.bot_mul_bot] at hk; exact absurd (top_le_iff.1 hk) hS
      | coe r => exact ⟨r, rfl⟩
      | top => rw [EReal.top_mul_top] at hk; exact absurd (top_le_iff.1 hk) hS
    obtain ⟨a, ha⟩ := hx
    have hp : 0 < S * (1 / 1024) + ε := by have := EReal.coe_nonneg.1 h0; positivity
    refine ⟨a * (Real.sqrt (S * (1 / 1024) + ε))⁻¹ * b, ?_⟩
    rw [ha, ← EReal.coe_mul, ← EReal.coe_add, Ideal.rsqrt_coe, if_neg (not_lt.2 hp.le), if_neg hp.ne', ← EReal.coe_mul, ← EReal.coe_mul]

/-- A projected row is real where the weights are. -/
theorem proj_real (x g w : Fin 1024 → EReal) (hg : ∀ k, ∃ r : ℝ, g k = r) (hw : ∀ k, ∃ r : ℝ, w k = r) : ∃ r : ℝ, proj x g w = r := by
  choose a ha using fun k => rowH_real x g k (hg k)
  choose b hb using hw
  refine ⟨∑ k, a k * b k, ?_⟩
  unfold proj
  rw [coe_sum]
  exact Finset.sum_congr rfl fun k _ => by rw [ha, hb, EReal.coe_mul]

end Cert.Proof.Mix

end
-- ==== Proof.SampleMix.lean ====
module

public import proofs.«01_k».proof.Defs
public import proofs.«01_k».proof.Proof.SampleMixOut
public import proofs.«01_k».proof.Proof.SampleMixRef
public import proofs.«01_k».proof.Proof.MixReal
public import proofs.«01_k».proof.Proof.Recurrence
public import proofs.«01_k».proof.Proof.Gen.Pre_weights_finite
public import Idealize.ShloMosaic.Lib.Claim

@[expose] public section

noncomputable section

/-! # The combined projection on the sample rows

Both programs' results are the same entries of the same projections. With finite weights a projection is real, and so the
last rows come out of the product in three pieces as they are. -/

namespace Cert.Proof.SampleMix

open Idealize.ShloMosaic Idealize.ShloMosaic.TcCoe Idealize.SL.Sem Cert.Proof.Heads
open Cert.Proof.Mix (sigAt lf proj_real)

/-- With finite weights every entry of the projection is real. -/
theorem cell_real (m : (ℓ : Loc Cert.SampleMixIdeal.nD Cert.SampleMixIdeal.τ Cert.SampleMixIdeal.sig) → Buf (Elt Ideal) ℓ) (h : Cert.Pre_SampleMixIdeal_weights_finite m)
    (c : Dev Cert.SampleMixIdeal.nD) (n : Fin 256) (l : Fin 5384) : ∃ r : ℝ, cell m c n l = r := by
  obtain ⟨h1, h2⟩ := h c
  have f1 := Cert.Proof.Rscan.finite_of_test _ _ h1
  have f2 := Cert.Proof.Rscan.finite_of_test _ _ h2
  exact proj_real _ _ _ (fun k => ⟨_, (f1 (ix1 k)).symm⟩) (fun k => ⟨_, (f2 (ix2 k l)).symm⟩)

/-- The kernel of the combined projection on the sample rows and its reference end with equal results. -/
theorem claim : Cert.algebraic_SampleMixIdeal_SampleMixReferenceIdeal_pre_weights_finite := by
  intro m ρ m' ρ' hpre hm
  refine ⟨fun c => (Cert.SampleMixIdeal.Gen.outsAt0 m c t0).1, fun c => (Cert.SampleMixIdeal.Gen.outsAt0 m c t0).2.1, fun c => (Cert.SampleMixIdeal.Gen.outsAt0 m c t0).2.2.1,
    fun c => (Cert.SampleMixIdeal.Gen.outsAt0 m c t0).2.2.2.1, fun c => (Cert.SampleMixIdeal.Gen.outsAt0 m c t0).2.2.2.2.1, fun c => (Cert.SampleMixIdeal.Gen.outsAt0 m c t0).2.2.2.2.2.1,
    fun c => (Cert.SampleMixIdeal.Gen.outsAt0 m c t0).2.2.2.2.2.2.2.2, ?_, ?_⟩
  · refine Idealize.ShloMosaic.θ_run_mono (Cert.SampleMixIdeal.Value.run_blocks (F := Ideal) m ρ) fun r h c => ?_
    obtain ⟨hq, hk, hv, ha, hb, hl, -, -, hsh, hargs⟩ := h c
    exact ⟨hq.trans (final_q m c), hk.trans (final_k m c), hv.trans (final_v m c), ha.trans (final_ga m c), hb.trans (final_gb m c),
      hl.trans (final_lf m c), hsh.trans (final_sh m c), hargs⟩
  refine Idealize.ShloMosaic.θ_run_mono (Cert.SampleMixReferenceIdeal.Value.run (F := Ideal) m' ρ') fun r h c => ?_
  obtain ⟨hq, hk, hv, ha, hb, hl, hsh, hargs⟩ := h c
  have hreal := cell_real m hpre c
  obtain ⟨a0, a1, a2, a3, a4, a5⟩ := hm c
  generalize e0 : m' ((c.tc : Thread Cert.SampleMixReferenceIdeal.nD Cert.SampleMixReferenceIdeal.τ).loc Cert.SampleMixReferenceIdeal.main_arg0) = x at a0
  generalize e1 : m' ((c.tc : Thread Cert.SampleMixReferenceIdeal.nD Cert.SampleMixReferenceIdeal.τ).loc Cert.SampleMixReferenceIdeal.main_arg1) = g at a1
  generalize e2 : m' ((c.tc : Thread Cert.SampleMixReferenceIdeal.nD Cert.SampleMixReferenceIdeal.τ).loc Cert.SampleMixReferenceIdeal.main_arg2) = w at a2
  generalize e3 : m' ((c.tc : Thread Cert.SampleMixReferenceIdeal.nD Cert.SampleMixReferenceIdeal.τ).loc Cert.SampleMixReferenceIdeal.main_arg3) = b at a3
  generalize e4 : m' ((c.tc : Thread Cert.SampleMixReferenceIdeal.nD Cert.SampleMixReferenceIdeal.τ).loc Cert.SampleMixReferenceIdeal.main_arg4) = qn at a4
  generalize e5 : m' ((c.tc : Thread Cert.SampleMixReferenceIdeal.nD Cert.SampleMixReferenceIdeal.τ).loc Cert.SampleMixReferenceIdeal.main_arg5) = kn at a5
  have el : Cert.SampleMixReferenceIdeal.Value.res_main_v56 m' c = refLog x g w b := by subst e0 e1 e2 e3; rfl
  rw [e0, e1, e2, e4] at hq
  rw [e0, e1, e2, e5] at hk
  rw [e0, e1, e2] at hv ha hb hsh
  rw [e0, e1, e2, e3, e4, e5] at hargs
  rw [el] at hl
  clear el
  subst a0 a1 a2 a3 a4 a5
  refine ⟨hq.trans ?_, hk.trans ?_, hv.trans ?_, ha.trans ?_, hb.trans ?_, hl.trans ?_, hsh.trans ?_, hargs⟩
  · funext i
    obtain ⟨n, l, rfl⟩ : ∃ (n : Fin 256) (l : Fin 512), i = ix2 n l := ⟨i 0, i 1, by funext x; fin_cases x <;> rfl⟩
    exact (refQ_apply _ _ _ _ n l).trans (kernel_q m c n l).symm
  · funext i
    obtain ⟨n, l, rfl⟩ : ∃ (n : Fin 256) (l : Fin 512), i = ix2 n l := ⟨i 0, i 1, by funext x; fin_cases x <;> rfl⟩
    exact (refK_apply _ _ _ _ n l).trans (kernel_k m c n l).symm
  · funext i
    obtain ⟨n, l, rfl⟩ : ∃ (n : Fin 256) (l : Fin 512), i = ix2 n l := ⟨i 0, i 1, by funext x; fin_cases x <;> rfl⟩
    exact (slice_v _ n l).trans ((refP_apply _ _ _ n _).trans (kernel_v m c n l).symm)
  · funext i
    obtain ⟨n, l, rfl⟩ : ∃ (n : Fin 256) (l : Fin 1024), i = ix2 n l := ⟨i 0, i 1, by funext x; fin_cases x <;> rfl⟩
    exact (refSig_apply _ n l).trans ((congrArg sigAt ((slice_ga _ n l).trans (refP_apply _ _ _ n _))).trans (kernel_ga m c n l).symm)
  · funext i
    obtain ⟨n, l, rfl⟩ : ∃ (n : Fin 256) (l : Fin 1024), i = ix2 n l := ⟨i 0, i 1, by funext x; fin_cases x <;> rfl⟩
    exact (refSig_apply _ n l).trans ((congrArg sigAt ((slice_gb _ n l).trans (refP_apply _ _ _ n _))).trans (kernel_gb m c n l).symm)
  · funext i
    obtain ⟨n, l, rfl⟩ : ∃ (n : Fin 256) (l : Fin 8), i = ix2 n l := ⟨i 0, i 1, by funext x; fin_cases x <;> rfl⟩
    exact (refLog_apply _ _ _ _ n l).trans (kernel_lf m c n l).symm
  · funext i
    obtain ⟨n, l, rfl⟩ : ∃ (n : Fin 32) (l : Fin 1792), i = ix2 n l := ⟨i 0, i 1, by funext x; fin_cases x <;> rfl⟩
    exact (refSh_apply _ n l).trans ((refP_apply _ _ _ _ _).trans (kernel_sh m c n l (hreal _ _)).symm)

end Cert.Proof.SampleMix

end
-- ==== Proof.SampleMergeCell.lean ====
module

public import proofs.«01_k».proof.Proof.Gen.SampleMergeIdeal.Value
public import proofs.«01_k».proof.Proof.Gen.SampleMergeReferenceIdeal.Run
public import proofs.«01_k».proof.Proof.MergeCell

@[expose] public section

noncomputable section

/-! # The merge of the two branches on the sample rows, cell by cell

The same call on the 256 rows of the sample batch. A row of the result is the row of the prompt's call, `rowAt`. -/

namespace Cert.Proof.SampleMerge

open Idealize.ShloMosaic Cert.Proof.Heads
open Cert.Proof.Merge (headSum devAt gatedAt rowAt)

section kernel
open Cert.SampleMergeIdeal Cert.SampleMergeIdeal.Gen

set_option maxHeartbeats 4000000 in
/-- What the kernel's body stores at row `i`, column `l` of its block, where `bd` is the head matrix. -/
theorem pay_apply (x : Vec Ideal S256x1024 .f32) (y r k v g yb : Vec Ideal S256x512 .f32) (ga gb : Vec Ideal S256x1024 .bf16)
    (lw lb rk : Vec Ideal S1x512 .f32) (bd : Vec Ideal S512x512 .bf16) (wa wb : Vec Ideal S512x1024 .bf16)
    (wo : Vec Ideal S1024x1024 .bf16) (hbd : ∀ j l, bd (ix2 j l) = if head j = head l then 1 else 0)
    (i : Fin 256) (l : Fin 1024) :
    k0_pay1 (F := Ideal) (k0_pay2 y bd bd lw lb) v (k0_pay3 r k rk) bd g wa yb wb ga gb x wo (ix2 i l)
      = rowAt (x (ix2 i l)) (gatedAt (fun j => y (ix2 i j)) (fun j => r (ix2 i j)) (fun j => k (ix2 i j))
            (fun j => v (ix2 i j)) (fun j => g (ix2 i j)) (fun j => lw (ix2 0 j)) (fun j => lb (ix2 0 j)) (fun j => rk (ix2 0 j)))
          (fun j => yb (ix2 i j)) (fun j => ga (ix2 i j)) (fun j => gb (ix2 i j)) (fun c f => wa (ix2 c f))
          (fun c f => wb (ix2 c f)) (fun f => wo (ix2 f l)) := by
  pointwise [k0_pay1, k0_pay2, k0_pay3, rowAt, gatedAt, devAt, headSum]
  simp only [hbd, sum_ones, mul_64th]

end kernel

section reference
open Cert.SampleMergeReferenceIdeal Cert.SampleMergeReferenceIdeal.Gen

/-- The reference's mean over each head. -/
def refMean (y : FVec Ideal S256x8x64 .f32) : FVec Ideal S256x8x64 .f32 :=
  broadcastInDim S256x8x64 ![0, 1, 2] bcast_S256x8x1_S256x8x64_0_1_2 (Host.divf (broadcastInDim S256x8x1 ![0, 1] bcast_S256x8_S256x8x1_0_1 (Host.reduceAdd y (constant S_ .f32 0x00000000#32) reducesTo_S256x8x64_S256x8_d2 h_S_)) (broadcastInDim S256x8x1 ![] bcast_S_S256x8x1 (constant S_ .f32 0x42800000#32)))

theorem refMean_apply (y : FVec Ideal S256x8x64 .f32) (i : Fin 256) (h : Fin 8) (d : Fin 64) :
    refMean y (ix3 i h d) = Ideal.div (∑ e, y (ix3 i h e)) (Ideal.ofBits .f32 0x42800000#32) := by
  pointwise [refMean]

theorem heads_apply (y : FVec Ideal S256x512 .f32) (i : Fin 256) (h : Fin 8) (d : Fin 64) :
    shapeCast S256x8x64 y shapeCasts_S256x512_S256x8x64 (ix3 i h d) = y (ix2 i (lane h d)) := by
  pointwise [lane]

theorem flat_apply (y : FVec Ideal S256x8x64 .f32) (i : Fin 256) (l : Fin 512) :
    shapeCast S256x512 y shapeCasts_S256x8x64_S256x512 (ix2 i l) = y (ix3 i (head l) (place l)) := by
  pointwise [head, place]

/-- The reference's normalised rows with the bonus, head by head. -/
def refHeads (y r k v : FVec Ideal S256x8x64 .f32) (lw lb rk : FVec Ideal S256x8x64 .f32) : FVec Ideal S256x8x64 .f32 :=
  addf (addf (mulf (mulf (subf y (refMean y)) (broadcastInDim S256x8x64 ![0, 1, 2] bcast_S256x8x1_S256x8x64_0_1_2 (Host.rsqrt (addf (Host.divf (broadcastInDim S256x8x1 ![0, 1] bcast_S256x8_S256x8x1_0_1 (Host.reduceAdd (mulf (subf y (refMean y)) (subf y (refMean y))) (constant S_ .f32 0x00000000#32) reducesTo_S256x8x64_S256x8_d2 h_S_)) (broadcastInDim S256x8x1 ![] bcast_S_S256x8x1 (constant S_ .f32 0x42800000#32))) (broadcastInDim S256x8x1 ![] bcast_S_S256x8x1 (constant S_ .f32 0x3A27C5AC#32)))))) lw) lb) (mulf (broadcastInDim S256x8x64 ![0, 1, 2] bcast_S256x8x1_S256x8x64_0_1_2 (broadcastInDim S256x8x1 ![0, 1] bcast_S256x8_S256x8x1_0_1 (Host.reduceAdd (mulf (mulf r k) rk) (constant S_ .f32 0x00000000#32) reducesTo_S256x8x64_S256x8_d2 h_S_))) v)

theorem refHeads_apply (y r k v lw lb rk : FVec Ideal S256x8x64 .f32) (i : Fin 256) (h : Fin 8) (d : Fin 64) :
    refHeads y r k v lw lb rk (ix3 i h d)
      = (y (ix3 i h d) - refMean y (ix3 i h d))
          * Ideal.rsqrt (Ideal.div (∑ e, (y (ix3 i h e) - refMean y (ix3 i h e)) * (y (ix3 i h e) - refMean y (ix3 i h e)))
              (Ideal.ofBits .f32 0x42800000#32) + Ideal.ofBits .f32 0x3A27C5AC#32) * lw (ix3 i h d) + lb (ix3 i h d)
        + (∑ e, r (ix3 i h e) * k (ix3 i h e) * rk (ix3 i h e)) * v (ix3 i h d) := by
  generalize hM : refMean y = M
  pointwise [refHeads, hM]

/-- A weight row laid out as heads, at every row. -/
def weights (w : FVec Ideal S512 .f32) : FVec Ideal S256x8x64 .f32 :=
  broadcastInDim S256x8x64 ![0, 1, 2] bcast_S1x8x64_S256x8x64_0_1_2 (broadcastInDim S1x8x64 ![1, 2] bcast_S8x64_S1x8x64_1_2 (shapeCast S8x64 w shapeCasts_S512_S8x64))

theorem weights_apply (w : FVec Ideal S512 .f32) (i : Fin 256) (h : Fin 8) (d : Fin 64) :
    weights w (ix3 i h d) = w (ix1 (lane h d)) := by
  pointwise [weights, lane]

/-- Rows laid out as heads. -/
def heads (y : FVec Ideal S256x512 .f32) : FVec Ideal S256x8x64 .f32 := shapeCast S256x8x64 y shapeCasts_S256x512_S256x8x64

/-- The reference's gated rows. -/
def refGated (y r k v g : FVec Ideal S256x512 .f32) (lw lb rk : FVec Ideal S512 .f32) : FVec Ideal S256x512 .f32 :=
  mulf (shapeCast S256x512 (refHeads (heads y) (heads r) (heads k) (heads v) (weights lw) (weights lb) (weights rk)) shapeCasts_S256x8x64_S256x512) g

theorem refGated_apply (y r k v g : FVec Ideal S256x512 .f32) (lw lb rk : FVec Ideal S512 .f32) (i : Fin 256) (l : Fin 512) :
    refGated y r k v g lw lb rk (ix2 i l)
      = gatedAt (fun j => y (ix2 i j)) (fun j => r (ix2 i j)) (fun j => k (ix2 i j)) (fun j => v (ix2 i j)) (fun j => g (ix2 i j))
          (fun j => lw (ix1 j)) (fun j => lb (ix1 j)) (fun j => rk (ix1 j)) l := by
  show shapeCast S256x512 _ _ (ix2 i l) * g (ix2 i l) = _
  rw [flat_apply, refHeads_apply]
  simp only [refMean_apply, heads, heads_apply, weights_apply, gatedAt, devAt, headSum, head_lane, lane_head_place]

/-- The reference's result. -/
def refOut (x : FVec Ideal S256x1024 .f32) (y r k v g yb : FVec Ideal S256x512 .f32) (ga gb : FVec Ideal S256x1024 .bf16)
    (lw lb rk : FVec Ideal S512 .f32) (wa wb : FVec Ideal S512x1024 .f32) (wo : FVec Ideal S1024x1024 .f32) : FVec Ideal S256x1024 .f32 :=
  addf x (Host.dotGeneral dot_S256x1024_S1024x1024_S256x1024_1_0_0_1_n_n none (addf (mulf (extf .f32 ga bitsLt_bf16_f32) (Host.dotGeneral dot_S256x512_S512x1024_S256x1024_1_0_0_1_n_n none (refGated y r k v g lw lb rk) wa)) (mulf (extf .f32 gb bitsLt_bf16_f32) (Host.dotGeneral dot_S256x512_S512x1024_S256x1024_1_0_0_1_n_n none yb wb))) wo)

/-- The reference's result at row `i`, column `l`. -/
theorem refOut_apply (x : FVec Ideal S256x1024 .f32) (y r k v g yb : FVec Ideal S256x512 .f32) (ga gb : FVec Ideal S256x1024 .bf16)
    (lw lb rk : FVec Ideal S512 .f32) (wa wb : FVec Ideal S512x1024 .f32) (wo : FVec Ideal S1024x1024 .f32) (i : Fin 256) (l : Fin 1024) :
    refOut x y r k v g yb ga gb lw lb rk wa wb wo (ix2 i l)
      = rowAt (x (ix2 i l)) (gatedAt (fun j => y (ix2 i j)) (fun j => r (ix2 i j)) (fun j => k (ix2 i j))
            (fun j => v (ix2 i j)) (fun j => g (ix2 i j)) (fun j => lw (ix1 j)) (fun j => lb (ix1 j)) (fun j => rk (ix1 j)))
          (fun j => yb (ix2 i j)) (fun j => ga (ix2 i j)) (fun j => gb (ix2 i j)) (fun c f => wa (ix2 c f))
          (fun c f => wb (ix2 c f)) (fun f => wo (ix2 f l)) := by
  unfold refOut
  pointwise [rowAt]
  simp only [refGated_apply]

end reference

section bd
open Cert.SampleMergeIdeal Cert.SampleMergeIdeal.Gen Idealize.ShloMosaic.TcCoe Idealize.SL.Sem

variable (m : (ℓ : Loc nD τ sig) → Buf (Elt Ideal) ℓ) (c : Dev nD)

/-- The head matrix, as the program builds it. -/
def ones : FVec Ideal S512x512 .bf16 :=
  truncf .bf16 (shapeCast S512x512 (mulf (broadcastInDim S8x64x8x64 ![0, 1, 2, 3] bcast_S8x1x8x1_S8x64x8x64_0_1_2_3 (broadcastInDim S8x1x8x1 ![0, 2] bcast_S8x8_S8x1x8x1_0_2 (uitofp .f32 (cmpi .eq (addi (iotaInDim S8x8 32 0) (broadcastInDim S8x8 ![] bcast_S_S8x8 (constantI S_ 32 0#32))) (iotaInDim S8x8 32 1))))) (broadcastInDim S8x64x8x64 ![0, 1, 2, 3] bcast_S1x64x1x64_S8x64x8x64_0_1_2_3 (broadcastInDim S1x64x1x64 ![1, 3] bcast_S64x64_S1x64x1x64_1_3 (broadcastInDim S64x64 ![] bcast_S_S64x64 (constant S_ .f32 0x3F800000#32))))) shapeCasts_S8x64x8x64_S512x512) bitsLt_bf16_f32

theorem ones_apply (j l : Fin 512) : ones (ix2 j l) = if head j = head l then 1 else 0 := by
  pointwise [ones]
  exact eye (head j) (head l)

theorem V_ones : V m c main_v11 = ones := by
  dsimp only [V]
  after_reads_simp; rfl

/-- What the region finds where the program reshapes a weight row. -/
theorem V_rows :
    V m c main_v0 = shapeCast S1x512 (m ((c : Thread nD τ).loc main_arg9)) shapeCasts_S512_S1x512
    ∧ V m c main_v1 = shapeCast S1x512 (m ((c : Thread nD τ).loc main_arg10)) shapeCasts_S512_S1x512
    ∧ V m c main_v2 = shapeCast S1x512 (m ((c : Thread nD τ).loc main_arg11)) shapeCasts_S512_S1x512 := by
  refine ⟨?_, ?_, ?_⟩ <;> (dsimp only [V]; after_reads_simp; rfl)

/-- What the region finds where the program narrows a weight matrix. -/
theorem V_mats :
    V m c main_v12 = m ((c : Thread nD τ).loc main_arg12) ∧ V m c main_v13 = m ((c : Thread nD τ).loc main_arg13)
    ∧ V m c main_v14 = m ((c : Thread nD τ).loc main_arg14) := by
  refine ⟨?_, ?_, ?_⟩ <;> (dsimp only [V]; after_reads_simp; rfl)

/-- A weight row as the region finds it. -/
theorem row_apply (w : FVec Ideal S512 .f32) (j : Fin 512) : shapeCast S1x512 w shapeCasts_S512_S1x512 (ix2 0 j) = w (ix1 j) := by
  pointwise []

end bd

end Cert.Proof.SampleMerge

end
-- ==== Proof.SampleMerge.lean ====
module

public import proofs.«01_k».proof.Defs
public import proofs.«01_k».proof.Proof.SampleMergeCell
public import Idealize.ShloMosaic.Lib.Claim

@[expose] public section

noncomputable section

/-! # The merge on the sample rows: the kernel's result array is the reference's -/

namespace Cert.Proof.SampleMerge

open Idealize.ShloMosaic Cert.Proof.Heads
open Cert.SampleMergeIdeal Cert.SampleMergeIdeal.Gen Idealize.ShloMosaic.TcCoe Idealize.SL.Sem
open Idealize.ShloMosaic.Pipeline (Dat)

variable (m : (ℓ : Loc nD τ sig) → Buf (Elt Ideal) ℓ)

/-- The body's loads and its one store are of whole buffers: it leaves its payload. -/
theorem out_eq (x : Vec Ideal S256x1024 .f32) (y r k v g yb : Vec Ideal S256x512 .f32) (ga gb : Vec Ideal S256x1024 .bf16)
    (lw lb rk : Vec Ideal S1x512 .f32) (bd : Vec Ideal S512x512 .bf16) (wa wb : Vec Ideal S512x1024 .bf16)
    (wo : Vec Ideal S1024x1024 .bf16) :
    out0_16 (F := Ideal) x y r k v g yb ga gb lw lb rk bd wa wb wo
      = k0_pay1 (k0_pay2 y bd bd lw lb) v (k0_pay3 r k rk) bd g wa yb wb ga gb x wo := by
  have h : (![0, 0] : Fin 2 → Nat) = fun _ => 0 := funext fun a => by fin_cases a <;> rfl
  unfold out0_16
  rw [View.canon_unit_zero h]
  iterate 16 rw [View.ld_unit_zero h]

/-- The result array: the reference's term of the argument arrays. -/
def G (c : Dev nD) : FVec Ideal S256x1024 .f32 :=
  refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- Point `t` works on rows `256 t …` of the activations and of the result. -/
theorem rows_at : ∀ t : Fin cfg0.N,
    (win0_16.index t (0 : Fin 2) = t.val ∧ win0_16.index t (1 : Fin 2) = 0 ∧ (cfg0.win 16).flush t = true)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The weights are whole at every point. -/
theorem wholes_at : ∀ t : Fin cfg0.N,
    (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-- Row `i` of point `t`'s block, in the whole array. -/
def rowOf (t : Fin cfg0.N) (i : Fin 256) : Fin 256 := ⟨t.val * 256 + i.val, by have : t.val < 1 := t.isLt; omega⟩

set_option maxHeartbeats 1000000 in
/-- What point `t` finds of the activations. -/
theorem rows_read (c : Dev nD) (t : Fin cfg0.N) (i : Fin 256) :
    (∀ k : Fin 1024, iblk m c 0 t (ix2 i k) = m ((c : Thread nD τ).loc main_arg0) (ix2 (rowOf t i) k))
    ∧ (∀ k : Fin 512, iblk m c 1 t (ix2 i k) = m ((c : Thread nD τ).loc main_arg1) (ix2 (rowOf t i) k))
    ∧ (∀ k : Fin 512, iblk m c 2 t (ix2 i k) = m ((c : Thread nD τ).loc main_arg2) (ix2 (rowOf t i) k))
    ∧ (∀ k : Fin 512, iblk m c 3 t (ix2 i k) = m ((c : Thread nD τ).loc main_arg3) (ix2 (rowOf t i) k))
    ∧ (∀ k : Fin 512, iblk m c 4 t (ix2 i k) = m ((c : Thread nD τ).loc main_arg4) (ix2 (rowOf t i) k))
    ∧ (∀ k : Fin 512, iblk m c 5 t (ix2 i k) = m ((c : Thread nD τ).loc main_arg5) (ix2 (rowOf t i) k))
    ∧ (∀ k : Fin 512, iblk m c 6 t (ix2 i k) = m ((c : Thread nD τ).loc main_arg6) (ix2 (rowOf t i) k))
    ∧ (∀ k : Fin 1024, iblk m c 7 t (ix2 i k) = m ((c : Thread nD τ).loc main_arg7) (ix2 (rowOf t i) k))
    ∧ (∀ k : Fin 1024, iblk m c 8 t (ix2 i k) = m ((c : Thread nD τ).loc main_arg8) (ix2 (rowOf t i) k)) := by
  obtain ⟨-, e0, e1, e2, e3, e4, e5, e6, e7, e8⟩ := rows_at t
  exact ⟨fun k => (read_at (V m c main_arg0) _ _ _ (at_block e0.1) (at_first e0.2)).trans (congrFun (V_main_arg0 m c) _),
    fun k => (read_at (V m c main_arg1) _ _ _ (at_block e1.1) (at_first e1.2)).trans (congrFun (V_main_arg1 m c) _),
    fun k => (read_at (V m c main_arg2) _ _ _ (at_block e2.1) (at_first e2.2)).trans (congrFun (V_main_arg2 m c) _),
    fun k => (read_at (V m c main_arg3) _ _ _ (at_block e3.1) (at_first e3.2)).trans (congrFun (V_main_arg3 m c) _),
    fun k => (read_at (V m c main_arg4) _ _ _ (at_block e4.1) (at_first e4.2)).trans (congrFun (V_main_arg4 m c) _),
    fun k => (read_at (V m c main_arg5) _ _ _ (at_block e5.1) (at_first e5.2)).trans (congrFun (V_main_arg5 m c) _),
    fun k => (read_at (V m c main_arg6) _ _ _ (at_block e6.1) (at_first e6.2)).trans (congrFun (V_main_arg6 m c) _),
    fun k => (read_at (V m c main_arg7) _ _ _ (at_block e7.1) (at_first e7.2)).trans (congrFun (V_main_arg7 m c) _),
    fun k => (read_at (V m c main_arg8) _ _ _ (at_block e8.1) (at_first e8.2)).trans (congrFun (V_main_arg8 m c) _)⟩

/-- What point `t` finds of the weights. -/
theorem wholes_read (c : Dev nD) (t : Fin cfg0.N) :
    (∀ k : Fin 512, iblk m c 9 t (ix2 (0 : Fin 1) k) = m ((c : Thread nD τ).loc main_arg9) (ix1 k))
    ∧ (∀ k : Fin 512, iblk m c 10 t (ix2 (0 : Fin 1) k) = m ((c : Thread nD τ).loc main_arg10) (ix1 k))
    ∧ (∀ k : Fin 512, iblk m c 11 t (ix2 (0 : Fin 1) k) = m ((c : Thread nD τ).loc main_arg11) (ix1 k))
    ∧ (∀ (j : Fin 512) (k : Fin 512), iblk m c 12 t (ix2 j k) = (if head j = head k then (1 : EReal) else 0))
    ∧ (∀ (j : Fin 512) (k : Fin 1024), iblk m c 13 t (ix2 j k) = m ((c : Thread nD τ).loc main_arg12) (ix2 j k))
    ∧ (∀ (j : Fin 512) (k : Fin 1024), iblk m c 14 t (ix2 j k) = m ((c : Thread nD τ).loc main_arg13) (ix2 j k))
    ∧ (∀ (j : Fin 1024) (k : Fin 1024), iblk m c 15 t (ix2 j k) = m ((c : Thread nD τ).loc main_arg14) (ix2 j k)) := by
  obtain ⟨e9, e10, e11, e12, e13, e14, e15⟩ := wholes_at t
  obtain ⟨r0, r1, r2⟩ := V_rows m c
  obtain ⟨w0, w1, w2⟩ := V_mats m c
  refine ⟨fun k => ?_, fun k => ?_, fun k => ?_, fun j k => ?_, fun j k => ?_, fun j k => ?_, fun j k => ?_⟩
  · exact (read_at (V m c main_v0) _ _ _ (at_first e9.1) (at_first e9.2)).trans (by rw [r0]; exact row_apply _ k)
  · exact (read_at (V m c main_v1) _ _ _ (at_first e10.1) (at_first e10.2)).trans (by rw [r1]; exact row_apply _ k)
  · exact (read_at (V m c main_v2) _ _ _ (at_first e11.1) (at_first e11.2)).trans (by rw [r2]; exact row_apply _ k)
  · exact (read_at (V m c main_v11) _ _ _ (at_first e12.1) (at_first e12.2)).trans (by rw [V_ones]; exact ones_apply j k)
  · exact (read_at (V m c main_v12) _ _ _ (at_first e13.1) (at_first e13.2)).trans (congrFun w0 _)
  · exact (read_at (V m c main_v13) _ _ _ (at_first e14.1) (at_first e14.2)).trans (congrFun w1 _)
  · exact (read_at (V m c main_v14) _ _ _ (at_first e15.1) (at_first e15.2)).trans (congrFun w2 _)

/-- What point `t` writes back is its block of `G`. -/
theorem flushed_eq (c : Dev nD) (t : Fin cfg0.N) (_ : (cfg0.win 16).flush t = true) :
    (dats m 0 c).flushed 16 t = ((cfg0.win 16).blk t).view.read (Elt Ideal) (G m c) := by
  rw [Cert.SampleMergeIdeal.Value.flushed16, out_eq]
  obtain ⟨⟨e0, e1, -⟩, -⟩ := rows_at t
  funext y
  have hy0 : (y 0).val < 256 := (y 0).isLt
  have hy1 : (y 1).val < 1024 := (y 1).isLt
  have hemb := read_at (G m c) (((cfg0.win 16).blk t).view.emb y) (rowOf t ⟨(y 0).val, hy0⟩) ⟨(y 1).val, hy1⟩ (at_block e0) (at_first e1)
  have hyy : (cfg0.win 16).xinj (grid0.coords t) y = ix2 (⟨(y 0).val, hy0⟩ : Fin 256) (⟨(y 1).val, hy1⟩ : Fin 1024) := by
    funext a; apply Fin.ext
    match a with
    | ⟨0, _⟩ => rfl
    | ⟨1, _⟩ => rfl
  obtain ⟨h0, h1, h2, h3, h4, h5, h6, h7, h8⟩ := rows_read m c t ⟨(y 0).val, hy0⟩
  obtain ⟨h9, h10, h11, h12, h13, h14, h15⟩ := wholes_read m c t
  refine Eq.trans ?_ hemb.symm
  show k0_pay1 (k0_pay2 (iblk m c 1 t) (iblk m c 12 t) (iblk m c 12 t) (iblk m c 9 t) (iblk m c 10 t)) (iblk m c 4 t)
    (k0_pay3 (iblk m c 2 t) (iblk m c 3 t) (iblk m c 11 t)) (iblk m c 12 t) (iblk m c 5 t) (iblk m c 13 t) (iblk m c 6 t)
    (iblk m c 14 t) (iblk m c 7 t) (iblk m c 8 t) (iblk m c 0 t) (iblk m c 15 t) ((cfg0.win 16).xinj (grid0.coords t) y) = _
  rw [hyy, G, refOut_apply, pay_apply _ _ _ _ _ _ _ _ _ _ _ _ _ _ _ _ h12]
  simp only [h0, h1, h2, h3, h4, h5, h6, h7, h8, h9, h10, h11, h13, h14, h15]

/-- Every row lies in some point's block. -/
theorem covered (i : S256x1024.Idx) : ∃ t : Fin cfg0.N, (cfg0.win 16).flush t = true ∧ i ∈ ((cfg0.win 16).blk t).view.set := by
  have h0 : (i 0).val < 256 := (i 0).isLt
  have h1 : (i 1).val < 1024 := (i 1).isLt
  have hN : (i 0).val / 256 < grid0.N := lt_of_lt_of_eq (by omega : (i 0).val / 256 < 1) N_0.symm
  obtain ⟨⟨e0, e1, hf⟩, -⟩ := rows_at ⟨(i 0).val / 256, hN⟩
  dsimp only at e0
  refine ⟨⟨(i 0).val / 256, hN⟩, hf, ?_⟩
  show i ∈ ((View.whole main_v15).slice (win0_16.rect ⟨(i 0).val / 256, hN⟩)).set
  rw [View.set_slice_whole, Rect.mem_set_unit]
  intro a
  match a with
  | ⟨0, _⟩ => show win0_16.index ⟨(i 0).val / 256, hN⟩ (0 : Fin 2) * 256 ≤ (i 0).val ∧ (i 0).val < win0_16.index ⟨(i 0).val / 256, hN⟩ (0 : Fin 2) * 256 + 256; omega
  | ⟨1, _⟩ => show win0_16.index ⟨(i 0).val / 256, hN⟩ (1 : Fin 2) * 1024 ≤ (i 1).val ∧ (i 1).val < win0_16.index ⟨(i 0).val / 256, hN⟩ (1 : Fin 2) * 1024 + 1024; omega

/-- The result array after the run. -/
theorem final (c : Dev nD) : (dats m 0 c).arrAt 16 cfg0.N = G m c :=
  (dats m 0 c).arrAt_eq_of_cover 16 _ (fun t hf => flushed_eq m c t hf) covered

/-- The merge kernel on the sample rows and its reference end with equal results. -/
theorem claim : Cert.algebraic_SampleMergeIdeal_SampleMergeReferenceIdeal := by
  intro m g m' g' _ hm
  refine ⟨fun c => G m c, ?_, ?_⟩
  · refine Idealize.ShloMosaic.θ_run_mono (Cert.SampleMergeIdeal.Value.run_blocks (F := Ideal) m g) fun r h c => ?_
    obtain ⟨h0, h1⟩ := h c
    exact ⟨h0.trans (final m c), h1⟩
  · refine Idealize.ShloMosaic.θ_run_mono (Cert.SampleMergeReferenceIdeal.Value.run (F := Ideal) m' g') fun r h c => ?_
    obtain ⟨h0, h1⟩ := h c
    refine ⟨h0.trans ?_, h1⟩
    obtain ⟨a0, a1, a2, a3, a4, a5, a6, a7, a8, a9, a10, a11, a12, a13, a14⟩ := hm c
    rw [a0, a1, a2, a3, a4, a5, a6, a7, a8, a9, a10, a11, a12, a13, a14]
    rfl

end Cert.Proof.SampleMerge

end
-- ==== Proof.lean ====
/- The proof of the certificate's claim: the frames of the kernels and of their references, and the values of
   the recurrence, and of the feed-forward call, the merge and the combined projection, each on the prompt rows and on the
   sample rows. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_finite
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.SampleFfn
public import proofs.«01_k».proof.Proof.Gen.SampleFfn.Skeleton
public import proofs.«01_k».proof.Proof.Gen.SampleFfn.Launch
public import proofs.«01_k».proof.Proof.Gen.SampleFfn.Points
public import proofs.«01_k».proof.Proof.Gen.SampleFfn.Frame
public import proofs.«01_k».proof.Proof.Gen.SampleFfnIdeal
public import proofs.«01_k».proof.Proof.Gen.SampleFfnIdeal.Skeleton
public import proofs.«01_k».proof.Proof.Gen.SampleFfnIdeal.Launch
public import proofs.«01_k».proof.Proof.Gen.SampleFfnIdeal.Points
public import proofs.«01_k».proof.Proof.Gen.SampleFfnIdeal.Frame
public import proofs.«01_k».proof.Proof.Gen.SampleFfnIdeal.Value
public import proofs.«01_k».proof.Proof.Gen.SampleFfnReferenceIdeal
public import proofs.«01_k».proof.Proof.Gen.SampleFfnReferenceIdeal.Run
public import proofs.«01_k».proof.Proof.Gen.SampleMix
public import proofs.«01_k».proof.Proof.Gen.SampleMix.Skeleton
public import proofs.«01_k».proof.Proof.Gen.SampleMix.Launch
public import proofs.«01_k».proof.Proof.Gen.SampleMix.Points
public import proofs.«01_k».proof.Proof.Gen.SampleMix.Frame
public import proofs.«01_k».proof.Proof.Gen.SampleMixIdeal
public import proofs.«01_k».proof.Proof.Gen.SampleMixIdeal.Skeleton
public import proofs.«01_k».proof.Proof.Gen.SampleMixIdeal.Launch
public import proofs.«01_k».proof.Proof.Gen.SampleMixIdeal.Points
public import proofs.«01_k».proof.Proof.Gen.SampleMixIdeal.Frame
public import proofs.«01_k».proof.Proof.Gen.SampleMixIdeal.Value
public import proofs.«01_k».proof.Proof.Gen.SampleMixReferenceIdeal
public import proofs.«01_k».proof.Proof.Gen.SampleMixReferenceIdeal.Run
public import proofs.«01_k».proof.Proof.Gen.SampleMerge
public import proofs.«01_k».proof.Proof.Gen.SampleMerge.Skeleton
public import proofs.«01_k».proof.Proof.Gen.SampleMerge.Launch
public import proofs.«01_k».proof.Proof.Gen.SampleMerge.Points
public import proofs.«01_k».proof.Proof.Gen.SampleMerge.Frame
public import proofs.«01_k».proof.Proof.Gen.SampleMergeIdeal
public import proofs.«01_k».proof.Proof.Gen.SampleMergeIdeal.Skeleton
public import proofs.«01_k».proof.Proof.Gen.SampleMergeIdeal.Launch
public import proofs.«01_k».proof.Proof.Gen.SampleMergeIdeal.Points
public import proofs.«01_k».proof.Proof.Gen.SampleMergeIdeal.Frame
public import proofs.«01_k».proof.Proof.Gen.SampleMergeIdeal.Value
public import proofs.«01_k».proof.Proof.Gen.SampleMergeReferenceIdeal
public import proofs.«01_k».proof.Proof.Gen.SampleMergeReferenceIdeal.Run
public import proofs.«01_k».proof.Proof.Gen.Pre_weights_finite
public import proofs.«01_k».proof.Proof.Ffn
public import proofs.«01_k».proof.Proof.Merge
public import proofs.«01_k».proof.Proof.Mix
public import proofs.«01_k».proof.Proof.Recurrence
public import proofs.«01_k».proof.Proof.SampleFfn
public import proofs.«01_k».proof.Proof.SampleMix
public import proofs.«01_k».proof.Proof.SampleMerge
public import Idealize.ShloMosaic.Adequacy
public import Idealize.ShloMosaic.Init

@[expose] public section

noncomputable section

namespace Cert.Proof

open Idealize.ShloMosaic Idealize.SL.Sem

/-- The recurrence's reference runs, keeps its arguments, and declares no semaphore. -/
theorem frame_reference : Cert.quiescent_ReferenceIdeal := by
  intro m ρ _
  exact θ_run_mono (Cert.ReferenceIdeal.Value.run m ρ) fun r h =>
    ⟨fun c => (h c).2.2, sem_eq_zero_of_no_sems (by decide) r.2⟩

/-- The feed-forward reference runs, keeps its arguments, and declares no semaphore. -/
theorem frame_ffnReference : Cert.quiescent_FfnReferenceIdeal := by
  intro m ρ _
  exact θ_run_mono (Cert.FfnReferenceIdeal.Value.run m ρ) fun r h =>
    ⟨fun c => (h c).2, sem_eq_zero_of_no_sems (by decide) r.2⟩

/-- The merge's reference runs, keeps its arguments, and declares no semaphore. -/
theorem frame_mergeReference : Cert.quiescent_MergeReferenceIdeal := by
  intro m ρ _
  exact θ_run_mono (Cert.MergeReferenceIdeal.Value.run m ρ) fun r h =>
    ⟨fun c => (h c).2, sem_eq_zero_of_no_sems (by decide) r.2⟩

/-- The projection's reference runs, keeps its arguments, and declares no semaphore. -/
theorem frame_mixReference : Cert.quiescent_MixReferenceIdeal := by
  intro m ρ _
  exact θ_run_mono (Cert.MixReferenceIdeal.Value.run m ρ) fun r h =>
    ⟨fun c => (h c).2.2.2.2.2.2.2.2.2, sem_eq_zero_of_no_sems (by decide) r.2⟩

/-- The feed-forward reference on the sample rows runs, keeps its arguments, and declares no semaphore. -/
theorem frame_sampleFfnReference : Cert.quiescent_SampleFfnReferenceIdeal := by
  intro m ρ _
  exact θ_run_mono (Cert.SampleFfnReferenceIdeal.Value.run m ρ) fun r h =>
    ⟨fun c => (h c).2, sem_eq_zero_of_no_sems (by decide) r.2⟩

/-- The projection's reference on the sample rows runs, keeps its arguments, and declares no semaphore. -/
theorem frame_sampleMixReference : Cert.quiescent_SampleMixReferenceIdeal := by
  intro m ρ _
  exact θ_run_mono (Cert.SampleMixReferenceIdeal.Value.run m ρ) fun r h =>
    ⟨fun c => (h c).2.2.2.2.2.2.2, sem_eq_zero_of_no_sems (by decide) r.2⟩

/-- The merge's reference on the sample rows runs, keeps its arguments, and declares no semaphore. -/
theorem frame_sampleMergeReference : Cert.quiescent_SampleMergeReferenceIdeal := by
  intro m ρ _
  exact θ_run_mono (Cert.SampleMergeReferenceIdeal.Value.run m ρ) fun r h =>
    ⟨fun c => (h c).2, sem_eq_zero_of_no_sems (by decide) r.2⟩

/-- Every claim of the certificate. -/
theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.Merge.Gen.facts,
    Cert.MergeIdeal.Gen.facts, Cert.MergeReferenceIdeal.Gen.facts,
    Cert.Mix.Gen.facts, Cert.MixIdeal.Gen.facts, Cert.MixReferenceIdeal.Gen.facts,
    Cert.SampleFfn.Gen.facts, Cert.SampleFfnIdeal.Gen.facts, Cert.SampleFfnReferenceIdeal.Gen.facts,
    Cert.SampleMix.Gen.facts, Cert.SampleMixIdeal.Gen.facts, Cert.SampleMixReferenceIdeal.Gen.facts,
    Cert.SampleMerge.Gen.facts, Cert.SampleMergeIdeal.Gen.facts, Cert.SampleMergeReferenceIdeal.Gen.facts,
    Cert.Pre_finite.Gen.facts, Cert.Pre_weights_finite.Gen.facts,
    fun m ρ _ => Cert.Kernel.Gen.frame m ρ, fun m ρ _ => Cert.KernelIdeal.Gen.frame m ρ,
    fun m ρ _ => Cert.KernelIdeal.Gen.frame m ρ,
    frame_reference, fun m ρ _ => frame_reference m ρ trivial, fun m ρ _ => Cert.Ffn.Gen.frame m ρ,
    fun m ρ _ => Cert.FfnIdeal.Gen.frame m ρ, frame_ffnReference, fun m ρ _ => Cert.Merge.Gen.frame m ρ,
    fun m ρ _ => Cert.MergeIdeal.Gen.frame m ρ, frame_mergeReference,
    fun m ρ _ => Cert.Mix.Gen.frame m ρ, fun m ρ _ => Cert.MixIdeal.Gen.frame m ρ,
    frame_mixReference,
    fun m ρ _ => Cert.SampleFfn.Gen.frame m ρ, fun m ρ _ => Cert.SampleFfnIdeal.Gen.frame m ρ, frame_sampleFfnReference,
    fun m ρ _ => Cert.SampleMix.Gen.frame m ρ, fun m ρ _ => Cert.SampleMixIdeal.Gen.frame m ρ,
    fun m ρ _ => Cert.SampleMixIdeal.Gen.frame m ρ,
    frame_sampleMixReference, fun m ρ _ => frame_sampleMixReference m ρ trivial,
    fun m ρ _ => Cert.SampleMerge.Gen.frame m ρ, fun m ρ _ => Cert.SampleMergeIdeal.Gen.frame m ρ,
    frame_sampleMergeReference,
    trivial, Cert.Proof.Rscan.claim, trivial, Cert.Proof.Ffn.claim, trivial, Cert.Proof.Merge.claim,
    trivial, Cert.Proof.Mix.claim, trivial, Cert.Proof.SampleFfn.claim,
    trivial, Cert.Proof.SampleMix.claim, trivial, Cert.Proof.SampleMerge.claim⟩

end Cert.Proof

end
